-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9))
      ∧ r.2.sem = fun _ => 0)

def preserves_Kernel_KernelIdeal : Prop :=
  True

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v96) = v0 c
          ∧ r.2.mem ((c.tc : Thread Cert.RefIdeal.nD Cert.RefIdeal.τ).loc Cert.RefIdeal.main_v94) = v1 c
          ∧ r.2.mem ((c.tc : Thread Cert.RefIdeal.nD Cert.RefIdeal.τ).loc Cert.RefIdeal.main_v95) = v2 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9))

def Claim : Prop :=
  ∃ (hKernel : Cert.Kernel.Facts) (hKernelIdeal : Cert.KernelIdeal.Facts) (hRefIdeal : Cert.RefIdeal.Facts),
    quiescent_Kernel (hKernel := hKernel)
    ∧ quiescent_KernelIdeal (hKernelIdeal := hKernelIdeal)
    ∧ quiescent_RefIdeal (hRefIdeal := hRefIdeal)
    ∧ preserves_Kernel_KernelIdeal
    ∧ algebraic_KernelIdeal_RefIdeal (hKernelIdeal := hKernelIdeal) (hRefIdeal := hRefIdeal)
-- ==== Kernel.lean ====
abbrev S2x12288x4096 : Shape := ⟨3, ![2, 12288, 4096]⟩
abbrev S2x12288x32 : Shape := ⟨3, ![2, 12288, 32]⟩
abbrev S2x12288x2x11008 : Shape := ⟨4, ![2, 12288, 2, 11008]⟩
abbrev S2x12288x2x86 : Shape := ⟨4, ![2, 12288, 2, 86]⟩
abbrev S4096x2x11008 : Shape := ⟨3, ![4096, 2, 11008]⟩
abbrev S32x2x86 : Shape := ⟨3, ![32, 2, 86]⟩
abbrev S11008x4096 : Shape := ⟨2, ![11008, 4096]⟩
abbrev S86x32 : Shape := ⟨2, ![86, 32]⟩
abbrev S24576x4096 : Shape := ⟨2, ![24576, 4096]⟩
abbrev S2x32x12288 : Shape := ⟨3, ![2, 32, 12288]⟩
abbrev S2x2x12288x11008 : Shape := ⟨4, ![2, 2, 12288, 11008]⟩
abbrev S2x86x2x12288 : Shape := ⟨4, ![2, 86, 2, 12288]⟩
abbrev S4096x24576 : Shape := ⟨2, ![4096, 24576]⟩
abbrev S1024x1024 : Shape := ⟨2, ![1024, 1024]⟩
abbrev S1x8x1024 : Shape := ⟨3, ![1, 8, 1024]⟩
abbrev S1024x128 : Shape := ⟨2, ![1024, 128]⟩
abbrev S128x1024 : Shape := ⟨2, ![128, 1024]⟩
abbrev S1x1x1024 : Shape := ⟨3, ![1, 1, 1024]⟩
abbrev S1x1024 : Shape := ⟨2, ![1, 1024]⟩
abbrev S512x4096 : Shape := ⟨2, ![512, 4096]⟩
abbrev S1x32x512 : Shape := ⟨3, ![1, 32, 512]⟩
abbrev S32x512 : Shape := ⟨2, ![32, 512]⟩
abbrev S512x32 : Shape := ⟨2, ![512, 32]⟩
abbrev S512x1 : Shape := ⟨2, ![512, 1]⟩
abbrev S512x128 : Shape := ⟨2, ![512, 128]⟩
abbrev S1x11008x4096 : Shape := ⟨3, ![1, 11008, 4096]⟩
abbrev S1x86x32 : Shape := ⟨3, ![1, 86, 32]⟩
abbrev S1x86x1x32 : Shape := ⟨4, ![1, 86, 1, 32]⟩
abbrev S1x256x4096 : Shape := ⟨3, ![1, 256, 4096]⟩
abbrev S1x2x1x32 : Shape := ⟨4, ![1, 2, 1, 32]⟩
abbrev S1x1x1x32 : Shape := ⟨4, ![1, 1, 1, 32]⟩
abbrev S1x32 : Shape := ⟨2, ![1, 32]⟩
abbrev S1x1 : Shape := ⟨2, ![1, 1]⟩
abbrev S128x128 : Shape := ⟨2, ![128, 128]⟩
abbrev S1x128x128 : Shape := ⟨3, ![1, 128, 128]⟩
abbrev S2x4096x11008 : Shape := ⟨3, ![2, 4096, 11008]⟩
abbrev S2x32x86 : Shape := ⟨3, ![2, 32, 86]⟩
abbrev S2x32x1x86 : Shape := ⟨4, ![2, 32, 1, 86]⟩
abbrev S1x128x11008 : Shape := ⟨3, ![1, 128, 11008]⟩
abbrev S1x1x1x86 : Shape := ⟨4, ![1, 1, 1, 86]⟩
abbrev S1x86 : Shape := ⟨2, ![1, 86]⟩
abbrev S11008x24576 : Shape := ⟨2, ![11008, 24576]⟩
abbrev S2x24576x11008 : Shape := ⟨3, ![2, 24576, 11008]⟩
abbrev S1536x4096 : Shape := ⟨2, ![1536, 4096]⟩
abbrev S1x2x512x1536 : Shape := ⟨4, ![1, 2, 512, 1536]⟩
abbrev S1x12x2x512 : Shape := ⟨4, ![1, 12, 2, 512]⟩
abbrev S1536x512 : Shape := ⟨2, ![1536, 512]⟩
abbrev S2x512x1536 : Shape := ⟨3, ![2, 512, 1536]⟩
abbrev S2x16x512 : Shape := ⟨3, ![2, 16, 512]⟩
abbrev S1x12x1x512 : Shape := ⟨4, ![1, 12, 1, 512]⟩
abbrev S12x512 : Shape := ⟨2, ![12, 512]⟩
abbrev S1x12x512 : Shape := ⟨3, ![1, 12, 512]⟩
abbrev S1x16x512 : Shape := ⟨3, ![1, 16, 512]⟩
abbrev S16x512 : Shape := ⟨2, ![16, 512]⟩
abbrev S512x16 : Shape := ⟨2, ![512, 16]⟩
abbrev S512x512 : Shape := ⟨2, ![512, 512]⟩
abbrev S1x1x512x128 : Shape := ⟨4, ![1, 1, 512, 128]⟩
abbrev S128x512 : Shape := ⟨2, ![128, 512]⟩
abbrev S1x512x128 : Shape := ⟨3, ![1, 512, 128]⟩
abbrev S256x4096 : Shape := ⟨2, ![256, 4096]⟩
abbrev S512x256 : Shape := ⟨2, ![512, 256]⟩
abbrev S1024x2048 : Shape := ⟨2, ![1024, 2048]⟩
abbrev S1x2048x2816 : Shape := ⟨3, ![1, 2048, 2816]⟩
abbrev S1x1024x2816 : Shape := ⟨3, ![1, 1024, 2816]⟩
abbrev S1024x2816 : Shape := ⟨2, ![1024, 2816]⟩
abbrev S2048x2816 : Shape := ⟨2, ![2048, 2816]⟩
abbrev S1x1024x2560 : Shape := ⟨3, ![1, 1024, 2560]⟩
abbrev S1024x2560 : Shape := ⟨2, ![1024, 2560]⟩
abbrev S1x2048x2560 : Shape := ⟨3, ![1, 2048, 2560]⟩
abbrev S2048x2560 : Shape := ⟨2, ![2048, 2560]⟩
abbrev S1376x2048 : Shape := ⟨2, ![1376, 2048]⟩
abbrev S2048x1024 : Shape := ⟨2, ![2048, 1024]⟩
abbrev S1376x1024 : Shape := ⟨2, ![1376, 1024]⟩

abbrev nBuf : Space → Nat
  | .hbm => 34
  | .vmem => 56
  | .smem => 0
  | _ => 0

abbrev bufTy : (tb : Table) → Fin (tcTables nBuf tb) → BufTy
  | .hbm, ⟨0, _⟩ => ⟨S2x12288x4096, .fp8e4m3⟩
  | .hbm, ⟨1, _⟩ => ⟨S2x12288x32, .f32⟩
  | .hbm, ⟨2, _⟩ => ⟨S2x12288x4096, .fp8e5m2⟩
  | .hbm, ⟨3, _⟩ => ⟨S2x12288x32, .f32⟩
  | .hbm, ⟨4, _⟩ => ⟨S2x12288x2x11008, .fp8e4m3⟩
  | .hbm, ⟨5, _⟩ => ⟨S2x12288x2x86, .f32⟩
  | .hbm, ⟨6, _⟩ => ⟨S4096x2x11008, .fp8e4m3⟩
  | .hbm, ⟨7, _⟩ => ⟨S32x2x86, .f32⟩
  | .hbm, ⟨8, _⟩ => ⟨S11008x4096, .fp8e4m3⟩
  | .hbm, ⟨9, _⟩ => ⟨S86x32, .f32⟩
  | .hbm, ⟨10, _⟩ => ⟨S24576x4096, .fp8e4m3⟩
  | .hbm, ⟨11, _⟩ => ⟨S24576x4096, .fp8e5m2⟩
  | .hbm, ⟨12, _⟩ => ⟨S2x32x12288, .f32⟩
  | .hbm, ⟨13, _⟩ => ⟨S2x32x12288, .f32⟩
  | .hbm, ⟨14, _⟩ => ⟨S2x2x12288x11008, .fp8e4m3⟩
  | .hbm, ⟨15, _⟩ => ⟨S2x86x2x12288, .f32⟩
  | .hbm, ⟨16, _⟩ => ⟨S4096x24576, .bf16⟩
  | .hbm, ⟨17, _⟩ => ⟨S24576x4096, .bf16⟩
  | .hbm, ⟨18, _⟩ => ⟨S1x11008x4096, .fp8e4m3⟩
  | .hbm, ⟨19, _⟩ => ⟨S1x86x32, .f32⟩
  | .hbm, ⟨20, _⟩ => ⟨S1x86x1x32, .f32⟩
  | .hbm, ⟨21, _⟩ => ⟨S1x11008x4096, .bf16⟩
  | .hbm, ⟨22, _⟩ => ⟨S11008x4096, .bf16⟩
  | .hbm, ⟨23, _⟩ => ⟨S2x4096x11008, .fp8e4m3⟩
  | .hbm, ⟨24, _⟩ => ⟨S2x32x86, .f32⟩
  | .hbm, ⟨25, _⟩ => ⟨S2x32x1x86, .f32⟩
  | .hbm, ⟨26, _⟩ => ⟨S2x4096x11008, .bf16⟩
  | .hbm, ⟨27, _⟩ => ⟨S11008x24576, .bf16⟩
  | .hbm, ⟨28, _⟩ => ⟨S2x24576x11008, .bf16⟩
  | .hbm, ⟨29, _⟩ => ⟨S2x4096x11008, .f32⟩
  | .hbm, ⟨30, _⟩ => ⟨S11008x4096, .f32⟩
  | .hbm, ⟨31, _⟩ => ⟨S24576x4096, .bf16⟩
  | .hbm, ⟨32, _⟩ => ⟨S2x12288x4096, .bf16⟩
  | .hbm, ⟨33, _⟩ => ⟨S4096x2x11008, .f32⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x8x1024, .f32⟩
  | .local _ .vmem, ⟨3, _⟩ => ⟨S1x8x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x4096, .fp8e5m2⟩
  | .local _ .vmem, ⟨7, _⟩ => ⟨S512x4096, .fp8e5m2⟩
  | .local _ .vmem, ⟨8, _⟩ => ⟨S1x32x512, .f32⟩
  | .local _ .vmem, ⟨9, _⟩ => ⟨S1x32x512, .f32⟩
  | .local _ .vmem, ⟨10, _⟩ => ⟨S512x4096, .bf16⟩
  | .local _ .vmem, ⟨11, _⟩ => ⟨S512x4096, .bf16⟩
  | .local _ .vmem, ⟨12, _⟩ => ⟨S1x256x4096, .fp8e4m3⟩
  | .local _ .vmem, ⟨13, _⟩ => ⟨S1x256x4096, .fp8e4m3⟩
  | .local _ .vmem, ⟨14, _⟩ => ⟨S1x2x1x32, .f32⟩
  | .local _ .vmem, ⟨15, _⟩ => ⟨S1x2x1x32, .f32⟩
  | .local _ .vmem, ⟨16, _⟩ => ⟨S1x256x4096, .bf16⟩
  | .local _ .vmem, ⟨17, _⟩ => ⟨S1x256x4096, .bf16⟩
  | .local _ .vmem, ⟨18, _⟩ => ⟨S1x128x11008, .fp8e4m3⟩
  | .local _ .vmem, ⟨19, _⟩ => ⟨S1x128x11008, .fp8e4m3⟩
  | .local _ .vmem, ⟨20, _⟩ => ⟨S1x1x1x86, .f32⟩
  | .local _ .vmem, ⟨21, _⟩ => ⟨S1x1x1x86, .f32⟩
  | .local _ .vmem, ⟨22, _⟩ => ⟨S1x128x11008, .bf16⟩
  | .local _ .vmem, ⟨23, _⟩ => ⟨S1x128x11008, .bf16⟩
  | .local _ .vmem, ⟨24, _⟩ => ⟨S512x4096, .bf16⟩
  | .local _ .vmem, ⟨25, _⟩ => ⟨S512x4096, .bf16⟩
  | .local _ .vmem, ⟨26, _⟩ => ⟨S1536x4096, .bf16⟩
  | .local _ .vmem, ⟨27, _⟩ => ⟨S1536x4096, .bf16⟩
  | .local _ .vmem, ⟨28, _⟩ => ⟨S1x2x512x1536, .fp8e4m3⟩
  | .local _ .vmem, ⟨29, _⟩ => ⟨S1x2x512x1536, .fp8e4m3⟩
  | .local _ .vmem, ⟨30, _⟩ => ⟨S1x12x2x512, .f32⟩
  | .local _ .vmem, ⟨31, _⟩ => ⟨S1x12x2x512, .f32⟩
  | .local _ .vmem, ⟨32, _⟩ => ⟨S1536x512, .bf16⟩
  | .local _ .vmem, ⟨33, _⟩ => ⟨S1536x512, .bf16⟩
  | .local _ .vmem, ⟨34, _⟩ => ⟨S2x512x1536, .bf16⟩
  | .local _ .vmem, ⟨35, _⟩ => ⟨S2x512x1536, .bf16⟩
  | .local _ .vmem, ⟨36, _⟩ => ⟨S2x16x512, .f32⟩
  | .local _ .vmem, ⟨37, _⟩ => ⟨S1024x2048, .bf16⟩
  | .local _ .vmem, ⟨38, _⟩ => ⟨S1024x2048, .bf16⟩
  | .local _ .vmem, ⟨39, _⟩ => ⟨S1x2048x2816, .bf16⟩
  | .local _ .vmem, ⟨40, _⟩ => ⟨S1x2048x2816, .bf16⟩
  | .local _ .vmem, ⟨41, _⟩ => ⟨S1x1024x2816, .f32⟩
  | .local _ .vmem, ⟨42, _⟩ => ⟨S1x1024x2816, .f32⟩
  | .local _ .vmem, ⟨43, _⟩ => ⟨S1376x2048, .bf16⟩
  | .local _ .vmem, ⟨44, _⟩ => ⟨S1376x2048, .bf16⟩
  | .local _ .vmem, ⟨45, _⟩ => ⟨S2048x1024, .bf16⟩
  | .local _ .vmem, ⟨46, _⟩ => ⟨S2048x1024, .bf16⟩
  | .local _ .vmem, ⟨47, _⟩ => ⟨S1376x1024, .f32⟩
  | .local _ .vmem, ⟨48, _⟩ => ⟨S1376x1024, .f32⟩
  | .local _ .vmem, ⟨49, _⟩ => ⟨S1x1024x2816, .bf16⟩
  | .local _ .vmem, ⟨50, _⟩ => ⟨S1x1024x2816, .bf16⟩
  | .local _ .vmem, ⟨51, _⟩ => ⟨S1x2048x2816, .bf16⟩
  | .local _ .vmem, ⟨52, _⟩ => ⟨S1x2048x2816, .bf16⟩
  | .local _ .vmem, ⟨53, _⟩ => ⟨S1024x2048, .bf16⟩
  | .local _ .vmem, ⟨54, _⟩ => ⟨S1024x2048, .bf16⟩
  | .local _ .vmem, ⟨55, _⟩ => ⟨S1024x2048, .f32⟩
  | _, _ => ⟨S2x12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![1, 43], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x4096 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2x1x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 32], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x128x11008 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x1x86 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x11008 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 48], ![false, false]⟩

def k4_cond1 (i : grid4.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

def k4_cond2 (i : grid4.Coords) : BitVec 1 :=
  let arg0 : BitVec 32 := BitVec.ofNat 32 (i 0).val
  let c7_i32_0 : BitVec 32 := 7#32
  let v3 : BitVec 1 := Scalar.cmpi .eq arg0 c7_i32_0
  let v4 : BitVec 32 := Scalar.extui v3
  let c0_i32_1 : BitVec 32 := 0#32
  let v5 : BitVec 1 := Scalar.cmpi .ne v4 c0_i32_1
  v5

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.divsi arg1 c24_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg1 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg0.toNat]

def cc4_transform_3 (i : grid4.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.divsi arg1 c24_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg1 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1536x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x2x512x1536 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x12x2x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1536x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S2x512x1536 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨3, ![8, 4, 12], ![false, false, false]⟩

def k5_cond1 (i : grid5.Coords) : BitVec 1 :=
  let arg2 : BitVec 32 := BitVec.ofNat 32 (i 2).val
  let c0_i32_3 : BitVec 32 := 0#32
  let v10 : BitVec 1 := Scalar.cmpi .eq arg2 c0_i32_3
  let v11 : BitVec 32 := Scalar.extui v10
  let c0_i32_4 : BitVec 32 := 0#32
  let v12 : BitVec 1 := Scalar.cmpi .ne v11 c0_i32_4
  v12

def k5_cond2 (i : grid5.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v13 : BitVec 1 := Scalar.cmpi .slt v9 c3_i32
  let v14 : BitVec 32 := Scalar.extui v13
  let c0_i32_5 : BitVec 32 := 0#32
  let v15 : BitVec 1 := Scalar.cmpi .ne v14 c0_i32_5
  v15

def k5_cond3 (i : grid5.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_6 : BitVec 32 := 3#32
  let v16 : BitVec 1 := Scalar.cmpi .eq v9 c3_i32_6
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S1x2048x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x1024x2816 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 4, 12], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1376x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1376x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![24, 2, 8], ![false, false, false]⟩

def k7_cond4 (i : grid7.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_14 : BitVec 32 := 0#32
  let v31 : BitVec 1 := Scalar.cmpi .ne v30 c0_i32_14
  v31

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1x1024x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1x2048x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x2048 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== RefIdeal.lean ====
abbrev S2x12288x4096 : Shape := ⟨3, ![2, 12288, 4096]⟩
abbrev S2x12288x32 : Shape := ⟨3, ![2, 12288, 32]⟩
abbrev S2x12288x2x11008 : Shape := ⟨4, ![2, 12288, 2, 11008]⟩
abbrev S2x12288x2x86 : Shape := ⟨4, ![2, 12288, 2, 86]⟩
abbrev S4096x2x11008 : Shape := ⟨3, ![4096, 2, 11008]⟩
abbrev S32x2x86 : Shape := ⟨3, ![32, 2, 86]⟩
abbrev S11008x4096 : Shape := ⟨2, ![11008, 4096]⟩
abbrev S86x32 : Shape := ⟨2, ![86, 32]⟩
abbrev S4096x1x11008 : Shape := ⟨3, ![4096, 1, 11008]⟩
abbrev S4096x11008 : Shape := ⟨2, ![4096, 11008]⟩
abbrev S32x128x86x128 : Shape := ⟨4, ![32, 128, 86, 128]⟩
abbrev S32x1x86 : Shape := ⟨3, ![32, 1, 86]⟩
abbrev S32x86 : Shape := ⟨2, ![32, 86]⟩
abbrev S32x1x86x1 : Shape := ⟨4, ![32, 1, 86, 1]⟩
abbrev S86x128x32x128 : Shape := ⟨4, ![86, 128, 32, 128]⟩
abbrev S86x1x32x1 : Shape := ⟨4, ![86, 1, 32, 1]⟩
abbrev S2x12288x32x128 : Shape := ⟨4, ![2, 12288, 32, 128]⟩
abbrev S2x12288x32x1 : Shape := ⟨4, ![2, 12288, 32, 1]⟩
abbrev S24576x4096 : Shape := ⟨2, ![24576, 4096]⟩
abbrev S2x12288x1x11008 : Shape := ⟨4, ![2, 12288, 1, 11008]⟩
abbrev S2x12288x11008 : Shape := ⟨3, ![2, 12288, 11008]⟩
abbrev S2x12288x1x86 : Shape := ⟨4, ![2, 12288, 1, 86]⟩
abbrev S2x12288x86 : Shape := ⟨3, ![2, 12288, 86]⟩
abbrev S2x12288x86x128 : Shape := ⟨4, ![2, 12288, 86, 128]⟩
abbrev S2x12288x86x1 : Shape := ⟨4, ![2, 12288, 86, 1]⟩
abbrev S24576x11008 : Shape := ⟨2, ![24576, 11008]⟩
abbrev S_ : Shape := ⟨0, ![]⟩

abbrev nBuf : Space → Nat
  | .hbm => 115
  | .vmem => 10
  | .smem => 0
  | _ => 0

abbrev bufTy : (tb : Table) → Fin (tcTables nBuf tb) → BufTy
  | .hbm, ⟨0, _⟩ => ⟨S2x12288x4096, .fp8e4m3⟩
  | .hbm, ⟨1, _⟩ => ⟨S2x12288x32, .f32⟩
  | .hbm, ⟨2, _⟩ => ⟨S2x12288x4096, .fp8e5m2⟩
  | .hbm, ⟨3, _⟩ => ⟨S2x12288x32, .f32⟩
  | .hbm, ⟨4, _⟩ => ⟨S2x12288x2x11008, .fp8e4m3⟩
  | .hbm, ⟨5, _⟩ => ⟨S2x12288x2x86, .f32⟩
  | .hbm, ⟨6, _⟩ => ⟨S4096x2x11008, .fp8e4m3⟩
  | .hbm, ⟨7, _⟩ => ⟨S32x2x86, .f32⟩
  | .hbm, ⟨8, _⟩ => ⟨S11008x4096, .fp8e4m3⟩
  | .hbm, ⟨9, _⟩ => ⟨S86x32, .f32⟩
  | .hbm, ⟨10, _⟩ => ⟨S2x12288x4096, .bf16⟩
  | .hbm, ⟨11, _⟩ => ⟨S2x12288x4096, .bf16⟩
  | .hbm, ⟨12, _⟩ => ⟨S2x12288x2x11008, .bf16⟩
  | .hbm, ⟨13, _⟩ => ⟨S4096x2x11008, .bf16⟩
  | .hbm, ⟨14, _⟩ => ⟨S11008x4096, .bf16⟩
  | .hbm, ⟨15, _⟩ => ⟨S4096x1x11008, .bf16⟩
  | .hbm, ⟨16, _⟩ => ⟨S4096x11008, .bf16⟩
  | .hbm, ⟨17, _⟩ => ⟨S32x128x86x128, .bf16⟩
  | .hbm, ⟨18, _⟩ => ⟨S32x1x86, .f32⟩
  | .hbm, ⟨19, _⟩ => ⟨S32x86, .f32⟩
  | .hbm, ⟨20, _⟩ => ⟨S32x86, .bf16⟩
  | .hbm, ⟨21, _⟩ => ⟨S32x1x86x1, .bf16⟩
  | .hbm, ⟨22, _⟩ => ⟨S32x128x86x128, .bf16⟩
  | .hbm, ⟨23, _⟩ => ⟨S32x128x86x128, .bf16⟩
  | .hbm, ⟨24, _⟩ => ⟨S4096x11008, .bf16⟩
  | .hbm, ⟨25, _⟩ => ⟨S4096x1x11008, .bf16⟩
  | .hbm, ⟨26, _⟩ => ⟨S4096x11008, .bf16⟩
  | .hbm, ⟨27, _⟩ => ⟨S32x128x86x128, .bf16⟩
  | .hbm, ⟨28, _⟩ => ⟨S32x1x86, .f32⟩
  | .hbm, ⟨29, _⟩ => ⟨S32x86, .f32⟩
  | .hbm, ⟨30, _⟩ => ⟨S32x86, .bf16⟩
  | .hbm, ⟨31, _⟩ => ⟨S32x1x86x1, .bf16⟩
  | .hbm, ⟨32, _⟩ => ⟨S32x128x86x128, .bf16⟩
  | .hbm, ⟨33, _⟩ => ⟨S32x128x86x128, .bf16⟩
  | .hbm, ⟨34, _⟩ => ⟨S4096x11008, .bf16⟩
  | .hbm, ⟨35, _⟩ => ⟨S86x128x32x128, .bf16⟩
  | .hbm, ⟨36, _⟩ => ⟨S86x32, .bf16⟩
  | .hbm, ⟨37, _⟩ => ⟨S86x1x32x1, .bf16⟩
  | .hbm, ⟨38, _⟩ => ⟨S86x128x32x128, .bf16⟩
  | .hbm, ⟨39, _⟩ => ⟨S86x128x32x128, .bf16⟩
  | .hbm, ⟨40, _⟩ => ⟨S11008x4096, .bf16⟩
  | .hbm, ⟨41, _⟩ => ⟨S2x12288x32x128, .bf16⟩
  | .hbm, ⟨42, _⟩ => ⟨S2x12288x32, .bf16⟩
  | .hbm, ⟨43, _⟩ => ⟨S2x12288x32x1, .bf16⟩
  | .hbm, ⟨44, _⟩ => ⟨S2x12288x32x128, .bf16⟩
  | .hbm, ⟨45, _⟩ => ⟨S2x12288x32x128, .bf16⟩
  | .hbm, ⟨46, _⟩ => ⟨S2x12288x4096, .bf16⟩
  | .hbm, ⟨47, _⟩ => ⟨S24576x4096, .bf16⟩
  | .hbm, ⟨48, _⟩ => ⟨S2x12288x32x128, .bf16⟩
  | .hbm, ⟨49, _⟩ => ⟨S2x12288x32, .bf16⟩
  | .hbm, ⟨50, _⟩ => ⟨S2x12288x32x1, .bf16⟩
  | .hbm, ⟨51, _⟩ => ⟨S2x12288x32x128, .bf16⟩
  | .hbm, ⟨52, _⟩ => ⟨S2x12288x32x128, .bf16⟩
  | .hbm, ⟨53, _⟩ => ⟨S2x12288x4096, .bf16⟩
  | .hbm, ⟨54, _⟩ => ⟨S24576x4096, .bf16⟩
  | .hbm, ⟨55, _⟩ => ⟨S2x12288x1x11008, .bf16⟩
  | .hbm, ⟨56, _⟩ => ⟨S2x12288x11008, .bf16⟩
  | .hbm, ⟨57, _⟩ => ⟨S2x12288x1x86, .f32⟩
  | .hbm, ⟨58, _⟩ => ⟨S2x12288x86, .f32⟩
  | .hbm, ⟨59, _⟩ => ⟨S2x12288x86x128, .bf16⟩
  | .hbm, ⟨60, _⟩ => ⟨S2x12288x86, .bf16⟩
  | .hbm, ⟨61, _⟩ => ⟨S2x12288x86x1, .bf16⟩
  | .hbm, ⟨62, _⟩ => ⟨S2x12288x86x128, .bf16⟩
  | .hbm, ⟨63, _⟩ => ⟨S2x12288x86x128, .bf16⟩
  | .hbm, ⟨64, _⟩ => ⟨S2x12288x11008, .bf16⟩
  | .hbm, ⟨65, _⟩ => ⟨S24576x11008, .bf16⟩
  | .hbm, ⟨66, _⟩ => ⟨S24576x11008, .f32⟩
  | .hbm, ⟨67, _⟩ => ⟨S2x12288x1x11008, .bf16⟩
  | .hbm, ⟨68, _⟩ => ⟨S2x12288x11008, .bf16⟩
  | .hbm, ⟨69, _⟩ => ⟨S2x12288x1x86, .f32⟩
  | .hbm, ⟨70, _⟩ => ⟨S2x12288x86, .f32⟩
  | .hbm, ⟨71, _⟩ => ⟨S2x12288x86x128, .bf16⟩
  | .hbm, ⟨72, _⟩ => ⟨S2x12288x86, .bf16⟩
  | .hbm, ⟨73, _⟩ => ⟨S2x12288x86x1, .bf16⟩
  | .hbm, ⟨74, _⟩ => ⟨S2x12288x86x128, .bf16⟩
  | .hbm, ⟨75, _⟩ => ⟨S2x12288x86x128, .bf16⟩
  | .hbm, ⟨76, _⟩ => ⟨S2x12288x11008, .bf16⟩
  | .hbm, ⟨77, _⟩ => ⟨S24576x11008, .bf16⟩
  | .hbm, ⟨78, _⟩ => ⟨S24576x11008, .f32⟩
  | .hbm, ⟨79, _⟩ => ⟨S24576x11008, .f32⟩
  | .hbm, ⟨80, _⟩ => ⟨S24576x11008, .f32⟩
  | .hbm, ⟨81, _⟩ => ⟨S_, .f32⟩
  | .hbm, ⟨82, _⟩ => ⟨S24576x11008, .f32⟩
  | .hbm, ⟨83, _⟩ => ⟨S24576x11008, .f32⟩
  | .hbm, ⟨84, _⟩ => ⟨S_, .f32⟩
  | .hbm, ⟨85, _⟩ => ⟨S24576x11008, .f32⟩
  | .hbm, ⟨86, _⟩ => ⟨S24576x11008, .f32⟩
  | .hbm, ⟨87, _⟩ => ⟨S24576x11008, .f32⟩
  | .hbm, ⟨88, _⟩ => ⟨S24576x11008, .f32⟩
  | .hbm, ⟨89, _⟩ => ⟨S24576x11008, .bf16⟩
  | .hbm, ⟨90, _⟩ => ⟨S24576x11008, .f32⟩
  | .hbm, ⟨91, _⟩ => ⟨S24576x11008, .f32⟩
  | .hbm, ⟨92, _⟩ => ⟨S24576x11008, .f32⟩
  | .hbm, ⟨93, _⟩ => ⟨S_, .f32⟩
  | .hbm, ⟨94, _⟩ => ⟨S24576x11008, .f32⟩
  | .hbm, ⟨95, _⟩ => ⟨S24576x11008, .f32⟩
  | .hbm, ⟨96, _⟩ => ⟨S24576x11008, .f32⟩
  | .hbm, ⟨97, _⟩ => ⟨S_, .f32⟩
  | .hbm, ⟨98, _⟩ => ⟨S24576x11008, .f32⟩
  | .hbm, ⟨99, _⟩ => ⟨S24576x11008, .f32⟩
  | .hbm, ⟨100, _⟩ => ⟨S24576x11008, .f32⟩
  | .hbm, ⟨101, _⟩ => ⟨S24576x11008, .bf16⟩
  | .hbm, ⟨102, _⟩ => ⟨S24576x11008, .f32⟩
  | .hbm, ⟨103, _⟩ => ⟨S24576x11008, .bf16⟩
  | .hbm, ⟨104, _⟩ => ⟨S24576x4096, .f32⟩
  | .hbm, ⟨105, _⟩ => ⟨S24576x4096, .f32⟩
  | .hbm, ⟨106, _⟩ => ⟨S24576x4096, .f32⟩
  | .hbm, ⟨107, _⟩ => ⟨S24576x4096, .bf16⟩
  | .hbm, ⟨108, _⟩ => ⟨S4096x11008, .f32⟩
  | .hbm, ⟨109, _⟩ => ⟨S4096x11008, .f32⟩
  | .hbm, ⟨110, _⟩ => ⟨S4096x1x11008, .f32⟩
  | .hbm, ⟨111, _⟩ => ⟨S4096x1x11008, .f32⟩
  | .hbm, ⟨112, _⟩ => ⟨S4096x2x11008, .f32⟩
  | .hbm, ⟨113, _⟩ => ⟨S11008x4096, .f32⟩
  | .hbm, ⟨114, _⟩ => ⟨S2x12288x4096, .bf16⟩
  | .local _ .vmem, ⟨0, _⟩ => ⟨S2x12288x4096, .fp8e4m3⟩
  | .local _ .vmem, ⟨1, _⟩ => ⟨S2x12288x4096, .fp8e5m2⟩
  | .local _ .vmem, ⟨2, _⟩ => ⟨S2x12288x2x11008, .fp8e4m3⟩
  | .local _ .vmem, ⟨3, _⟩ => ⟨S4096x2x11008, .fp8e4m3⟩
  | .local _ .vmem, ⟨4, _⟩ => ⟨S11008x4096, .fp8e4m3⟩
  | .local _ .vmem, ⟨5, _⟩ => ⟨S2x12288x4096, .bf16⟩
  | .local _ .vmem, ⟨6, _⟩ => ⟨S2x12288x4096, .bf16⟩
  | .local _ .vmem, ⟨7, _⟩ => ⟨S2x12288x2x11008, .bf16⟩
  | .local _ .vmem, ⟨8, _⟩ => ⟨S4096x2x11008, .bf16⟩
  | .local _ .vmem, ⟨9, _⟩ => ⟨S11008x4096, .bf16⟩
  | _, _ => ⟨S2x12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst : Ref sig .tc := ⟨.hbm, 81, rfl⟩
abbrev main_v67 : Ref sig .tc := ⟨.hbm, 82, rfl⟩
abbrev main_v68 : Ref sig .tc := ⟨.hbm, 83, rfl⟩
abbrev main_cst_0 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_1 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_2 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x12288x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12288x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288x2x11008 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2x11008 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x12288x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x12288x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12288x2x11008 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x2x11008 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S11008x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.DeqT.lean ====
/-
  The call that dequantises the input activations, transposed: what one run of its body does, its proof data and its body obligation. Each code is
  multiplied with its group's scale, group by group.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.Kernel.Own.DeqT

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

/-- A group of 128 features: its codes, transposed, times the scales of the tokens in it. -/
def blkG (X : Vec F S1x1x1024 .f32) (c : Vec F S1024x128 .fp8e4m3) : FVec F S128x1024 .bf16 :=
  mulf (transpose S128x1024 [1, 0] (extf .bf16 (shapeCast S1024x128 c shapeCasts_S1024x128_S1024x128) bitsLt_fp8e4m3_bf16) transposes_S1024x128_p1_0_S128x1024)
    (truncf .bf16 (broadcastTo S128x1024 (shapeCast S1x1024 (shapeCast S1x1024 X shapeCasts_S1x1x1024_S1x1024) shapeCasts_S1x1024_S1x1024) broadcasts_S1x1024_S128x1024) bitsLt_bf16_f32)

theorem blkG_apply (X : Vec F S1x1x1024 .f32) (c : Vec F S1024x128 .fp8e4m3) (x : S128x1024.Idx) :
    blkG X c x = FloatOps.mulf (FloatOps.extf .bf16 bitsLt_fp8e4m3_bf16 (c (ix2 (x 1) (x 0)))) (FloatOps.truncf .bf16 bitsLt_bf16_f32 (X (ix3 0 0 (x 1)))) := by
  pointwise [blkG]

/-- The whole block: each code, transposed, times the scale of its token and group. -/
def out (x0 : Vec F S1024x1024 .fp8e4m3) (x1 : Vec F S1x8x1024 .f32) : Vec F S1024x1024 .bf16 :=
  fun j => FloatOps.mulf (FloatOps.extf .bf16 bitsLt_fp8e4m3_bf16 (x0 (ix2 (j 1) (j 0))))
    (FloatOps.truncf .bf16 bitsLt_bf16_f32 (x1 (ix3 0 ⟨(j 0).val / 128, by have : (j 0).val < 1024 := (j 0).isLt; omega⟩ (j 1))))

/-- A group is that group's rows of the block. -/
theorem piece (x0 : Vec F S1024x1024 .fp8e4m3) (x1 : Vec F S1x8x1024 .f32) (g : Fin 8) {off offC : Fin 2 → ℕ} {offX : Fin 3 → ℕ}
    (inb : ∀ a, off a + S128x1024.size a ≤ S1024x1024.size a) (he : off = ![128 * g.val, 0])
    (inbC : ∀ a, offC a + S1024x128.size a ≤ S1024x1024.size a) (heC : offC = ![0, 128 * g.val])
    (inbX : ∀ a, offX a + S1x1x1024.size a ≤ S1x8x1024.size a) (heX : offX = ![0, g.val, 0]) {X : Vec F S1x1x1024 .f32} {c : Vec F S1024x128 .fp8e4m3}
    (hX : X = VecWindow.window x1 offX S1x1x1024.size inbX) (hc : c = VecWindow.window x0 offC S1024x128.size inbC) (p : FVec F S128x1024 .bf16) (hp : p = blkG X c) (x : S128x1024.Idx) :
    p x = out x0 x1 ((Rect.unit (s := S1024x1024) off S128x1024.size inb).emb x) := by
  subst he heC heX hX hc hp
  have h0 : (x 0).val < 128 := (x 0).isLt
  refine (blkG_apply _ _ _).trans ?_
  unfold out
  refine congrArg₂ FloatOps.mulf (congrArg (FloatOps.extf .bf16 bitsLt_fp8e4m3_bf16) ?_) (congrArg (FloatOps.truncf .bf16 bitsLt_bf16_f32) ?_)
  · show x0 _ = x0 _
    congr 1; funext b; apply Fin.ext; fin_cases b
    · rfl
    · rfl
  · show x1 _ = x1 _
    congr 1; funext b; apply Fin.ext; fin_cases b
    · rfl
    · show g.val + 1 * 0 = (128 * g.val + 1 * (x 0).val) / 128; omega
    · rfl

/-! ## One run of the body -/

variable (𝒱₀ : Variants)

/-- The body leaves the block in the result's buffer. -/
theorem run (c : Dev nD) (i : grid0.Coords) (arg2 : Memref sig .tc .vmem S1024x1024 .fp8e4m3) (harg2 : arg2.IsWhole) (arg3 : Memref sig .tc .vmem S1x8x1024 .f32) (harg3 : arg3.IsWhole)
    (arg4 : Memref sig .tc .vmem S1024x1024 .bf16) (harg4 : arg4.IsWhole) (x0 : Vec F S1024x1024 .fp8e4m3) (x1 : Vec F S1x8x1024 .f32) (d2 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) 𝒱₀ c none) E (cc0_deq_t i arg2 harg2 arg3 harg3 arg4 harg4) K := by
  simp only [cc0_deq_t_eq_skeleton]; unfold cc0_deq_t_skel
  simp only [k0_part1_eq_skeleton, k0_part2_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  funext y
  refine View.read_writes_apply_of_pieces _ _ _ _ ?_ y (View.cover_of_tiledL (s := S1024x1024) _ S128x1024.size (by sl_kernel_rfl) y)
  · clear hf2
    have P : ∀ (g : Fin 8) {off offC : Fin 2 → ℕ} {offX : Fin 3 → ℕ} (inb : ∀ a, off a + S128x1024.size a ≤ S1024x1024.size a) (he : off = ![128 * g.val, 0])
        (inbC : ∀ a, offC a + S1024x128.size a ≤ S1024x1024.size a) (heC : offC = ![0, 128 * g.val])
        (inbX : ∀ a, offX a + S1x1x1024.size a ≤ S1x8x1024.size a) (heX : offX = ![0, g.val, 0]) (p : FVec F S128x1024 .bf16)
        (hp : p = blkG (arg3.view.readAt (Elt F) (Rect.unit (s := S1x8x1024) offX S1x1x1024.size inbX).toLoadRect (harg3.unread x1))
          (arg2.view.readAt (Elt F) (Rect.unit (s := S1024x1024) offC S1024x128.size inbC).toLoadRect (harg2.unread x0))) (x : S128x1024.Idx),
        p x = out x0 x1 ((Rect.unit (s := S1024x1024) off S128x1024.size inb).emb x) := fun g off offC offX inb he inbC heC inbX heX p hp x =>
      piece x0 x1 g inb he inbC heC inbX heX (ldTail arg3 harg3 x1 inbX) (ldTail arg2 harg2 x0 inbC) p hp x
    refine List.forall_mem_cons.2 ⟨P 7 inb_S1024x1024_S128x1024_896_0 rfl inb_S1024x1024_S1024x128_0_896 rfl inb_S1x8x1024_S1x1x1024_0_7_0 rfl _ rfl, ?_⟩
    refine List.forall_mem_cons.2 ⟨P 6 inb_S1024x1024_S128x1024_768_0 rfl inb_S1024x1024_S1024x128_0_768 rfl inb_S1x8x1024_S1x1x1024_0_6_0 rfl _ rfl, ?_⟩
    refine List.forall_mem_cons.2 ⟨P 5 inb_S1024x1024_S128x1024_640_0 rfl inb_S1024x1024_S1024x128_0_640 rfl inb_S1x8x1024_S1x1x1024_0_5_0 rfl _ rfl, ?_⟩
    refine List.forall_mem_cons.2 ⟨P 4 inb_S1024x1024_S128x1024_512_0 rfl inb_S1024x1024_S1024x128_0_512 rfl inb_S1x8x1024_S1x1x1024_0_4_0 rfl _ rfl, ?_⟩
    refine List.forall_mem_cons.2 ⟨P 3 inb_S1024x1024_S128x1024_384_0 rfl inb_S1024x1024_S1024x128_0_384 rfl inb_S1x8x1024_S1x1x1024_0_3_0 rfl _ rfl, ?_⟩
    refine List.forall_mem_cons.2 ⟨P 2 inb_S1024x1024_S128x1024_256_0 rfl inb_S1024x1024_S1024x128_0_256 rfl inb_S1x8x1024_S1x1x1024_0_2_0 rfl _ rfl, ?_⟩
    refine List.forall_mem_cons.2 ⟨P 1 inb_S1024x1024_S128x1024_128_0 rfl inb_S1024x1024_S1024x128_0_128 rfl inb_S1x8x1024_S1x1x1024_0_1_0 rfl _ rfl, ?_⟩
    refine List.forall_mem_cons.2 ⟨P 0 inb_S1024x1024_S128x1024_0_0 rfl inb_S1024x1024_S1024x128_0_0 rfl inb_S1x8x1024_S1x1x1024_0_0_0 rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's invariant: what it scopes, untouched. -/
def ΦK (c : Dev nD) : sProp 𝕄 :=
  iprop(Pipeline.scopedRest (Ix := Ix) (Name := ℕ) (U := U) (Lvl := Lvl) (Val := Elt F) spec0 c ∗ ∃ r, prngReg c r)

/-- The proof data: the operands' buffers keep their blocks, the result's holds the block the body makes. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg0.W) : (dat (Ix := Ix) (U := U) (Lvl := Lvl) V D c).A w = V c (Pipeline.arrRef spec0 w) := by
  dsimp only [dat]

theorem after_0 (c : Dev nD) (t : Fin cfg0.N) : (dat (Ix := Ix) (U := U) (Lvl := Lvl) V D c).after 0 t = iblk V c 0 t := by dsimp only [dat]
theorem after_1 (c : Dev nD) (t : Fin cfg0.N) : (dat (Ix := Ix) (U := U) (Lvl := Lvl) V D c).after 1 t = iblk V c 1 t := by dsimp only [dat]
theorem after_2 (c : Dev nD) (t : Fin cfg0.N) : (dat (Ix := Ix) (U := U) (Lvl := Lvl) V D c).after 2 t = out (iblk V c 0 t) (iblk V c 1 t) := by dsimp only [dat]

theorem before_0 (c : Dev nD) (t : Fin cfg0.N) (d) : (dat (Ix := Ix) (U := U) (Lvl := Lvl) V D c).before 0 t d = iblk V c 0 t := by
  unfold Dat.before; rw [if_pos (fetch0_0 t)]; rfl
theorem before_1 (c : Dev nD) (t : Fin cfg0.N) (d) : (dat (Ix := Ix) (U := U) (Lvl := Lvl) V D c).before 1 t d = iblk V c 1 t := by
  unfold Dat.before; rw [if_pos (fetch0_1 t)]; rfl

/-! ## The body obligation -/

variable (ι : Ix)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W0, bigSep_W0, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid0.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.Kernel.Own.DeqT

end
-- ==== Proof.Kernel.DeqRows.lean ====
/-
  The call that dequantises the output gradient: what one run of its body does, its proof data and its body obligation. Each code is
  multiplied with its group's scale, group by group.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.Kernel.Own.DeqRows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

theorem slg : ∀ g : Fin 32, S512x32.Slices ![0, g.val] S512x1 := by decide

/-- A group of 128 columns: its codes times the scales of the rows in it. -/
def blkG (g : Fin 32) (X : Vec F S1x32x512 .f32) (c : Vec F S512x128 .fp8e5m2) : FVec F S512x128 .bf16 :=
  mulf (extf .bf16 (shapeCast S512x128 c shapeCasts_S512x128_S512x128) bitsLt_fp8e5m2_bf16)
    (truncf .bf16 (broadcastTo S512x128 (shapeCast S512x1 (extractStridedSlice S512x1 ![0, g.val] (k1_pay4 X) (slg g)) shapeCasts_S512x1_S512x1) broadcasts_S512x1_S512x128) bitsLt_bf16_f32)

/-- The whole block: each code times the scale of its row and group. -/
def out (x0 : Vec F S512x4096 .fp8e5m2) (x1 : Vec F S1x32x512 .f32) : Vec F S512x4096 .bf16 :=
  fun j => FloatOps.mulf (FloatOps.extf .bf16 bitsLt_fp8e5m2_bf16 (x0 j))
    (FloatOps.truncf .bf16 bitsLt_bf16_f32 (x1 (ix3 0 ⟨(j 1).val / 128, by have : (j 1).val < 4096 := (j 1).isLt; omega⟩ (j 0))))

/-- A group is that group's columns of the block. -/
theorem piece (x0 : Vec F S512x4096 .fp8e5m2) (x1 : Vec F S1x32x512 .f32) (g : Fin 32) {off : Fin 2 → ℕ}
    (inb : ∀ a, off a + S512x128.size a ≤ S512x4096.size a) (he : off = ![0, 128 * g.val]) {X : Vec F S1x32x512 .f32} {c : Vec F S512x128 .fp8e5m2}
    (hX : X = x1) (hc : c = VecWindow.window x0 off S512x128.size inb) (p : FVec F S512x128 .bf16) (hp : p = blkG g X c) (x : S512x128.Idx) :
    p x = out x0 x1 ((Rect.unit (s := S512x4096) off S512x128.size inb).emb x) := by
  subst he hX hc hp
  have h1 : (x 1).val < 128 := (x 1).isLt
  unfold out
  refine (show _ = FloatOps.mulf (FloatOps.extf .bf16 bitsLt_fp8e5m2_bf16 (x0 ((Rect.unit (s := S512x4096) ![0, 128 * g.val] S512x128.size inb).emb x)))
    (FloatOps.truncf .bf16 bitsLt_bf16_f32 (X (ix3 0 g (x 0)))) from ?_).trans ?_
  · generalize hw : VecWindow.window x0 ![0, 128 * g.val] S512x128.size inb = w
    rw [show x0 ((Rect.unit (s := S512x4096) ![0, 128 * g.val] S512x128.size inb).emb x) = w x by rw [← hw]; rfl]
    pointwise [blkG, k1_pay4]
  · congr 3; funext a; apply Fin.ext; fin_cases a
    · rfl
    · show g.val = (128 * g.val + 1 * (x 1).val) / 128; omega
    · show (x 0).val = 0 + 1 * (x 0).val; omega

/-! ## One run of the body -/

variable (𝒱₀ : Variants)

/-- The body leaves the block in the result's buffer. -/
theorem run (c : Dev nD) (i : grid1.Coords) (arg1 : Memref sig .tc .vmem S512x4096 .fp8e5m2) (harg1 : arg1.IsWhole) (arg2 : Memref sig .tc .vmem S1x32x512 .f32) (harg2 : arg2.IsWhole)
    (arg3 : Memref sig .tc .vmem S512x4096 .bf16) (harg3 : arg3.IsWhole) (x0 : Vec F S512x4096 .fp8e5m2) (x1 : Vec F S1x32x512 .f32) (d2 : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare d2
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) 𝒱₀ c none) E (cc1_deq_rows i arg1 harg1 arg2 harg2 arg3 harg3) K := by
  simp only [cc1_deq_rows_eq_skeleton]; unfold cc1_deq_rows_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  funext y
  refine View.read_writes_apply_of_pieces _ _ _ _ ?_ y (View.cover_of_tiledL (s := S512x4096) _ S512x128.size (by sl_kernel_rfl) y)
  · clear hf2
    have P : ∀ (g : Fin 32) {off : Fin 2 → ℕ} (inb : ∀ a, off a + S512x128.size a ≤ S512x4096.size a) (he : off = ![0, 128 * g.val]) (p : FVec F S512x128 .bf16)
        (hp : p = blkG g (arg2.view.readAt (Elt F) (Rect.unit (s := S1x32x512) ![0, 0, 0] S1x32x512.size inb_S1x32x512_S1x32x512_0_0_0).toLoadRect (harg2.unread x1))
          (arg1.view.readAt (Elt F) (Rect.unit (s := S512x4096) off S512x128.size inb).toLoadRect (harg1.unread x0))) (x : S512x128.Idx),
        p x = out x0 x1 ((Rect.unit (s := S512x4096) off S512x128.size inb).emb x) := fun g off inb he p hp x =>
      piece x0 x1 g inb he ((View.readAt_full _ _ _).trans (harg2.read_unread _)) (ldTail arg1 harg1 x0 inb) p hp x
    refine List.forall_mem_cons.2 ⟨P 31 _ rfl _ rfl, ?_⟩
    refine List.forall_mem_cons.2 ⟨P 30 _ rfl _ rfl, ?_⟩
    refine List.forall_mem_cons.2 ⟨P 29 _ rfl _ rfl, ?_⟩
    refine List.forall_mem_cons.2 ⟨P 28 _ rfl _ rfl, ?_⟩
    refine List.forall_mem_cons.2 ⟨P 27 _ rfl _ rfl, ?_⟩
    refine List.forall_mem_cons.2 ⟨P 26 _ rfl _ rfl, ?_⟩
    refine List.forall_mem_cons.2 ⟨P 25 _ rfl _ rfl, ?_⟩
    refine List.forall_mem_cons.2 ⟨P 24 _ rfl _ rfl, ?_⟩
    refine List.forall_mem_cons.2 ⟨P 23 _ rfl _ rfl, ?_⟩
    refine List.forall_mem_cons.2 ⟨P 22 _ rfl _ rfl, ?_⟩
    refine List.forall_mem_cons.2 ⟨P 21 _ rfl _ rfl, ?_⟩
    refine List.forall_mem_cons.2 ⟨P 20 _ rfl _ rfl, ?_⟩
    refine List.forall_mem_cons.2 ⟨P 19 _ rfl _ rfl, ?_⟩
    refine List.forall_mem_cons.2 ⟨P 18 _ rfl _ rfl, ?_⟩
    refine List.forall_mem_cons.2 ⟨P 17 _ rfl _ rfl, ?_⟩
    refine List.forall_mem_cons.2 ⟨P 16 _ rfl _ rfl, ?_⟩
    refine List.forall_mem_cons.2 ⟨P 15 _ rfl _ rfl, ?_⟩
    refine List.forall_mem_cons.2 ⟨P 14 _ rfl _ rfl, ?_⟩
    refine List.forall_mem_cons.2 ⟨P 13 _ rfl _ rfl, ?_⟩
    refine List.forall_mem_cons.2 ⟨P 12 _ rfl _ rfl, ?_⟩
    refine List.forall_mem_cons.2 ⟨P 11 _ rfl _ rfl, ?_⟩
    refine List.forall_mem_cons.2 ⟨P 10 _ rfl _ rfl, ?_⟩
    refine List.forall_mem_cons.2 ⟨P 9 _ rfl _ rfl, ?_⟩
    refine List.forall_mem_cons.2 ⟨P 8 _ rfl _ rfl, ?_⟩
    refine List.forall_mem_cons.2 ⟨P 7 _ rfl _ rfl, ?_⟩
    refine List.forall_mem_cons.2 ⟨P 6 _ rfl _ rfl, ?_⟩
    refine List.forall_mem_cons.2 ⟨P 5 _ rfl _ rfl, ?_⟩
    refine List.forall_mem_cons.2 ⟨P 4 _ rfl _ rfl, ?_⟩
    refine List.forall_mem_cons.2 ⟨P 3 _ rfl _ rfl, ?_⟩
    refine List.forall_mem_cons.2 ⟨P 2 _ rfl _ rfl, ?_⟩
    refine List.forall_mem_cons.2 ⟨P 1 _ rfl _ rfl, ?_⟩
    refine List.forall_mem_cons.2 ⟨P 0 _ rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's invariant: what it scopes, untouched. -/
def ΦK (c : Dev nD) : sProp 𝕄 :=
  iprop(Pipeline.scopedRest (Ix := Ix) (Name := ℕ) (U := U) (Lvl := Lvl) (Val := Elt F) spec1 c ∗ ∃ r, prngReg c r)

/-- The proof data: the operands' buffers keep their blocks, the result's holds the block the body makes. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg1.W) : (dat (Ix := Ix) (U := U) (Lvl := Lvl) V D c).A w = V c (Pipeline.arrRef spec1 w) := by
  dsimp only [dat]

theorem after_0 (c : Dev nD) (t : Fin cfg1.N) : (dat (Ix := Ix) (U := U) (Lvl := Lvl) V D c).after 0 t = iblk V c 0 t := by dsimp only [dat]
theorem after_1 (c : Dev nD) (t : Fin cfg1.N) : (dat (Ix := Ix) (U := U) (Lvl := Lvl) V D c).after 1 t = iblk V c 1 t := by dsimp only [dat]
theorem after_2 (c : Dev nD) (t : Fin cfg1.N) : (dat (Ix := Ix) (U := U) (Lvl := Lvl) V D c).after 2 t = out (iblk V c 0 t) (iblk V c 1 t) := by dsimp only [dat]

theorem before_0 (c : Dev nD) (t : Fin cfg1.N) (d) : (dat (Ix := Ix) (U := U) (Lvl := Lvl) V D c).before 0 t d = iblk V c 0 t := by
  unfold Dat.before; rw [if_pos (fetch1_0 t)]; rfl
theorem before_1 (c : Dev nD) (t : Fin cfg1.N) (d) : (dat (Ix := Ix) (U := U) (Lvl := Lvl) V D c).before 1 t d = iblk V c 1 t := by
  unfold Dat.before; rw [if_pos (fetch1_1 t)]; rfl

/-! ## The body obligation -/

variable (ι : Ix)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W1, bigSep_W1, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid1.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.Kernel.Own.DeqRows

end
-- ==== Proof.Kernel.DeqWd.lean ====
/-
  The call that dequantises the down weights: what one run of its body does, its proof data and its body obligation. Each code is
  multiplied with its group's scale, group by group.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.Kernel.Own.DeqWd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

theorem slg : ∀ g : Fin 32, S1x32.Slices ![0, g.val] S1x1 := by decide

/-- A square of 128 by 128: its codes times its scale. -/
def blkG (g : Fin 32) (X : Vec F S1x1x1x32 .f32) (c : Vec F S1x128x128 .fp8e4m3) : FVec F S1x128x128 .bf16 :=
  shapeCast S1x128x128 (mulf (extf .bf16 (shapeCast S128x128 c shapeCasts_S1x128x128_S128x128) bitsLt_fp8e4m3_bf16)
    (truncf .bf16 (broadcastTo S128x128 (shapeCast S1x1 (extractStridedSlice S1x1 ![0, g.val] (k2_pay3 X) (slg g)) shapeCasts_S1x1_S1x1) broadcasts_S1x1_S128x128) bitsLt_bf16_f32))
    shapeCasts_S128x128_S1x128x128

theorem blkG_apply (g : Fin 32) (X : Vec F S1x1x1x32 .f32) (c : Vec F S1x128x128 .fp8e4m3) (x : S1x128x128.Idx) :
    blkG g X c x = FloatOps.mulf (FloatOps.extf .bf16 bitsLt_fp8e4m3_bf16 (c x)) (FloatOps.truncf .bf16 bitsLt_bf16_f32 (X (ix4 0 0 0 g))) := by
  obtain ⟨a, r, q, rfl⟩ : ∃ (a : Fin 1) (r q : Fin 128), x = ix3 a r q := ⟨x 0, x 1, x 2, by funext b; fin_cases b <;> rfl⟩
  obtain rfl : a = 0 := Subsingleton.elim _ _
  pointwise [blkG, k2_pay3]

/-- The whole block: each code times the scale of its square. -/
def out (x0 : Vec F S1x256x4096 .fp8e4m3) (x1 : Vec F S1x2x1x32 .f32) : Vec F S1x256x4096 .bf16 :=
  fun j => FloatOps.mulf (FloatOps.extf .bf16 bitsLt_fp8e4m3_bf16 (x0 j))
    (FloatOps.truncf .bf16 bitsLt_bf16_f32 (x1 (ix4 0 ⟨(j 1).val / 128, by have : (j 1).val < 256 := (j 1).isLt; omega⟩ 0 ⟨(j 2).val / 128, by have : (j 2).val < 4096 := (j 2).isLt; omega⟩)))

/-- A square of the block. -/
theorem piece (x0 : Vec F S1x256x4096 .fp8e4m3) (x1 : Vec F S1x2x1x32 .f32) (a : Fin 2) (g : Fin 32) {off : Fin 3 → ℕ} {offX : Fin 4 → ℕ}
    (inb : ∀ a, off a + S1x128x128.size a ≤ S1x256x4096.size a) (he : off = ![0, 128 * a.val, 128 * g.val])
    (inbX : ∀ a, offX a + S1x1x1x32.size a ≤ S1x2x1x32.size a) (heX : offX = ![0, a.val, 0, 0]) {X : Vec F S1x1x1x32 .f32} {c : Vec F S1x128x128 .fp8e4m3}
    (hX : X = VecWindow.window x1 offX S1x1x1x32.size inbX) (hc : c = VecWindow.window x0 off S1x128x128.size inb) (p : FVec F S1x128x128 .bf16) (hp : p = blkG g X c) (x : S1x128x128.Idx) :
    p x = out x0 x1 ((Rect.unit (s := S1x256x4096) off S1x128x128.size inb).emb x) := by
  subst he heX hX hc hp
  have h1 : (x 1).val < 128 := (x 1).isLt
  have h2 : (x 2).val < 128 := (x 2).isLt
  refine (blkG_apply _ _ _ _).trans ?_
  unfold out
  refine congrArg₂ FloatOps.mulf rfl (congrArg (FloatOps.truncf .bf16 bitsLt_bf16_f32) ?_)
  show x1 _ = x1 _
  congr 1; funext b; apply Fin.ext; fin_cases b
  · rfl
  · show a.val + 1 * 0 = (128 * a.val + 1 * (x 1).val) / 128; omega
  · rfl
  · show 0 + 1 * g.val = (128 * g.val + 1 * (x 2).val) / 128; omega

/-! ## One run of the body -/

variable (𝒱₀ : Variants)

/-- The body leaves the block in the result's buffer. -/
theorem run (c : Dev nD) (i : grid2.Coords) (arg2 : Memref sig .tc .vmem S1x256x4096 .fp8e4m3) (harg2 : arg2.IsWhole) (arg3 : Memref sig .tc .vmem S1x2x1x32 .f32) (harg3 : arg3.IsWhole)
    (arg4 : Memref sig .tc .vmem S1x256x4096 .bf16) (harg4 : arg4.IsWhole) (x0 : Vec F S1x256x4096 .fp8e4m3) (x1 : Vec F S1x2x1x32 .f32) (d2 : Vec F S1x256x4096 .bf16) (E : Set ℕ) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) 𝒱₀ c none) E (cc2_deq_blk i arg2 harg2 arg3 harg3 arg4 harg4) K := by
  simp only [cc2_deq_blk_eq_skeleton]; unfold cc2_deq_blk_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  funext y
  refine View.read_writes_apply_of_pieces _ _ _ _ ?_ y (View.cover_of_tiledL (s := S1x256x4096) _ S1x128x128.size (by sl_kernel_rfl) y)
  · clear hf2
    have P : ∀ (a : Fin 2) (g : Fin 32) {off : Fin 3 → ℕ} {offX : Fin 4 → ℕ} (inb : ∀ a, off a + S1x128x128.size a ≤ S1x256x4096.size a) (he : off = ![0, 128 * a.val, 128 * g.val])
        (inbX : ∀ a, offX a + S1x1x1x32.size a ≤ S1x2x1x32.size a) (heX : offX = ![0, a.val, 0, 0]) (p : FVec F S1x128x128 .bf16)
        (hp : p = blkG g (arg3.view.readAt (Elt F) (Rect.unit (s := S1x2x1x32) offX S1x1x1x32.size inbX).toLoadRect (harg3.unread x1))
          (arg2.view.readAt (Elt F) (Rect.unit (s := S1x256x4096) off S1x128x128.size inb).toLoadRect (harg2.unread x0))) (x : S1x128x128.Idx),
        p x = out x0 x1 ((Rect.unit (s := S1x256x4096) off S1x128x128.size inb).emb x) := fun a g off offX inb he inbX heX p hp x =>
      piece x0 x1 a g inb he inbX heX (ldTail arg3 harg3 x1 inbX) (ldTail arg2 harg2 x0 inb) p hp x
    refine List.forall_mem_cons.2 ⟨P 1 31 _ rfl inb_S1x2x1x32_S1x1x1x32_0_1_0_0 rfl _ rfl, ?_⟩
    refine List.forall_mem_cons.2 ⟨P 1 30 _ rfl inb_S1x2x1x32_S1x1x1x32_0_1_0_0 rfl _ rfl, ?_⟩
    refine List.forall_mem_cons.2 ⟨P 1 29 _ rfl inb_S1x2x1x32_S1x1x1x32_0_1_0_0 rfl _ rfl, ?_⟩
    refine List.forall_mem_cons.2 ⟨P 1 28 _ rfl inb_S1x2x1x32_S1x1x1x32_0_1_0_0 rfl _ rfl, ?_⟩
    refine List.forall_mem_cons.2 ⟨P 1 27 _ rfl inb_S1x2x1x32_S1x1x1x32_0_1_0_0 rfl _ rfl, ?_⟩
    refine List.forall_mem_cons.2 ⟨P 1 26 _ rfl inb_S1x2x1x32_S1x1x1x32_0_1_0_0 rfl _ rfl, ?_⟩
    refine List.forall_mem_cons.2 ⟨P 1 25 _ rfl inb_S1x2x1x32_S1x1x1x32_0_1_0_0 rfl _ rfl, ?_⟩
    refine List.forall_mem_cons.2 ⟨P 1 24 _ rfl inb_S1x2x1x32_S1x1x1x32_0_1_0_0 rfl _ rfl, ?_⟩
    refine List.forall_mem_cons.2 ⟨P 1 23 _ rfl inb_S1x2x1x32_S1x1x1x32_0_1_0_0 rfl _ rfl, ?_⟩
    refine List.forall_mem_cons.2 ⟨P 1 22 _ rfl inb_S1x2x1x32_S1x1x1x32_0_1_0_0 rfl _ rfl, ?_⟩
    refine List.forall_mem_cons.2 ⟨P 1 21 _ rfl inb_S1x2x1x32_S1x1x1x32_0_1_0_0 rfl _ rfl, ?_⟩
    refine List.forall_mem_cons.2 ⟨P 1 20 _ rfl inb_S1x2x1x32_S1x1x1x32_0_1_0_0 rfl _ rfl, ?_⟩
    refine List.forall_mem_cons.2 ⟨P 1 19 _ rfl inb_S1x2x1x32_S1x1x1x32_0_1_0_0 rfl _ rfl, ?_⟩
    refine List.forall_mem_cons.2 ⟨P 1 18 _ rfl inb_S1x2x1x32_S1x1x1x32_0_1_0_0 rfl _ rfl, ?_⟩
    refine List.forall_mem_cons.2 ⟨P 1 17 _ rfl inb_S1x2x1x32_S1x1x1x32_0_1_0_0 rfl _ rfl, ?_⟩
    refine List.forall_mem_cons.2 ⟨P 1 16 _ rfl inb_S1x2x1x32_S1x1x1x32_0_1_0_0 rfl _ rfl, ?_⟩
    refine List.forall_mem_cons.2 ⟨P 1 15 _ rfl inb_S1x2x1x32_S1x1x1x32_0_1_0_0 rfl _ rfl, ?_⟩
    refine List.forall_mem_cons.2 ⟨P 1 14 _ rfl inb_S1x2x1x32_S1x1x1x32_0_1_0_0 rfl _ rfl, ?_⟩
    refine List.forall_mem_cons.2 ⟨P 1 13 _ rfl inb_S1x2x1x32_S1x1x1x32_0_1_0_0 rfl _ rfl, ?_⟩
    refine List.forall_mem_cons.2 ⟨P 1 12 _ rfl inb_S1x2x1x32_S1x1x1x32_0_1_0_0 rfl _ rfl, ?_⟩
    refine List.forall_mem_cons.2 ⟨P 1 11 _ rfl inb_S1x2x1x32_S1x1x1x32_0_1_0_0 rfl _ rfl, ?_⟩
    refine List.forall_mem_cons.2 ⟨P 1 10 _ rfl inb_S1x2x1x32_S1x1x1x32_0_1_0_0 rfl _ rfl, ?_⟩
    refine List.forall_mem_cons.2 ⟨P 1 9 _ rfl inb_S1x2x1x32_S1x1x1x32_0_1_0_0 rfl _ rfl, ?_⟩
    refine List.forall_mem_cons.2 ⟨P 1 8 _ rfl inb_S1x2x1x32_S1x1x1x32_0_1_0_0 rfl _ rfl, ?_⟩
    refine List.forall_mem_cons.2 ⟨P 1 7 _ rfl inb_S1x2x1x32_S1x1x1x32_0_1_0_0 rfl _ rfl, ?_⟩
    refine List.forall_mem_cons.2 ⟨P 1 6 _ rfl inb_S1x2x1x32_S1x1x1x32_0_1_0_0 rfl _ rfl, ?_⟩
    refine List.forall_mem_cons.2 ⟨P 1 5 _ rfl inb_S1x2x1x32_S1x1x1x32_0_1_0_0 rfl _ rfl, ?_⟩
    refine List.forall_mem_cons.2 ⟨P 1 4 _ rfl inb_S1x2x1x32_S1x1x1x32_0_1_0_0 rfl _ rfl, ?_⟩
    refine List.forall_mem_cons.2 ⟨P 1 3 _ rfl inb_S1x2x1x32_S1x1x1x32_0_1_0_0 rfl _ rfl, ?_⟩
    refine List.forall_mem_cons.2 ⟨P 1 2 _ rfl inb_S1x2x1x32_S1x1x1x32_0_1_0_0 rfl _ rfl, ?_⟩
    refine List.forall_mem_cons.2 ⟨P 1 1 _ rfl inb_S1x2x1x32_S1x1x1x32_0_1_0_0 rfl _ rfl, ?_⟩
    refine List.forall_mem_cons.2 ⟨P 1 0 _ rfl inb_S1x2x1x32_S1x1x1x32_0_1_0_0 rfl _ rfl, ?_⟩
    refine List.forall_mem_cons.2 ⟨P 0 31 _ rfl inb_S1x2x1x32_S1x1x1x32_0_0_0_0 rfl _ rfl, ?_⟩
    refine List.forall_mem_cons.2 ⟨P 0 30 _ rfl inb_S1x2x1x32_S1x1x1x32_0_0_0_0 rfl _ rfl, ?_⟩
    refine List.forall_mem_cons.2 ⟨P 0 29 _ rfl inb_S1x2x1x32_S1x1x1x32_0_0_0_0 rfl _ rfl, ?_⟩
    refine List.forall_mem_cons.2 ⟨P 0 28 _ rfl inb_S1x2x1x32_S1x1x1x32_0_0_0_0 rfl _ rfl, ?_⟩
    refine List.forall_mem_cons.2 ⟨P 0 27 _ rfl inb_S1x2x1x32_S1x1x1x32_0_0_0_0 rfl _ rfl, ?_⟩
    refine List.forall_mem_cons.2 ⟨P 0 26 _ rfl inb_S1x2x1x32_S1x1x1x32_0_0_0_0 rfl _ rfl, ?_⟩
    refine List.forall_mem_cons.2 ⟨P 0 25 _ rfl inb_S1x2x1x32_S1x1x1x32_0_0_0_0 rfl _ rfl, ?_⟩
    refine List.forall_mem_cons.2 ⟨P 0 24 _ rfl inb_S1x2x1x32_S1x1x1x32_0_0_0_0 rfl _ rfl, ?_⟩
    refine List.forall_mem_cons.2 ⟨P 0 23 _ rfl inb_S1x2x1x32_S1x1x1x32_0_0_0_0 rfl _ rfl, ?_⟩
    refine List.forall_mem_cons.2 ⟨P 0 22 _ rfl inb_S1x2x1x32_S1x1x1x32_0_0_0_0 rfl _ rfl, ?_⟩
    refine List.forall_mem_cons.2 ⟨P 0 21 _ rfl inb_S1x2x1x32_S1x1x1x32_0_0_0_0 rfl _ rfl, ?_⟩
    refine List.forall_mem_cons.2 ⟨P 0 20 _ rfl inb_S1x2x1x32_S1x1x1x32_0_0_0_0 rfl _ rfl, ?_⟩
    refine List.forall_mem_cons.2 ⟨P 0 19 _ rfl inb_S1x2x1x32_S1x1x1x32_0_0_0_0 rfl _ rfl, ?_⟩
    refine List.forall_mem_cons.2 ⟨P 0 18 _ rfl inb_S1x2x1x32_S1x1x1x32_0_0_0_0 rfl _ rfl, ?_⟩
    refine List.forall_mem_cons.2 ⟨P 0 17 _ rfl inb_S1x2x1x32_S1x1x1x32_0_0_0_0 rfl _ rfl, ?_⟩
    refine List.forall_mem_cons.2 ⟨P 0 16 _ rfl inb_S1x2x1x32_S1x1x1x32_0_0_0_0 rfl _ rfl, ?_⟩
    refine List.forall_mem_cons.2 ⟨P 0 15 _ rfl inb_S1x2x1x32_S1x1x1x32_0_0_0_0 rfl _ rfl, ?_⟩
    refine List.forall_mem_cons.2 ⟨P 0 14 _ rfl inb_S1x2x1x32_S1x1x1x32_0_0_0_0 rfl _ rfl, ?_⟩
    refine List.forall_mem_cons.2 ⟨P 0 13 _ rfl inb_S1x2x1x32_S1x1x1x32_0_0_0_0 rfl _ rfl, ?_⟩
    refine List.forall_mem_cons.2 ⟨P 0 12 _ rfl inb_S1x2x1x32_S1x1x1x32_0_0_0_0 rfl _ rfl, ?_⟩
    refine List.forall_mem_cons.2 ⟨P 0 11 _ rfl inb_S1x2x1x32_S1x1x1x32_0_0_0_0 rfl _ rfl, ?_⟩
    refine List.forall_mem_cons.2 ⟨P 0 10 _ rfl inb_S1x2x1x32_S1x1x1x32_0_0_0_0 rfl _ rfl, ?_⟩
    refine List.forall_mem_cons.2 ⟨P 0 9 _ rfl inb_S1x2x1x32_S1x1x1x32_0_0_0_0 rfl _ rfl, ?_⟩
    refine List.forall_mem_cons.2 ⟨P 0 8 _ rfl inb_S1x2x1x32_S1x1x1x32_0_0_0_0 rfl _ rfl, ?_⟩
    refine List.forall_mem_cons.2 ⟨P 0 7 _ rfl inb_S1x2x1x32_S1x1x1x32_0_0_0_0 rfl _ rfl, ?_⟩
    refine List.forall_mem_cons.2 ⟨P 0 6 _ rfl inb_S1x2x1x32_S1x1x1x32_0_0_0_0 rfl _ rfl, ?_⟩
    refine List.forall_mem_cons.2 ⟨P 0 5 _ rfl inb_S1x2x1x32_S1x1x1x32_0_0_0_0 rfl _ rfl, ?_⟩
    refine List.forall_mem_cons.2 ⟨P 0 4 _ rfl inb_S1x2x1x32_S1x1x1x32_0_0_0_0 rfl _ rfl, ?_⟩
    refine List.forall_mem_cons.2 ⟨P 0 3 _ rfl inb_S1x2x1x32_S1x1x1x32_0_0_0_0 rfl _ rfl, ?_⟩
    refine List.forall_mem_cons.2 ⟨P 0 2 _ rfl inb_S1x2x1x32_S1x1x1x32_0_0_0_0 rfl _ rfl, ?_⟩
    refine List.forall_mem_cons.2 ⟨P 0 1 _ rfl inb_S1x2x1x32_S1x1x1x32_0_0_0_0 rfl _ rfl, ?_⟩
    refine List.forall_mem_cons.2 ⟨P 0 0 _ rfl inb_S1x2x1x32_S1x1x1x32_0_0_0_0 rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's invariant: what it scopes, untouched. -/
def ΦK (c : Dev nD) : sProp 𝕄 :=
  iprop(Pipeline.scopedRest (Ix := Ix) (Name := ℕ) (U := U) (Lvl := Lvl) (Val := Elt F) spec2 c ∗ ∃ r, prngReg c r)

/-- The proof data: the operands' buffers keep their blocks, the result's holds the block the body makes. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg2.W) : (dat (Ix := Ix) (U := U) (Lvl := Lvl) V D c).A w = V c (Pipeline.arrRef spec2 w) := by
  dsimp only [dat]

theorem after_0 (c : Dev nD) (t : Fin cfg2.N) : (dat (Ix := Ix) (U := U) (Lvl := Lvl) V D c).after 0 t = iblk V c 0 t := by dsimp only [dat]
theorem after_1 (c : Dev nD) (t : Fin cfg2.N) : (dat (Ix := Ix) (U := U) (Lvl := Lvl) V D c).after 1 t = iblk V c 1 t := by dsimp only [dat]
theorem after_2 (c : Dev nD) (t : Fin cfg2.N) : (dat (Ix := Ix) (U := U) (Lvl := Lvl) V D c).after 2 t = out (iblk V c 0 t) (iblk V c 1 t) := by dsimp only [dat]

theorem before_0 (c : Dev nD) (t : Fin cfg2.N) (d) : (dat (Ix := Ix) (U := U) (Lvl := Lvl) V D c).before 0 t d = iblk V c 0 t := by
  unfold Dat.before; rw [if_pos (fetch2_0 t)]; rfl
theorem before_1 (c : Dev nD) (t : Fin cfg2.N) (d) : (dat (Ix := Ix) (U := U) (Lvl := Lvl) V D c).before 1 t d = iblk V c 1 t := by
  unfold Dat.before; rw [if_pos (fetch2_1 t)]; rfl

/-! ## The body obligation -/

variable (ι : Ix)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W2, bigSep_W2, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid2.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.Kernel.Own.DeqWd

end
-- ==== Proof.Kernel.DeqWgu.lean ====
/-
  The call that dequantises the gate and up weights: what one run of its body does, its proof data and its body obligation. Each code is
  multiplied with its group's scale, group by group.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.Kernel.Own.DeqWgu

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

theorem slg : ∀ g : Fin 86, S1x86.Slices ![0, g.val] S1x1 := by decide

/-- A square of 128 by 128: its codes times its scale. -/
def blkG (g : Fin 86) (X : Vec F S1x1x1x86 .f32) (c : Vec F S1x128x128 .fp8e4m3) : FVec F S1x128x128 .bf16 :=
  shapeCast S1x128x128 (mulf (extf .bf16 (shapeCast S128x128 c shapeCasts_S1x128x128_S128x128) bitsLt_fp8e4m3_bf16)
    (truncf .bf16 (broadcastTo S128x128 (shapeCast S1x1 (extractStridedSlice S1x1 ![0, g.val] (k3_pay3 X) (slg g)) shapeCasts_S1x1_S1x1) broadcasts_S1x1_S128x128) bitsLt_bf16_f32))
    shapeCasts_S128x128_S1x128x128

theorem blkG_apply (g : Fin 86) (X : Vec F S1x1x1x86 .f32) (c : Vec F S1x128x128 .fp8e4m3) (x : S1x128x128.Idx) :
    blkG g X c x = FloatOps.mulf (FloatOps.extf .bf16 bitsLt_fp8e4m3_bf16 (c x)) (FloatOps.truncf .bf16 bitsLt_bf16_f32 (X (ix4 0 0 0 g))) := by
  obtain ⟨a, r, q, rfl⟩ : ∃ (a : Fin 1) (r q : Fin 128), x = ix3 a r q := ⟨x 0, x 1, x 2, by funext b; fin_cases b <;> rfl⟩
  obtain rfl : a = 0 := Subsingleton.elim _ _
  pointwise [blkG, k3_pay3]

/-- The whole block: each code times the scale of its square. -/
def out (x0 : Vec F S1x128x11008 .fp8e4m3) (x1 : Vec F S1x1x1x86 .f32) : Vec F S1x128x11008 .bf16 :=
  fun j => FloatOps.mulf (FloatOps.extf .bf16 bitsLt_fp8e4m3_bf16 (x0 j))
    (FloatOps.truncf .bf16 bitsLt_bf16_f32 (x1 (ix4 0 ⟨(j 1).val / 128, by have : (j 1).val < 128 := (j 1).isLt; omega⟩ 0 ⟨(j 2).val / 128, by have : (j 2).val < 11008 := (j 2).isLt; omega⟩)))

/-- A square of the block. -/
theorem piece (x0 : Vec F S1x128x11008 .fp8e4m3) (x1 : Vec F S1x1x1x86 .f32) (a : Fin 1) (g : Fin 86) {off : Fin 3 → ℕ} {offX : Fin 4 → ℕ}
    (inb : ∀ a, off a + S1x128x128.size a ≤ S1x128x11008.size a) (he : off = ![0, 128 * a.val, 128 * g.val])
    (inbX : ∀ a, offX a + S1x1x1x86.size a ≤ S1x1x1x86.size a) (heX : offX = ![0, a.val, 0, 0]) {X : Vec F S1x1x1x86 .f32} {c : Vec F S1x128x128 .fp8e4m3}
    (hX : X = VecWindow.window x1 offX S1x1x1x86.size inbX) (hc : c = VecWindow.window x0 off S1x128x128.size inb) (p : FVec F S1x128x128 .bf16) (hp : p = blkG g X c) (x : S1x128x128.Idx) :
    p x = out x0 x1 ((Rect.unit (s := S1x128x11008) off S1x128x128.size inb).emb x) := by
  subst he heX hX hc hp
  have h1 : (x 1).val < 128 := (x 1).isLt
  have h2 : (x 2).val < 128 := (x 2).isLt
  refine (blkG_apply _ _ _ _).trans ?_
  unfold out
  refine congrArg₂ FloatOps.mulf rfl (congrArg (FloatOps.truncf .bf16 bitsLt_bf16_f32) ?_)
  show x1 _ = x1 _
  congr 1; funext b; apply Fin.ext; fin_cases b
  · rfl
  · show a.val + 1 * 0 = (128 * a.val + 1 * (x 1).val) / 128; omega
  · rfl
  · show 0 + 1 * g.val = (128 * g.val + 1 * (x 2).val) / 128; omega

/-! ## One run of the body -/

variable (𝒱₀ : Variants)

/-- The body leaves the block in the result's buffer. -/
theorem run (c : Dev nD) (i : grid3.Coords) (arg2 : Memref sig .tc .vmem S1x128x11008 .fp8e4m3) (harg2 : arg2.IsWhole) (arg3 : Memref sig .tc .vmem S1x1x1x86 .f32) (harg3 : arg3.IsWhole)
    (arg4 : Memref sig .tc .vmem S1x128x11008 .bf16) (harg4 : arg4.IsWhole) (x0 : Vec F S1x128x11008 .fp8e4m3) (x1 : Vec F S1x1x1x86 .f32) (d2 : Vec F S1x128x11008 .bf16) (E : Set ℕ) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) 𝒱₀ c none) E (cc3_deq_blk i arg2 harg2 arg3 harg3 arg4 harg4) K := by
  simp only [cc3_deq_blk_eq_skeleton]; unfold cc3_deq_blk_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton, k3_part18_eq_skeleton, k3_part19_eq_skeleton, k3_part20_eq_skeleton, k3_part21_eq_skeleton, k3_part22_eq_skeleton, k3_part23_eq_skeleton, k3_part24_eq_skeleton, k3_part25_eq_skeleton, k3_part26_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  funext y
  refine View.read_writes_apply_of_pieces _ _ _ _ ?_ y (View.cover_of_tiledL (s := S1x128x11008) _ S1x128x128.size (by sl_kernel_rfl) y)
  · clear hf2
    have P : ∀ (a : Fin 1) (g : Fin 86) {off : Fin 3 → ℕ} {offX : Fin 4 → ℕ} (inb : ∀ a, off a + S1x128x128.size a ≤ S1x128x11008.size a) (he : off = ![0, 128 * a.val, 128 * g.val])
        (inbX : ∀ a, offX a + S1x1x1x86.size a ≤ S1x1x1x86.size a) (heX : offX = ![0, a.val, 0, 0]) (p : FVec F S1x128x128 .bf16)
        (hp : p = blkG g (arg3.view.readAt (Elt F) (Rect.unit (s := S1x1x1x86) offX S1x1x1x86.size inbX).toLoadRect (harg3.unread x1))
          (arg2.view.readAt (Elt F) (Rect.unit (s := S1x128x11008) off S1x128x128.size inb).toLoadRect (harg2.unread x0))) (x : S1x128x128.Idx),
        p x = out x0 x1 ((Rect.unit (s := S1x128x11008) off S1x128x128.size inb).emb x) := fun a g off offX inb he inbX heX p hp x =>
      piece x0 x1 a g inb he inbX heX (ldTail arg3 harg3 x1 inbX) (ldTail arg2 harg2 x0 inb) p hp x
    refine List.forall_mem_cons.2 ⟨P 0 85 _ rfl inb_S1x1x1x86_S1x1x1x86_0_0_0_0 rfl _ rfl, ?_⟩
    refine List.forall_mem_cons.2 ⟨P 0 84 _ rfl inb_S1x1x1x86_S1x1x1x86_0_0_0_0 rfl _ rfl, ?_⟩
    refine List.forall_mem_cons.2 ⟨P 0 83 _ rfl inb_S1x1x1x86_S1x1x1x86_0_0_0_0 rfl _ rfl, ?_⟩
    refine List.forall_mem_cons.2 ⟨P 0 82 _ rfl inb_S1x1x1x86_S1x1x1x86_0_0_0_0 rfl _ rfl, ?_⟩
    refine List.forall_mem_cons.2 ⟨P 0 81 _ rfl inb_S1x1x1x86_S1x1x1x86_0_0_0_0 rfl _ rfl, ?_⟩
    refine List.forall_mem_cons.2 ⟨P 0 80 _ rfl inb_S1x1x1x86_S1x1x1x86_0_0_0_0 rfl _ rfl, ?_⟩
    refine List.forall_mem_cons.2 ⟨P 0 79 _ rfl inb_S1x1x1x86_S1x1x1x86_0_0_0_0 rfl _ rfl, ?_⟩
    refine List.forall_mem_cons.2 ⟨P 0 78 _ rfl inb_S1x1x1x86_S1x1x1x86_0_0_0_0 rfl _ rfl, ?_⟩
    refine List.forall_mem_cons.2 ⟨P 0 77 _ rfl inb_S1x1x1x86_S1x1x1x86_0_0_0_0 rfl _ rfl, ?_⟩
    refine List.forall_mem_cons.2 ⟨P 0 76 _ rfl inb_S1x1x1x86_S1x1x1x86_0_0_0_0 rfl _ rfl, ?_⟩
    refine List.forall_mem_cons.2 ⟨P 0 75 _ rfl inb_S1x1x1x86_S1x1x1x86_0_0_0_0 rfl _ rfl, ?_⟩
    refine List.forall_mem_cons.2 ⟨P 0 74 _ rfl inb_S1x1x1x86_S1x1x1x86_0_0_0_0 rfl _ rfl, ?_⟩
    refine List.forall_mem_cons.2 ⟨P 0 73 _ rfl inb_S1x1x1x86_S1x1x1x86_0_0_0_0 rfl _ rfl, ?_⟩
    refine List.forall_mem_cons.2 ⟨P 0 72 _ rfl inb_S1x1x1x86_S1x1x1x86_0_0_0_0 rfl _ rfl, ?_⟩
    refine List.forall_mem_cons.2 ⟨P 0 71 _ rfl inb_S1x1x1x86_S1x1x1x86_0_0_0_0 rfl _ rfl, ?_⟩
    refine List.forall_mem_cons.2 ⟨P 0 70 _ rfl inb_S1x1x1x86_S1x1x1x86_0_0_0_0 rfl _ rfl, ?_⟩
    refine List.forall_mem_cons.2 ⟨P 0 69 _ rfl inb_S1x1x1x86_S1x1x1x86_0_0_0_0 rfl _ rfl, ?_⟩
    refine List.forall_mem_cons.2 ⟨P 0 68 _ rfl inb_S1x1x1x86_S1x1x1x86_0_0_0_0 rfl _ rfl, ?_⟩
    refine List.forall_mem_cons.2 ⟨P 0 67 _ rfl inb_S1x1x1x86_S1x1x1x86_0_0_0_0 rfl _ rfl, ?_⟩
    refine List.forall_mem_cons.2 ⟨P 0 66 _ rfl inb_S1x1x1x86_S1x1x1x86_0_0_0_0 rfl _ rfl, ?_⟩
    refine List.forall_mem_cons.2 ⟨P 0 65 _ rfl inb_S1x1x1x86_S1x1x1x86_0_0_0_0 rfl _ rfl, ?_⟩
    refine List.forall_mem_cons.2 ⟨P 0 64 _ rfl inb_S1x1x1x86_S1x1x1x86_0_0_0_0 rfl _ rfl, ?_⟩
    refine List.forall_mem_cons.2 ⟨P 0 63 _ rfl inb_S1x1x1x86_S1x1x1x86_0_0_0_0 rfl _ rfl, ?_⟩
    refine List.forall_mem_cons.2 ⟨P 0 62 _ rfl inb_S1x1x1x86_S1x1x1x86_0_0_0_0 rfl _ rfl, ?_⟩
    refine List.forall_mem_cons.2 ⟨P 0 61 _ rfl inb_S1x1x1x86_S1x1x1x86_0_0_0_0 rfl _ rfl, ?_⟩
    refine List.forall_mem_cons.2 ⟨P 0 60 _ rfl inb_S1x1x1x86_S1x1x1x86_0_0_0_0 rfl _ rfl, ?_⟩
    refine List.forall_mem_cons.2 ⟨P 0 59 _ rfl inb_S1x1x1x86_S1x1x1x86_0_0_0_0 rfl _ rfl, ?_⟩
    refine List.forall_mem_cons.2 ⟨P 0 58 _ rfl inb_S1x1x1x86_S1x1x1x86_0_0_0_0 rfl _ rfl, ?_⟩
    refine List.forall_mem_cons.2 ⟨P 0 57 _ rfl inb_S1x1x1x86_S1x1x1x86_0_0_0_0 rfl _ rfl, ?_⟩
    refine List.forall_mem_cons.2 ⟨P 0 56 _ rfl inb_S1x1x1x86_S1x1x1x86_0_0_0_0 rfl _ rfl, ?_⟩
    refine List.forall_mem_cons.2 ⟨P 0 55 _ rfl inb_S1x1x1x86_S1x1x1x86_0_0_0_0 rfl _ rfl, ?_⟩
    refine List.forall_mem_cons.2 ⟨P 0 54 _ rfl inb_S1x1x1x86_S1x1x1x86_0_0_0_0 rfl _ rfl, ?_⟩
    refine List.forall_mem_cons.2 ⟨P 0 53 _ rfl inb_S1x1x1x86_S1x1x1x86_0_0_0_0 rfl _ rfl, ?_⟩
    refine List.forall_mem_cons.2 ⟨P 0 52 _ rfl inb_S1x1x1x86_S1x1x1x86_0_0_0_0 rfl _ rfl, ?_⟩
    refine List.forall_mem_cons.2 ⟨P 0 51 _ rfl inb_S1x1x1x86_S1x1x1x86_0_0_0_0 rfl _ rfl, ?_⟩
    refine List.forall_mem_cons.2 ⟨P 0 50 _ rfl inb_S1x1x1x86_S1x1x1x86_0_0_0_0 rfl _ rfl, ?_⟩
    refine List.forall_mem_cons.2 ⟨P 0 49 _ rfl inb_S1x1x1x86_S1x1x1x86_0_0_0_0 rfl _ rfl, ?_⟩
    refine List.forall_mem_cons.2 ⟨P 0 48 _ rfl inb_S1x1x1x86_S1x1x1x86_0_0_0_0 rfl _ rfl, ?_⟩
    refine List.forall_mem_cons.2 ⟨P 0 47 _ rfl inb_S1x1x1x86_S1x1x1x86_0_0_0_0 rfl _ rfl, ?_⟩
    refine List.forall_mem_cons.2 ⟨P 0 46 _ rfl inb_S1x1x1x86_S1x1x1x86_0_0_0_0 rfl _ rfl, ?_⟩
    refine List.forall_mem_cons.2 ⟨P 0 45 _ rfl inb_S1x1x1x86_S1x1x1x86_0_0_0_0 rfl _ rfl, ?_⟩
    refine List.forall_mem_cons.2 ⟨P 0 44 _ rfl inb_S1x1x1x86_S1x1x1x86_0_0_0_0 rfl _ rfl, ?_⟩
    refine List.forall_mem_cons.2 ⟨P 0 43 _ rfl inb_S1x1x1x86_S1x1x1x86_0_0_0_0 rfl _ rfl, ?_⟩
    refine List.forall_mem_cons.2 ⟨P 0 42 _ rfl inb_S1x1x1x86_S1x1x1x86_0_0_0_0 rfl _ rfl, ?_⟩
    refine List.forall_mem_cons.2 ⟨P 0 41 _ rfl inb_S1x1x1x86_S1x1x1x86_0_0_0_0 rfl _ rfl, ?_⟩
    refine List.forall_mem_cons.2 ⟨P 0 40 _ rfl inb_S1x1x1x86_S1x1x1x86_0_0_0_0 rfl _ rfl, ?_⟩
    refine List.forall_mem_cons.2 ⟨P 0 39 _ rfl inb_S1x1x1x86_S1x1x1x86_0_0_0_0 rfl _ rfl, ?_⟩
    refine List.forall_mem_cons.2 ⟨P 0 38 _ rfl inb_S1x1x1x86_S1x1x1x86_0_0_0_0 rfl _ rfl, ?_⟩
    refine List.forall_mem_cons.2 ⟨P 0 37 _ rfl inb_S1x1x1x86_S1x1x1x86_0_0_0_0 rfl _ rfl, ?_⟩
    refine List.forall_mem_cons.2 ⟨P 0 36 _ rfl inb_S1x1x1x86_S1x1x1x86_0_0_0_0 rfl _ rfl, ?_⟩
    refine List.forall_mem_cons.2 ⟨P 0 35 _ rfl inb_S1x1x1x86_S1x1x1x86_0_0_0_0 rfl _ rfl, ?_⟩
    refine List.forall_mem_cons.2 ⟨P 0 34 _ rfl inb_S1x1x1x86_S1x1x1x86_0_0_0_0 rfl _ rfl, ?_⟩
    refine List.forall_mem_cons.2 ⟨P 0 33 _ rfl inb_S1x1x1x86_S1x1x1x86_0_0_0_0 rfl _ rfl, ?_⟩
    refine List.forall_mem_cons.2 ⟨P 0 32 _ rfl inb_S1x1x1x86_S1x1x1x86_0_0_0_0 rfl _ rfl, ?_⟩
    refine List.forall_mem_cons.2 ⟨P 0 31 _ rfl inb_S1x1x1x86_S1x1x1x86_0_0_0_0 rfl _ rfl, ?_⟩
    refine List.forall_mem_cons.2 ⟨P 0 30 _ rfl inb_S1x1x1x86_S1x1x1x86_0_0_0_0 rfl _ rfl, ?_⟩
    refine List.forall_mem_cons.2 ⟨P 0 29 _ rfl inb_S1x1x1x86_S1x1x1x86_0_0_0_0 rfl _ rfl, ?_⟩
    refine List.forall_mem_cons.2 ⟨P 0 28 _ rfl inb_S1x1x1x86_S1x1x1x86_0_0_0_0 rfl _ rfl, ?_⟩
    refine List.forall_mem_cons.2 ⟨P 0 27 _ rfl inb_S1x1x1x86_S1x1x1x86_0_0_0_0 rfl _ rfl, ?_⟩
    refine List.forall_mem_cons.2 ⟨P 0 26 _ rfl inb_S1x1x1x86_S1x1x1x86_0_0_0_0 rfl _ rfl, ?_⟩
    refine List.forall_mem_cons.2 ⟨P 0 25 _ rfl inb_S1x1x1x86_S1x1x1x86_0_0_0_0 rfl _ rfl, ?_⟩
    refine List.forall_mem_cons.2 ⟨P 0 24 _ rfl inb_S1x1x1x86_S1x1x1x86_0_0_0_0 rfl _ rfl, ?_⟩
    refine List.forall_mem_cons.2 ⟨P 0 23 _ rfl inb_S1x1x1x86_S1x1x1x86_0_0_0_0 rfl _ rfl, ?_⟩
    refine List.forall_mem_cons.2 ⟨P 0 22 _ rfl inb_S1x1x1x86_S1x1x1x86_0_0_0_0 rfl _ rfl, ?_⟩
    refine List.forall_mem_cons.2 ⟨P 0 21 _ rfl inb_S1x1x1x86_S1x1x1x86_0_0_0_0 rfl _ rfl, ?_⟩
    refine List.forall_mem_cons.2 ⟨P 0 20 _ rfl inb_S1x1x1x86_S1x1x1x86_0_0_0_0 rfl _ rfl, ?_⟩
    refine List.forall_mem_cons.2 ⟨P 0 19 _ rfl inb_S1x1x1x86_S1x1x1x86_0_0_0_0 rfl _ rfl, ?_⟩
    refine List.forall_mem_cons.2 ⟨P 0 18 _ rfl inb_S1x1x1x86_S1x1x1x86_0_0_0_0 rfl _ rfl, ?_⟩
    refine List.forall_mem_cons.2 ⟨P 0 17 _ rfl inb_S1x1x1x86_S1x1x1x86_0_0_0_0 rfl _ rfl, ?_⟩
    refine List.forall_mem_cons.2 ⟨P 0 16 _ rfl inb_S1x1x1x86_S1x1x1x86_0_0_0_0 rfl _ rfl, ?_⟩
    refine List.forall_mem_cons.2 ⟨P 0 15 _ rfl inb_S1x1x1x86_S1x1x1x86_0_0_0_0 rfl _ rfl, ?_⟩
    refine List.forall_mem_cons.2 ⟨P 0 14 _ rfl inb_S1x1x1x86_S1x1x1x86_0_0_0_0 rfl _ rfl, ?_⟩
    refine List.forall_mem_cons.2 ⟨P 0 13 _ rfl inb_S1x1x1x86_S1x1x1x86_0_0_0_0 rfl _ rfl, ?_⟩
    refine List.forall_mem_cons.2 ⟨P 0 12 _ rfl inb_S1x1x1x86_S1x1x1x86_0_0_0_0 rfl _ rfl, ?_⟩
    refine List.forall_mem_cons.2 ⟨P 0 11 _ rfl inb_S1x1x1x86_S1x1x1x86_0_0_0_0 rfl _ rfl, ?_⟩
    refine List.forall_mem_cons.2 ⟨P 0 10 _ rfl inb_S1x1x1x86_S1x1x1x86_0_0_0_0 rfl _ rfl, ?_⟩
    refine List.forall_mem_cons.2 ⟨P 0 9 _ rfl inb_S1x1x1x86_S1x1x1x86_0_0_0_0 rfl _ rfl, ?_⟩
    refine List.forall_mem_cons.2 ⟨P 0 8 _ rfl inb_S1x1x1x86_S1x1x1x86_0_0_0_0 rfl _ rfl, ?_⟩
    refine List.forall_mem_cons.2 ⟨P 0 7 _ rfl inb_S1x1x1x86_S1x1x1x86_0_0_0_0 rfl _ rfl, ?_⟩
    refine List.forall_mem_cons.2 ⟨P 0 6 _ rfl inb_S1x1x1x86_S1x1x1x86_0_0_0_0 rfl _ rfl, ?_⟩
    refine List.forall_mem_cons.2 ⟨P 0 5 _ rfl inb_S1x1x1x86_S1x1x1x86_0_0_0_0 rfl _ rfl, ?_⟩
    refine List.forall_mem_cons.2 ⟨P 0 4 _ rfl inb_S1x1x1x86_S1x1x1x86_0_0_0_0 rfl _ rfl, ?_⟩
    refine List.forall_mem_cons.2 ⟨P 0 3 _ rfl inb_S1x1x1x86_S1x1x1x86_0_0_0_0 rfl _ rfl, ?_⟩
    refine List.forall_mem_cons.2 ⟨P 0 2 _ rfl inb_S1x1x1x86_S1x1x1x86_0_0_0_0 rfl _ rfl, ?_⟩
    refine List.forall_mem_cons.2 ⟨P 0 1 _ rfl inb_S1x1x1x86_S1x1x1x86_0_0_0_0 rfl _ rfl, ?_⟩
    refine List.forall_mem_cons.2 ⟨P 0 0 _ rfl inb_S1x1x1x86_S1x1x1x86_0_0_0_0 rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The call's invariant: what it scopes, untouched. -/
def ΦK (c : Dev nD) : sProp 𝕄 :=
  iprop(Pipeline.scopedRest (Ix := Ix) (Name := ℕ) (U := U) (Lvl := Lvl) (Val := Elt F) spec3 c ∗ ∃ r, prngReg c r)

/-- The proof data: the operands' buffers keep their blocks, the result's holds the block the body makes. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg3.W) : (dat (Ix := Ix) (U := U) (Lvl := Lvl) V D c).A w = V c (Pipeline.arrRef spec3 w) := by
  dsimp only [dat]

theorem after_0 (c : Dev nD) (t : Fin cfg3.N) : (dat (Ix := Ix) (U := U) (Lvl := Lvl) V D c).after 0 t = iblk V c 0 t := by dsimp only [dat]
theorem after_1 (c : Dev nD) (t : Fin cfg3.N) : (dat (Ix := Ix) (U := U) (Lvl := Lvl) V D c).after 1 t = iblk V c 1 t := by dsimp only [dat]
theorem after_2 (c : Dev nD) (t : Fin cfg3.N) : (dat (Ix := Ix) (U := U) (Lvl := Lvl) V D c).after 2 t = out (iblk V c 0 t) (iblk V c 1 t) := by dsimp only [dat]

theorem before_0 (c : Dev nD) (t : Fin cfg3.N) (d) : (dat (Ix := Ix) (U := U) (Lvl := Lvl) V D c).before 0 t d = iblk V c 0 t := by
  unfold Dat.before; rw [if_pos (fetch3_0 t)]; rfl
theorem before_1 (c : Dev nD) (t : Fin cfg3.N) (d) : (dat (Ix := Ix) (U := U) (Lvl := Lvl) V D c).before 1 t d = iblk V c 1 t := by
  unfold Dat.before; rw [if_pos (fetch3_1 t)]; rfl

/-! ## The body obligation -/

variable (ι : Ix)

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W3, bigSep_W3, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid3.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.Kernel.Own.DeqWgu

end
-- ==== Proof.Kernel.DhRun.lean ====
/-
  The call that makes the hidden activations and their gradients: what one run of its body does. For each of the groups of
  128 features of a block the stored gate and up codes are dequantised, the product of the output gradient with the down
  weights is taken for up to four groups at once, and the three results are written group by group. The last block of
  features overhangs the arrays, and there only the two groups inside are computed.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 16384

noncomputable section

namespace Cert.Kernel.Own.Dh

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl
/-! ## One group of 128 features -/

theorem slcol : ∀ g : Fin 12, S512x16.Slices ![0, g.val] S512x1 := by decide
theorem sl4 : ∀ g : Fin 12, S512x512.Slices ![0, 128 * (g.val % 4)] S512x128 := by decide
theorem sl2 : ∀ g : Fin 12, S512x256.Slices ![0, 128 * (g.val % 2)] S512x128 := by decide
theorem inbw : ∀ g : Fin 12, ∀ a, (![512 * (g.val / 4), 0] : Fin 2 → ℕ) a + S512x4096.size a ≤ S1536x4096.size a := by decide

/-- The scales of one group, one for each token, spread over the group. -/
def colg (g : Fin 12) (v : FVec F S512x16 .f32) : FVec F S512x128 .bf16 :=
  truncf .bf16 (broadcastTo S512x128 (shapeCast S512x1 (extractStridedSlice S512x1 ![0, g.val] v (slcol g)) shapeCasts_S512x1_S512x1) broadcasts_S512x1_S512x128) bitsLt_bf16_f32

/-- The hidden activations of one group, features by tokens. -/
def hG (b0 b1 : FVec F S512x128 .bf16) (c0 c1 : Vec F S1x1x512x128 .fp8e4m3) : FVec F S128x512 .bf16 := k4_pay28 b0 b1 c0 c1

/-- The gradient of the gate of one group, from the gradient `d` of the activations. -/
def dgG (d : FVec F S512x128 .f32) (b0 b1 : FVec F S512x128 .bf16) (c0 c1 : Vec F S1x1x512x128 .fp8e4m3) : FVec F S1x512x128 .bf16 :=
  shapeCast S1x512x128 (truncf .bf16 (mulf (mulf (mulf d (k4_pay24 b1 c1)) (k4_pay25 b0 c0))
    (addf (broadcast S512x128 (Scalar.ofBits .f32 0x3F800000#32)) (mulf (k4_pay23 b0 c0)
      (subf (broadcast S512x128 (Scalar.ofBits .f32 0x3F800000#32)) (k4_pay25 b0 c0))))) bitsLt_bf16_f32) shapeCasts_S512x128_S1x512x128

/-- The gradient of the up projection of one group, from the gradient `d` of the activations. -/
def duG (d : FVec F S512x128 .f32) (b0 : FVec F S512x128 .bf16) (c0 : Vec F S1x1x512x128 .fp8e4m3) : FVec F S1x512x128 .bf16 :=
  shapeCast S1x512x128 (truncf .bf16 (mulf d (k4_pay26 b0 c0)) bitsLt_bf16_f32) shapeCasts_S512x128_S1x512x128

/-! ## A block of the results in closed form -/

/-- The scales of group `g` of the gate (`k = 0`) or of the up projection, from their block. -/
def colS (x3 : Vec F S1x12x2x512 .f32) (k : Fin 2) (g : Fin 12) : FVec F S512x128 .bf16 :=
  fun j => FloatOps.truncf .bf16 bitsLt_bf16_f32 (x3 (ix4 0 g k (j 0)))

/-- The codes of group `g` of the gate (`k = 0`) or of the up projection, from their block. -/
def cw (x2 : Vec F S1x2x512x1536 .fp8e4m3) (k : Fin 2) (g : Fin 12) : Vec F S1x1x512x128 .fp8e4m3 :=
  fun j => x2 (ix4 0 k (j 2) ⟨128 * g.val + (j 3).val, by have := g.isLt; have : (j 3).val < 128 := (j 3).isLt; omega⟩)

/-- The gradient of the activations of group `g` of a whole block. -/
def dA (x0 : Vec F S512x4096 .bf16) (x1 : Vec F S1536x4096 .bf16) (g : Fin 12) : FVec F S512x128 .f32 :=
  extractStridedSlice S512x128 ![0, 128 * (g.val % 4)] (k4_pay20 x0 (VecWindow.window x1 ![512 * (g.val / 4), 0] S512x4096.size (inbw g))) (sl4 g)

/-- The gradient of the activations of group `g` of the last block, which has two groups. -/
def dB (x0 : Vec F S512x4096 .bf16) (x1 : Vec F S1536x4096 .bf16) (g : Fin 12) : FVec F S512x128 .f32 :=
  extractStridedSlice S512x128 ![0, 128 * (g.val % 2)] (k4_pay133 x0 (VecWindow.window x1 ![0, 0] S256x4096.size inb_S1536x4096_S256x4096_0_0)) (sl2 g)

/-- The group of a feature of a block. -/
def grp (n : ℕ) (h : n < 1536) : Fin 12 := ⟨n / 128, by omega⟩

theorem lt0 (j : S1536x512.Idx) : (j 0).val < 1536 := (j 0).isLt
theorem lt2 (j : S2x512x1536.Idx) : (j 2).val < 1536 := (j 2).isLt

/-- The block of hidden activations. -/
def hOut (x2 : Vec F S1x2x512x1536 .fp8e4m3) (x3 : Vec F S1x12x2x512 .f32) : Vec F S1536x512 .bf16 :=
  fun j => hG (colS x3 0 (grp (j 0).val (lt0 j))) (colS x3 1 (grp (j 0).val (lt0 j))) (cw x2 0 (grp (j 0).val (lt0 j))) (cw x2 1 (grp (j 0).val (lt0 j)))
    (ix2 ⟨(j 0).val % 128, Nat.mod_lt _ (by decide)⟩ (j 1))

/-- The block of gradients of gate and up projection, from the gradient of the activations of each group. -/
def dOut (d : Fin 12 → FVec F S512x128 .f32) (x2 : Vec F S1x2x512x1536 .fp8e4m3) (x3 : Vec F S1x12x2x512 .f32) : Vec F S2x512x1536 .bf16 :=
  fun j => if (j 0).val = 0 then
      dgG (d (grp (j 2).val (lt2 j))) (colS x3 0 (grp (j 2).val (lt2 j))) (colS x3 1 (grp (j 2).val (lt2 j))) (cw x2 0 (grp (j 2).val (lt2 j))) (cw x2 1 (grp (j 2).val (lt2 j)))
        (ix3 0 (j 1) ⟨(j 2).val % 128, Nat.mod_lt _ (by decide)⟩)
    else
      duG (d (grp (j 2).val (lt2 j))) (colS x3 0 (grp (j 2).val (lt2 j))) (cw x2 0 (grp (j 2).val (lt2 j)))
        (ix3 0 (j 1) ⟨(j 2).val % 128, Nat.mod_lt _ (by decide)⟩)

theorem grp_eq (n : ℕ) (h : n < 1536) (g : Fin 12) (r : ℕ) (hr : r < 128) (e : n = 128 * g.val + r) : grp n h = g := Fin.ext (by show n / 128 = g.val; omega)

/-! ## What the body reads and writes -/

/-- A load of a whole buffer reads what the buffer holds. -/
theorem ldFull {sp : Space} {s : Shape} {e : EltTy} (m : Memref sig .tc sp s e) (h : m.IsWhole) (x : Vec F s e) {off : Fin s.rank → ℕ}
    (inb : ∀ a, off a + s.size a ≤ s.size a) : m.view.readAt (Elt F) (Rect.unit off s.size inb).toLoadRect (h.unread x) = x :=
  (View.readAt_full _ _ _).trans (h.read_unread _)

/-- A load of a part of a buffer reads that part of what the buffer holds. -/
theorem ldTail {sp : Space} {s : Shape} {e : EltTy} (m : Memref sig .tc sp s e) (h : m.IsWhole) (x : Vec F s e) {off off' size : Fin s.rank → ℕ}
    (inb : ∀ a, off a + size a ≤ s.size a) (he : off = off') (inb' : ∀ a, off' a + size a ≤ s.size a) :
    m.view.readAt (Elt F) (Rect.unit off size inb).toLoadRect (h.unread x) = VecWindow.window x off' size inb' :=
  (View.readAt_unit _ _ _ he inb').trans (by rw [h.read_unread])

/-- A load of a group's codes. -/
theorem ldC (m : Memref sig .tc .vmem S1x2x512x1536 .fp8e4m3) (h : m.IsWhole) (x2 : Vec F S1x2x512x1536 .fp8e4m3) (k : Fin 2) (g : Fin 12) {off : Fin 4 → ℕ}
    (inb : ∀ a, off a + S1x1x512x128.size a ≤ S1x2x512x1536.size a) (he : off = ![0, k.val, 0, 128 * g.val]) :
    m.view.readAt (Elt F) (Rect.unit (s := S1x2x512x1536) off S1x1x512x128.size inb).toLoadRect (h.unread x2) = cw x2 k g := by
  subst he
  rw [ldTail m h x2 inb rfl inb]
  funext j
  show x2 _ = x2 _
  congr 1; funext a; apply Fin.ext
  have h0 : (j 0).val = 0 := by have : (j 0).val < 1 := (j 0).isLt; omega
  have h1 : (j 1).val = 0 := by have : (j 1).val < 1 := (j 1).isLt; omega
  fin_cases a
  · show 0 + 1 * (j 0).val = 0; omega
  · show k.val + 1 * (j 1).val = k.val; omega
  · show 0 + 1 * (j 2).val = (j 2).val; omega
  · show 128 * g.val + 1 * (j 3).val = 128 * g.val + (j 3).val; omega

section Scratch
variable (arg5 : Memref sig .tc .vmem S1x12x2x512 .f32) (harg5 : arg5.IsWhole) (arg8 : Memref sig .tc .vmem S2x16x512 .f32) (harg8 : arg8.IsWhole)
  (x3 : Vec F S1x12x2x512 .f32) (a : Vec F S2x16x512 .f32)

/-- The scratch's writes: the scales of gate and up projection. -/
def scrL : List (View.Piece (Elt F) S2x16x512 .f32) :=
  [⟨Rect.unit ![1, 0, 0] S1x12x512.size inb_S2x16x512_S1x12x512_1_0_0,
      k4_pay17 (arg5.view.readAt (Elt F) (Rect.unit (s := S1x12x2x512) ![0, 0, 1, 0] S1x12x1x512.size inb_S1x12x2x512_S1x12x1x512_0_0_1_0).toLoadRect (harg5.unread x3))⟩,
    ⟨Rect.unit ![0, 0, 0] S1x12x512.size inb_S2x16x512_S1x12x512_0_0_0,
      k4_pay16 (arg5.view.readAt (Elt F) (Rect.unit (s := S1x12x2x512) ![0, 0, 0, 0] S1x12x1x512.size inb_S1x12x2x512_S1x12x1x512_0_0_0_0).toLoadRect (harg5.unread x3))⟩]
/-- The scales of the gate, read back from the scratch. -/
def v16 : Vec F S1x16x512 .f32 :=
  arg8.view.readAt (Elt F) (Rect.unit (s := S2x16x512) ![0, 0, 0] S1x16x512.size inb_S2x16x512_S1x16x512_0_0_0).toLoadRect (arg8.view.writes (Elt F) (harg8.unread a) (scrL arg5 harg5 x3))
/-- The scales of the up projection, read back from the scratch. -/
def v19 : Vec F S1x16x512 .f32 :=
  arg8.view.readAt (Elt F) (Rect.unit (s := S2x16x512) ![1, 0, 0] S1x16x512.size inb_S2x16x512_S1x16x512_1_0_0).toLoadRect (arg8.view.writes (Elt F) (harg8.unread a) (scrL arg5 harg5 x3))

theorem v16_apply (g : Fin 12) (r : Fin 512) : v16 arg5 harg5 arg8 harg8 x3 a (ix3 0 ⟨g.val, Nat.lt_of_lt_of_le g.isLt (by decide)⟩ r) = x3 (ix4 0 g 0 r) := by
  unfold v16 scrL
  rw [View.readAt_unit _ _ _ rfl inb_S2x16x512_S1x16x512_0_0_0]
  show View.read _ _ _ _ = _
  rw [View.read_writes_cons_unit_of_not_mem _ _ _ _ _ _ rfl (0 : Fin 3) (.inl (by show 0 + 1 * 0 < 1; decide))]
  rw [View.read_writes_cons_unit_of_mem _ _ _ _ _ _ (ix3 0 g r : S1x12x512.Idx) rfl (fun b => by fin_cases b <;> simp [Rect.emb_apply])]
  rw [ldTail arg5 harg5 x3 _ rfl inb_S1x12x2x512_S1x12x1x512_0_0_0_0]
  pointwise [k4_pay16]
  show x3 _ = x3 _
  congr 1; funext b; apply Fin.ext; fin_cases b <;> simp [Rect.emb_apply]

theorem v19_apply (g : Fin 12) (r : Fin 512) : v19 arg5 harg5 arg8 harg8 x3 a (ix3 0 ⟨g.val, Nat.lt_of_lt_of_le g.isLt (by decide)⟩ r) = x3 (ix4 0 g 1 r) := by
  unfold v19 scrL
  rw [View.readAt_unit _ _ _ rfl inb_S2x16x512_S1x16x512_1_0_0]
  show View.read _ _ _ _ = _
  rw [View.read_writes_cons_unit_of_mem _ _ _ _ _ _ (ix3 0 g r : S1x12x512.Idx) rfl (fun b => by fin_cases b <;> simp [Rect.emb_apply])]
  rw [ldTail arg5 harg5 x3 _ rfl inb_S1x12x2x512_S1x12x1x512_0_0_1_0]
  pointwise [k4_pay17]
  show x3 _ = x3 _
  congr 1; funext b; apply Fin.ext; fin_cases b <;> simp [Rect.emb_apply]

theorem col16 (g : Fin 12) : colg g (k4_pay18 (v16 arg5 harg5 arg8 harg8 x3 a)) = colS x3 0 g := by
  funext j
  refine Eq.trans ?_ (congrArg (FloatOps.truncf .bf16 bitsLt_bf16_f32) (v16_apply arg5 harg5 arg8 harg8 x3 a g (j 0)))
  generalize v16 arg5 harg5 arg8 harg8 x3 a = v
  pointwise [colg, k4_pay18]

theorem col19 (g : Fin 12) : colg g (k4_pay19 (v19 arg5 harg5 arg8 harg8 x3 a)) = colS x3 1 g := by
  funext j
  refine Eq.trans ?_ (congrArg (FloatOps.truncf .bf16 bitsLt_bf16_f32) (v19_apply arg5 harg5 arg8 harg8 x3 a g (j 0)))
  generalize v19 arg5 harg5 arg8 harg8 x3 a = v
  pointwise [colg, k4_pay19]

end Scratch

/-! ## The pieces written -/

section Pieces
variable (x2 : Vec F S1x2x512x1536 .fp8e4m3) (x3 : Vec F S1x12x2x512 .f32) (d : Fin 12 → FVec F S512x128 .f32) (g : Fin 12)
  {u w : FVec F S512x16 .f32} {C C' : Vec F S1x1x512x128 .fp8e4m3}

/-- A group's hidden activations are that group's rows of the block. -/
theorem hPiece {off : Fin 2 → ℕ} (inb : ∀ a, off a + S128x512.size a ≤ S1536x512.size a) (he : off = ![128 * g.val, 0])
    (hu : colg g u = colS x3 0 g) (hw : colg g w = colS x3 1 g) (hC : C = cw x2 0 g) (hC' : C' = cw x2 1 g)
    (p : FVec F S128x512 .bf16) (hp : p = hG (colg g u) (colg g w) C C') (x : S128x512.Idx) :
    p x = hOut x2 x3 ((Rect.unit (s := S1536x512) off S128x512.size inb).emb x) := by
  subst he hC hC' hp
  rw [hu, hw]
  have h0 : (x 0).val < 128 := (x 0).isLt
  have e0 : ((Rect.unit (s := S1536x512) ![128 * g.val, 0] S128x512.size inb).emb x 0).val = 128 * g.val + (x 0).val := by
    show 128 * g.val + 1 * (x 0).val = _; omega
  have e1 : (Rect.unit (s := S1536x512) ![128 * g.val, 0] S128x512.size inb).emb x 1 = x 1 := Fin.ext (by show 0 + 1 * (x 1).val = _; omega)
  unfold hOut
  rw [grp_eq _ _ g (x 0).val h0 e0, e1]
  congr 1; funext a; fin_cases a
  · apply Fin.ext; show (x 0).val = _ % 128; rw [e0]; omega
  · rfl

/-- A group's gradient of the gate is that group's columns of the first half of the block. -/
theorem dgPiece {off : Fin 3 → ℕ} (inb : ∀ a, off a + S1x512x128.size a ≤ S2x512x1536.size a) (he : off = ![0, 0, 128 * g.val])
    (hu : colg g u = colS x3 0 g) (hw : colg g w = colS x3 1 g) (hC : C = cw x2 0 g) (hC' : C' = cw x2 1 g)
    {D : FVec F S512x128 .f32} (hD : D = d g)
    (p : FVec F S1x512x128 .bf16) (hp : p = dgG D (colg g u) (colg g w) C C') (x : S1x512x128.Idx) :
    p x = dOut d x2 x3 ((Rect.unit (s := S2x512x1536) off S1x512x128.size inb).emb x) := by
  subst he hC hC' hD hp
  rw [hu, hw]
  have hx0 : (x 0).val = 0 := by have : (x 0).val < 1 := (x 0).isLt; omega
  have h0 : (x 2).val < 128 := (x 2).isLt
  have e0 : ((Rect.unit (s := S2x512x1536) ![0, 0, 128 * g.val] S1x512x128.size inb).emb x 0).val = 0 := by
    show 0 + 1 * (x 0).val = _; omega
  have e1 : (Rect.unit (s := S2x512x1536) ![0, 0, 128 * g.val] S1x512x128.size inb).emb x 1 = x 1 := Fin.ext (by show 0 + 1 * (x 1).val = _; omega)
  have e2 : ((Rect.unit (s := S2x512x1536) ![0, 0, 128 * g.val] S1x512x128.size inb).emb x 2).val = 128 * g.val + (x 2).val := by
    show 128 * g.val + 1 * (x 2).val = _; omega
  unfold dOut
  rw [grp_eq _ _ g (x 2).val h0 e2, if_pos e0, e1]
  congr 1; funext a; fin_cases a
  · apply Fin.ext; exact hx0
  · rfl
  · apply Fin.ext; show (x 2).val = _ % 128; rw [e2]; omega

/-- A group's gradient of the up projection is that group's columns of the second half of the block. -/
theorem duPiece {off : Fin 3 → ℕ} (inb : ∀ a, off a + S1x512x128.size a ≤ S2x512x1536.size a) (he : off = ![1, 0, 128 * g.val])
    (hu : colg g u = colS x3 0 g) (hC : C = cw x2 0 g) {D : FVec F S512x128 .f32} (hD : D = d g)
    (p : FVec F S1x512x128 .bf16) (hp : p = duG D (colg g u) C) (x : S1x512x128.Idx) :
    p x = dOut d x2 x3 ((Rect.unit (s := S2x512x1536) off S1x512x128.size inb).emb x) := by
  subst he hC hD hp
  rw [hu]
  have hx0 : (x 0).val = 0 := by have : (x 0).val < 1 := (x 0).isLt; omega
  have h0 : (x 2).val < 128 := (x 2).isLt
  have e0 : ¬ ((Rect.unit (s := S2x512x1536) ![1, 0, 128 * g.val] S1x512x128.size inb).emb x 0).val = 0 := by
    show ¬ 1 + 1 * (x 0).val = 0; omega
  have e1 : (Rect.unit (s := S2x512x1536) ![1, 0, 128 * g.val] S1x512x128.size inb).emb x 1 = x 1 := Fin.ext (by show 0 + 1 * (x 1).val = _; omega)
  have e2 : ((Rect.unit (s := S2x512x1536) ![1, 0, 128 * g.val] S1x512x128.size inb).emb x 2).val = 128 * g.val + (x 2).val := by
    show 128 * g.val + 1 * (x 2).val = _; omega
  unfold dOut
  rw [grp_eq _ _ g (x 2).val h0 e2, if_neg e0, e1]
  congr 1; funext a; fin_cases a
  · apply Fin.ext; exact hx0
  · rfl
  · apply Fin.ext; show (x 2).val = _ % 128; rw [e2]; omega

end Pieces

/-! ## One run of the body -/

variable (𝒱₀ : Variants)

section Runs
variable (c : Dev nD) (i : grid4.Coords) (arg2 : Memref sig .tc .vmem S512x4096 .bf16) (harg2 : arg2.IsWhole) (arg3 : Memref sig .tc .vmem S1536x4096 .bf16) (harg3 : arg3.IsWhole)
  (arg4 : Memref sig .tc .vmem S1x2x512x1536 .fp8e4m3) (harg4 : arg4.IsWhole) (arg5 : Memref sig .tc .vmem S1x12x2x512 .f32) (harg5 : arg5.IsWhole)
  (arg6 : Memref sig .tc .vmem S1536x512 .bf16) (harg6 : arg6.IsWhole) (arg7 : Memref sig .tc .vmem S2x512x1536 .bf16) (harg7 : arg7.IsWhole)
  (arg8 : Memref sig .tc .vmem S2x16x512 .f32) (harg8 : arg8.IsWhole)
  (x0 : Vec F S512x4096 .bf16) (x1 : Vec F S1536x4096 .bf16) (x2 : Vec F S1x2x512x1536 .fp8e4m3) (x3 : Vec F S1x12x2x512 .f32)
  (d4 : Vec F S1536x512 .bf16) (d5 : Vec F S2x512x1536 .bf16) (a : Vec F S2x16x512 .f32) (E : Set ℕ)

theorem ldD0 {off : Fin 2 → ℕ} (inb : ∀ a, off a + S512x4096.size a ≤ S512x4096.size a) : arg2.view.readAt (Elt F) (Rect.unit (s := S512x4096) off S512x4096.size inb).toLoadRect (harg2.unread x0) = x0 :=
  ldFull arg2 harg2 x0 inb
theorem ldD1 (g : Fin 12) {off : Fin 2 → ℕ} (inb : ∀ a, off a + S512x4096.size a ≤ S1536x4096.size a) (he : off = ![512 * (g.val / 4), 0]) :
    arg3.view.readAt (Elt F) (Rect.unit (s := S1536x4096) off S512x4096.size inb).toLoadRect (harg3.unread x1) = VecWindow.window x1 ![512 * (g.val / 4), 0] S512x4096.size (inbw g) :=
  ldTail arg3 harg3 x1 inb he _

/-- The gradient of the activations of a group, from the operands' buffers. -/
def DA (g : Fin 12) {off0 off : Fin 2 → ℕ} (inb0 : ∀ a, off0 a + S512x4096.size a ≤ S512x4096.size a) (inb : ∀ a, off a + S512x4096.size a ≤ S1536x4096.size a) : FVec F S512x128 .f32 :=
  extractStridedSlice S512x128 ![0, 128 * (g.val % 4)] (k4_pay20 (arg2.view.readAt (Elt F) (Rect.unit (s := S512x4096) off0 S512x4096.size inb0).toLoadRect (harg2.unread x0))
    (arg3.view.readAt (Elt F) (Rect.unit (s := S1536x4096) off S512x4096.size inb).toLoadRect (harg3.unread x1))) (sl4 g)

theorem DA_eq (g : Fin 12) {off0 off : Fin 2 → ℕ} (inb0 : ∀ a, off0 a + S512x4096.size a ≤ S512x4096.size a) (inb : ∀ a, off a + S512x4096.size a ≤ S1536x4096.size a)
    (he : off = ![512 * (g.val / 4), 0]) : DA arg2 harg2 arg3 harg3 x0 x1 g inb0 inb = dA x0 x1 g := by
  unfold DA dA
  rw [ldD0, ldD1 arg3 harg3 x1 g inb he]

/-- A whole block of features. -/
theorem runA (K : PUnit → sProp 𝕄) (h1 : k4_cond1 i = 1#1) (h2 : ¬ k4_cond2 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d4 ∗ owns (c : Thread nD τ) arg7 fullShare d5
        ∗ owns (c : Thread nD τ) arg8 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (hOut x2 x3)
            ∗ owns (c : Thread nD τ) arg7 fullShare (dOut (dA x0 x1) x2 x3) ∗ ∃ a', owns (c : Thread nD τ) arg8 fullShare a') -∗ K ⟨⟩))
      ⊢ wp frame (wpE (defs₀ (F := F)) 𝒱₀ c none) E (cc4_dh_swiglu i arg2 harg2 arg3 harg3 arg4 harg4 arg5 harg5 arg6 harg6 arg7 harg7 arg8 harg8) K := by
  simp only [cc4_dh_swiglu_eq_skeleton]; unfold cc4_dh_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    funext y
    refine View.read_writes_apply_of_pieces _ _ _ _ ?_ y (View.cover_of_tiledL (s := S1536x512) _ S128x512.size (by sl_kernel_rfl) y)
    exact (List.forall_mem_cons.2 ⟨hPiece x2 x3 11 inb_S1536x512_S128x512_1408_0 rfl (col16 arg5 harg5 arg8 harg8 x3 a 11) (col19 arg5 harg5 arg8 harg8 x3 a 11) (ldC arg4 harg4 x2 0 11 inb_S1x2x512x1536_S1x1x512x128_0_0_0_1408 rfl) (ldC arg4 harg4 x2 1 11 inb_S1x2x512x1536_S1x1x512x128_0_1_0_1408 rfl) _ rfl,
      (List.forall_mem_cons.2 ⟨hPiece x2 x3 10 inb_S1536x512_S128x512_1280_0 rfl (col16 arg5 harg5 arg8 harg8 x3 a 10) (col19 arg5 harg5 arg8 harg8 x3 a 10) (ldC arg4 harg4 x2 0 10 inb_S1x2x512x1536_S1x1x512x128_0_0_0_1280 rfl) (ldC arg4 harg4 x2 1 10 inb_S1x2x512x1536_S1x1x512x128_0_1_0_1280 rfl) _ rfl,
      (List.forall_mem_cons.2 ⟨hPiece x2 x3 9 inb_S1536x512_S128x512_1152_0 rfl (col16 arg5 harg5 arg8 harg8 x3 a 9) (col19 arg5 harg5 arg8 harg8 x3 a 9) (ldC arg4 harg4 x2 0 9 inb_S1x2x512x1536_S1x1x512x128_0_0_0_1152 rfl) (ldC arg4 harg4 x2 1 9 inb_S1x2x512x1536_S1x1x512x128_0_1_0_1152 rfl) _ rfl,
      (List.forall_mem_cons.2 ⟨hPiece x2 x3 8 inb_S1536x512_S128x512_1024_0 rfl (col16 arg5 harg5 arg8 harg8 x3 a 8) (col19 arg5 harg5 arg8 harg8 x3 a 8) (ldC arg4 harg4 x2 0 8 inb_S1x2x512x1536_S1x1x512x128_0_0_0_1024 rfl) (ldC arg4 harg4 x2 1 8 inb_S1x2x512x1536_S1x1x512x128_0_1_0_1024 rfl) _ rfl,
      (List.forall_mem_cons.2 ⟨hPiece x2 x3 7 inb_S1536x512_S128x512_896_0 rfl (col16 arg5 harg5 arg8 harg8 x3 a 7) (col19 arg5 harg5 arg8 harg8 x3 a 7) (ldC arg4 harg4 x2 0 7 inb_S1x2x512x1536_S1x1x512x128_0_0_0_896 rfl) (ldC arg4 harg4 x2 1 7 inb_S1x2x512x1536_S1x1x512x128_0_1_0_896 rfl) _ rfl,
      (List.forall_mem_cons.2 ⟨hPiece x2 x3 6 inb_S1536x512_S128x512_768_0 rfl (col16 arg5 harg5 arg8 harg8 x3 a 6) (col19 arg5 harg5 arg8 harg8 x3 a 6) (ldC arg4 harg4 x2 0 6 inb_S1x2x512x1536_S1x1x512x128_0_0_0_768 rfl) (ldC arg4 harg4 x2 1 6 inb_S1x2x512x1536_S1x1x512x128_0_1_0_768 rfl) _ rfl,
      (List.forall_mem_cons.2 ⟨hPiece x2 x3 5 inb_S1536x512_S128x512_640_0 rfl (col16 arg5 harg5 arg8 harg8 x3 a 5) (col19 arg5 harg5 arg8 harg8 x3 a 5) (ldC arg4 harg4 x2 0 5 inb_S1x2x512x1536_S1x1x512x128_0_0_0_640 rfl) (ldC arg4 harg4 x2 1 5 inb_S1x2x512x1536_S1x1x512x128_0_1_0_640 rfl) _ rfl,
      (List.forall_mem_cons.2 ⟨hPiece x2 x3 4 inb_S1536x512_S128x512_512_0 rfl (col16 arg5 harg5 arg8 harg8 x3 a 4) (col19 arg5 harg5 arg8 harg8 x3 a 4) (ldC arg4 harg4 x2 0 4 inb_S1x2x512x1536_S1x1x512x128_0_0_0_512 rfl) (ldC arg4 harg4 x2 1 4 inb_S1x2x512x1536_S1x1x512x128_0_1_0_512 rfl) _ rfl,
      (List.forall_mem_cons.2 ⟨hPiece x2 x3 3 inb_S1536x512_S128x512_384_0 rfl (col16 arg5 harg5 arg8 harg8 x3 a 3) (col19 arg5 harg5 arg8 harg8 x3 a 3) (ldC arg4 harg4 x2 0 3 inb_S1x2x512x1536_S1x1x512x128_0_0_0_384 rfl) (ldC arg4 harg4 x2 1 3 inb_S1x2x512x1536_S1x1x512x128_0_1_0_384 rfl) _ rfl,
      (List.forall_mem_cons.2 ⟨hPiece x2 x3 2 inb_S1536x512_S128x512_256_0 rfl (col16 arg5 harg5 arg8 harg8 x3 a 2) (col19 arg5 harg5 arg8 harg8 x3 a 2) (ldC arg4 harg4 x2 0 2 inb_S1x2x512x1536_S1x1x512x128_0_0_0_256 rfl) (ldC arg4 harg4 x2 1 2 inb_S1x2x512x1536_S1x1x512x128_0_1_0_256 rfl) _ rfl,
      (List.forall_mem_cons.2 ⟨hPiece x2 x3 1 inb_S1536x512_S128x512_128_0 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) _ rfl,
      (List.forall_mem_cons.2 ⟨hPiece x2 x3 0 inb_S1536x512_S128x512_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) _ rfl,
      (fun _ h => absurd h List.not_mem_nil)⟩)⟩)⟩)⟩)⟩)⟩)⟩)⟩)⟩)⟩)⟩)⟩)
  isplitl [H5]
  · iexists _; isplitr
    swap; · iexact H5
    ipureintro
    funext y
    refine View.read_writes_apply_of_pieces _ _ _ _ ?_ y (View.cover_of_tiledL (s := S2x512x1536) _ S1x512x128.size (by sl_kernel_rfl) y)
    exact (List.forall_mem_cons.2 ⟨duPiece x2 x3 (dA x0 x1) 11 inb_S2x512x1536_S1x512x128_1_0_1408 rfl (col16 arg5 harg5 arg8 harg8 x3 a 11) (ldC arg4 harg4 x2 0 11 inb_S1x2x512x1536_S1x1x512x128_0_0_0_1408 rfl) (DA_eq arg2 harg2 arg3 harg3 x0 x1 11 inb_S512x4096_S512x4096_0_0 inb_S1536x4096_S512x4096_1024_0 rfl) _ rfl,
      (List.forall_mem_cons.2 ⟨dgPiece x2 x3 (dA x0 x1) 11 inb_S2x512x1536_S1x512x128_0_0_1408 rfl (col16 arg5 harg5 arg8 harg8 x3 a 11) (col19 arg5 harg5 arg8 harg8 x3 a 11) (ldC arg4 harg4 x2 0 11 inb_S1x2x512x1536_S1x1x512x128_0_0_0_1408 rfl) (ldC arg4 harg4 x2 1 11 inb_S1x2x512x1536_S1x1x512x128_0_1_0_1408 rfl) (DA_eq arg2 harg2 arg3 harg3 x0 x1 11 inb_S512x4096_S512x4096_0_0 inb_S1536x4096_S512x4096_1024_0 rfl) _ rfl,
      (List.forall_mem_cons.2 ⟨duPiece x2 x3 (dA x0 x1) 10 inb_S2x512x1536_S1x512x128_1_0_1280 rfl (col16 arg5 harg5 arg8 harg8 x3 a 10) (ldC arg4 harg4 x2 0 10 inb_S1x2x512x1536_S1x1x512x128_0_0_0_1280 rfl) (DA_eq arg2 harg2 arg3 harg3 x0 x1 10 inb_S512x4096_S512x4096_0_0 inb_S1536x4096_S512x4096_1024_0 rfl) _ rfl,
      (List.forall_mem_cons.2 ⟨dgPiece x2 x3 (dA x0 x1) 10 inb_S2x512x1536_S1x512x128_0_0_1280 rfl (col16 arg5 harg5 arg8 harg8 x3 a 10) (col19 arg5 harg5 arg8 harg8 x3 a 10) (ldC arg4 harg4 x2 0 10 inb_S1x2x512x1536_S1x1x512x128_0_0_0_1280 rfl) (ldC arg4 harg4 x2 1 10 inb_S1x2x512x1536_S1x1x512x128_0_1_0_1280 rfl) (DA_eq arg2 harg2 arg3 harg3 x0 x1 10 inb_S512x4096_S512x4096_0_0 inb_S1536x4096_S512x4096_1024_0 rfl) _ rfl,
      (List.forall_mem_cons.2 ⟨duPiece x2 x3 (dA x0 x1) 9 inb_S2x512x1536_S1x512x128_1_0_1152 rfl (col16 arg5 harg5 arg8 harg8 x3 a 9) (ldC arg4 harg4 x2 0 9 inb_S1x2x512x1536_S1x1x512x128_0_0_0_1152 rfl) (DA_eq arg2 harg2 arg3 harg3 x0 x1 9 inb_S512x4096_S512x4096_0_0 inb_S1536x4096_S512x4096_1024_0 rfl) _ rfl,
      (List.forall_mem_cons.2 ⟨dgPiece x2 x3 (dA x0 x1) 9 inb_S2x512x1536_S1x512x128_0_0_1152 rfl (col16 arg5 harg5 arg8 harg8 x3 a 9) (col19 arg5 harg5 arg8 harg8 x3 a 9) (ldC arg4 harg4 x2 0 9 inb_S1x2x512x1536_S1x1x512x128_0_0_0_1152 rfl) (ldC arg4 harg4 x2 1 9 inb_S1x2x512x1536_S1x1x512x128_0_1_0_1152 rfl) (DA_eq arg2 harg2 arg3 harg3 x0 x1 9 inb_S512x4096_S512x4096_0_0 inb_S1536x4096_S512x4096_1024_0 rfl) _ rfl,
      (List.forall_mem_cons.2 ⟨duPiece x2 x3 (dA x0 x1) 8 inb_S2x512x1536_S1x512x128_1_0_1024 rfl (col16 arg5 harg5 arg8 harg8 x3 a 8) (ldC arg4 harg4 x2 0 8 inb_S1x2x512x1536_S1x1x512x128_0_0_0_1024 rfl) (DA_eq arg2 harg2 arg3 harg3 x0 x1 8 inb_S512x4096_S512x4096_0_0 inb_S1536x4096_S512x4096_1024_0 rfl) _ rfl,
      (List.forall_mem_cons.2 ⟨dgPiece x2 x3 (dA x0 x1) 8 inb_S2x512x1536_S1x512x128_0_0_1024 rfl (col16 arg5 harg5 arg8 harg8 x3 a 8) (col19 arg5 harg5 arg8 harg8 x3 a 8) (ldC arg4 harg4 x2 0 8 inb_S1x2x512x1536_S1x1x512x128_0_0_0_1024 rfl) (ldC arg4 harg4 x2 1 8 inb_S1x2x512x1536_S1x1x512x128_0_1_0_1024 rfl) (DA_eq arg2 harg2 arg3 harg3 x0 x1 8 inb_S512x4096_S512x4096_0_0 inb_S1536x4096_S512x4096_1024_0 rfl) _ rfl,
      (List.forall_mem_cons.2 ⟨duPiece x2 x3 (dA x0 x1) 7 inb_S2x512x1536_S1x512x128_1_0_896 rfl (col16 arg5 harg5 arg8 harg8 x3 a 7) (ldC arg4 harg4 x2 0 7 inb_S1x2x512x1536_S1x1x512x128_0_0_0_896 rfl) (DA_eq arg2 harg2 arg3 harg3 x0 x1 7 inb_S512x4096_S512x4096_0_0 inb_S1536x4096_S512x4096_512_0 rfl) _ rfl,
      (List.forall_mem_cons.2 ⟨dgPiece x2 x3 (dA x0 x1) 7 inb_S2x512x1536_S1x512x128_0_0_896 rfl (col16 arg5 harg5 arg8 harg8 x3 a 7) (col19 arg5 harg5 arg8 harg8 x3 a 7) (ldC arg4 harg4 x2 0 7 inb_S1x2x512x1536_S1x1x512x128_0_0_0_896 rfl) (ldC arg4 harg4 x2 1 7 inb_S1x2x512x1536_S1x1x512x128_0_1_0_896 rfl) (DA_eq arg2 harg2 arg3 harg3 x0 x1 7 inb_S512x4096_S512x4096_0_0 inb_S1536x4096_S512x4096_512_0 rfl) _ rfl,
      (List.forall_mem_cons.2 ⟨duPiece x2 x3 (dA x0 x1) 6 inb_S2x512x1536_S1x512x128_1_0_768 rfl (col16 arg5 harg5 arg8 harg8 x3 a 6) (ldC arg4 harg4 x2 0 6 inb_S1x2x512x1536_S1x1x512x128_0_0_0_768 rfl) (DA_eq arg2 harg2 arg3 harg3 x0 x1 6 inb_S512x4096_S512x4096_0_0 inb_S1536x4096_S512x4096_512_0 rfl) _ rfl,
      (List.forall_mem_cons.2 ⟨dgPiece x2 x3 (dA x0 x1) 6 inb_S2x512x1536_S1x512x128_0_0_768 rfl (col16 arg5 harg5 arg8 harg8 x3 a 6) (col19 arg5 harg5 arg8 harg8 x3 a 6) (ldC arg4 harg4 x2 0 6 inb_S1x2x512x1536_S1x1x512x128_0_0_0_768 rfl) (ldC arg4 harg4 x2 1 6 inb_S1x2x512x1536_S1x1x512x128_0_1_0_768 rfl) (DA_eq arg2 harg2 arg3 harg3 x0 x1 6 inb_S512x4096_S512x4096_0_0 inb_S1536x4096_S512x4096_512_0 rfl) _ rfl,
      (List.forall_mem_cons.2 ⟨duPiece x2 x3 (dA x0 x1) 5 inb_S2x512x1536_S1x512x128_1_0_640 rfl (col16 arg5 harg5 arg8 harg8 x3 a 5) (ldC arg4 harg4 x2 0 5 inb_S1x2x512x1536_S1x1x512x128_0_0_0_640 rfl) (DA_eq arg2 harg2 arg3 harg3 x0 x1 5 inb_S512x4096_S512x4096_0_0 inb_S1536x4096_S512x4096_512_0 rfl) _ rfl,
      (List.forall_mem_cons.2 ⟨dgPiece x2 x3 (dA x0 x1) 5 inb_S2x512x1536_S1x512x128_0_0_640 rfl (col16 arg5 harg5 arg8 harg8 x3 a 5) (col19 arg5 harg5 arg8 harg8 x3 a 5) (ldC arg4 harg4 x2 0 5 inb_S1x2x512x1536_S1x1x512x128_0_0_0_640 rfl) (ldC arg4 harg4 x2 1 5 inb_S1x2x512x1536_S1x1x512x128_0_1_0_640 rfl) (DA_eq arg2 harg2 arg3 harg3 x0 x1 5 inb_S512x4096_S512x4096_0_0 inb_S1536x4096_S512x4096_512_0 rfl) _ rfl,
      (List.forall_mem_cons.2 ⟨duPiece x2 x3 (dA x0 x1) 4 inb_S2x512x1536_S1x512x128_1_0_512 rfl (col16 arg5 harg5 arg8 harg8 x3 a 4) (ldC arg4 harg4 x2 0 4 inb_S1x2x512x1536_S1x1x512x128_0_0_0_512 rfl) (DA_eq arg2 harg2 arg3 harg3 x0 x1 4 inb_S512x4096_S512x4096_0_0 inb_S1536x4096_S512x4096_512_0 rfl) _ rfl,
      (List.forall_mem_cons.2 ⟨dgPiece x2 x3 (dA x0 x1) 4 inb_S2x512x1536_S1x512x128_0_0_512 rfl (col16 arg5 harg5 arg8 harg8 x3 a 4) (col19 arg5 harg5 arg8 harg8 x3 a 4) (ldC arg4 harg4 x2 0 4 inb_S1x2x512x1536_S1x1x512x128_0_0_0_512 rfl) (ldC arg4 harg4 x2 1 4 inb_S1x2x512x1536_S1x1x512x128_0_1_0_512 rfl) (DA_eq arg2 harg2 arg3 harg3 x0 x1 4 inb_S512x4096_S512x4096_0_0 inb_S1536x4096_S512x4096_512_0 rfl) _ rfl,
      (List.forall_mem_cons.2 ⟨duPiece x2 x3 (dA x0 x1) 3 inb_S2x512x1536_S1x512x128_1_0_384 rfl (col16 arg5 harg5 arg8 harg8 x3 a 3) (ldC arg4 harg4 x2 0 3 inb_S1x2x512x1536_S1x1x512x128_0_0_0_384 rfl) (DA_eq arg2 harg2 arg3 harg3 x0 x1 3 inb_S512x4096_S512x4096_0_0 inb_S1536x4096_S512x4096_0_0 rfl) _ rfl,
      (List.forall_mem_cons.2 ⟨dgPiece x2 x3 (dA x0 x1) 3 inb_S2x512x1536_S1x512x128_0_0_384 rfl (col16 arg5 harg5 arg8 harg8 x3 a 3) (col19 arg5 harg5 arg8 harg8 x3 a 3) (ldC arg4 harg4 x2 0 3 inb_S1x2x512x1536_S1x1x512x128_0_0_0_384 rfl) (ldC arg4 harg4 x2 1 3 inb_S1x2x512x1536_S1x1x512x128_0_1_0_384 rfl) (DA_eq arg2 harg2 arg3 harg3 x0 x1 3 inb_S512x4096_S512x4096_0_0 inb_S1536x4096_S512x4096_0_0 rfl) _ rfl,
      (List.forall_mem_cons.2 ⟨duPiece x2 x3 (dA x0 x1) 2 inb_S2x512x1536_S1x512x128_1_0_256 rfl (col16 arg5 harg5 arg8 harg8 x3 a 2) (ldC arg4 harg4 x2 0 2 inb_S1x2x512x1536_S1x1x512x128_0_0_0_256 rfl) (DA_eq arg2 harg2 arg3 harg3 x0 x1 2 inb_S512x4096_S512x4096_0_0 inb_S1536x4096_S512x4096_0_0 rfl) _ rfl,
      (List.forall_mem_cons.2 ⟨dgPiece x2 x3 (dA x0 x1) 2 inb_S2x512x1536_S1x512x128_0_0_256 rfl (col16 arg5 harg5 arg8 harg8 x3 a 2) (col19 arg5 harg5 arg8 harg8 x3 a 2) (ldC arg4 harg4 x2 0 2 inb_S1x2x512x1536_S1x1x512x128_0_0_0_256 rfl) (ldC arg4 harg4 x2 1 2 inb_S1x2x512x1536_S1x1x512x128_0_1_0_256 rfl) (DA_eq arg2 harg2 arg3 harg3 x0 x1 2 inb_S512x4096_S512x4096_0_0 inb_S1536x4096_S512x4096_0_0 rfl) _ rfl,
      (List.forall_mem_cons.2 ⟨duPiece x2 x3 (dA x0 x1) 1 inb_S2x512x1536_S1x512x128_1_0_128 rfl (col16 arg5 harg5 arg8 harg8 x3 a 1) (ldC arg4 harg4 x2 0 1 inb_S1x2x512x1536_S1x1x512x128_0_0_0_128 rfl) (DA_eq arg2 harg2 arg3 harg3 x0 x1 1 inb_S512x4096_S512x4096_0_0 inb_S1536x4096_S512x4096_0_0 rfl) _ rfl,
      (List.forall_mem_cons.2 ⟨dgPiece x2 x3 (dA x0 x1) 1 inb_S2x512x1536_S1x512x128_0_0_128 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) (DA_eq arg2 harg2 arg3 harg3 x0 x1 1 inb_S512x4096_S512x4096_0_0 inb_S1536x4096_S512x4096_0_0 rfl) _ rfl,
      (List.forall_mem_cons.2 ⟨duPiece x2 x3 (dA x0 x1) 0 inb_S2x512x1536_S1x512x128_1_0_0 rfl (col16 arg5 harg5 arg8 harg8 x3 a 0) (ldC arg4 harg4 x2 0 0 inb_S1x2x512x1536_S1x1x512x128_0_0_0_0 rfl) (DA_eq arg2 harg2 arg3 harg3 x0 x1 0 inb_S512x4096_S512x4096_0_0 inb_S1536x4096_S512x4096_0_0 rfl) _ rfl,
      (List.forall_mem_cons.2 ⟨dgPiece x2 x3 (dA x0 x1) 0 inb_S2x512x1536_S1x512x128_0_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) (DA_eq arg2 harg2 arg3 harg3 x0 x1 0 inb_S512x4096_S512x4096_0_0 inb_S1536x4096_S512x4096_0_0 rfl) _ rfl,
      (fun _ h => absurd h List.not_mem_nil)⟩)⟩)⟩)⟩)⟩)⟩)⟩)⟩)⟩)⟩)⟩)⟩)⟩)⟩)⟩)⟩)⟩)⟩)⟩)⟩)⟩)⟩)⟩)⟩)
  iexists _, _; isplitr
  swap; · iexact H6
  ipureintro; rfl

/-- The gradient of the activations of a group of the last block, from the operands' buffers. -/
def DB (g : Fin 12) {off0 off : Fin 2 → ℕ} (inb0 : ∀ a, off0 a + S512x4096.size a ≤ S512x4096.size a) (inb : ∀ a, off a + S256x4096.size a ≤ S1536x4096.size a) : FVec F S512x128 .f32 :=
  extractStridedSlice S512x128 ![0, 128 * (g.val % 2)] (k4_pay133 (arg2.view.readAt (Elt F) (Rect.unit (s := S512x4096) off0 S512x4096.size inb0).toLoadRect (harg2.unread x0))
    (arg3.view.readAt (Elt F) (Rect.unit (s := S1536x4096) off S256x4096.size inb).toLoadRect (harg3.unread x1))) (sl2 g)

theorem DB_eq (g : Fin 12) {off0 off : Fin 2 → ℕ} (inb0 : ∀ a, off0 a + S512x4096.size a ≤ S512x4096.size a) (inb : ∀ a, off a + S256x4096.size a ≤ S1536x4096.size a)
    (he : off = ![0, 0]) : DB arg2 harg2 arg3 harg3 x0 x1 g inb0 inb = dB x0 x1 g := by
  unfold DB dB
  rw [ldD0, ldTail arg3 harg3 x1 inb he inb_S1536x4096_S256x4096_0_0]

/-- The last block of features, of which two groups lie inside the arrays. -/
theorem runB (K : PUnit → sProp 𝕄) (h1 : ¬ k4_cond1 i = 1#1) (h2 : k4_cond2 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d4 ∗ owns (c : Thread nD τ) arg7 fullShare d5
        ∗ owns (c : Thread nD τ) arg8 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ y4, ⌜∀ j : S1536x512.Idx, (j 0).val < 256 → y4 j = hOut x2 x3 j⌝ ∗ owns (c : Thread nD τ) arg6 fullShare y4)
            ∗ (∃ y5, ⌜∀ j : S2x512x1536.Idx, (j 2).val < 256 → y5 j = dOut (dB x0 x1) x2 x3 j⌝ ∗ owns (c : Thread nD τ) arg7 fullShare y5) ∗ ∃ a', owns (c : Thread nD τ) arg8 fullShare a') -∗ K ⟨⟩))
      ⊢ wp frame (wpE (defs₀ (F := F)) 𝒱₀ c none) E (cc4_dh_swiglu i arg2 harg2 arg3 harg3 arg4 harg4 arg5 harg5 arg6 harg6 arg7 harg7 arg8 harg8) K := by
  simp only [cc4_dh_swiglu_eq_skeleton]; unfold cc4_dh_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap
    · iexists _; isplitr
      swap; · iexact H4
      ipureintro; rfl
    ipureintro
    intro y hy
    have h1 : (y 1).val < 512 := (y 1).isLt
    have mem : ∀ (o : ℕ) (inb : ∀ a, (![o, 0] : Fin 2 → ℕ) a + S128x512.size a ≤ S1536x512.size a), o ≤ (y 0).val → (y 0).val < o + 128 →
        y ∈ (Rect.unit (s := S1536x512) ![o, 0] S128x512.size inb).set := fun o inb e1 e2 => Rect.mem_set_unit.2 fun a => by
      fin_cases a
      · exact ⟨e1, e2⟩
      · exact ⟨Nat.zero_le _, by show (y 1).val < 0 + 512; omega⟩
    refine View.read_writes_apply_of_pieces _ _ _ _ ?_ y ?_
    · exact (List.forall_mem_cons.2 ⟨hPiece x2 x3 1 inb_S1536x512_S128x512_128_0 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) _ rfl,
      (List.forall_mem_cons.2 ⟨hPiece x2 x3 0 inb_S1536x512_S128x512_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) _ rfl,
      (fun _ h => absurd h List.not_mem_nil)⟩)⟩)
    · by_cases h : (y 0).val < 128
      · exact ⟨_, List.mem_cons_of_mem _ List.mem_cons_self, mem 0 inb_S1536x512_S128x512_0_0 (Nat.zero_le _) (by omega)⟩
      · exact ⟨_, List.mem_cons_self, mem 128 inb_S1536x512_S128x512_128_0 (by omega) (by omega)⟩
  isplitl [H5]
  · iexists _; isplitr
    swap
    · iexists _; isplitr
      swap; · iexact H5
      ipureintro; rfl
    ipureintro
    intro y hy
    have h1 : (y 1).val < 512 := (y 1).isLt
    have mem : ∀ (o p : ℕ) (inb : ∀ a, (![o, 0, p] : Fin 3 → ℕ) a + S1x512x128.size a ≤ S2x512x1536.size a), (y 0).val = o → p ≤ (y 2).val → (y 2).val < p + 128 →
        y ∈ (Rect.unit (s := S2x512x1536) ![o, 0, p] S1x512x128.size inb).set := fun o p inb e0 e1 e2 => Rect.mem_set_unit.2 fun a => by
      fin_cases a
      · exact ⟨le_of_eq e0.symm, by show (y 0).val < o + 1; omega⟩
      · exact ⟨Nat.zero_le _, by show (y 1).val < 0 + 512; omega⟩
      · exact ⟨e1, e2⟩
    have h0 : (y 0).val < 2 := (y 0).isLt
    refine View.read_writes_apply_of_pieces _ _ _ _ ?_ y ?_
    · exact (List.forall_mem_cons.2 ⟨duPiece x2 x3 (dB x0 x1) 1 inb_S2x512x1536_S1x512x128_1_0_128 rfl (col16 arg5 harg5 arg8 harg8 x3 a 1) (ldC arg4 harg4 x2 0 1 inb_S1x2x512x1536_S1x1x512x128_0_0_0_128 rfl) (DB_eq arg2 harg2 arg3 harg3 x0 x1 1 inb_S512x4096_S512x4096_0_0 inb_S1536x4096_S256x4096_0_0 rfl) _ rfl,
      (List.forall_mem_cons.2 ⟨dgPiece x2 x3 (dB x0 x1) 1 inb_S2x512x1536_S1x512x128_0_0_128 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) (DB_eq arg2 harg2 arg3 harg3 x0 x1 1 inb_S512x4096_S512x4096_0_0 inb_S1536x4096_S256x4096_0_0 rfl) _ rfl,
      (List.forall_mem_cons.2 ⟨duPiece x2 x3 (dB x0 x1) 0 inb_S2x512x1536_S1x512x128_1_0_0 rfl (col16 arg5 harg5 arg8 harg8 x3 a 0) (ldC arg4 harg4 x2 0 0 inb_S1x2x512x1536_S1x1x512x128_0_0_0_0 rfl) (DB_eq arg2 harg2 arg3 harg3 x0 x1 0 inb_S512x4096_S512x4096_0_0 inb_S1536x4096_S256x4096_0_0 rfl) _ rfl,
      (List.forall_mem_cons.2 ⟨dgPiece x2 x3 (dB x0 x1) 0 inb_S2x512x1536_S1x512x128_0_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) (DB_eq arg2 harg2 arg3 harg3 x0 x1 0 inb_S512x4096_S512x4096_0_0 inb_S1536x4096_S256x4096_0_0 rfl) _ rfl,
      (fun _ h => absurd h List.not_mem_nil)⟩)⟩)⟩)⟩)
    · by_cases h : (y 2).val < 128
      · by_cases hh : (y 0).val = 0
        · exact ⟨_, List.mem_cons_of_mem _ (List.mem_cons_of_mem _ (List.mem_cons_of_mem _ List.mem_cons_self)), mem 0 0 inb_S2x512x1536_S1x512x128_0_0_0 hh (Nat.zero_le _) (by omega)⟩
        · exact ⟨_, List.mem_cons_of_mem _ (List.mem_cons_of_mem _ List.mem_cons_self), mem 1 0 inb_S2x512x1536_S1x512x128_1_0_0 (by omega) (Nat.zero_le _) (by omega)⟩
      · by_cases hh : (y 0).val = 0
        · exact ⟨_, List.mem_cons_of_mem _ List.mem_cons_self, mem 0 128 inb_S2x512x1536_S1x512x128_0_0_128 hh (by omega) (by omega)⟩
        · exact ⟨_, List.mem_cons_self, mem 1 128 inb_S2x512x1536_S1x512x128_1_0_128 (by omega) (by omega) (by omega)⟩
  iexists _, _; isplitr
  swap; · iexact H6
  ipureintro; rfl

end Runs

end Cert.Kernel.Own.Dh
end
-- ==== Proof.Kernel.Dh.lean ====
/-
  The call for the gradient of the activations as a pipeline: what its buffers hold point by point, and that the body
  keeps to it, from any contents of the arrays. The last block of features overhangs the arrays; of it only the part
  inside is followed, and the results' part inside reads nothing past the operands' ends.
-/
module

public import proofs.«01_k».proof.Proof.Kernel.DhRun

@[expose] public section

set_option maxRecDepth 16384

noncomputable section

namespace Cert.Kernel.Own.Dh

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The blocks -/

/-- Window `w`'s block at point `t`, the part inside its array. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The weight's block, zeros past the array's end. -/
def xb1 (c : Dev nD) (t : Fin cfg4.N) : Vec F S1536x4096 .bf16 := win4_1.fill (grid4.coords t) (fun _ => Scalar.ofBits .bf16 0#16) (iblk V c 1 t)
/-- The block of codes, zeros past the array's end. -/
def xb2 (c : Dev nD) (t : Fin cfg4.N) : Vec F S1x2x512x1536 .fp8e4m3 := win4_2.fill (grid4.coords t) (fun _ => Scalar.ofBits .fp8e4m3 0#8) (iblk V c 2 t)
/-- The block of scales, zeros past the array's end. -/
def xb3 (c : Dev nD) (t : Fin cfg4.N) : Vec F S1x12x2x512 .f32 := win4_3.fill (grid4.coords t) (fun _ => Scalar.ofBits .f32 0#32) (iblk V c 3 t)

/-- Of a whole block everything lies inside the arrays. -/
theorem noclip : ∀ t : Fin cfg4.N, ¬ t.val / 48 = 7 → (∀ a, win4_1.clip (grid4.coords t) a = none) ∧ (∀ a, win4_2.clip (grid4.coords t) a = none)
    ∧ (∀ a, win4_3.clip (grid4.coords t) a = none) ∧ (∀ a, win4_4.clip (grid4.coords t) a = none) ∧ ∀ a, win4_5.clip (grid4.coords t) a = none :=
  (by decide +kernel : ∀ t : Fin grid4.N, _)

/-- Of the last block, 256 features and two groups. -/
theorem xsz : ∀ t : Fin cfg4.N, t.val / 48 = 7 → (∀ a, win4_1.xsize (grid4.coords t) a = (![256, 4096] : Fin 2 → ℕ) a) ∧ (∀ a, win4_2.xsize (grid4.coords t) a = (![1, 2, 512, 256] : Fin 4 → ℕ) a)
    ∧ (∀ a, win4_3.xsize (grid4.coords t) a = (![1, 2, 2, 512] : Fin 4 → ℕ) a) ∧ (∀ a, win4_4.xsize (grid4.coords t) a = (![256, 512] : Fin 2 → ℕ) a)
    ∧ ∀ a, win4_5.xsize (grid4.coords t) a = (![2, 512, 256] : Fin 3 → ℕ) a :=
  (by decide +kernel : ∀ t : Fin grid4.N, _)

/-- The two kinds of points. -/
theorem hc : ∀ t : Fin cfg4.N, (k4_cond1 (grid4.coords t) = 1#1 ↔ ¬ t.val / 48 = 7) ∧ (k4_cond2 (grid4.coords t) = 1#1 ↔ t.val / 48 = 7) :=
  (by decide +kernel : ∀ t : Fin grid4.N, _)

/-- The gradient of the activations of a group, at a point of the block of features `n`. -/
def dsel (n : ℕ) (x0 : Vec F S512x4096 .bf16) (x1 : Vec F S1536x4096 .bf16) : Fin 12 → FVec F S512x128 .f32 := if n = 7 then dB x0 x1 else dA x0 x1

/-! ## Of the last block, the part inside reads nothing past the operands' ends -/

section Last

variable (t : Fin cfg4.N) (h7 : t.val / 48 = 7)
include h7

theorem colS_fill (d d' : Vec F S1x12x2x512 .f32) (b : (win4_3.xblock (grid4.coords t)).Idx → Elt F .f32) (k : Fin 2) (g : Fin 12) (hg : g.val < 2) :
    colS (win4_3.fill (grid4.coords t) d b) k g = colS (win4_3.fill (grid4.coords t) d' b) k g := by
  funext j
  have hm : win4_3.moved (grid4.coords t) (ix4 0 g k (j 0) : S1x12x2x512.Idx) = true := (win4_3.moved_iff _ _).mpr fun a => by
    rw [(xsz t h7).2.2.1 a]
    fin_cases a
    · exact Nat.zero_lt_one
    · exact hg
    · exact k.isLt
    · exact (j 0).isLt
  unfold colS Window.fill
  rw [dif_pos hm, dif_pos hm]

theorem cw_fill (d d' : Vec F S1x2x512x1536 .fp8e4m3) (b : (win4_2.xblock (grid4.coords t)).Idx → Elt F .fp8e4m3) (k : Fin 2) (g : Fin 12) (hg : g.val < 2) :
    cw (win4_2.fill (grid4.coords t) d b) k g = cw (win4_2.fill (grid4.coords t) d' b) k g := by
  funext j
  have h3 : (j 3).val < 128 := (j 3).isLt
  have hm : win4_2.moved (grid4.coords t) (ix4 0 k (j 2) ⟨128 * g.val + (j 3).val, by omega⟩ : S1x2x512x1536.Idx) = true := (win4_2.moved_iff _ _).mpr fun a => by
    rw [(xsz t h7).2.1 a]
    fin_cases a
    · exact Nat.zero_lt_one
    · exact k.isLt
    · exact (j 2).isLt
    · show 128 * g.val + (j 3).val < 256; omega
  unfold cw Window.fill
  rw [dif_pos hm, dif_pos hm]

theorem dB_fill (x0 : Vec F S512x4096 .bf16) (d d' : Vec F S1536x4096 .bf16) (b : (win4_1.xblock (grid4.coords t)).Idx → Elt F .bf16) :
    dB x0 (win4_1.fill (grid4.coords t) d b) = dB x0 (win4_1.fill (grid4.coords t) d' b) := by
  have e : VecWindow.window (win4_1.fill (grid4.coords t) d b) ![0, 0] S256x4096.size inb_S1536x4096_S256x4096_0_0
      = VecWindow.window (win4_1.fill (grid4.coords t) d' b) ![0, 0] S256x4096.size inb_S1536x4096_S256x4096_0_0 := by
    funext y
    have hm : win4_1.moved (grid4.coords t) ((Rect.unit (s := S1536x4096) ![0, 0] S256x4096.size inb_S1536x4096_S256x4096_0_0).emb y) = true :=
      (win4_1.moved_iff _ _).mpr fun a => by
        rw [(xsz t h7).1 a, Rect.emb_apply]
        have := (y a).isLt
        have hz : (![0, 0] : Fin 2 → ℕ) a = 0 := by fin_cases a <;> rfl
        show (![0, 0] : Fin 2 → ℕ) a + 1 * (y a).val < _
        rw [hz]; show 0 + 1 * (y a).val < _; rw [Nat.zero_add, Nat.one_mul]; exact this
    show win4_1.fill _ _ _ _ = win4_1.fill _ _ _ _
    unfold Window.fill; rw [dif_pos hm, dif_pos hm]
  unfold dB
  rw [e]

end Last

/-- Two contents of a block have the same part inside the array if they agree wherever the transfer moves. -/
theorem cut_congr {G : Pipeline.Grid} (w : Window sig G) (i : G.Coords) {α : Type} (X Y : w.block.Idx → α)
    (h : ∀ j, w.moved i j = true → X j = Y j) : w.cut i X = w.cut i Y := funext fun j => h _ (w.moved_xinj i j)

/-- The activations' part inside reads nothing past the operands' ends. -/
theorem hOut_fill (t : Fin cfg4.N) (d2 d2' : Vec F S1x2x512x1536 .fp8e4m3) (d3 d3' : Vec F S1x12x2x512 .f32)
    (b2 : (win4_2.xblock (grid4.coords t)).Idx → Elt F .fp8e4m3) (b3 : (win4_3.xblock (grid4.coords t)).Idx → Elt F .f32)
    (y : Vec F S1536x512 .bf16) (hy : ∀ j : S1536x512.Idx, (t.val / 48 = 7 → (j 0).val < 256) → y j = hOut (win4_2.fill (grid4.coords t) d2 b2) (win4_3.fill (grid4.coords t) d3 b3) j) :
    win4_4.cut (grid4.coords t) y = win4_4.cut (grid4.coords t) (hOut (win4_2.fill (grid4.coords t) d2' b2) (win4_3.fill (grid4.coords t) d3' b3)) := by
  refine cut_congr _ _ _ _ fun j hm => ?_
  by_cases h7 : t.val / 48 = 7
  · have hj : (j 0).val < 256 := by have := (win4_4.moved_iff _ _).mp hm 0; rw [(xsz t h7).2.2.2.1 0] at this; exact this
    rw [hy j fun _ => hj]
    have hg : (grp (j 0).val (lt0 j)).val < 2 := by show (j 0).val / 128 < 2; omega
    unfold hOut
    rw [colS_fill t h7 d3 d3' b3 0 _ hg, colS_fill t h7 d3 d3' b3 1 _ hg, cw_fill t h7 d2 d2' b2 0 _ hg, cw_fill t h7 d2 d2' b2 1 _ hg]
  · rw [hy j fun h => absurd h h7, Pipeline.fill_of_clip_none (cfg := cfg4) 2 (grid4.coords t) (noclip t h7).2.1 d2 d2' b2,
      Pipeline.fill_of_clip_none (cfg := cfg4) 3 (grid4.coords t) (noclip t h7).2.2.1 d3 d3' b3]

/-- The gradients' part inside reads nothing past the operands' ends. -/
theorem dOut_fill (t : Fin cfg4.N) (x0 : Vec F S512x4096 .bf16) (d1 d1' : Vec F S1536x4096 .bf16) (d2 d2' : Vec F S1x2x512x1536 .fp8e4m3) (d3 d3' : Vec F S1x12x2x512 .f32)
    (b1 : (win4_1.xblock (grid4.coords t)).Idx → Elt F .bf16) (b2 : (win4_2.xblock (grid4.coords t)).Idx → Elt F .fp8e4m3) (b3 : (win4_3.xblock (grid4.coords t)).Idx → Elt F .f32)
    (y : Vec F S2x512x1536 .bf16) (hy : ∀ j : S2x512x1536.Idx, (t.val / 48 = 7 → (j 2).val < 256) →
      y j = dOut (dsel (t.val / 48) x0 (win4_1.fill (grid4.coords t) d1 b1)) (win4_2.fill (grid4.coords t) d2 b2) (win4_3.fill (grid4.coords t) d3 b3) j) :
    win4_5.cut (grid4.coords t) y
      = win4_5.cut (grid4.coords t) (dOut (dsel (t.val / 48) x0 (win4_1.fill (grid4.coords t) d1' b1)) (win4_2.fill (grid4.coords t) d2' b2) (win4_3.fill (grid4.coords t) d3' b3)) := by
  refine cut_congr _ _ _ _ fun j hm => ?_
  by_cases h7 : t.val / 48 = 7
  · have hj : (j 2).val < 256 := by have := (win4_5.moved_iff _ _).mp hm 2; rw [(xsz t h7).2.2.2.2 2] at this; exact this
    rw [hy j fun _ => hj]
    have hg : (grp (j 2).val (lt2 j)).val < 2 := by show (j 2).val / 128 < 2; omega
    unfold dOut dsel
    rw [if_pos h7, if_pos h7, dB_fill t h7 x0 d1 d1' b1]
    rw [colS_fill t h7 d3 d3' b3 0 _ hg, colS_fill t h7 d3 d3' b3 1 _ hg, cw_fill t h7 d2 d2' b2 0 _ hg, cw_fill t h7 d2 d2' b2 1 _ hg]
  · rw [hy j fun h => absurd h h7, Pipeline.fill_of_clip_none (cfg := cfg4) 1 (grid4.coords t) (noclip t h7).1 d1 d1' b1,
      Pipeline.fill_of_clip_none (cfg := cfg4) 2 (grid4.coords t) (noclip t h7).2.1 d2 d2' b2,
      Pipeline.fill_of_clip_none (cfg := cfg4) 3 (grid4.coords t) (noclip t h7).2.2.1 d3 d3' b3]

/-- The call's scratch. -/
abbrev sc : Memref sig .tc .vmem S2x16x512 .f32 := Memref.whole cc4_scratch0

/-! ## The proof data -/

/-- What the core holds between points: the scratch, at anything, and the rest of what the call scopes. -/
def ΦK (c : Dev nD) : sProp 𝕄 :=
  iprop((∃ a : Vec F S2x16x512 .f32, owns (c : Thread nD τ) sc fullShare a)
    ∗ Pipeline.scopedRestBut (Ix := Ix) (Name := ℕ) (U := U) (Lvl := Lvl) (Val := Elt F) spec4 c [cc4_scratch0] ∗ ∃ r, prngReg c r)

/-- The activations' block after point `t`. -/
def out4 (c : Dev nD) (t : Fin cfg4.N) : Vec F S1536x512 .bf16 := hOut (xb2 V c t) (xb3 V c t)
/-- The gradients' block after point `t`. -/
def out5 (c : Dev nD) (t : Fin cfg4.N) : Vec F S2x512x1536 .bf16 := dOut (dsel (t.val / 48) (iblk V c 0 t) (xb1 V c t)) (xb2 V c t) (xb3 V c t)

/-- The proof data: the operands' buffers keep their blocks, the results' hold the closed forms. -/
def dat (c : Dev nD) : Dat τ (Elt F) Ix ℕ U Lvl cfg4 c where
  A w := V c (Pipeline.arrRef spec4 w)
  after w t := match w with
    | ⟨0, _⟩ => iblk V c 0 t
    | ⟨1, _⟩ => xb1 V c t
    | ⟨2, _⟩ => xb2 V c t
    | ⟨3, _⟩ => xb3 V c t
    | ⟨4, _⟩ => out4 V c t
    | ⟨5, _⟩ => out5 V c t
  Φ _ := ΦK (F := F) (Ix := Ix) (U := U) (Lvl := Lvl) c
  q _ := fullShare
  owed _ := D c

theorem A_eq (c : Dev nD) (w : Fin cfg4.W) : (dat (Ix := Ix) (U := U) (Lvl := Lvl) V D c).A w = V c (Pipeline.arrRef spec4 w) := by
  dsimp only [dat]

theorem after_0 (c : Dev nD) (t : Fin cfg4.N) : (dat (Ix := Ix) (U := U) (Lvl := Lvl) V D c).after 0 t = iblk V c 0 t := by dsimp only [dat]
theorem after_4 (c : Dev nD) (t : Fin cfg4.N) : (dat (Ix := Ix) (U := U) (Lvl := Lvl) V D c).after 4 t = out4 V c t := by dsimp only [dat]
theorem after_5 (c : Dev nD) (t : Fin cfg4.N) : (dat (Ix := Ix) (U := U) (Lvl := Lvl) V D c).after 5 t = out5 V c t := by dsimp only [dat]

theorem before_0 (c : Dev nD) (t : Fin cfg4.N) (d) : (dat (Ix := Ix) (U := U) (Lvl := Lvl) V D c).before 0 t d = iblk V c 0 t := by
  unfold Dat.before; rw [if_pos (fetch4_0 t)]; rfl
theorem before_1 (c : Dev nD) (t : Fin cfg4.N) (d) : (dat (Ix := Ix) (U := U) (Lvl := Lvl) V D c).before 1 t d = win4_1.fill (grid4.coords t) d (iblk V c 1 t) :=
  (dat (Ix := Ix) (U := U) (Lvl := Lvl) V D c).before_in_eq_fetched 1 rfl (fun _ => rfl)
    (fun t t' h => funext fun a => congrArg (fun n => Pipeline.Clip.of n ((cfg4.win 1).size a) (S11008x4096.size a)) (congrFun h a))
    (fun t => win4_1.cut_fill _ _ _) t d
theorem before_2 (c : Dev nD) (t : Fin cfg4.N) (d) : (dat (Ix := Ix) (U := U) (Lvl := Lvl) V D c).before 2 t d = win4_2.fill (grid4.coords t) d (iblk V c 2 t) := by
  unfold Dat.before; rw [if_pos (fetch4_2 t)]; rfl
theorem before_3 (c : Dev nD) (t : Fin cfg4.N) (d) : (dat (Ix := Ix) (U := U) (Lvl := Lvl) V D c).before 3 t d = win4_3.fill (grid4.coords t) d (iblk V c 3 t) := by
  unfold Dat.before; rw [if_pos (fetch4_3 t)]; rfl

/-- The results' buffers are stored at every point. -/
theorem not_idle (t : Fin cfg4.N) : (!(k4_cond1 (grid4.coords t) == 1#1) && !(k4_cond2 (grid4.coords t) == 1#1)) = false := by
  by_cases h : t.val / 48 = 7
  · rw [(hc t).2.mpr h]; simp
  · rw [(hc t).1.mpr h]; simp

theorem not_idle4 (t : Fin cfg4.N) : idle4 4 (grid4.coords t) = false := not_idle t
theorem not_idle5 (t : Fin cfg4.N) : idle4 5 (grid4.coords t) = false := not_idle t

/-- What the call scopes is its scratch and the rest. -/
theorem rest_split (c : Dev nD) :
    (Pipeline.scopedRest (Ix := Ix) (Name := ℕ) (U := U) (Lvl := Lvl) (Val := Elt F) spec4 c : sProp 𝕄)
      = iprop(iprop((∃ f : Buf (Elt F) ((c : Thread nD τ).loc cc4_scratch0), ((c : Thread nD τ).loc cc4_scratch0) ↦{fullShare} f))
          ∗ Pipeline.scopedRestBut (Ix := Ix) (Name := ℕ) (U := U) (Lvl := Lvl) (Val := Elt F) spec4 c [cc4_scratch0]) :=
  Pipeline.scopedRest_split_of_list spec4 c [cc4_scratch0] (by decide) (by decide)

/-- From what the call scopes to what the core holds before the first point. -/
theorem Φ_in (c : Dev nD) : iprop(Pipeline.scopedRest (Ix := Ix) (Name := ℕ) (U := U) (Lvl := Lvl) (Val := Elt F) spec4 c ∗ ∃ r, prngReg c r) ⊢ (dat (Ix := Ix) (U := U) (Lvl := Lvl) V D c).Φ 0 := by
  rw [rest_split]
  show _ ⊢ ΦK c
  unfold ΦK
  iintro ⟨⟨⟨%f, H⟩, Hr⟩, Hp⟩
  isplitl [H]
  · iexists f
    iapply (Entails.of_eq (owns_whole (c : Thread nD τ) cc4_scratch0 fullShare f).symm); iexact H
  isplitl [Hr]; · iexact Hr
  iexact Hp

/-- And back after the last. -/
theorem Φ_out (c : Dev nD) (t : Fin (cfg4.N + 1)) : (dat (Ix := Ix) (U := U) (Lvl := Lvl) V D c).Φ t ⊢ iprop(Pipeline.scopedRest (Ix := Ix) (Name := ℕ) (U := U) (Lvl := Lvl) (Val := Elt F) spec4 c ∗ ∃ r, prngReg c r) := by
  rw [rest_split]
  show ΦK c ⊢ _
  unfold ΦK
  iintro ⟨⟨%f, H⟩, Hr, Hp⟩
  isplitl [H Hr]
  · isplitl [H]
    · iexists f
      iapply (Entails.of_eq (owns_whole (c : Thread nD τ) cc4_scratch0 fullShare f)); iexact H
    iexact Hr
  iexact Hp

/-! ## The body obligation -/

variable (ι : Ix)

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The body at a point: the results' buffers hold the closed forms, where the block lies inside the arrays. -/
theorem body_run (c : Dev nD) (t : Fin cfg4.N) (x0 : Vec F S512x4096 .bf16) (x1 : Vec F S1536x4096 .bf16) (x2 : Vec F S1x2x512x1536 .fp8e4m3) (x3 : Vec F S1x12x2x512 .f32)
    (d4 : Vec F S1536x512 .bf16) (d5 : Vec F S2x512x1536 .bf16) (a : Vec F S2x16x512 .f32) (K : PUnit → sProp 𝕄) :
    iprop(owns (c : Thread nD τ) (st4_0 t) fullShare x0 ∗ owns (c : Thread nD τ) (st4_1 t) fullShare x1 ∗ owns (c : Thread nD τ) (st4_2 t) fullShare x2
        ∗ owns (c : Thread nD τ) (st4_3 t) fullShare x3 ∗ owns (c : Thread nD τ) (st4_4 t) fullShare d4 ∗ owns (c : Thread nD τ) (st4_5 t) fullShare d5
        ∗ owns (c : Thread nD τ) sc fullShare a
        ∗ (iprop(owns (c : Thread nD τ) (st4_0 t) fullShare x0 ∗ owns (c : Thread nD τ) (st4_1 t) fullShare x1 ∗ owns (c : Thread nD τ) (st4_2 t) fullShare x2
            ∗ owns (c : Thread nD τ) (st4_3 t) fullShare x3
            ∗ (∃ y4, ⌜∀ j : S1536x512.Idx, (t.val / 48 = 7 → (j 0).val < 256) → y4 j = hOut x2 x3 j⌝ ∗ owns (c : Thread nD τ) (st4_4 t) fullShare y4)
            ∗ (∃ y5, ⌜∀ j : S2x512x1536.Idx, (t.val / 48 = 7 → (j 2).val < 256) → y5 j = dOut (dsel (t.val / 48) x0 x1) x2 x3 j⌝ ∗ owns (c : Thread nD τ) (st4_5 t) fullShare y5)
            ∗ ∃ a', owns (c : Thread nD τ) sc fullShare a') -∗ K ⟨⟩))
      ⊢ wp frame (wpE (defs₀ (F := F)) 𝒱₀ c none) Set.univ (bodyAt4 t) K := by
  by_cases h7 : t.val / 48 = 7
  · iintro ⟨H0, H1, H2, H3, H4, H5, Hs, Hk⟩
    iapply (runB 𝒱₀ c (grid4.coords t) _ _ _ _ _ _ _ _ _ _ _ _ _ _ x0 x1 x2 x3 d4 d5 a Set.univ K (fun h => (hc t).1.mp h h7) ((hc t).2.mpr h7))
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, ⟨%y4, %e4, H4⟩, ⟨%y5, %e5, H5⟩, Hs⟩
    iapply Hk
    isplitl [H0]; · iexact H0
    isplitl [H1]; · iexact H1
    isplitl [H2]; · iexact H2
    isplitl [H3]; · iexact H3
    isplitl [H4]
    · iexists y4; isplitr
      · ipureintro; exact fun j hj => e4 j (hj h7)
      iexact H4
    isplitl [H5]
    · iexists y5; isplitr
      · ipureintro; unfold dsel; rw [if_pos h7]; exact fun j hj => e5 j (hj h7)
      iexact H5
    iexact Hs
  · iintro ⟨H0, H1, H2, H3, H4, H5, Hs, Hk⟩
    iapply (runA 𝒱₀ c (grid4.coords t) _ _ _ _ _ _ _ _ _ _ _ _ _ _ x0 x1 x2 x3 d4 d5 a Set.univ K ((hc t).1.mpr h7) (fun h => h7 ((hc t).2.mp h)))
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    iapply Hk
    isplitl [H0]; · iexact H0
    isplitl [H1]; · iexact H1
    isplitl [H2]; · iexact H2
    isplitl [H3]; · iexact H3
    isplitl [H4]
    · iexists _; isplitr
      swap; · iexact H4
      ipureintro; exact fun j _ => rfl
    isplitl [H5]
    · iexists _; isplitr
      swap; · iexact H5
      ipureintro; unfold dsel; rw [if_neg h7]; exact fun j _ => rfl
    iexact Hs

/-- The library's body obligation, at every point. -/
theorem body_obligation (c : Dev nD) : BodyObligationLoose (dat (Ix := Ix) (U := U) (Lvl := Lvl) V D c) (defs₀ (F := F)) 𝒱₀ ι Set.univ := fun t => by
  rw [bigSep_W4, bigSep_W4, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl,
    show (dat (Ix := Ix) (U := U) (Lvl := Lvl) V D c).Φ t.castSucc = ΦK c from rfl]
  rw [not_idle4]
  unfold ΦK
  iintro ⟨⟨⟨%a, Hs⟩, Hr, Hp⟩, Ho, ⟨%d0, H0⟩, ⟨%d1, H1⟩, ⟨%d2, H2⟩, ⟨%d3, H3⟩, ⟨%d4, H4⟩, ⟨%d5, H5⟩⟩
  rw [before_0 V D c t d0, before_1 V D c t d1, before_2 V D c t d2, before_3 V D c t d3]
  iapply (body_run 𝒱₀ c t _ _ _ _ ((dat (Ix := Ix) (U := U) (Lvl := Lvl) V D c).before 4 t d4) ((dat (Ix := Ix) (U := U) (Lvl := Lvl) V D c).before 5 t d5) a _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, ⟨%y4, %e4, H4⟩, ⟨%y5, %e5, H5⟩, Hs⟩
  isplitl [Hs Hr Hp]
  · isplitl [Hs]; · iexact Hs
    isplitl [Hr]; · iexact Hr
    iexact Hp
  isplitl [Ho]; · iexact Ho
  isplitl [H0]; · rw [after_0]; iexact H0
  isplitl [H1]
  · iexists d1
    rw [show win4_1.cut (grid4.coords t) ((dat (Ix := Ix) (U := U) (Lvl := Lvl) V D c).after 1 t) = iblk V c 1 t from win4_1.cut_fill _ _ _]; iexact H1
  isplitl [H2]
  · iexists d2
    rw [show win4_2.cut (grid4.coords t) ((dat (Ix := Ix) (U := U) (Lvl := Lvl) V D c).after 2 t) = iblk V c 2 t from win4_2.cut_fill _ _ _]; iexact H2
  isplitl [H3]
  · iexists d3
    rw [show win4_3.cut (grid4.coords t) ((dat (Ix := Ix) (U := U) (Lvl := Lvl) V D c).after 3 t) = iblk V c 3 t from win4_3.cut_fill _ _ _]; iexact H3
  isplitl [H4]
  · iexists y4
    rw [after_4, win4_4.fill_congr_cut (grid4.coords t) (show win4_4.cut (grid4.coords t) y4 = win4_4.cut (grid4.coords t) (out4 V c t) from hOut_fill t _ _ _ _ _ _ y4 e4)]; iexact H4
  · iexists y5
    rw [after_5, win4_5.fill_congr_cut (grid4.coords t) (show win4_5.cut (grid4.coords t) y5 = win4_5.cut (grid4.coords t) (out5 V c t) from dOut_fill t _ _ _ _ _ _ _ _ _ _ y5 e5)]; iexact H5

end Cert.Kernel.Own.Dh

end
-- ==== Proof.Kernel.DxRun.lean ====
/-
  The call for `dx`: what one run of its body does. Two blocks are read, the scratch is filled with zeros (first step
  of a block of the result) or kept, a product is added to it, and at the last step it is rounded into the result's
  block. The blocks at the end of the inner axis overhang the arrays, and there only the part inside is read.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.Kernel.Own.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions -/

/-- The step's number modulo 4, as the body computes it. -/
abbrev remW (n : ℕ) : BitVec 32 :=
  Scalar.select (Scalar.andi (Scalar.xori (Scalar.cmpi .slt (Scalar.remsi (BitVec.ofNat 32 n) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 n) (Scalar.select (Scalar.cmpi .eq 4#32 0#32) 1#32 4#32)) 0#32)) (Scalar.addi (Scalar.remsi (BitVec.ofNat 32 n) (Scalar.select (Scalar.cmpi .eq 4#32 0#32) 1#32 4#32)) (Scalar.select (Scalar.cmpi .eq 4#32 0#32) 1#32 4#32)) (Scalar.remsi (BitVec.ofNat 32 n) (Scalar.select (Scalar.cmpi .eq 4#32 0#32) 1#32 4#32))

/-- The scratch is filled with zeros. -/
abbrev c1 (n : ℕ) : Prop := Scalar.cmpi .ne (Scalar.extui (Scalar.cmpi .eq (BitVec.ofNat 32 n) 0#32)) 0#32 = 1#1
/-- Whole blocks are multiplied. -/
abbrev c2 (n : ℕ) : Prop := Scalar.cmpi .ne (Scalar.extui (Scalar.cmpi .slt (remW n) 3#32)) 0#32 = 1#1
/-- The parts of overhanging blocks inside the arrays are multiplied. -/
abbrev c3 (n : ℕ) : Prop := Scalar.cmpi .ne (Scalar.extui (Scalar.cmpi .eq (remW n) 3#32)) 0#32 = 1#1

theorem hc1 : ∀ n < 8, c1 n ↔ n = 0 := by decide
theorem hc2 : ∀ n < 8, c2 n ↔ ¬ n % 4 = 3 := by decide
theorem hc3 : ∀ n < 8, c3 n ↔ n % 4 = 3 := by decide
theorem hc4 : ∀ i : grid7.Coords, k7_cond4 i = 1#1 ↔ (i 2).val = 7 := fun i =>
  (by decide : ∀ n < 8, (Scalar.cmpi .ne (Scalar.extui (Scalar.cmpi .eq (BitVec.ofNat 32 n) 7#32) : BitVec 32) 0#32 = 1#1) ↔ n = 7) (i 2).val (i 2).isLt

/-! ## One run of the body -/

/-- The part of the first operand's block inside its array, at the end of the inner axis. -/
abbrev tl0 (x : Vec F S1x1024x2816 .bf16) : Vec F S1x1024x2560 .bf16 := VecWindow.window x ![0, 0, 0] S1x1024x2560.size inb_S1x1024x2816_S1x1024x2560_0_0_0
/-- The part of the second operand's block inside its array. -/
abbrev tl1 (x : Vec F S1x2048x2816 .bf16) : Vec F S1x2048x2560 .bf16 := VecWindow.window x ![0, 0, 0] S1x2048x2560.size inb_S1x2048x2816_S1x2048x2560_0_0_0

/-- What the scratch holds after step `n` of a block, from what it held before. -/
def step (n : ℕ) (x0 : Vec F S1x1024x2816 .bf16) (x1 : Vec F S1x2048x2816 .bf16) (a : Vec F S1024x2048 .f32) : Vec F S1024x2048 .f32 :=
  if n = 0 then k7_pay2 (k7_pay1 (F := F)) x0 x1 else if n % 4 = 3 then k7_pay3 a (tl0 x0) (tl1 x1) else k7_pay2 a x0 x1

/-- A load of a whole buffer reads what the buffer holds. -/
theorem ldFull {sp : Space} {s : Shape} {e : EltTy} (m : Memref sig .tc sp s e) (h : m.IsWhole) (x : Vec F s e) {off : Fin s.rank → ℕ}
    (inb : ∀ a, off a + s.size a ≤ s.size a) : m.view.readAt (Elt F) (Rect.unit off s.size inb).toLoadRect (h.unread x) = x :=
  (View.readAt_full _ _ _).trans (h.read_unread _)

/-- A load of a part of a buffer reads that part of what the buffer holds. -/
theorem ldTail {sp : Space} {s : Shape} {e : EltTy} (m : Memref sig .tc sp s e) (h : m.IsWhole) (x : Vec F s e) {off size : Fin s.rank → ℕ}
    (inb inb' : ∀ a, off a + size a ≤ s.size a) :
    m.view.readAt (Elt F) (Rect.unit off size inb).toLoadRect (h.unread x) = VecWindow.window x off size inb' :=
  (View.readAt_unit _ _ _ rfl inb').trans (by rw [h.read_unread])

variable (𝒱₀ : Variants)

section Runs
variable (c : Dev nD) (i : grid7.Coords) (arg3 : Memref sig .tc .vmem S1x1024x2816 .bf16) (harg3 : arg3.IsWhole)
  (arg4 : Memref sig .tc .vmem S1x2048x2816 .bf16) (harg4 : arg4.IsWhole) (arg5 : Memref sig .tc .vmem S1024x2048 .bf16) (harg5 : arg5.IsWhole)
  (arg6 : Memref sig .tc .vmem S1024x2048 .f32) (harg6 : arg6.IsWhole)
  (x0 : Vec F S1x1024x2816 .bf16) (x1 : Vec F S1x2048x2816 .bf16) (a : Vec F S1024x2048 .f32) (E : Set ℕ)

/-- The first step: zeros, then a product of whole blocks. -/
theorem runA (K : PUnit → sProp 𝕄) (h1 : c1 (i 2).val) (h2 : c2 (i 2).val) (h3 : ¬ c3 (i 2).val) (h4 : ¬ k7_cond4 i = 1#1) :
    iprop(owns (c : Thread nD τ) arg3 fullShare x0 ∗ owns (c : Thread nD τ) arg4 fullShare x1 ∗ owns (c : Thread nD τ) arg6 fullShare a
        ∗ (iprop(owns (c : Thread nD τ) arg3 fullShare x0 ∗ owns (c : Thread nD τ) arg4 fullShare x1
            ∗ owns (c : Thread nD τ) arg6 fullShare (k7_pay2 (k7_pay1 (F := F)) x0 x1)) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg6.eq_unread hf2
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k7_pay2 (F := F)) (View.readCov_full _ _ _ _ _)) (ldFull _ harg3 _ _)) (ldFull _ harg4 _ _))

/-- A later step with whole blocks: their product is added. -/
theorem runB (K : PUnit → sProp 𝕄) (h1 : ¬ c1 (i 2).val) (h2 : c2 (i 2).val) (h3 : ¬ c3 (i 2).val) (h4 : ¬ k7_cond4 i = 1#1) :
    iprop(owns (c : Thread nD τ) arg3 fullShare x0 ∗ owns (c : Thread nD τ) arg4 fullShare x1 ∗ owns (c : Thread nD τ) arg6 fullShare a
        ∗ (iprop(owns (c : Thread nD τ) arg3 fullShare x0 ∗ owns (c : Thread nD τ) arg4 fullShare x1
            ∗ owns (c : Thread nD τ) arg6 fullShare (k7_pay2 a x0 x1)) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg6.eq_unread hf2
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k7_pay2 (F := F)) (ldFull _ harg6 _ _)) (ldFull _ harg3 _ _)) (ldFull _ harg4 _ _))

/-- A step at the end of the inner axis: the product of the parts inside the arrays is added. -/
theorem runC (K : PUnit → sProp 𝕄) (h1 : ¬ c1 (i 2).val) (h2 : ¬ c2 (i 2).val) (h3 : c3 (i 2).val) (h4 : ¬ k7_cond4 i = 1#1) :
    iprop(owns (c : Thread nD τ) arg3 fullShare x0 ∗ owns (c : Thread nD τ) arg4 fullShare x1 ∗ owns (c : Thread nD τ) arg6 fullShare a
        ∗ (iprop(owns (c : Thread nD τ) arg3 fullShare x0 ∗ owns (c : Thread nD τ) arg4 fullShare x1
            ∗ owns (c : Thread nD τ) arg6 fullShare (k7_pay3 a (tl0 x0) (tl1 x1))) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg6.eq_unread hf2
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k7_pay3 (F := F)) (ldFull _ harg6 _ _)) (ldTail _ harg3 _ _ _)) (ldTail _ harg4 _ _ _))

/-- The last step: that, and the sum is rounded into the result's block. -/
theorem runD (d : Vec F S1024x2048 .bf16) (K : PUnit → sProp 𝕄) (h1 : ¬ c1 (i 2).val) (h2 : ¬ c2 (i 2).val) (h3 : c3 (i 2).val) (h4 : k7_cond4 i = 1#1) :
    iprop(owns (c : Thread nD τ) arg3 fullShare x0 ∗ owns (c : Thread nD τ) arg4 fullShare x1 ∗ owns (c : Thread nD τ) arg6 fullShare a ∗ owns (c : Thread nD τ) arg5 fullShare d
        ∗ (iprop(owns (c : Thread nD τ) arg3 fullShare x0 ∗ owns (c : Thread nD τ) arg4 fullShare x1
            ∗ owns (c : Thread nD τ) arg6 fullShare (k7_pay3 a (tl0 x0) (tl1 x1))
            ∗ owns (c : Thread nD τ) arg5 fullShare (k7_pay4 (k7_pay3 a (tl0 x0) (tl1 x1)))) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg6.eq_unread hf2; obtain rfl := harg5.eq_unread hf3
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    exact (View.read_writes_full _ _ _ _ _).trans (congr (congr (congrArg (k7_pay3 (F := F)) (ldFull _ harg6 _ _)) (ldTail _ harg3 _ _ _)) (ldTail _ harg4 _ _ _))
  iexists _; isplitr
  swap; · iexact H3
  ipureintro
  sl_unfold_words
  exact (View.read_writes_full _ _ _ _ _).trans (congrArg (k7_pay4 (F := F)) ((View.readCov_full _ _ _ _ _).trans (congr (congr (congrArg (k7_pay3 (F := F)) (ldFull _ harg6 _ _)) (ldTail _ harg3 _ _ _)) (ldTail _ harg4 _ _ _))))

end Runs

end Cert.Kernel.Own.Dx

end
-- ==== Proof.Kernel.DwguRun.lean ====
/-
  The call for `dw_gu`: what one run of its body does. Two blocks are read and their product is added to the block of
  the result, which the first step fills with zeros. The blocks at the end of the feature axis overhang the arrays, and
  there only the part inside is computed.
-/
module

public import proofs.«01_k».proof.Proof.Kernel.DxRun
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.Kernel.Own.Dwgu

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Own.Dx (remW c1 c2 c3 ldFull ldTail)
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions -/

theorem hc1 (i : grid5.Coords) : k5_cond1 i = 1#1 ↔ (i 2).val = 0 :=
  (by decide : ∀ n < 12, c1 n ↔ n = 0) (i 2).val (i 2).isLt
theorem hc2 (i : grid5.Coords) : k5_cond2 i = 1#1 ↔ ¬ (i 0).val % 4 = 3 := Dx.hc2 (i 0).val (i 0).isLt
theorem hc3 (i : grid5.Coords) : k5_cond3 i = 1#1 ↔ (i 0).val % 4 = 3 := Dx.hc3 (i 0).val (i 0).isLt

/-! ## One run of the body -/

/-- The part of the second operand's block inside its array, at the end of the feature axis. -/
abbrev tl1 (x : Vec F S1x2048x2816 .bf16) : Vec F S1x2048x2560 .bf16 := VecWindow.window x ![0, 0, 0] S1x2048x2560.size inb_S1x2048x2816_S1x2048x2560_0_0_0
/-- The part of the result's block inside its array. -/
abbrev tl2 (x : Vec F S1x1024x2816 .f32) : Vec F S1x1024x2560 .f32 := VecWindow.window x ![0, 0, 0] S1x1024x2560.size inb_S1x1024x2816_S1x1024x2560_0_0_0
/-- The result's block with that part replaced. -/
abbrev pt2 (x : Vec F S1x1024x2816 .f32) (w : Vec F S1x1024x2560 .f32) : Vec F S1x1024x2816 .f32 := VecWindow.put x ![0, 0, 0] S1x1024x2560.size w

/-- What the result's block holds after step `k` of feature block `j`, from what it held before. -/
def step (j k : ℕ) (x0 : Vec F S1024x2048 .bf16) (x1 : Vec F S1x2048x2816 .bf16) (a : Vec F S1x1024x2816 .f32) : Vec F S1x1024x2816 .f32 :=
  if j % 4 = 3 then (if k = 0 then pt2 (k5_pay1 (F := F)) (k5_pay3 (tl2 (k5_pay1 (F := F))) x0 (tl1 x1)) else pt2 a (k5_pay3 (tl2 a) x0 (tl1 x1)))
  else (if k = 0 then k5_pay2 (k5_pay1 (F := F)) x0 x1 else k5_pay2 a x0 x1)

variable (𝒱₀ : Variants)

section Runs
variable (c : Dev nD) (i : grid5.Coords) (arg3 : Memref sig .tc .vmem S1024x2048 .bf16) (harg3 : arg3.IsWhole)
  (arg4 : Memref sig .tc .vmem S1x2048x2816 .bf16) (harg4 : arg4.IsWhole) (arg5 : Memref sig .tc .vmem S1x1024x2816 .f32) (harg5 : arg5.IsWhole)
  (x0 : Vec F S1024x2048 .bf16) (x1 : Vec F S1x2048x2816 .bf16) (a : Vec F S1x1024x2816 .f32) (E : Set ℕ)

/-- The first step of a whole block. -/
theorem runA (K : PUnit → sProp 𝕄) (h1 : k5_cond1 i = 1#1)(h2 : k5_cond2 i = 1#1)(h3 : ¬ k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k5_pay2 (k5_pay1 (F := F)) x0 x1)) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k5_pay2 (F := F)) (View.readCov_full _ _ _ _ _)) (ldFull _ harg3 _ _)) (ldFull _ harg4 _ _))

/-- A later step of a whole block. -/
theorem runB (K : PUnit → sProp 𝕄) (h1 : ¬ k5_cond1 i = 1#1)(h2 : k5_cond2 i = 1#1)(h3 : ¬ k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k5_pay2 a x0 x1)) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k5_pay2 (F := F)) (ldFull _ harg5 _ _)) (ldFull _ harg3 _ _)) (ldFull _ harg4 _ _))

/-- The first step of a block that overhangs the arrays. -/
theorem runC (K : PUnit → sProp 𝕄) (h1 : k5_cond1 i = 1#1)(h2 : ¬ k5_cond2 i = 1#1)(h3 : k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (pt2 (k5_pay1 (F := F)) (k5_pay3 (tl2 (k5_pay1 (F := F))) x0 (tl1 x1)))) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  sl_unfold_words
  refine (View.read_writes_cons_put _ _ _ _ _ rfl).trans ?_
  refine congrArg₂ (fun (z : Vec F S1x1024x2816 .f32) (w : Vec F S1x1024x2560 .f32) => pt2 z w) (View.read_writes_full _ _ _ _ _) (congr (congr (congrArg (k5_pay3 (F := F)) ?_) (ldFull _ harg3 _ _)) (ldTail _ harg4 _ _ _))
  exact (View.readAt_unit arg5.view _ _ rfl _).trans (congrArg tl2 (View.read_writes_full _ _ _ _ _))

/-- A later step of a block that overhangs the arrays. -/
theorem runD (K : PUnit → sProp 𝕄) (h1 : ¬ k5_cond1 i = 1#1)(h2 : ¬ k5_cond2 i = 1#1)(h3 : k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (pt2 a (k5_pay3 (tl2 a) x0 (tl1 x1)))) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  sl_unfold_words
  refine (View.read_writes_cons_put _ _ _ _ _ rfl).trans ?_
  exact congrArg₂ (fun (z : Vec F S1x1024x2816 .f32) (w : Vec F S1x1024x2560 .f32) => pt2 z w) (harg5.read_unread _) (congr (congr (congrArg (k5_pay3 (F := F)) (ldTail _ harg5 _ _ _)) (ldFull _ harg3 _ _)) (ldTail _ harg4 _ _ _))

end Runs

end Cert.Kernel.Own.Dwgu

end
-- ==== Proof.Kernel.Dwgu.lean ====
/-
  The call for `dw_gu` as a pipeline: what its buffers hold point by point, and that the body keeps to it, from any
  contents of the arrays. The result's buffer gathers the products of one block; of a block that overhangs the array
  only the part inside is followed.
-/
module

public import proofs.«01_k».proof.Proof.Kernel.DwguRun

@[expose] public section

set_option maxRecDepth 16384

noncomputable section

namespace Cert.Kernel.Own.Dwgu

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Two contents of a block have the same part inside the array iff they agree wherever the transfer moves. -/
theorem cut_iff {G : Pipeline.Grid} (w : Window sig G) (i : G.Coords) {α : Type} (X Y : w.block.Idx → α) :
    w.cut i X = w.cut i Y ↔ ∀ j, w.moved i j = true → X j = Y j :=
  ⟨fun h j hm => congrFun h fun a => ⟨(j a).val, (w.moved_iff i j).mp hm a⟩, fun h => funext fun j => h _ (w.moved_xinj i j)⟩

/-! ## The blocks -/

/-- Window `w`'s block at point `t`, the part inside its array. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The second operand's block, zeros past the array's end. -/
def xb1 (c : Dev nD) (t : Fin cfg5.N) : Vec F S1x2048x2816 .bf16 :=
  win5_1.fill (grid5.coords t) (fun _ => Scalar.ofBits .bf16 0#16) (iblk V c 1 t)

theorem e0 (t : Fin cfg5.N) : (grid5.coords t 0).val = t.val / 48 := by
  have ht : t.val < 384 := Nat.lt_of_lt_of_eq t.isLt N_5
  rw [show (grid5.coords t 0).val = t.val / 48 % 8 from Pipeline.Grid.coords_val t 0 (by decide) rfl]
  omega
theorem e2 (t : Fin cfg5.N) : (grid5.coords t 2).val = t.val % 12 := by
  rw [show (grid5.coords t 2).val = t.val / 1 % 12 from Pipeline.Grid.coords_val t 2 (by decide) rfl, Nat.div_one]

/-- How much of each block lies inside its array. -/
theorem xsz : ∀ t : Fin cfg5.N, (¬ t.val / 48 % 4 = 3 → (∀ a, win5_1.clip (grid5.coords t) a = none) ∧ ∀ a, win5_2.clip (grid5.coords t) a = none)
    ∧ (t.val / 48 % 4 = 3 → (∀ a, win5_1.xsize (grid5.coords t) a = S1x2048x2560.size a) ∧ ∀ a, win5_2.xsize (grid5.coords t) a = S1x1024x2560.size a) :=
  (by decide +kernel : ∀ t : Fin grid5.N, _)

/-- Of a block that does not overhang everything is inside. -/
theorem all_moved (t : Fin cfg5.N) (h : ∀ a, win5_2.clip (grid5.coords t) a = none) (j : S1x1024x2816.Idx) : win5_2.moved (grid5.coords t) j = true :=
  (win5_2.moved_iff _ j).mpr fun a => by have := (j a).isLt; unfold Window.xsize; rw [h a]; exact this

/-- The part inside an overhanging block of the second operand. -/
theorem tl1_congr (t : Fin cfg5.N) (h3 : t.val / 48 % 4 = 3) (X Y : Vec F S1x2048x2816 .bf16)
    (h : ∀ j, win5_1.moved (grid5.coords t) j = true → X j = Y j) : tl1 X = tl1 Y := by
  funext y
  refine h _ ((win5_1.moved_iff _ _).mpr fun a => ?_)
  rw [((xsz t).2 h3).1 a, Rect.emb_apply]
  have := (y a).isLt
  have hz : (![0, 0, 0] : Fin 3 → ℕ) a = 0 := by fin_cases a <;> rfl
  show (![0, 0, 0] : Fin 3 → ℕ) a + 1 * (y a).val < _
  rw [hz]; show 0 + 1 * (y a).val < _; rw [Nat.zero_add, Nat.one_mul]; exact this

/-- The part inside an overhanging block of the result. -/
theorem tl2_congr (t : Fin cfg5.N) (h3 : t.val / 48 % 4 = 3) (X Y : Vec F S1x1024x2816 .f32)
    (h : ∀ j, win5_2.moved (grid5.coords t) j = true → X j = Y j) : tl2 X = tl2 Y := by
  funext y
  refine h _ ((win5_2.moved_iff _ _).mpr fun a => ?_)
  rw [((xsz t).2 h3).2 a, Rect.emb_apply]
  have := (y a).isLt
  have hz : (![0, 0, 0] : Fin 3 → ℕ) a = 0 := by fin_cases a <;> rfl
  show (![0, 0, 0] : Fin 3 → ℕ) a + 1 * (y a).val < _
  rw [hz]; show 0 + 1 * (y a).val < _; rw [Nat.zero_add, Nat.one_mul]; exact this

/-- A block with its part inside the array replaced is the replacement there. -/
theorem pt2_moved (t : Fin cfg5.N) (h3 : t.val / 48 % 4 = 3) (X Y : Vec F S1x1024x2816 .f32) (w : Vec F S1x1024x2560 .f32) (j : S1x1024x2816.Idx)
    (hm : win5_2.moved (grid5.coords t) j = true) : pt2 X w j = pt2 Y w j := by
  have hj : ∀ a, (![0, 0, 0] : Fin 3 → ℕ) a ≤ (j a).val ∧ (j a).val < (![0, 0, 0] : Fin 3 → ℕ) a + S1x1024x2560.size a := fun a => by
    have := (win5_2.moved_iff _ _).mp hm a
    rw [((xsz t).2 h3).2 a] at this
    have hz : (![0, 0, 0] : Fin 3 → ℕ) a = 0 := by fin_cases a <;> rfl
    rw [hz]; exact ⟨Nat.zero_le _, by rw [Nat.zero_add]; exact this⟩
  unfold pt2 VecWindow.put
  rw [dif_pos hj, dif_pos hj]

/-- A step's part inside the array reads nothing past the arrays' ends. -/
theorem step_cut (t : Fin cfg5.N) (x0 : Vec F S1024x2048 .bf16) (d1 d1' : Vec F S1x2048x2816 .bf16)
    (g1 : (win5_1.xblock (grid5.coords t)).Idx → Elt F .bf16) (a a' : Vec F S1x1024x2816 .f32)
    (ha : t.val % 12 ≠ 0 → win5_2.cut (grid5.coords t) a = win5_2.cut (grid5.coords t) a') :
    win5_2.cut (grid5.coords t) (step (t.val / 48) (t.val % 12) x0 (win5_1.fill (grid5.coords t) d1 g1) a)
      = win5_2.cut (grid5.coords t) (step (t.val / 48) (t.val % 12) x0 (win5_1.fill (grid5.coords t) d1' g1) a') := by
  by_cases h3 : t.val / 48 % 4 = 3
  · have e1 : tl1 (win5_1.fill (grid5.coords t) d1 g1) = tl1 (win5_1.fill (grid5.coords t) d1' g1) :=
      tl1_congr t h3 _ _ fun j hm => by unfold Window.fill; rw [dif_pos hm, dif_pos hm]
    unfold step
    simp only [if_pos h3, e1]
    by_cases h0 : t.val % 12 = 0
    · simp only [if_pos h0]
    · simp only [if_neg h0]
      rw [tl2_congr t h3 a a' ((cut_iff _ _ _ _).mp (ha h0))]
      exact (cut_iff _ _ _ _).mpr fun j hm => pt2_moved t h3 _ _ _ j hm
  · have e1 : win5_1.fill (grid5.coords t) d1 g1 = win5_1.fill (grid5.coords t) d1' g1 :=
      Pipeline.fill_of_clip_none (cfg := cfg5) 1 (grid5.coords t) ((xsz t).1 h3).1 d1 d1' g1
    unfold step
    simp only [if_neg h3, e1]
    by_cases h0 : t.val % 12 = 0
    · simp only [if_pos h0]
    · rw [show a = a' from funext fun j => (cut_iff _ _ _ _).mp (ha h0) j (all_moved t ((xsz t).1 h3).2 j)]

/-! ## What the result's buffer holds -/

/-- The result's buffer after point `n`. -/
def acc (c : Dev nD) : (n : ℕ) → n < cfg5.N → Vec F S1x1024x2816 .f32
  | 0, h => step (0 / 48) (0 % 12) (iblk V c 0 ⟨0, h⟩) (xb1 V c ⟨0, h⟩) (k5_pay1 (F := F))
  | n + 1, h => step ((n + 1) / 48) ((n + 1) % 12) (iblk V c 0 ⟨n + 1, h⟩) (xb1 V c ⟨n + 1, h⟩) (acc c n (Nat.lt_of_succ_lt h))

/-! ## The proof data -/

/-- The call's invariant: what it scopes, untouched. -/
def ΦK (c : Dev nD) : sProp 𝕄 :=
  iprop(Pipeline.scopedRest (Ix := Ix) (Name := ℕ) (U := U) (Lvl := Lvl) (Val := Elt F) spec5 c ∗ ∃ r, prngReg c r)

/-- The proof data: the operands' buffers keep their blocks, the result's gathers the products. -/
def dat (c : Dev nD) : Dat τ (Elt F) Ix ℕ U Lvl cfg5 c where
  A w := V c (Pipeline.arrRef spec5 w)
  after w t := match w with
    | ⟨0, _⟩ => iblk V c 0 t
    | ⟨1, _⟩ => xb1 V c t
    | ⟨2, _⟩ => acc V c t.val t.isLt
  Φ _ := ΦK (F := F) (Ix := Ix) (U := U) (Lvl := Lvl) c
  q _ := fullShare
  owed _ := D c

theorem A_eq (c : Dev nD) (w : Fin cfg5.W) : (dat (Ix := Ix) (U := U) (Lvl := Lvl) V D c).A w = V c (Pipeline.arrRef spec5 w) := by
  dsimp only [dat]

theorem after_0 (c : Dev nD) (t : Fin cfg5.N) : (dat (Ix := Ix) (U := U) (Lvl := Lvl) V D c).after 0 t = iblk V c 0 t := by dsimp only [dat]
theorem after_2 (c : Dev nD) (t : Fin cfg5.N) : (dat (Ix := Ix) (U := U) (Lvl := Lvl) V D c).after 2 t = acc V c t.val t.isLt := by dsimp only [dat]

theorem before_0 (c : Dev nD) (t : Fin cfg5.N) (d) : (dat (Ix := Ix) (U := U) (Lvl := Lvl) V D c).before 0 t d = iblk V c 0 t := by
  unfold Dat.before; rw [if_pos (fetch5_0 t)]; rfl
theorem before_1 (c : Dev nD) (t : Fin cfg5.N) (d) : (dat (Ix := Ix) (U := U) (Lvl := Lvl) V D c).before 1 t d = win5_1.fill (grid5.coords t) d (iblk V c 1 t) := by
  unfold Dat.before; rw [if_pos (fetch5_1 t)]; rfl

/-- The result's buffer is stored at every point. -/
theorem not_idle (t : Fin cfg5.N) : idle5 2 (grid5.coords t) = false := by
  show (!(k5_cond1 (grid5.coords t) == 1#1) && !(k5_cond2 (grid5.coords t) == 1#1) && !(k5_cond3 (grid5.coords t) == 1#1)) = false
  by_cases h : (grid5.coords t 0).val % 4 = 3
  · rw [(hc3 _).mpr h]; simp
  · rw [(hc2 _).mpr h]; simp

/-- What lies inside a block lies inside it at the point before, when that is a point of the same block. -/
theorem moved_prev (n : ℕ) (h : n + 1 < cfg5.N) (h0 : (n + 1) % 12 ≠ 0) (j : S1x1024x2816.Idx)
    (hm : win5_2.moved (grid5.coords ⟨n + 1, h⟩) j = true) : win5_2.moved (grid5.coords ⟨n, Nat.lt_of_succ_lt h⟩) j = true := by
  by_cases h3 : n / 48 % 4 = 3
  · refine (win5_2.moved_iff _ _).mpr fun a => ?_
    have := (win5_2.moved_iff _ _).mp hm a
    rw [((xsz ⟨n + 1, h⟩).2 (by show (n + 1) / 48 % 4 = 3; omega)).2 a] at this
    rw [((xsz ⟨n, Nat.lt_of_succ_lt h⟩).2 h3).2 a]; exact this
  · exact all_moved _ ((xsz ⟨n, Nat.lt_of_succ_lt h⟩).1 h3).2 j

/-- Inside a block that is not new, the body finds what the point before left. -/
theorem before_2 (c : Dev nD) (n : ℕ) (h : n + 1 < cfg5.N) (h0 : (n + 1) % 12 ≠ 0) (d) (j : S1x1024x2816.Idx)
    (hm : win5_2.moved (grid5.coords ⟨n + 1, h⟩) j = true) :
    (dat (Ix := Ix) (U := U) (Lvl := Lvl) V D c).before 2 ⟨n + 1, h⟩ d j = acc V c n (Nat.lt_of_succ_lt h) j := by
  have hf : ¬ (cfg5.win 2).flush ⟨n, Nat.lt_of_succ_lt h⟩ = true := fun e => by
    have := (flush5_2 ⟨n, Nat.lt_of_succ_lt h⟩).mp e
    have : n % 12 = 11 := this
    omega
  rw [(dat (Ix := Ix) (U := U) (Lvl := Lvl) V D c).before_of_pos 2 ⟨n + 1, h⟩ (Nat.succ_ne_zero n) rfl d]
  show (if (cfg5.win 2).flush ⟨n, _⟩ = true then d else (dat (Ix := Ix) (U := U) (Lvl := Lvl) V D c).left 2 ⟨n, _⟩ d) j = _
  rw [if_neg hf]
  unfold Dat.left
  rw [show cfg5.idle 2 (cfg5.grid.coords ⟨n, Nat.lt_of_succ_lt h⟩) = false from not_idle _]
  show win5_2.fill (grid5.coords ⟨n, _⟩) d (win5_2.cut (grid5.coords ⟨n, _⟩) ((dat (Ix := Ix) (U := U) (Lvl := Lvl) V D c).after 2 ⟨n, _⟩)) j = _
  unfold Window.fill
  rw [dif_pos (moved_prev n h h0 j hm), after_2]
  rfl

/-- The body's step at `t` makes the inside of the block after `t`. -/
theorem acc_step (c : Dev nD) (t : Fin cfg5.N) (d1 : Vec F S1x2048x2816 .bf16) (d2) :
    win5_2.cut (grid5.coords t) (step (t.val / 48) (t.val % 12) (iblk V c 0 t) (win5_1.fill (grid5.coords t) d1 (iblk V c 1 t)) ((dat (Ix := Ix) (U := U) (Lvl := Lvl) V D c).before 2 t d2))
      = win5_2.cut (grid5.coords t) (acc V c t.val t.isLt) := by
  obtain ⟨n, hn⟩ := t
  cases n with
  | zero => exact step_cut ⟨0, hn⟩ (iblk V c 0 ⟨0, hn⟩) d1 (fun _ => Scalar.ofBits .bf16 0#16) (iblk V c 1 ⟨0, hn⟩) ((dat (Ix := Ix) (U := U) (Lvl := Lvl) V D c).before 2 ⟨0, hn⟩ d2) (k5_pay1 (F := F)) fun h => absurd rfl h
  | succ n =>
    exact step_cut ⟨n + 1, hn⟩ _ d1 (fun _ => Scalar.ofBits .bf16 0#16) _ _ (acc V c n (Nat.lt_of_succ_lt hn)) fun h =>
      (cut_iff _ _ _ _).mpr fun j hm => before_2 V D c n hn h d2 j hm

/-! ## The body obligation -/

variable (ι : Ix)

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The body at a point: the result's buffer takes one step. -/
theorem body_run (c : Dev nD) (t : Fin cfg5.N) (x0 : Vec F S1024x2048 .bf16) (x1 : Vec F S1x2048x2816 .bf16) (a : Vec F S1x1024x2816 .f32)
    (K : PUnit → sProp 𝕄) :
    iprop(owns (c : Thread nD τ) (st5_0 t) fullShare x0 ∗ owns (c : Thread nD τ) (st5_1 t) fullShare x1 ∗ owns (c : Thread nD τ) (st5_2 t) fullShare a
        ∗ (iprop(owns (c : Thread nD τ) (st5_0 t) fullShare x0 ∗ owns (c : Thread nD τ) (st5_1 t) fullShare x1
            ∗ owns (c : Thread nD τ) (st5_2 t) fullShare (step (t.val / 48) (t.val % 12) x0 x1 a)) -∗ K ⟨⟩))
      ⊢ wp frame (wpE (defs₀ (F := F)) 𝒱₀ c none) Set.univ (bodyAt5 t) K := by
  unfold step
  by_cases h3 : t.val / 48 % 4 = 3
  · have k3 : k5_cond3 (grid5.coords t) = 1#1 := (hc3 _).mpr (by rw [e0]; exact h3)
    have k2 : ¬ k5_cond2 (grid5.coords t) = 1#1 := fun h => (hc2 _).mp h (by rw [e0]; exact h3)
    simp only [if_pos h3]
    by_cases h0 : t.val % 12 = 0
    · simp only [if_pos h0]
      exact runC 𝒱₀ c (grid5.coords t) _ _ _ _ _ _ _ _ _ Set.univ K ((hc1 _).mpr (by rw [e2]; exact h0)) k2 k3
    · simp only [if_neg h0]
      exact runD 𝒱₀ c (grid5.coords t) _ _ _ _ _ _ _ _ _ Set.univ K (fun h => h0 (by rw [← e2]; exact (hc1 _).mp h)) k2 k3
  · have k3 : ¬ k5_cond3 (grid5.coords t) = 1#1 := fun h => h3 (by rw [← e0]; exact (hc3 _).mp h)
    have k2 : k5_cond2 (grid5.coords t) = 1#1 := (hc2 _).mpr (by rw [e0]; exact h3)
    simp only [if_neg h3]
    by_cases h0 : t.val % 12 = 0
    · simp only [if_pos h0]
      exact runA 𝒱₀ c (grid5.coords t) _ _ _ _ _ _ _ _ _ Set.univ K ((hc1 _).mpr (by rw [e2]; exact h0)) k2 k3
    · simp only [if_neg h0]
      exact runB 𝒱₀ c (grid5.coords t) _ _ _ _ _ _ _ _ _ Set.univ K (fun h => h0 (by rw [← e2]; exact (hc1 _).mp h)) k2 k3

/-- The library's body obligation, at every point. -/
theorem body_obligation (c : Dev nD) : BodyObligationLoose (dat (Ix := Ix) (U := U) (Lvl := Lvl) V D c) (defs₀ (F := F)) 𝒱₀ ι Set.univ := fun t => by
  rw [bigSep_W5, bigSep_W5, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  rw [not_idle]
  iintro ⟨HΦ, Ho, ⟨%d0, H0⟩, ⟨%d1, H1⟩, ⟨%d2, H2⟩⟩
  rw [before_0 V D c t d0, before_1 V D c t d1]
  iapply (body_run 𝒱₀ c t _ _ ((dat (Ix := Ix) (U := U) (Lvl := Lvl) V D c).before 2 t d2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]
  · iexists d1
    rw [show win5_1.cut (grid5.coords t) ((dat (Ix := Ix) (U := U) (Lvl := Lvl) V D c).after 1 t) = iblk V c 1 t from win5_1.cut_fill _ _ _]; iexact H1
  · iexists (step (t.val / 48) (t.val % 12) (iblk V c 0 t) (win5_1.fill (grid5.coords t) d1 (iblk V c 1 t)) ((dat (Ix := Ix) (U := U) (Lvl := Lvl) V D c).before 2 t d2))
    rw [after_2, win5_2.fill_congr_cut (grid5.coords t) (acc_step V D c t d1 d2)]; iexact H2

end Cert.Kernel.Own.Dwgu

end
-- ==== Proof.Kernel.DwdRun.lean ====
/-
  The call for `dw_down`: what one run of its body does. Two blocks are read and their product is added to the block of
  the result, which the first step fills with zeros.
-/
module

public import proofs.«01_k».proof.Proof.Kernel.DxRun
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.Kernel.Own.Dwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Own.Dx (remW c1 c2 c3 ldFull ldTail)
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The branch condition -/

theorem hc1 (i : grid6.Coords) : c1 (i 2).val ↔ (i 2).val = 0 :=
  (by decide : ∀ n < 12, c1 n ↔ n = 0) (i 2).val (i 2).isLt

/-! ## One run of the body -/

/-- What the result's block holds after step `k`, from what it held before. -/
def step (k : ℕ) (x0 : Vec F S1376x2048 .bf16) (x1 : Vec F S2048x1024 .bf16) (a : Vec F S1376x1024 .f32) : Vec F S1376x1024 .f32 :=
  if k = 0 then k6_pay2 (k6_pay1 (F := F)) x0 x1 else k6_pay2 a x0 x1

variable (𝒱₀ : Variants)

section Runs
variable (c : Dev nD) (i : grid6.Coords) (arg3 : Memref sig .tc .vmem S1376x2048 .bf16) (harg3 : arg3.IsWhole)
  (arg4 : Memref sig .tc .vmem S2048x1024 .bf16) (harg4 : arg4.IsWhole) (arg5 : Memref sig .tc .vmem S1376x1024 .f32) (harg5 : arg5.IsWhole)
  (x0 : Vec F S1376x2048 .bf16) (x1 : Vec F S2048x1024 .bf16) (a : Vec F S1376x1024 .f32) (E : Set ℕ)

/-- The first step of a block. -/
theorem runA (K : PUnit → sProp 𝕄) (h1 : c1 (i 2).val) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k6_pay2 (k6_pay1 (F := F)) x0 x1)) -∗ K ⟨⟩))
      ⊢ wp frame (wpE (defs₀ (F := F)) 𝒱₀ c none) E (cc6_dw_down i arg3 harg3 arg4 harg4 arg5 harg5) K := by
  simp only [cc6_dw_down_eq_skeleton]; unfold cc6_dw_down_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := sl_exact h1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k6_pay2 (F := F)) (View.readCov_full _ _ _ _ _)) (ldFull _ harg3 _ _)) (ldFull _ harg4 _ _))

/-- A later step of a block. -/
theorem runB (K : PUnit → sProp 𝕄) (h1 : ¬ c1 (i 2).val) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k6_pay2 a x0 x1)) -∗ K ⟨⟩))
      ⊢ wp frame (wpE (defs₀ (F := F)) 𝒱₀ c none) E (cc6_dw_down i arg3 harg3 arg4 harg4 arg5 harg5) K := by
  simp only [cc6_dw_down_eq_skeleton]; unfold cc6_dw_down_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := sl_exact h1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k6_pay2 (F := F)) (ldFull _ harg5 _ _)) (ldFull _ harg3 _ _)) (ldFull _ harg4 _ _))

end Runs

end Cert.Kernel.Own.Dwd

end
-- ==== Proof.Kernel.Dwd.lean ====
/-
  The call for `dw_down` as a pipeline: what its buffers hold point by point, and that the body keeps to it, from any
  contents of the arrays. The result's buffer gathers the products of one block.
-/
module

public import proofs.«01_k».proof.Proof.Kernel.DwdRun

@[expose] public section

set_option maxRecDepth 16384

noncomputable section

namespace Cert.Kernel.Own.Dwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem e2 (t : Fin cfg6.N) : (grid6.coords t 2).val = t.val % 12 := by
  rw [show (grid6.coords t 2).val = t.val / 1 % 12 from Pipeline.Grid.coords_val t 2 (by decide) rfl, Nat.div_one]

/-- What the result's buffer holds after point `n`. -/
def acc (c : Dev nD) : (n : ℕ) → n < cfg6.N → Vec F S1376x1024 .f32
  | 0, h => step (0 % 12) (iblk V c 0 ⟨0, h⟩) (iblk V c 1 ⟨0, h⟩) (k6_pay1 (F := F))
  | n + 1, h => step ((n + 1) % 12) (iblk V c 0 ⟨n + 1, h⟩) (iblk V c 1 ⟨n + 1, h⟩) (acc c n (Nat.lt_of_succ_lt h))

/-! ## The proof data -/

/-- The call's invariant: what it scopes, untouched. -/
def ΦK (c : Dev nD) : sProp 𝕄 :=
  iprop(Pipeline.scopedRest (Ix := Ix) (Name := ℕ) (U := U) (Lvl := Lvl) (Val := Elt F) spec6 c ∗ ∃ r, prngReg c r)

/-- The proof data: the operands' buffers keep their blocks, the result's gathers the products. -/
def dat (c : Dev nD) : Dat τ (Elt F) Ix ℕ U Lvl cfg6 c where
  A w := V c (Pipeline.arrRef spec6 w)
  after w t := match w with
    | ⟨0, _⟩ => iblk V c 0 t
    | ⟨1, _⟩ => iblk V c 1 t
    | ⟨2, _⟩ => acc V c t.val t.isLt
  Φ _ := ΦK (F := F) (Ix := Ix) (U := U) (Lvl := Lvl) c
  q _ := fullShare
  owed _ := D c

theorem A_eq (c : Dev nD) (w : Fin cfg6.W) : (dat (Ix := Ix) (U := U) (Lvl := Lvl) V D c).A w = V c (Pipeline.arrRef spec6 w) := by
  dsimp only [dat]

theorem after_0 (c : Dev nD) (t : Fin cfg6.N) : (dat (Ix := Ix) (U := U) (Lvl := Lvl) V D c).after 0 t = iblk V c 0 t := by dsimp only [dat]
theorem after_1 (c : Dev nD) (t : Fin cfg6.N) : (dat (Ix := Ix) (U := U) (Lvl := Lvl) V D c).after 1 t = iblk V c 1 t := by dsimp only [dat]
theorem after_2 (c : Dev nD) (t : Fin cfg6.N) : (dat (Ix := Ix) (U := U) (Lvl := Lvl) V D c).after 2 t = acc V c t.val t.isLt := by dsimp only [dat]

theorem before_0 (c : Dev nD) (t : Fin cfg6.N) (d) : (dat (Ix := Ix) (U := U) (Lvl := Lvl) V D c).before 0 t d = iblk V c 0 t := by
  unfold Dat.before; rw [if_pos (fetch6_0 t)]; rfl
theorem before_1 (c : Dev nD) (t : Fin cfg6.N) (d) : (dat (Ix := Ix) (U := U) (Lvl := Lvl) V D c).before 1 t d = iblk V c 1 t := by
  unfold Dat.before; rw [if_pos (fetch6_1 t)]; rfl

/-- Inside a block that is not new, the body finds what the point before left. -/
theorem before_2 (c : Dev nD) (n : ℕ) (h : n + 1 < cfg6.N) (h0 : (n + 1) % 12 ≠ 0) (d) :
    (dat (Ix := Ix) (U := U) (Lvl := Lvl) V D c).before 2 ⟨n + 1, h⟩ d = acc V c n (Nat.lt_of_succ_lt h) := by
  have hf : ¬ (cfg6.win 2).flush ⟨n, Nat.lt_of_succ_lt h⟩ = true := fun e => by
    have := (flush6_2 ⟨n, Nat.lt_of_succ_lt h⟩).mp e
    have : n % 12 = 11 := this
    omega
  rw [(dat (Ix := Ix) (U := U) (Lvl := Lvl) V D c).before_of_pos 2 ⟨n + 1, h⟩ (Nat.succ_ne_zero n) rfl d]
  show (if (cfg6.win 2).flush ⟨n, _⟩ = true then d else (dat (Ix := Ix) (U := U) (Lvl := Lvl) V D c).left 2 ⟨n, _⟩ d) = _
  rw [if_neg hf]
  rfl

/-- The body's step at `t` makes the block after `t`. -/
theorem acc_step (c : Dev nD) (t : Fin cfg6.N) (d2) :
    step (t.val % 12) (iblk V c 0 t) (iblk V c 1 t) ((dat (Ix := Ix) (U := U) (Lvl := Lvl) V D c).before 2 t d2) = acc V c t.val t.isLt := by
  obtain ⟨n, hn⟩ := t
  cases n with
  | zero => show step (0 % 12) _ _ _ = step (0 % 12) _ _ _; unfold step; rw [if_pos (Nat.zero_mod 12), if_pos (Nat.zero_mod 12)]
  | succ n =>
    show step ((n + 1) % 12) _ _ _ = step ((n + 1) % 12) _ _ _
    by_cases h0 : (n + 1) % 12 = 0
    · unfold step; rw [if_pos h0, if_pos h0]
    · rw [before_2 V D c n hn h0]

/-! ## The body obligation -/

variable (ι : Ix)

/-- The body table's row at point `t`'s slots is the body as `bodyAt6` spells it. -/
theorem defs₀_row (t : Fin cfg6.N) :
    defs₀ (F := F) .tc cfg6.body (cfg6.bodyArgs t (cfg6.slots t)) = bodyAt6 t := by
  unfold defs₀; rw [Defs.onTc_tc]

/-- The body at a point: the result's buffer takes one step. -/
theorem body_run (c : Dev nD) (t : Fin cfg6.N) (x0 : Vec F S1376x2048 .bf16) (x1 : Vec F S2048x1024 .bf16) (a : Vec F S1376x1024 .f32)
    (K : PUnit → sProp 𝕄) :
    iprop(owns (c : Thread nD τ) (st6_0 t) fullShare x0 ∗ owns (c : Thread nD τ) (st6_1 t) fullShare x1 ∗ owns (c : Thread nD τ) (st6_2 t) fullShare a
        ∗ (iprop(owns (c : Thread nD τ) (st6_0 t) fullShare x0 ∗ owns (c : Thread nD τ) (st6_1 t) fullShare x1
            ∗ owns (c : Thread nD τ) (st6_2 t) fullShare (step (t.val % 12) x0 x1 a)) -∗ K ⟨⟩))
      ⊢ wp frame (wpE (defs₀ (F := F)) 𝒱₀ c none) Set.univ (bodyAt6 t) K := by
  unfold step
  by_cases h0 : t.val % 12 = 0
  · simp only [if_pos h0]
    exact runA 𝒱₀ c (grid6.coords t) _ _ _ _ _ _ _ _ _ Set.univ K ((hc1 _).mpr (by rw [e2]; exact h0))
  · simp only [if_neg h0]
    exact runB 𝒱₀ c (grid6.coords t) _ _ _ _ _ _ _ _ _ Set.univ K (fun h => h0 (by rw [← e2]; exact (hc1 _).mp h))

/-- The library's body obligation, at every point. -/
theorem body_obligation (c : Dev nD) : BodyObligation (dat (Ix := Ix) (U := U) (Lvl := Lvl) V D c) (defs₀ (F := F)) 𝒱₀ ι Set.univ := fun t => by
  rw [bigSep_W6, bigSep_W6, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (body_run 𝒱₀ c t _ _ ((dat (Ix := Ix) (U := U) (Lvl := Lvl) V D c).before 2 t d2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2, ← acc_step (U := U) (Lvl := Lvl) V D c t d2]; iexact H2

end Cert.Kernel.Own.Dwd

end
-- ==== Proof.Kernel.Dx.lean ====
/-
  The call for `dx` as a pipeline: what its buffers and its scratch hold point by point, and that the body keeps to it,
  from any contents of the arrays.
-/
module

public import proofs.«01_k».proof.Proof.Kernel.DxRun

@[expose] public section

set_option maxRecDepth 16384

noncomputable section

namespace Cert.Kernel.Own.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The blocks -/

/-- Window `w`'s block at point `t`, the part inside its array. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The first operand's block, zeros past the array's end. -/
def xb0 (c : Dev nD) (t : Fin cfg7.N) : Vec F S1x1024x2816 .bf16 :=
  win7_0.fill (grid7.coords t) (fun _ => Scalar.ofBits .bf16 0#16) (iblk V c 0 t)
/-- The second operand's block, zeros past the array's end. -/
def xb1 (c : Dev nD) (t : Fin cfg7.N) : Vec F S1x2048x2816 .bf16 :=
  win7_1.fill (grid7.coords t) (fun _ => Scalar.ofBits .bf16 0#16) (iblk V c 1 t)

/-- How much of each block lies inside its array. -/
theorem xsz : ∀ t : Fin cfg7.N, (¬ t.val % 4 = 3 → (∀ a, win7_0.clip (grid7.coords t) a = none) ∧ ∀ a, win7_1.clip (grid7.coords t) a = none)
    ∧ (t.val % 4 = 3 → (∀ a, win7_0.xsize (grid7.coords t) a = S1x1024x2560.size a) ∧ ∀ a, win7_1.xsize (grid7.coords t) a = S1x2048x2560.size a) :=
  (by decide +kernel : ∀ t : Fin grid7.N, _)

/-- A step reads nothing past the arrays' ends. -/
theorem step_fill (t : Fin cfg7.N) (d0 d0' : Vec F S1x1024x2816 .bf16) (d1 d1' : Vec F S1x2048x2816 .bf16)
    (g0 : (win7_0.xblock (grid7.coords t)).Idx → Elt F .bf16) (g1 : (win7_1.xblock (grid7.coords t)).Idx → Elt F .bf16) (a : Vec F S1024x2048 .f32) :
    step (t.val % 8) (win7_0.fill (grid7.coords t) d0 g0) (win7_1.fill (grid7.coords t) d1 g1) a
      = step (t.val % 8) (win7_0.fill (grid7.coords t) d0' g0) (win7_1.fill (grid7.coords t) d1' g1) a := by
  by_cases h3 : t.val % 4 = 3
  · have e0 : tl0 (win7_0.fill (grid7.coords t) d0 g0) = tl0 (win7_0.fill (grid7.coords t) d0' g0) := by
      funext y
      have hm : win7_0.moved (grid7.coords t) ((Rect.unit (s := S1x1024x2816) ![0, 0, 0] S1x1024x2560.size inb_S1x1024x2816_S1x1024x2560_0_0_0).emb y) = true :=
        (win7_0.moved_iff _ _).mpr fun a => by
          rw [((xsz t).2 h3).1 a, Rect.emb_apply]
          have := (y a).isLt
          have hz : (![0, 0, 0] : Fin 3 → ℕ) a = 0 := by fin_cases a <;> rfl
          show (![0, 0, 0] : Fin 3 → ℕ) a + 1 * (y a).val < _
          rw [hz]; show 0 + 1 * (y a).val < _; rw [Nat.zero_add, Nat.one_mul]; exact this
      show win7_0.fill _ _ _ _ = win7_0.fill _ _ _ _
      unfold Window.fill; rw [dif_pos hm, dif_pos hm]
    have e1 : tl1 (win7_1.fill (grid7.coords t) d1 g1) = tl1 (win7_1.fill (grid7.coords t) d1' g1) := by
      funext y
      have hm : win7_1.moved (grid7.coords t) ((Rect.unit (s := S1x2048x2816) ![0, 0, 0] S1x2048x2560.size inb_S1x2048x2816_S1x2048x2560_0_0_0).emb y) = true :=
        (win7_1.moved_iff _ _).mpr fun a => by
          rw [((xsz t).2 h3).2 a, Rect.emb_apply]
          have := (y a).isLt
          have hz : (![0, 0, 0] : Fin 3 → ℕ) a = 0 := by fin_cases a <;> rfl
          show (![0, 0, 0] : Fin 3 → ℕ) a + 1 * (y a).val < _
          rw [hz]; show 0 + 1 * (y a).val < _; rw [Nat.zero_add, Nat.one_mul]; exact this
      show win7_1.fill _ _ _ _ = win7_1.fill _ _ _ _
      unfold Window.fill; rw [dif_pos hm, dif_pos hm]
    have hA : ¬ t.val % 8 = 0 := by omega
    have hB : t.val % 8 % 4 = 3 := by omega
    unfold step
    simp only [if_neg hA, if_pos hB, e0, e1]
  · rw [Pipeline.fill_of_clip_none (cfg := cfg7) 0 (grid7.coords t) ((xsz t).1 h3).1 d0 d0' g0,
      Pipeline.fill_of_clip_none (cfg := cfg7) 1 (grid7.coords t) ((xsz t).1 h3).2 d1 d1' g1]

/-! ## What the scratch holds -/

/-- The scratch after point `n`. -/
def acc (c : Dev nD) : (n : ℕ) → n < cfg7.N → Vec F S1024x2048 .f32
  | 0, h => step 0 (xb0 V c ⟨0, h⟩) (xb1 V c ⟨0, h⟩) (k7_pay1 (F := F))
  | n + 1, h => step ((n + 1) % 8) (xb0 V c ⟨n + 1, h⟩) (xb1 V c ⟨n + 1, h⟩) (acc c n (Nat.lt_of_succ_lt h))

/-- The body's step at `t` makes the scratch after `t` from the scratch after the point before, whatever is past the
    arrays' ends. -/
theorem acc_step (c : Dev nD) (t : Fin cfg7.N) (a : Vec F S1024x2048 .f32) (ha : ∀ n (h : n < cfg7.N), t.val = n + 1 → a = acc V c n h)
    (d0 : Vec F S1x1024x2816 .bf16) (d1 : Vec F S1x2048x2816 .bf16) :
    step (t.val % 8) (win7_0.fill (grid7.coords t) d0 (iblk V c 0 t)) (win7_1.fill (grid7.coords t) d1 (iblk V c 1 t)) a = acc V c t.val t.isLt := by
  rw [step_fill t d0 (fun _ => Scalar.ofBits .bf16 0#16) d1 (fun _ => Scalar.ofBits .bf16 0#16)]
  obtain ⟨n, hn⟩ := t
  cases n with
  | zero => rfl
  | succ n => rw [ha n (Nat.lt_of_succ_lt hn) rfl]; rfl

/-- The call's scratch. -/
abbrev sc : Memref sig .tc .vmem S1024x2048 .f32 := Memref.whole cc7_scratch0

/-! ## The proof data -/

/-- What the core holds between points: the scratch after the point before, and the rest of what the call scopes. -/
def ΦK (c : Dev nD) (t : Fin (cfg7.N + 1)) : sProp 𝕄 :=
  iprop((∃ a, ⌜∀ n (h : n < cfg7.N), t.val = n + 1 → a = acc V c n h⌝ ∗ owns (c : Thread nD τ) sc fullShare a)
    ∗ Pipeline.scopedRestBut (Ix := Ix) (Name := ℕ) (U := U) (Lvl := Lvl) (Val := Elt F) spec7 c [cc7_scratch0] ∗ ∃ r, prngReg c r)

/-- The proof data: the operands' buffers keep their blocks, the result's block is the rounded scratch. -/
def dat (c : Dev nD) : Dat τ (Elt F) Ix ℕ U Lvl cfg7 c where
  A w := V c (Pipeline.arrRef spec7 w)
  after w t := match w with
    | ⟨0, _⟩ => xb0 V c t
    | ⟨1, _⟩ => xb1 V c t
    | ⟨2, _⟩ => k7_pay4 (acc V c t.val t.isLt)
  Φ t := ΦK (F := F) (Ix := Ix) (U := U) (Lvl := Lvl) V c t
  q _ := fullShare
  owed _ := D c

theorem A_eq (c : Dev nD) (w : Fin cfg7.W) : (dat (Ix := Ix) (U := U) (Lvl := Lvl) V D c).A w = V c (Pipeline.arrRef spec7 w) := by
  dsimp only [dat]

theorem after_2 (c : Dev nD) (t : Fin cfg7.N) : (dat (Ix := Ix) (U := U) (Lvl := Lvl) V D c).after 2 t = k7_pay4 (acc V c t.val t.isLt) := by dsimp only [dat]

theorem before_0 (c : Dev nD) (t : Fin cfg7.N) (d) : (dat (Ix := Ix) (U := U) (Lvl := Lvl) V D c).before 0 t d = win7_0.fill (grid7.coords t) d (iblk V c 0 t) := by
  unfold Dat.before; rw [if_pos (fetch7_0 t)]; rfl
theorem before_1 (c : Dev nD) (t : Fin cfg7.N) (d) : (dat (Ix := Ix) (U := U) (Lvl := Lvl) V D c).before 1 t d = win7_1.fill (grid7.coords t) d (iblk V c 1 t) := by
  unfold Dat.before; rw [if_pos (fetch7_1 t)]; rfl

/-- What the call scopes is its scratch and the rest. -/
theorem rest_split (c : Dev nD) :
    (Pipeline.scopedRest (Ix := Ix) (Name := ℕ) (U := U) (Lvl := Lvl) (Val := Elt F) spec7 c : sProp 𝕄)
      = iprop(iprop((∃ f : Buf (Elt F) ((c : Thread nD τ).loc cc7_scratch0), ((c : Thread nD τ).loc cc7_scratch0) ↦{fullShare} f))
          ∗ Pipeline.scopedRestBut (Ix := Ix) (Name := ℕ) (U := U) (Lvl := Lvl) (Val := Elt F) spec7 c [cc7_scratch0]) :=
  Pipeline.scopedRest_split_of_list spec7 c [cc7_scratch0] (by decide) (by decide)

/-- From what the call scopes to what the core holds before the first point. -/
theorem Φ_in (c : Dev nD) : iprop(Pipeline.scopedRest (Ix := Ix) (Name := ℕ) (U := U) (Lvl := Lvl) (Val := Elt F) spec7 c ∗ ∃ r, prngReg c r) ⊢ (dat (Ix := Ix) (U := U) (Lvl := Lvl) V D c).Φ 0 := by
  rw [rest_split]
  show _ ⊢ ΦK V c 0
  unfold ΦK
  iintro ⟨⟨⟨%f, H⟩, Hr⟩, Hp⟩
  isplitl [H]
  · iexists f
    isplitr; · ipureintro; intro n h e; exact absurd e (Nat.succ_ne_zero n).symm
    iapply (Entails.of_eq (owns_whole (c : Thread nD τ) cc7_scratch0 fullShare f).symm); iexact H
  isplitl [Hr]; · iexact Hr
  iexact Hp

/-- And back after the last. -/
theorem Φ_out (c : Dev nD) (t : Fin (cfg7.N + 1)) : (dat (Ix := Ix) (U := U) (Lvl := Lvl) V D c).Φ t ⊢ iprop(Pipeline.scopedRest (Ix := Ix) (Name := ℕ) (U := U) (Lvl := Lvl) (Val := Elt F) spec7 c ∗ ∃ r, prngReg c r) := by
  rw [rest_split]
  show ΦK V c t ⊢ _
  unfold ΦK
  iintro ⟨⟨%f, -, H⟩, Hr, Hp⟩
  isplitl [H Hr]
  · isplitl [H]
    · iexists f
      iapply (Entails.of_eq (owns_whole (c : Thread nD τ) cc7_scratch0 fullShare f)); iexact H
    iexact Hr
  iexact Hp

/-! ## The body obligation -/

variable (ι : Ix)

theorem e2 (t : Fin cfg7.N) : (grid7.coords t 2).val = t.val % 8 := by
  rw [show (grid7.coords t 2).val = t.val / 1 % 8 from Pipeline.Grid.coords_val t 2 (by decide) rfl, Nat.div_one]

/-- The body table's row at point `t`'s slots is the body as `bodyAt7` spells it. -/
theorem defs₀_row (t : Fin cfg7.N) :
    defs₀ (F := F) .tc cfg7.body (cfg7.bodyArgs t (cfg7.slots t)) = bodyAt7 t := by
  unfold defs₀; rw [Defs.onTc_tc]

/-- The scratch after point `t` is what the next point is told of it. -/
theorem told (c : Dev nD) (t : Fin cfg7.N) : ∀ n (h : n < cfg7.N), t.succ.val = n + 1 → acc V c t.val t.isLt = acc V c n h := by
  intro n h e
  obtain rfl : t.val = n := by simpa using e
  rfl

/-- At every point but the last of a block: the scratch is updated, the result's buffer stays. -/
theorem body_idle (c : Dev nD) (t : Fin cfg7.N) (hi : ¬ t.val % 8 = 7) (d0 : Vec F S1x1024x2816 .bf16) (d1 : Vec F S1x2048x2816 .bf16)
    (a : Vec F S1024x2048 .f32) (ha : ∀ n (h : n < cfg7.N), t.val = n + 1 → a = acc V c n h) (K : PUnit → sProp 𝕄) :
    iprop(owns (c : Thread nD τ) (st7_0 t) fullShare (win7_0.fill (grid7.coords t) d0 (iblk V c 0 t))
        ∗ owns (c : Thread nD τ) (st7_1 t) fullShare (win7_1.fill (grid7.coords t) d1 (iblk V c 1 t)) ∗ owns (c : Thread nD τ) sc fullShare a
        ∗ (iprop(owns (c : Thread nD τ) (st7_0 t) fullShare (win7_0.fill (grid7.coords t) d0 (iblk V c 0 t))
            ∗ owns (c : Thread nD τ) (st7_1 t) fullShare (win7_1.fill (grid7.coords t) d1 (iblk V c 1 t))
            ∗ owns (c : Thread nD τ) sc fullShare (acc V c t.val t.isLt)) -∗ K ⟨⟩))
      ⊢ wp frame (wpE (defs₀ (F := F)) 𝒱₀ c none) Set.univ (bodyAt7 t) K := by
  rw [← acc_step V c t a ha d0 d1]
  have h8 : t.val % 8 < 8 := Nat.mod_lt _ (by decide)
  have h4 : ¬ k7_cond4 (grid7.coords t) = 1#1 := fun h => hi ((e2 t).symm.trans ((hc4 _).mp h))
  unfold step
  by_cases h0 : t.val % 8 = 0
  · rw [if_pos h0]
    exact runA 𝒱₀ c (grid7.coords t) _ _ _ _ _ _ _ _ _ _ a Set.univ K (by rw [e2]; exact (hc1 _ h8).mpr h0)
      (by rw [e2]; exact (hc2 _ h8).mpr (by omega)) (by rw [e2]; exact fun h => absurd ((hc3 _ h8).mp h) (by omega)) h4
  · rw [if_neg h0]
    by_cases h3 : t.val % 8 % 4 = 3
    · rw [if_pos h3]
      exact runC 𝒱₀ c (grid7.coords t) _ _ _ _ _ _ _ _ _ _ a Set.univ K (by rw [e2]; exact fun h => h0 ((hc1 _ h8).mp h))
        (by rw [e2]; exact fun h => (hc2 _ h8).mp h h3) (by rw [e2]; exact (hc3 _ h8).mpr h3) h4
    · rw [if_neg h3]
      exact runB 𝒱₀ c (grid7.coords t) _ _ _ _ _ _ _ _ _ _ a Set.univ K (by rw [e2]; exact fun h => h0 ((hc1 _ h8).mp h))
        (by rw [e2]; exact (hc2 _ h8).mpr h3) (by rw [e2]; exact fun h => h3 ((hc3 _ h8).mp h)) h4

/-- At the last point of a block: the scratch is updated and rounded into the result's buffer. -/
theorem body_last (c : Dev nD) (t : Fin cfg7.N) (hi : t.val % 8 = 7) (d0 : Vec F S1x1024x2816 .bf16) (d1 : Vec F S1x2048x2816 .bf16)
    (a : Vec F S1024x2048 .f32) (d : Vec F S1024x2048 .bf16) (ha : ∀ n (h : n < cfg7.N), t.val = n + 1 → a = acc V c n h) (K : PUnit → sProp 𝕄) :
    iprop(owns (c : Thread nD τ) (st7_0 t) fullShare (win7_0.fill (grid7.coords t) d0 (iblk V c 0 t))
        ∗ owns (c : Thread nD τ) (st7_1 t) fullShare (win7_1.fill (grid7.coords t) d1 (iblk V c 1 t)) ∗ owns (c : Thread nD τ) sc fullShare a
        ∗ owns (c : Thread nD τ) (st7_2 t) fullShare d
        ∗ (iprop(owns (c : Thread nD τ) (st7_0 t) fullShare (win7_0.fill (grid7.coords t) d0 (iblk V c 0 t))
            ∗ owns (c : Thread nD τ) (st7_1 t) fullShare (win7_1.fill (grid7.coords t) d1 (iblk V c 1 t))
            ∗ owns (c : Thread nD τ) sc fullShare (acc V c t.val t.isLt)
            ∗ owns (c : Thread nD τ) (st7_2 t) fullShare (k7_pay4 (acc V c t.val t.isLt))) -∗ K ⟨⟩))
      ⊢ wp frame (wpE (defs₀ (F := F)) 𝒱₀ c none) Set.univ (bodyAt7 t) K := by
  rw [← acc_step V c t a ha d0 d1]
  have h8 : t.val % 8 < 8 := Nat.mod_lt _ (by decide)
  have h0 : ¬ t.val % 8 = 0 := by omega
  have h3 : t.val % 8 % 4 = 3 := by omega
  unfold step
  rw [if_neg h0, if_pos h3]
  exact runD 𝒱₀ c (grid7.coords t) _ _ _ _ _ _ _ _ _ _ a Set.univ d K (by rw [e2]; exact fun h => h0 ((hc1 _ h8).mp h))
        (by rw [e2]; exact fun h => (hc2 _ h8).mp h h3) (by rw [e2]; exact (hc3 _ h8).mpr h3) ((hc4 _).mpr ((e2 t).trans hi))

/-- The library's body obligation, at every point. -/
theorem body_obligation (c : Dev nD) : BodyObligationLoose (dat (Ix := Ix) (U := U) (Lvl := Lvl) V D c) (defs₀ (F := F)) 𝒱₀ ι Set.univ := fun t => by
  rw [bigSep_W7, bigSep_W7, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.castSucc = ΦK V c t.castSucc from rfl,
    show (dat (Ix := Ix) (U := U) (Lvl := Lvl) V D c).Φ t.succ = ΦK V c t.succ from rfl]
  by_cases hi : t.val % 8 = 7
  · have hf : (win7 2).flush t = true := (flush7_2 t).mpr hi
    have hid : idle7 2 (grid7.coords t) = false := by
      show (!(k7_cond4 (grid7.coords t) == 1#1)) = false
      rw [(hc4 _).mpr ((e2 t).trans hi)]; rfl
    rw [hid]
    unfold ΦK
    iintro ⟨⟨⟨%a, %ha, Hs⟩, Hr, Hp⟩, Ho, ⟨%d0, H0⟩, ⟨%d1, H1⟩, ⟨%d2, H2⟩⟩
    rw [before_0 V D c t d0, before_1 V D c t d1]
    iapply (body_last 𝒱₀ V c t hi d0 d1 a ((dat (Ix := Ix) (U := U) (Lvl := Lvl) V D c).before 2 t d2) ha _)
    isplitl [H0]; · iexact H0
    isplitl [H1]; · iexact H1
    isplitl [Hs]; · iexact Hs
    isplitl [H2]; · iexact H2
    iintro ⟨H0, H1, Hs, H2⟩
    isplitl [Hs Hr Hp]
    · isplitl [Hs]
      · iexists _; isplitr; · ipureintro; exact told V c t
        iexact Hs
      isplitl [Hr]; · iexact Hr
      iexact Hp
    isplitl [Ho]; · iexact Ho
    isplitl [H0]
    · iexists d0
      rw [show win7_0.cut (grid7.coords t) ((dat (Ix := Ix) (U := U) (Lvl := Lvl) V D c).after 0 t) = iblk V c 0 t from win7_0.cut_fill _ _ _]; iexact H0
    isplitl [H1]
    · iexists d1
      rw [show win7_1.cut (grid7.coords t) ((dat (Ix := Ix) (U := U) (Lvl := Lvl) V D c).after 1 t) = iblk V c 1 t from win7_1.cut_fill _ _ _]; iexact H1
    rw [after_2]; iexact H2
  · have hf : (win7 2).flush t = false := by
      cases h : (win7 2).flush t with
      | false => rfl
      | true => exact absurd ((flush7_2 t).mp h) hi
    have hid : idle7 2 (grid7.coords t) = true := by
      show (!(k7_cond4 (grid7.coords t) == 1#1)) = true
      have h4 : ¬ k7_cond4 (grid7.coords t) = 1#1 := fun h => hi ((e2 t).symm.trans ((hc4 _).mp h))
      simp [h4]
    rw [hid, hf]
    unfold ΦK
    iintro ⟨⟨⟨%a, %ha, Hs⟩, Hr, Hp⟩, Ho, ⟨%d0, H0⟩, ⟨%d1, H1⟩, ⟨%d2, H2⟩⟩
    rw [before_0 V D c t d0, before_1 V D c t d1]
    iapply (body_idle 𝒱₀ V c t hi d0 d1 a ha _)
    isplitl [H0]; · iexact H0
    isplitl [H1]; · iexact H1
    isplitl [Hs]; · iexact Hs
    iintro ⟨H0, H1, Hs⟩
    isplitl [Hs Hr Hp]
    · isplitl [Hs]
      · iexists _; isplitr; · ipureintro; exact told V c t
        iexact Hs
      isplitl [Hr]; · iexact Hr
      iexact Hp
    isplitl [Ho]; · iexact Ho
    isplitl [H0]
    · iexists d0
      rw [show win7_0.cut (grid7.coords t) ((dat (Ix := Ix) (U := U) (Lvl := Lvl) V D c).after 0 t) = iblk V c 0 t from win7_0.cut_fill _ _ _]; iexact H0
    isplitl [H1]
    · iexists d1
      rw [show win7_1.cut (grid7.coords t) ((dat (Ix := Ix) (U := U) (Lvl := Lvl) V D c).after 1 t) = iblk V c 1 t from win7_1.cut_fill _ _ _]; iexact H1
    iexists d2; iexact H2

end Cert.Kernel.Own.Dx

end
-- ==== Proof.Kernel.Run.lean ====
/-
  The whole program: each call's record between the contents of the unscoped buffers before it and after it, the host
  operations between, and the run — every execution ends, the arguments stay, the results are at the contents the calls
  and the host operations leave, every semaphore is at zero.
-/
module

public import proofs.«01_k».proof.Proof.Gen.Kernel.Regions
public import proofs.«01_k».proof.Proof.Kernel.DeqT
public import proofs.«01_k».proof.Proof.Kernel.DeqRows
public import proofs.«01_k».proof.Proof.Kernel.DeqWd
public import proofs.«01_k».proof.Proof.Kernel.DeqWgu
public import proofs.«01_k».proof.Proof.Kernel.Dh
public import proofs.«01_k».proof.Proof.Kernel.Dwgu
public import proofs.«01_k».proof.Proof.Kernel.Dwd
public import proofs.«01_k».proof.Proof.Kernel.Dx
public import Idealize.ShloMosaic.Lib.Pipeline.RegionArrays

@[expose] public section

set_option maxRecDepth 16384

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The ghost algebra: the pipelines' rounds alone. -/
abbrev UU : Type := UR sig nD τ

local notation "𝕄" => MT nD τ sig Unit (Elt F) ℕ UU ℕ

/-- No region lends or borrows: one level on every core's own cells. -/
def L : GSem nD τ sig → Finset Unit := fun g => if g.1.2 = .tc then {()} else ∅
def lv : GSem nD τ sig → Unit → ℕ := fun _ _ => 0
/-- The core owes nothing across a region. -/
abbrev D0 : Dev nD → CellTallies nD τ sig Unit := fun _ => 0

variable (m : (ℓ : Loc nD τ sig) → Buf (Elt F) ℓ)

/-! ## The buffers' contents between items -/

/-- Core `c`'s unscoped buffers at launch. -/
def W0 (c : Dev nD) : Valuation τ sig (Elt F) := fun b => m (c, b)
/-- After the host operations of item 0. -/
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h
/-- Writing one buffer keeps the others. -/
theorem upd_of (W : Valuation τ sig (Elt F)) {r b : Ref sig .tc} (h : r ∉ [b]) (x) : Function.update W (Proc.devRef .tc b) x r = W r :=
  Function.update_of_ne (StableHlo.devRef_ne_of_ne fun e => h (List.mem_singleton.2 e)) _ _
/-- Region 0's proof data, from the contents before it. -/
def dat0 (c : Dev nD) : Dat τ (Elt F) Unit ℕ UU ℕ cfg0 c := DeqT.dat (fun c b => W1 m c (Proc.devRef .tc b)) D0 c
theorem A0 (c : Dev nD) (w : Fin cfg0.W) : (dat0 m c).A w = W1 m c (Proc.devRef .tc (Pipeline.arrRef spec0 w)) :=
  DeqT.A_eq (U := UU) (Lvl := ℕ) (fun c b => W1 m c (Proc.devRef .tc b)) D0 c w
/-- After region 0. -/
def W2 (c : Dev nD) : Valuation τ sig (Elt F) := Function.update (W1 m c) (Proc.devRef .tc main_v6) ((dat0 m c).arrAt 2 cfg0.N)
theorem W2_of (c : Dev nD) (r : Ref sig .tc) (h : r ∉ ([main_v6] : List (Ref sig .tc))) : W2 m c r = W1 m c r :=
  upd_of _ h _
theorem W2_main_v6 (c : Dev nD) : W2 m c (Proc.devRef .tc main_v6) = (dat0 m c).arrAt 2 cfg0.N := by
  unfold W2; rw [Function.update_self]
/-- Region 1's proof data, from the contents before it. -/
def dat1 (c : Dev nD) : Dat τ (Elt F) Unit ℕ UU ℕ cfg1 c := DeqRows.dat (fun c b => W2 m c (Proc.devRef .tc b)) D0 c
theorem A1 (c : Dev nD) (w : Fin cfg1.W) : (dat1 m c).A w = W2 m c (Proc.devRef .tc (Pipeline.arrRef spec1 w)) :=
  DeqRows.A_eq (U := UU) (Lvl := ℕ) (fun c b => W2 m c (Proc.devRef .tc b)) D0 c w
/-- After region 1. -/
def W3 (c : Dev nD) : Valuation τ sig (Elt F) := Function.update (W2 m c) (Proc.devRef .tc main_v7) ((dat1 m c).arrAt 2 cfg1.N)
theorem W3_of (c : Dev nD) (r : Ref sig .tc) (h : r ∉ ([main_v7] : List (Ref sig .tc))) : W3 m c r = W2 m c r :=
  upd_of _ h _
theorem W3_main_v7 (c : Dev nD) : W3 m c (Proc.devRef .tc main_v7) = (dat1 m c).arrAt 2 cfg1.N := by
  unfold W3; rw [Function.update_self]
/-- After the host operations of item 3. -/
def W4 (c : Dev nD) : Valuation τ sig (Elt F) := StableHlo.after hostOps2 (W3 m c)
theorem W4_of (c : Dev nD) (r : Ref sig .tc) (h : r ∉ hostOps2_W) : W4 m c r = W3 m c r :=
  StableHlo.after_of_writes_sub hostOps2 _ hostOps2_writes h
/-- Region 2's proof data, from the contents before it. -/
def dat2 (c : Dev nD) : Dat τ (Elt F) Unit ℕ UU ℕ cfg2 c := DeqWd.dat (fun c b => W4 m c (Proc.devRef .tc b)) D0 c
theorem A2 (c : Dev nD) (w : Fin cfg2.W) : (dat2 m c).A w = W4 m c (Proc.devRef .tc (Pipeline.arrRef spec2 w)) :=
  DeqWd.A_eq (U := UU) (Lvl := ℕ) (fun c b => W4 m c (Proc.devRef .tc b)) D0 c w
/-- After region 2. -/
def W5 (c : Dev nD) : Valuation τ sig (Elt F) := Function.update (W4 m c) (Proc.devRef .tc main_v11) ((dat2 m c).arrAt 2 cfg2.N)
theorem W5_of (c : Dev nD) (r : Ref sig .tc) (h : r ∉ ([main_v11] : List (Ref sig .tc))) : W5 m c r = W4 m c r :=
  upd_of _ h _
theorem W5_main_v11 (c : Dev nD) : W5 m c (Proc.devRef .tc main_v11) = (dat2 m c).arrAt 2 cfg2.N := by
  unfold W5; rw [Function.update_self]
/-- After the host operations of item 5. -/
def W6 (c : Dev nD) : Valuation τ sig (Elt F) := StableHlo.after hostOps3 (W5 m c)
theorem W6_of (c : Dev nD) (r : Ref sig .tc) (h : r ∉ hostOps3_W) : W6 m c r = W5 m c r :=
  StableHlo.after_of_writes_sub hostOps3 _ hostOps3_writes h
/-- Region 3's proof data, from the contents before it. -/
def dat3 (c : Dev nD) : Dat τ (Elt F) Unit ℕ UU ℕ cfg3 c := DeqWgu.dat (fun c b => W6 m c (Proc.devRef .tc b)) D0 c
theorem A3 (c : Dev nD) (w : Fin cfg3.W) : (dat3 m c).A w = W6 m c (Proc.devRef .tc (Pipeline.arrRef spec3 w)) :=
  DeqWgu.A_eq (U := UU) (Lvl := ℕ) (fun c b => W6 m c (Proc.devRef .tc b)) D0 c w
/-- After region 3. -/
def W7 (c : Dev nD) : Valuation τ sig (Elt F) := Function.update (W6 m c) (Proc.devRef .tc main_v16) ((dat3 m c).arrAt 2 cfg3.N)
theorem W7_of (c : Dev nD) (r : Ref sig .tc) (h : r ∉ ([main_v16] : List (Ref sig .tc))) : W7 m c r = W6 m c r :=
  upd_of _ h _
theorem W7_main_v16 (c : Dev nD) : W7 m c (Proc.devRef .tc main_v16) = (dat3 m c).arrAt 2 cfg3.N := by
  unfold W7; rw [Function.update_self]
/-- Region 4's proof data, from the contents before it. -/
def dat4 (c : Dev nD) : Dat τ (Elt F) Unit ℕ UU ℕ cfg4 c := Dh.dat (fun c b => W7 m c (Proc.devRef .tc b)) D0 c
theorem A4 (c : Dev nD) (w : Fin cfg4.W) : (dat4 m c).A w = W7 m c (Proc.devRef .tc (Pipeline.arrRef spec4 w)) :=
  Dh.A_eq (U := UU) (Lvl := ℕ) (fun c b => W7 m c (Proc.devRef .tc b)) D0 c w
/-- After region 4. -/
def W8 (c : Dev nD) : Valuation τ sig (Elt F) := Function.update (Function.update (W7 m c) (Proc.devRef .tc main_v17_0) ((dat4 m c).arrAt 4 cfg4.N)) (Proc.devRef .tc main_v17_1) ((dat4 m c).arrAt 5 cfg4.N)
theorem W8_of (c : Dev nD) (r : Ref sig .tc) (h : r ∉ ([main_v17_0, main_v17_1] : List (Ref sig .tc))) : W8 m c r = W7 m c r := by
  unfold W8; rw [Function.update_of_ne (StableHlo.devRef_ne_of_ne (fun e => h (by simp only [e, List.mem_cons, true_or, or_true])) : (Proc.devRef .tc r : DevRef τ sig) ≠ Proc.devRef .tc main_v17_1), Function.update_of_ne (StableHlo.devRef_ne_of_ne (fun e => h (by simp only [e, List.mem_cons, true_or, or_true])) : (Proc.devRef .tc r : DevRef τ sig) ≠ Proc.devRef .tc main_v17_0)]
theorem W8_main_v17_0 (c : Dev nD) : W8 m c (Proc.devRef .tc main_v17_0) = (dat4 m c).arrAt 4 cfg4.N := by
  unfold W8; rw [Function.update_of_ne (StableHlo.devRef_ne_of_ne (by decide) : (Proc.devRef .tc main_v17_0 : DevRef τ sig) ≠ Proc.devRef .tc main_v17_1), Function.update_self]
theorem W8_main_v17_1 (c : Dev nD) : W8 m c (Proc.devRef .tc main_v17_1) = (dat4 m c).arrAt 5 cfg4.N := by
  unfold W8; rw [Function.update_self]
/-- Region 5's proof data, from the contents before it. -/
def dat5 (c : Dev nD) : Dat τ (Elt F) Unit ℕ UU ℕ cfg5 c := Dwgu.dat (fun c b => W8 m c (Proc.devRef .tc b)) D0 c
theorem A5 (c : Dev nD) (w : Fin cfg5.W) : (dat5 m c).A w = W8 m c (Proc.devRef .tc (Pipeline.arrRef spec5 w)) :=
  Dwgu.A_eq (U := UU) (Lvl := ℕ) (fun c b => W8 m c (Proc.devRef .tc b)) D0 c w
/-- After region 5. -/
def W9 (c : Dev nD) : Valuation τ sig (Elt F) := Function.update (W8 m c) (Proc.devRef .tc main_v18) ((dat5 m c).arrAt 2 cfg5.N)
theorem W9_of (c : Dev nD) (r : Ref sig .tc) (h : r ∉ ([main_v18] : List (Ref sig .tc))) : W9 m c r = W8 m c r :=
  upd_of _ h _
theorem W9_main_v18 (c : Dev nD) : W9 m c (Proc.devRef .tc main_v18) = (dat5 m c).arrAt 2 cfg5.N := by
  unfold W9; rw [Function.update_self]
/-- Region 6's proof data, from the contents before it. -/
def dat6 (c : Dev nD) : Dat τ (Elt F) Unit ℕ UU ℕ cfg6 c := Dwd.dat (fun c b => W9 m c (Proc.devRef .tc b)) D0 c
theorem A6 (c : Dev nD) (w : Fin cfg6.W) : (dat6 m c).A w = W9 m c (Proc.devRef .tc (Pipeline.arrRef spec6 w)) :=
  Dwd.A_eq (U := UU) (Lvl := ℕ) (fun c b => W9 m c (Proc.devRef .tc b)) D0 c w
/-- After region 6. -/
def W10 (c : Dev nD) : Valuation τ sig (Elt F) := Function.update (W9 m c) (Proc.devRef .tc main_v19) ((dat6 m c).arrAt 2 cfg6.N)
theorem W10_of (c : Dev nD) (r : Ref sig .tc) (h : r ∉ ([main_v19] : List (Ref sig .tc))) : W10 m c r = W9 m c r :=
  upd_of _ h _
theorem W10_main_v19 (c : Dev nD) : W10 m c (Proc.devRef .tc main_v19) = (dat6 m c).arrAt 2 cfg6.N := by
  unfold W10; rw [Function.update_self]
/-- Region 7's proof data, from the contents before it. -/
def dat7 (c : Dev nD) : Dat τ (Elt F) Unit ℕ UU ℕ cfg7 c := Dx.dat (fun c b => W10 m c (Proc.devRef .tc b)) D0 c
theorem A7 (c : Dev nD) (w : Fin cfg7.W) : (dat7 m c).A w = W10 m c (Proc.devRef .tc (Pipeline.arrRef spec7 w)) :=
  Dx.A_eq (U := UU) (Lvl := ℕ) (fun c b => W10 m c (Proc.devRef .tc b)) D0 c w
/-- After region 7. -/
def W11 (c : Dev nD) : Valuation τ sig (Elt F) := Function.update (W10 m c) (Proc.devRef .tc main_v20) ((dat7 m c).arrAt 2 cfg7.N)
theorem W11_of (c : Dev nD) (r : Ref sig .tc) (h : r ∉ ([main_v20] : List (Ref sig .tc))) : W11 m c r = W10 m c r :=
  upd_of _ h _
theorem W11_main_v20 (c : Dev nD) : W11 m c (Proc.devRef .tc main_v20) = (dat7 m c).arrAt 2 cfg7.N := by
  unfold W11; rw [Function.update_self]
/-- After the host operations of item 11. -/
def W12 (c : Dev nD) : Valuation τ sig (Elt F) := StableHlo.after hostOps8 (W11 m c)
theorem W12_of (c : Dev nD) (r : Ref sig .tc) (h : r ∉ hostOps8_W) : W12 m c r = W11 m c r :=
  StableHlo.after_of_writes_sub hostOps8 _ hostOps8_writes h

/-! ## No item writes an argument -/

/-- A buffer no item writes keeps its contents from launch to end. -/
theorem kept (c : Dev nD) (r : Ref sig .tc) (h12 : r ∉ (hostOps8_W : List (Ref sig .tc))) (h11 : r ∉ ([main_v20] : List (Ref sig .tc))) (h10 : r ∉ ([main_v19] : List (Ref sig .tc))) (h9 : r ∉ ([main_v18] : List (Ref sig .tc))) (h8 : r ∉ ([main_v17_0, main_v17_1] : List (Ref sig .tc))) (h7 : r ∉ ([main_v16] : List (Ref sig .tc))) (h6 : r ∉ (hostOps3_W : List (Ref sig .tc))) (h5 : r ∉ ([main_v11] : List (Ref sig .tc))) (h4 : r ∉ (hostOps2_W : List (Ref sig .tc))) (h3 : r ∉ ([main_v7] : List (Ref sig .tc))) (h2 : r ∉ ([main_v6] : List (Ref sig .tc))) (h1 : r ∉ (hostOps0_W : List (Ref sig .tc))) : W12 m c r = W0 m c r :=
  (W12_of m c r h12).trans <| (W11_of m c r h11).trans <| (W10_of m c r h10).trans <| (W9_of m c r h9).trans <| (W8_of m c r h8).trans <| (W7_of m c r h7).trans <| (W6_of m c r h6).trans <| (W5_of m c r h5).trans <| (W4_of m c r h4).trans <| (W3_of m c r h3).trans <| (W2_of m c r h2).trans <| W1_of m c r h1
theorem W12_main_arg0 (c : Dev nD) : W12 m c main_arg0 = m ((c : Thread nD τ).loc main_arg0) :=
  kept m c main_arg0 (by decide) (by decide) (by decide) (by decide) (by decide) (by decide) (by decide) (by decide) (by decide) (by decide) (by decide) (by decide)
theorem W12_main_arg1 (c : Dev nD) : W12 m c main_arg1 = m ((c : Thread nD τ).loc main_arg1) :=
  kept m c main_arg1 (by decide) (by decide) (by decide) (by decide) (by decide) (by decide) (by decide) (by decide) (by decide) (by decide) (by decide) (by decide)
theorem W12_main_arg2 (c : Dev nD) : W12 m c main_arg2 = m ((c : Thread nD τ).loc main_arg2) :=
  kept m c main_arg2 (by decide) (by decide) (by decide) (by decide) (by decide) (by decide) (by decide) (by decide) (by decide) (by decide) (by decide) (by decide)
theorem W12_main_arg3 (c : Dev nD) : W12 m c main_arg3 = m ((c : Thread nD τ).loc main_arg3) :=
  kept m c main_arg3 (by decide) (by decide) (by decide) (by decide) (by decide) (by decide) (by decide) (by decide) (by decide) (by decide) (by decide) (by decide)
theorem W12_main_arg4 (c : Dev nD) : W12 m c main_arg4 = m ((c : Thread nD τ).loc main_arg4) :=
  kept m c main_arg4 (by decide) (by decide) (by decide) (by decide) (by decide) (by decide) (by decide) (by decide) (by decide) (by decide) (by decide) (by decide)
theorem W12_main_arg5 (c : Dev nD) : W12 m c main_arg5 = m ((c : Thread nD τ).loc main_arg5) :=
  kept m c main_arg5 (by decide) (by decide) (by decide) (by decide) (by decide) (by decide) (by decide) (by decide) (by decide) (by decide) (by decide) (by decide)
theorem W12_main_arg6 (c : Dev nD) : W12 m c main_arg6 = m ((c : Thread nD τ).loc main_arg6) :=
  kept m c main_arg6 (by decide) (by decide) (by decide) (by decide) (by decide) (by decide) (by decide) (by decide) (by decide) (by decide) (by decide) (by decide)
theorem W12_main_arg7 (c : Dev nD) : W12 m c main_arg7 = m ((c : Thread nD τ).loc main_arg7) :=
  kept m c main_arg7 (by decide) (by decide) (by decide) (by decide) (by decide) (by decide) (by decide) (by decide) (by decide) (by decide) (by decide) (by decide)
theorem W12_main_arg8 (c : Dev nD) : W12 m c main_arg8 = m ((c : Thread nD τ).loc main_arg8) :=
  kept m c main_arg8 (by decide) (by decide) (by decide) (by decide) (by decide) (by decide) (by decide) (by decide) (by decide) (by decide) (by decide) (by decide)
theorem W12_main_arg9 (c : Dev nD) : W12 m c main_arg9 = m ((c : Thread nD τ).loc main_arg9) :=
  kept m c main_arg9 (by decide) (by decide) (by decide) (by decide) (by decide) (by decide) (by decide) (by decide) (by decide) (by decide) (by decide) (by decide)

/-! ## The regions -/

/-- The proof data of all the regions. -/
def pdats : (p : Fin 8) → (c : Dev nD) → Dat τ (Elt F) Unit ℕ UU ℕ (cfgs p) c
  | ⟨0, _⟩ => fun c => dat0 m c
  | ⟨1, _⟩ => fun c => dat1 m c
  | ⟨2, _⟩ => fun c => dat2 m c
  | ⟨3, _⟩ => fun c => dat3 m c
  | ⟨4, _⟩ => fun c => dat4 m c
  | ⟨5, _⟩ => fun c => dat5 m c
  | ⟨6, _⟩ => fun c => dat6 m c
  | ⟨7, _⟩ => fun c => dat7 m c

theorem cut (p : Fin 8) : Pipeline.LevelCut (pcfgs (F := F)) adm () L lv p D0 (fun _ => 0) :=
  ⟨fun _ _ _ => Finset.mem_singleton_self (), fun _ _ _ => le_rfl, fun _ _ _ h => absurd h (lt_irrefl _)⟩

/-- What rides beside the buffers: the generator's register and the core owing nothing. -/
def E (c : Dev nD) : sProp 𝕄 := iprop((∃ r, prngReg c r) ∗ ∃ W, owes (c : Thread nD τ) (0 : CellTallies nD τ sig Unit) W)

/-- Before a region: its arrays' buffers apart from the others. -/
theorem held_in (c : Dev nD) {A : Finset (DevRef τ sig)} (hA : A ⊆ Pipeline.ucRefs τ sig) (W : Valuation τ sig (Elt F)) :
    (iprop(StableHlo.held (c : Thread nD τ) (Pipeline.ucRefs τ sig) W ∗ E c) : sProp 𝕄)
      ⊢ iprop(StableHlo.held (c : Thread nD τ) A W ∗ (∃ r, prngReg c r)
        ∗ StableHlo.held (c : Thread nD τ) ((Pipeline.ucRefs τ sig) \ A) W ∗ ∃ X, owes (c : Thread nD τ) (D0 c) X) := by
  rw [StableHlo.held_sub_split (c : Thread nD τ) hA W]
  unfold E
  iintro ⟨⟨Ha, Hr⟩, Hp, HO⟩
  isplitl [Ha]; · iexact Ha
  isplitl [Hp]; · iexact Hp
  isplitl [Hr]; · iexact Hr
  iexact HO

/-- After a region: its arrays' buffers back among the others. -/
theorem held_out (c : Dev nD) {A : Finset (DevRef τ sig)} (hA : A ⊆ Pipeline.ucRefs τ sig) (W W' : Valuation τ sig (Elt F))
    (h : ∀ b ∈ (Pipeline.ucRefs τ sig) \ A, W' b = W b) :
    (iprop(StableHlo.held (c : Thread nD τ) A W' ∗ (∃ r, prngReg c r)
        ∗ StableHlo.held (c : Thread nD τ) ((Pipeline.ucRefs τ sig) \ A) W ∗ ∃ X, owes (c : Thread nD τ) (D0 c) X) : sProp 𝕄)
      ⊢ iprop(StableHlo.held (c : Thread nD τ) (Pipeline.ucRefs τ sig) W' ∗ E c) := by
  rw [StableHlo.held_sub_split (c : Thread nD τ) hA W', StableHlo.held_congr (c : Thread nD τ) (S := (Pipeline.ucRefs τ sig) \ A) h]
  unfold E
  iintro ⟨Ha, Hp, Hr, HO⟩
  isplitl [Ha Hr]; · isplitl [Ha] <;> iassumption
  isplitl [Hp]; · iexact Hp
  iexact HO

theorem arr0_mem (w : Fin cfg0.W) : Proc.devRef .tc (Pipeline.arrRef spec0 w) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig := Pipeline.arrRefs_sub_ucRefs spec0 (by decide)
/-- Across region 0 every other held buffer keeps its contents. -/
theorem rest0_eq (c : Dev nD) : ∀ b ∈ (Pipeline.ucRefs τ sig) \ Pipeline.arrRefs (τ := τ) spec0, W2 m c b = W1 m c b := fun b hb => by
  have hn : b ∉ Pipeline.arrRefs (τ := τ) spec0 := (Finset.mem_sdiff.mp hb).2
  have h_main_v6 : b ≠ Proc.devRef .tc main_v6 := by rintro rfl; exact hn (arr0_mem 2)
  unfold W2; rw [Function.update_of_ne h_main_v6]

set_option backward.isDefEq.respectTransparency.types false in
/-- Region 0: its arrays held at `W1` in and at `W2` out, every other held buffer riding. -/
def R0 (𝒱₀ : Variants) : RegionSeg (pcfgs (F := F)) adm (pdats m) () defs₀ 𝒱₀ L lv 0 :=
  Pipeline.RegionSeg.ofHeld (pcfgs (F := F)) adm (pdats m) () defs₀ 𝒱₀ L lv 0 D0
    (fun c => iprop(∃ r, prngReg c r)) (fun c => iprop(∃ r, prngReg c r))
    launch0.toP rfl
    (fun c => (DeqT.body_obligation (U := UU) (Lvl := ℕ) 𝒱₀ (fun c b => W1 m c (Proc.devRef .tc b)) D0 () c).loose) (fun _ _ => rfl) (fun _ => rfl)
    (fun c => (pdats m 0 c).share_full fun _ => rfl) (fun _ => .rfl) (fun _ => .rfl) (fun _ => 0) (cut 0)
    (fun c => StableHlo.held (c : Thread nD τ) ((Pipeline.ucRefs τ sig) \ Pipeline.arrRefs (τ := τ) spec0) (W1 m c))
    (W1 m) (W2 m) (fun c w => (show (dat0 m c).arrAt w 0 = (dat0 m c).A w from rfl).trans (A0 m c w))
    (fun c => fun | 0 => ((dat0 m c).arrAt_in 0 rfl _).trans ((A0 m c 0).trans (W2_of m c (Pipeline.arrRef spec0 0) (by decide)).symm) | 1 => ((dat0 m c).arrAt_in 1 rfl _).trans ((A0 m c 1).trans (W2_of m c (Pipeline.arrRef spec0 1) (by decide)).symm) | 2 => (W2_main_v6 m c).symm | ⟨_ + 3, h⟩ => absurd h (Nat.not_lt.2 (Nat.le_add_left _ _)))

theorem hpre0 (𝒱₀ : Variants) (c : Dev nD) :
    iprop(StableHlo.held (c : Thread nD τ) (Pipeline.ucRefs τ sig) (W1 m c) ∗ E c) ⊢ (R0 m 𝒱₀).pre c :=
  held_in c arr0_S (W1 m c)

theorem hpost0 (𝒱₀ : Variants) (c : Dev nD) :
    (R0 m 𝒱₀).post c ⊢ iprop(StableHlo.held (c : Thread nD τ) (Pipeline.ucRefs τ sig) (W2 m c) ∗ E c) :=
  held_out c arr0_S _ (W2 m c) (rest0_eq m c)

theorem arr1_mem (w : Fin cfg1.W) : Proc.devRef .tc (Pipeline.arrRef spec1 w) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig := Pipeline.arrRefs_sub_ucRefs spec1 (by decide)
/-- Across region 1 every other held buffer keeps its contents. -/
theorem rest1_eq (c : Dev nD) : ∀ b ∈ (Pipeline.ucRefs τ sig) \ Pipeline.arrRefs (τ := τ) spec1, W3 m c b = W2 m c b := fun b hb => by
  have hn : b ∉ Pipeline.arrRefs (τ := τ) spec1 := (Finset.mem_sdiff.mp hb).2
  have h_main_v7 : b ≠ Proc.devRef .tc main_v7 := by rintro rfl; exact hn (arr1_mem 2)
  unfold W3; rw [Function.update_of_ne h_main_v7]

set_option backward.isDefEq.respectTransparency.types false in
/-- Region 1: its arrays held at `W2` in and at `W3` out, every other held buffer riding. -/
def R1 (𝒱₀ : Variants) : RegionSeg (pcfgs (F := F)) adm (pdats m) () defs₀ 𝒱₀ L lv 1 :=
  Pipeline.RegionSeg.ofHeld (pcfgs (F := F)) adm (pdats m) () defs₀ 𝒱₀ L lv 1 D0
    (fun c => iprop(∃ r, prngReg c r)) (fun c => iprop(∃ r, prngReg c r))
    launch1.toP rfl
    (fun c => (DeqRows.body_obligation (U := UU) (Lvl := ℕ) 𝒱₀ (fun c b => W2 m c (Proc.devRef .tc b)) D0 () c).loose) (fun _ _ => rfl) (fun _ => rfl)
    (fun c => (pdats m 1 c).share_full fun _ => rfl) (fun _ => .rfl) (fun _ => .rfl) (fun _ => 0) (cut 1)
    (fun c => StableHlo.held (c : Thread nD τ) ((Pipeline.ucRefs τ sig) \ Pipeline.arrRefs (τ := τ) spec1) (W2 m c))
    (W2 m) (W3 m) (fun c w => (show (dat1 m c).arrAt w 0 = (dat1 m c).A w from rfl).trans (A1 m c w))
    (fun c => fun | 0 => ((dat1 m c).arrAt_in 0 rfl _).trans ((A1 m c 0).trans (W3_of m c (Pipeline.arrRef spec1 0) (by decide)).symm) | 1 => ((dat1 m c).arrAt_in 1 rfl _).trans ((A1 m c 1).trans (W3_of m c (Pipeline.arrRef spec1 1) (by decide)).symm) | 2 => (W3_main_v7 m c).symm | ⟨_ + 3, h⟩ => absurd h (Nat.not_lt.2 (Nat.le_add_left _ _)))

theorem hpre1 (𝒱₀ : Variants) (c : Dev nD) :
    iprop(StableHlo.held (c : Thread nD τ) (Pipeline.ucRefs τ sig) (W2 m c) ∗ E c) ⊢ (R1 m 𝒱₀).pre c :=
  held_in c arr1_S (W2 m c)

theorem hpost1 (𝒱₀ : Variants) (c : Dev nD) :
    (R1 m 𝒱₀).post c ⊢ iprop(StableHlo.held (c : Thread nD τ) (Pipeline.ucRefs τ sig) (W3 m c) ∗ E c) :=
  held_out c arr1_S _ (W3 m c) (rest1_eq m c)

theorem arr2_mem (w : Fin cfg2.W) : Proc.devRef .tc (Pipeline.arrRef spec2 w) ∈ Pipeline.arrRefs (τ := τ) spec2 :=
  Finset.mem_map_of_mem _ (Finset.mem_image_of_mem _ (Finset.mem_univ w))
theorem arr2_S : Pipeline.arrRefs (τ := τ) spec2 ⊆ Pipeline.ucRefs τ sig := Pipeline.arrRefs_sub_ucRefs spec2 (by decide)
/-- Across region 2 every other held buffer keeps its contents. -/
theorem rest2_eq (c : Dev nD) : ∀ b ∈ (Pipeline.ucRefs τ sig) \ Pipeline.arrRefs (τ := τ) spec2, W5 m c b = W4 m c b := fun b hb => by
  have hn : b ∉ Pipeline.arrRefs (τ := τ) spec2 := (Finset.mem_sdiff.mp hb).2
  have h_main_v11 : b ≠ Proc.devRef .tc main_v11 := by rintro rfl; exact hn (arr2_mem 2)
  unfold W5; rw [Function.update_of_ne h_main_v11]

set_option backward.isDefEq.respectTransparency.types false in
/-- Region 2: its arrays held at `W4` in and at `W5` out, every other held buffer riding. -/
def R2 (𝒱₀ : Variants) : RegionSeg (pcfgs (F := F)) adm (pdats m) () defs₀ 𝒱₀ L lv 2 :=
  Pipeline.RegionSeg.ofHeld (pcfgs (F := F)) adm (pdats m) () defs₀ 𝒱₀ L lv 2 D0
    (fun c => iprop(∃ r, prngReg c r)) (fun c => iprop(∃ r, prngReg c r))
    launch2.toP rfl
    (fun c => (DeqWd.body_obligation (U := UU) (Lvl := ℕ) 𝒱₀ (fun c b => W4 m c (Proc.devRef .tc b)) D0 () c).loose) (fun _ _ => rfl) (fun _ => rfl)
    (fun c => (pdats m 2 c).share_full fun _ => rfl) (fun _ => .rfl) (fun _ => .rfl) (fun _ => 0) (cut 2)
    (fun c => StableHlo.held (c : Thread nD τ) ((Pipeline.ucRefs τ sig) \ Pipeline.arrRefs (τ := τ) spec2) (W4 m c))
    (W4 m) (W5 m) (fun c w => (show (dat2 m c).arrAt w 0 = (dat2 m c).A w from rfl).trans (A2 m c w))
    (fun c => fun | 0 => ((dat2 m c).arrAt_in 0 rfl _).trans ((A2 m c 0).trans (W5_of m c (Pipeline.arrRef spec2 0) (by decide)).symm) | 1 => ((dat2 m c).arrAt_in 1 rfl _).trans ((A2 m c 1).trans (W5_of m c (Pipeline.arrRef spec2 1) (by decide)).symm) | 2 => (W5_main_v11 m c).symm | ⟨_ + 3, h⟩ => absurd h (Nat.not_lt.2 (Nat.le_add_left _ _)))

theorem hpre2 (𝒱₀ : Variants) (c : Dev nD) :
    iprop(StableHlo.held (c : Thread nD τ) (Pipeline.ucRefs τ sig) (W4 m c) ∗ E c) ⊢ (R2 m 𝒱₀).pre c :=
  held_in c arr2_S (W4 m c)

theorem hpost2 (𝒱₀ : Variants) (c : Dev nD) :
    (R2 m 𝒱₀).post c ⊢ iprop(StableHlo.held (c : Thread nD τ) (Pipeline.ucRefs τ sig) (W5 m c) ∗ E c) :=
  held_out c arr2_S _ (W5 m c) (rest2_eq m c)

theorem arr3_mem (w : Fin cfg3.W) : Proc.devRef .tc (Pipeline.arrRef spec3 w) ∈ Pipeline.arrRefs (τ := τ) spec3 :=
  Finset.mem_map_of_mem _ (Finset.mem_image_of_mem _ (Finset.mem_univ w))
theorem arr3_S : Pipeline.arrRefs (τ := τ) spec3 ⊆ Pipeline.ucRefs τ sig := Pipeline.arrRefs_sub_ucRefs spec3 (by decide)
/-- Across region 3 every other held buffer keeps its contents. -/
theorem rest3_eq (c : Dev nD) : ∀ b ∈ (Pipeline.ucRefs τ sig) \ Pipeline.arrRefs (τ := τ) spec3, W7 m c b = W6 m c b := fun b hb => by
  have hn : b ∉ Pipeline.arrRefs (τ := τ) spec3 := (Finset.mem_sdiff.mp hb).2
  have h_main_v16 : b ≠ Proc.devRef .tc main_v16 := by rintro rfl; exact hn (arr3_mem 2)
  unfold W7; rw [Function.update_of_ne h_main_v16]

set_option backward.isDefEq.respectTransparency.types false in
/-- Region 3: its arrays held at `W6` in and at `W7` out, every other held buffer riding. -/
def R3 (𝒱₀ : Variants) : RegionSeg (pcfgs (F := F)) adm (pdats m) () defs₀ 𝒱₀ L lv 3 :=
  Pipeline.RegionSeg.ofHeld (pcfgs (F := F)) adm (pdats m) () defs₀ 𝒱₀ L lv 3 D0
    (fun c => iprop(∃ r, prngReg c r)) (fun c => iprop(∃ r, prngReg c r))
    launch3.toP rfl
    (fun c => (DeqWgu.body_obligation (U := UU) (Lvl := ℕ) 𝒱₀ (fun c b => W6 m c (Proc.devRef .tc b)) D0 () c).loose) (fun _ _ => rfl) (fun _ => rfl)
    (fun c => (pdats m 3 c).share_full fun _ => rfl) (fun _ => .rfl) (fun _ => .rfl) (fun _ => 0) (cut 3)
    (fun c => StableHlo.held (c : Thread nD τ) ((Pipeline.ucRefs τ sig) \ Pipeline.arrRefs (τ := τ) spec3) (W6 m c))
    (W6 m) (W7 m) (fun c w => (show (dat3 m c).arrAt w 0 = (dat3 m c).A w from rfl).trans (A3 m c w))
    (fun c => fun | 0 => ((dat3 m c).arrAt_in 0 rfl _).trans ((A3 m c 0).trans (W7_of m c (Pipeline.arrRef spec3 0) (by decide)).symm) | 1 => ((dat3 m c).arrAt_in 1 rfl _).trans ((A3 m c 1).trans (W7_of m c (Pipeline.arrRef spec3 1) (by decide)).symm) | 2 => (W7_main_v16 m c).symm | ⟨_ + 3, h⟩ => absurd h (Nat.not_lt.2 (Nat.le_add_left _ _)))

theorem hpre3 (𝒱₀ : Variants) (c : Dev nD) :
    iprop(StableHlo.held (c : Thread nD τ) (Pipeline.ucRefs τ sig) (W6 m c) ∗ E c) ⊢ (R3 m 𝒱₀).pre c :=
  held_in c arr3_S (W6 m c)

theorem hpost3 (𝒱₀ : Variants) (c : Dev nD) :
    (R3 m 𝒱₀).post c ⊢ iprop(StableHlo.held (c : Thread nD τ) (Pipeline.ucRefs τ sig) (W7 m c) ∗ E c) :=
  held_out c arr3_S _ (W7 m c) (rest3_eq m c)

theorem arr4_mem (w : Fin cfg4.W) : Proc.devRef .tc (Pipeline.arrRef spec4 w) ∈ Pipeline.arrRefs (τ := τ) spec4 :=
  Finset.mem_map_of_mem _ (Finset.mem_image_of_mem _ (Finset.mem_univ w))
theorem arr4_S : Pipeline.arrRefs (τ := τ) spec4 ⊆ Pipeline.ucRefs τ sig := Pipeline.arrRefs_sub_ucRefs spec4 (by decide)
/-- Across region 4 every other held buffer keeps its contents. -/
theorem rest4_eq (c : Dev nD) : ∀ b ∈ (Pipeline.ucRefs τ sig) \ Pipeline.arrRefs (τ := τ) spec4, W8 m c b = W7 m c b := fun b hb => by
  have hn : b ∉ Pipeline.arrRefs (τ := τ) spec4 := (Finset.mem_sdiff.mp hb).2
  have h_main_v17_0 : b ≠ Proc.devRef .tc main_v17_0 := by rintro rfl; exact hn (arr4_mem 4)
  have h_main_v17_1 : b ≠ Proc.devRef .tc main_v17_1 := by rintro rfl; exact hn (arr4_mem 5)
  unfold W8; rw [Function.update_of_ne h_main_v17_1, Function.update_of_ne h_main_v17_0]

set_option backward.isDefEq.respectTransparency.types false in
/-- Region 4: its arrays held at `W7` in and at `W8` out, every other held buffer riding. -/
def R4 (𝒱₀ : Variants) : RegionSeg (pcfgs (F := F)) adm (pdats m) () defs₀ 𝒱₀ L lv 4 :=
  Pipeline.RegionSeg.ofHeld (pcfgs (F := F)) adm (pdats m) () defs₀ 𝒱₀ L lv 4 D0
    (fun c => iprop(∃ r, prngReg c r)) (fun c => iprop(∃ r, prngReg c r))
    launch4.toP rfl
    (fun c => Dh.body_obligation (U := UU) (Lvl := ℕ) 𝒱₀ (fun c b => W7 m c (Proc.devRef .tc b)) D0 () c) (fun _ _ => rfl) (fun _ => rfl)
    (fun c => (pdats m 4 c).share_full fun _ => rfl) (fun c => Dh.Φ_in (U := UU) (Lvl := ℕ) (fun c b => W7 m c (Proc.devRef .tc b)) D0 c) (fun c => Dh.Φ_out (U := UU) (Lvl := ℕ) (fun c b => W7 m c (Proc.devRef .tc b)) D0 c (Fin.last cfg4.N)) (fun _ => 0) (cut 4)
    (fun c => StableHlo.held (c : Thread nD τ) ((Pipeline.ucRefs τ sig) \ Pipeline.arrRefs (τ := τ) spec4) (W7 m c))
    (W7 m) (W8 m) (fun c w => (show (dat4 m c).arrAt w 0 = (dat4 m c).A w from rfl).trans (A4 m c w))
    (fun c => fun | 0 => ((dat4 m c).arrAt_in 0 rfl _).trans ((A4 m c 0).trans (W8_of m c (Pipeline.arrRef spec4 0) (by decide)).symm) | 1 => ((dat4 m c).arrAt_in 1 rfl _).trans ((A4 m c 1).trans (W8_of m c (Pipeline.arrRef spec4 1) (by decide)).symm) | 2 => ((dat4 m c).arrAt_in 2 rfl _).trans ((A4 m c 2).trans (W8_of m c (Pipeline.arrRef spec4 2) (by decide)).symm) | 3 => ((dat4 m c).arrAt_in 3 rfl _).trans ((A4 m c 3).trans (W8_of m c (Pipeline.arrRef spec4 3) (by decide)).symm) | 4 => (W8_main_v17_0 m c).symm | 5 => (W8_main_v17_1 m c).symm | ⟨_ + 6, h⟩ => absurd h (Nat.not_lt.2 (Nat.le_add_left _ _)))

theorem hpre4 (𝒱₀ : Variants) (c : Dev nD) :
    iprop(StableHlo.held (c : Thread nD τ) (Pipeline.ucRefs τ sig) (W7 m c) ∗ E c) ⊢ (R4 m 𝒱₀).pre c :=
  held_in c arr4_S (W7 m c)

theorem hpost4 (𝒱₀ : Variants) (c : Dev nD) :
    (R4 m 𝒱₀).post c ⊢ iprop(StableHlo.held (c : Thread nD τ) (Pipeline.ucRefs τ sig) (W8 m c) ∗ E c) :=
  held_out c arr4_S _ (W8 m c) (rest4_eq m c)

theorem arr5_mem (w : Fin cfg5.W) : Proc.devRef .tc (Pipeline.arrRef spec5 w) ∈ Pipeline.arrRefs (τ := τ) spec5 :=
  Finset.mem_map_of_mem _ (Finset.mem_image_of_mem _ (Finset.mem_univ w))
theorem arr5_S : Pipeline.arrRefs (τ := τ) spec5 ⊆ Pipeline.ucRefs τ sig := Pipeline.arrRefs_sub_ucRefs spec5 (by decide)
/-- Across region 5 every other held buffer keeps its contents. -/
theorem rest5_eq (c : Dev nD) : ∀ b ∈ (Pipeline.ucRefs τ sig) \ Pipeline.arrRefs (τ := τ) spec5, W9 m c b = W8 m c b := fun b hb => by
  have hn : b ∉ Pipeline.arrRefs (τ := τ) spec5 := (Finset.mem_sdiff.mp hb).2
  have h_main_v18 : b ≠ Proc.devRef .tc main_v18 := by rintro rfl; exact hn (arr5_mem 2)
  unfold W9; rw [Function.update_of_ne h_main_v18]

set_option backward.isDefEq.respectTransparency.types false in
/-- Region 5: its arrays held at `W8` in and at `W9` out, every other held buffer riding. -/
def R5 (𝒱₀ : Variants) : RegionSeg (pcfgs (F := F)) adm (pdats m) () defs₀ 𝒱₀ L lv 5 :=
  Pipeline.RegionSeg.ofHeld (pcfgs (F := F)) adm (pdats m) () defs₀ 𝒱₀ L lv 5 D0
    (fun c => iprop(∃ r, prngReg c r)) (fun c => iprop(∃ r, prngReg c r))
    launch5.toP rfl
    (fun c => Dwgu.body_obligation (U := UU) (Lvl := ℕ) 𝒱₀ (fun c b => W8 m c (Proc.devRef .tc b)) D0 () c) (fun _ _ => rfl) (fun _ => rfl)
    (fun c => (pdats m 5 c).share_full fun _ => rfl) (fun _ => .rfl) (fun _ => .rfl) (fun _ => 0) (cut 5)
    (fun c => StableHlo.held (c : Thread nD τ) ((Pipeline.ucRefs τ sig) \ Pipeline.arrRefs (τ := τ) spec5) (W8 m c))
    (W8 m) (W9 m) (fun c w => (show (dat5 m c).arrAt w 0 = (dat5 m c).A w from rfl).trans (A5 m c w))
    (fun c => fun | 0 => ((dat5 m c).arrAt_in 0 rfl _).trans ((A5 m c 0).trans (W9_of m c (Pipeline.arrRef spec5 0) (by decide)).symm) | 1 => ((dat5 m c).arrAt_in 1 rfl _).trans ((A5 m c 1).trans (W9_of m c (Pipeline.arrRef spec5 1) (by decide)).symm) | 2 => (W9_main_v18 m c).symm | ⟨_ + 3, h⟩ => absurd h (Nat.not_lt.2 (Nat.le_add_left _ _)))

theorem hpre5 (𝒱₀ : Variants) (c : Dev nD) :
    iprop(StableHlo.held (c : Thread nD τ) (Pipeline.ucRefs τ sig) (W8 m c) ∗ E c) ⊢ (R5 m 𝒱₀).pre c :=
  held_in c arr5_S (W8 m c)

theorem hpost5 (𝒱₀ : Variants) (c : Dev nD) :
    (R5 m 𝒱₀).post c ⊢ iprop(StableHlo.held (c : Thread nD τ) (Pipeline.ucRefs τ sig) (W9 m c) ∗ E c) :=
  held_out c arr5_S _ (W9 m c) (rest5_eq m c)

theorem arr6_mem (w : Fin cfg6.W) : Proc.devRef .tc (Pipeline.arrRef spec6 w) ∈ Pipeline.arrRefs (τ := τ) spec6 :=
  Finset.mem_map_of_mem _ (Finset.mem_image_of_mem _ (Finset.mem_univ w))
theorem arr6_S : Pipeline.arrRefs (τ := τ) spec6 ⊆ Pipeline.ucRefs τ sig := Pipeline.arrRefs_sub_ucRefs spec6 (by decide)
/-- Across region 6 every other held buffer keeps its contents. -/
theorem rest6_eq (c : Dev nD) : ∀ b ∈ (Pipeline.ucRefs τ sig) \ Pipeline.arrRefs (τ := τ) spec6, W10 m c b = W9 m c b := fun b hb => by
  have hn : b ∉ Pipeline.arrRefs (τ := τ) spec6 := (Finset.mem_sdiff.mp hb).2
  have h_main_v19 : b ≠ Proc.devRef .tc main_v19 := by rintro rfl; exact hn (arr6_mem 2)
  unfold W10; rw [Function.update_of_ne h_main_v19]

set_option backward.isDefEq.respectTransparency.types false in
/-- Region 6: its arrays held at `W9` in and at `W10` out, every other held buffer riding. -/
def R6 (𝒱₀ : Variants) : RegionSeg (pcfgs (F := F)) adm (pdats m) () defs₀ 𝒱₀ L lv 6 :=
  Pipeline.RegionSeg.ofHeld (pcfgs (F := F)) adm (pdats m) () defs₀ 𝒱₀ L lv 6 D0
    (fun c => iprop(∃ r, prngReg c r)) (fun c => iprop(∃ r, prngReg c r))
    launch6.toP rfl
    (fun c => (Dwd.body_obligation (U := UU) (Lvl := ℕ) 𝒱₀ (fun c b => W9 m c (Proc.devRef .tc b)) D0 () c).loose) (fun _ _ => rfl) (fun _ => rfl)
    (fun c => (pdats m 6 c).share_full fun _ => rfl) (fun _ => .rfl) (fun _ => .rfl) (fun _ => 0) (cut 6)
    (fun c => StableHlo.held (c : Thread nD τ) ((Pipeline.ucRefs τ sig) \ Pipeline.arrRefs (τ := τ) spec6) (W9 m c))
    (W9 m) (W10 m) (fun c w => (show (dat6 m c).arrAt w 0 = (dat6 m c).A w from rfl).trans (A6 m c w))
    (fun c => fun | 0 => ((dat6 m c).arrAt_in 0 rfl _).trans ((A6 m c 0).trans (W10_of m c (Pipeline.arrRef spec6 0) (by decide)).symm) | 1 => ((dat6 m c).arrAt_in 1 rfl _).trans ((A6 m c 1).trans (W10_of m c (Pipeline.arrRef spec6 1) (by decide)).symm) | 2 => (W10_main_v19 m c).symm | ⟨_ + 3, h⟩ => absurd h (Nat.not_lt.2 (Nat.le_add_left _ _)))

theorem hpre6 (𝒱₀ : Variants) (c : Dev nD) :
    iprop(StableHlo.held (c : Thread nD τ) (Pipeline.ucRefs τ sig) (W9 m c) ∗ E c) ⊢ (R6 m 𝒱₀).pre c :=
  held_in c arr6_S (W9 m c)

theorem hpost6 (𝒱₀ : Variants) (c : Dev nD) :
    (R6 m 𝒱₀).post c ⊢ iprop(StableHlo.held (c : Thread nD τ) (Pipeline.ucRefs τ sig) (W10 m c) ∗ E c) :=
  held_out c arr6_S _ (W10 m c) (rest6_eq m c)

theorem arr7_mem (w : Fin cfg7.W) : Proc.devRef .tc (Pipeline.arrRef spec7 w) ∈ Pipeline.arrRefs (τ := τ) spec7 :=
  Finset.mem_map_of_mem _ (Finset.mem_image_of_mem _ (Finset.mem_univ w))
theorem arr7_S : Pipeline.arrRefs (τ := τ) spec7 ⊆ Pipeline.ucRefs τ sig := Pipeline.arrRefs_sub_ucRefs spec7 (by decide)
/-- Across region 7 every other held buffer keeps its contents. -/
theorem rest7_eq (c : Dev nD) : ∀ b ∈ (Pipeline.ucRefs τ sig) \ Pipeline.arrRefs (τ := τ) spec7, W11 m c b = W10 m c b := fun b hb => by
  have hn : b ∉ Pipeline.arrRefs (τ := τ) spec7 := (Finset.mem_sdiff.mp hb).2
  have h_main_v20 : b ≠ Proc.devRef .tc main_v20 := by rintro rfl; exact hn (arr7_mem 2)
  unfold W11; rw [Function.update_of_ne h_main_v20]

set_option backward.isDefEq.respectTransparency.types false in
/-- Region 7: its arrays held at `W10` in and at `W11` out, every other held buffer riding. -/
def R7 (𝒱₀ : Variants) : RegionSeg (pcfgs (F := F)) adm (pdats m) () defs₀ 𝒱₀ L lv 7 :=
  Pipeline.RegionSeg.ofHeld (pcfgs (F := F)) adm (pdats m) () defs₀ 𝒱₀ L lv 7 D0
    (fun c => iprop(∃ r, prngReg c r)) (fun c => iprop(∃ r, prngReg c r))
    launch7.toP rfl
    (fun c => Dx.body_obligation (U := UU) (Lvl := ℕ) 𝒱₀ (fun c b => W10 m c (Proc.devRef .tc b)) D0 () c) (fun _ _ => rfl) (fun _ => rfl)
    (fun c => (pdats m 7 c).share_full fun _ => rfl) (fun c => Dx.Φ_in (U := UU) (Lvl := ℕ) (fun c b => W10 m c (Proc.devRef .tc b)) D0 c) (fun c => Dx.Φ_out (U := UU) (Lvl := ℕ) (fun c b => W10 m c (Proc.devRef .tc b)) D0 c (Fin.last cfg7.N)) (fun _ => 0) (cut 7)
    (fun c => StableHlo.held (c : Thread nD τ) ((Pipeline.ucRefs τ sig) \ Pipeline.arrRefs (τ := τ) spec7) (W10 m c))
    (W10 m) (W11 m) (fun c w => (show (dat7 m c).arrAt w 0 = (dat7 m c).A w from rfl).trans (A7 m c w))
    (fun c => fun | 0 => ((dat7 m c).arrAt_in 0 rfl _).trans ((A7 m c 0).trans (W11_of m c (Pipeline.arrRef spec7 0) (by decide)).symm) | 1 => ((dat7 m c).arrAt_in 1 rfl _).trans ((A7 m c 1).trans (W11_of m c (Pipeline.arrRef spec7 1) (by decide)).symm) | 2 => (W11_main_v20 m c).symm | ⟨_ + 3, h⟩ => absurd h (Nat.not_lt.2 (Nat.le_add_left _ _)))

theorem hpre7 (𝒱₀ : Variants) (c : Dev nD) :
    iprop(StableHlo.held (c : Thread nD τ) (Pipeline.ucRefs τ sig) (W10 m c) ∗ E c) ⊢ (R7 m 𝒱₀).pre c :=
  held_in c arr7_S (W10 m c)

theorem hpost7 (𝒱₀ : Variants) (c : Dev nD) :
    (R7 m 𝒱₀).post c ⊢ iprop(StableHlo.held (c : Thread nD τ) (Pipeline.ucRefs τ sig) (W11 m c) ∗ E c) :=
  held_out c arr7_S _ (W11 m c) (rest7_eq m c)

/-! ## The host stretches and the run -/

/-- The host operations of item 0. -/
def H0 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E

/-- The host operations of item 3. -/
def H2 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

/-- The host operations of item 5. -/
def H3 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m) E

/-- The host operations of item 11. -/
def H8 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W11 m) E

/-- The program's items as segments. -/
abbrev segs (𝒱₀ : Variants) (c : Dev nD) : List (Seg (pcfgs (F := F)) adm (pdats m) () defs₀ 𝒱₀ L lv) :=
  [.host (H0 m 𝒱₀), .region (R0 m 𝒱₀), .region (R1 m 𝒱₀), .host (H2 m 𝒱₀), .region (R2 m 𝒱₀), .host (H3 m 𝒱₀), .region (R3 m 𝒱₀), .region (R4 m 𝒱₀), .region (R5 m 𝒱₀), .region (R6 m 𝒱₀), .region (R7 m 𝒱₀), .host (H8 m 𝒱₀)]

theorem E_owes (c : Dev nD) : (E c : sProp 𝕄) ⊢ iprop(∃ W, owes (c : Thread nD τ) (0 : CellTallies nD τ sig Unit) W) := by
  unfold E
  iintro ⟨-, HO⟩
  iexact HO

/-- The variants: no call has a table. -/
abbrev 𝒱 : Variants := Variants.none

/-- The rounds' embedding. -/
abbrev EP : Emb (URounds (GSem nD τ sig) Unit) 𝕄 := emb₁

set_option backward.isDefEq.respectTransparency.types false in
/-- The program's run. -/
theorem run (ρ : Dev nD → PrngReg) :
    θ_run defs (onTc (τ := τ) (main (F := F))) ⟨m, fun _ => 0, ρ⟩ (fun r => (∀ c : Dev nD,
      r.2.mem ((c.tc : Thread nD τ).loc main_v21) = W12 m c (Proc.devRef .tc main_v21)
      ∧ r.2.mem ((c.tc : Thread nD τ).loc main_v22) = W12 m c (Proc.devRef .tc main_v22)
      ∧ r.2.mem ((c.tc : Thread nD τ).loc main_v19) = W12 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine Pipeline.θ_run_regions_kit_dev_sems (pcfgs (F := F)) adm (pdats m) () cellOf_inj EP defs₀ 𝒱 L lv m ρ main
    (segs m 𝒱)
    (fun c Q => by
      rewrite [main_chain c, Seg.run_eq_chain,
        show (segs m 𝒱 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8 ] from rfl]
      dsimp (config := { failIfUnchanged := false }) only
      exact .rfl)
    (fun c => by simp only [segs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m c) ∗ E c))
    (Tₙ := fun c => StableHlo.held (c : Thread nD τ) (Pipeline.ucRefs τ sig) (W12 m c))
    (hch := fun c => ⟨.rfl, hpre0 m 𝒱 c, (hpost0 m 𝒱 c).trans (hpre1 m 𝒱 c), hpost1 m 𝒱 c, hpre2 m 𝒱 c, hpost2 m 𝒱 c, hpre3 m 𝒱 c, (hpost3 m 𝒱 c).trans (hpre4 m 𝒱 c), (hpost4 m 𝒱 c).trans (hpre5 m 𝒱 c), (hpost5 m 𝒱 c).trans (hpre6 m 𝒱 c), (hpost6 m 𝒱 c).trans (hpre7 m 𝒱 c), hpost7 m 𝒱 c, sep_mono .rfl (E_owes c)⟩)
    (hinit := ?_) (QY := fun c s => s.mem ((c.tc : Thread nD τ).loc main_v21) = W12 m c (Proc.devRef .tc main_v21) ∧ s.mem ((c.tc : Thread nD τ).loc main_v22) = W12 m c (Proc.devRef .tc main_v22) ∧ s.mem ((c.tc : Thread nD τ).loc main_v19) = W12 m c (Proc.devRef .tc main_v19) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (EP (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (W0 m c) from
      Pipeline.unscopedBufs_held (Ix := Unit) (Name := ℕ) (U := UU) (Lvl := ℕ) c (W0 m c)]
    unfold E
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W12 m c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        h (Proc.devRef .tc main_v22) (Finset.mem_filter.mpr ⟨StableHlo.devRef_mem_tcRefs main_v22, by decide⟩),
        h (Proc.devRef .tc main_v19) (Finset.mem_filter.mpr ⟨StableHlo.devRef_mem_tcRefs main_v19, by decide⟩),
        (h (Proc.devRef .tc main_arg0) (Finset.mem_filter.mpr ⟨StableHlo.devRef_mem_tcRefs main_arg0, by decide⟩)).trans (W12_main_arg0 m c),
        (h (Proc.devRef .tc main_arg1) (Finset.mem_filter.mpr ⟨StableHlo.devRef_mem_tcRefs main_arg1, by decide⟩)).trans (W12_main_arg1 m c),
        (h (Proc.devRef .tc main_arg2) (Finset.mem_filter.mpr ⟨StableHlo.devRef_mem_tcRefs main_arg2, by decide⟩)).trans (W12_main_arg2 m c),
        (h (Proc.devRef .tc main_arg3) (Finset.mem_filter.mpr ⟨StableHlo.devRef_mem_tcRefs main_arg3, by decide⟩)).trans (W12_main_arg3 m c),
        (h (Proc.devRef .tc main_arg4) (Finset.mem_filter.mpr ⟨StableHlo.devRef_mem_tcRefs main_arg4, by decide⟩)).trans (W12_main_arg4 m c),
        (h (Proc.devRef .tc main_arg5) (Finset.mem_filter.mpr ⟨StableHlo.devRef_mem_tcRefs main_arg5, by decide⟩)).trans (W12_main_arg5 m c),
        (h (Proc.devRef .tc main_arg6) (Finset.mem_filter.mpr ⟨StableHlo.devRef_mem_tcRefs main_arg6, by decide⟩)).trans (W12_main_arg6 m c),
        (h (Proc.devRef .tc main_arg7) (Finset.mem_filter.mpr ⟨StableHlo.devRef_mem_tcRefs main_arg7, by decide⟩)).trans (W12_main_arg7 m c),
        (h (Proc.devRef .tc main_arg8) (Finset.mem_filter.mpr ⟨StableHlo.devRef_mem_tcRefs main_arg8, by decide⟩)).trans (W12_main_arg8 m c),
        (h (Proc.devRef .tc main_arg9) (Finset.mem_filter.mpr ⟨StableHlo.devRef_mem_tcRefs main_arg9, by decide⟩)).trans (W12_main_arg9 m c)⟩
    · iexact HSI

end Cert.Kernel.Own

end
-- ==== Proof.KernelIdeal.DeqT.lean ====
/-
  The call that dequantises the input activations, transposed: what one run of its body does, its proof data and its body obligation. Each code is
  multiplied with its group's scale, group by group.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.KernelIdeal.Own.DeqT

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

/-- A group of 128 features: its codes, transposed, times the scales of the tokens in it. -/
def blkG (X : Vec F S1x1x1024 .f32) (c : Vec F S1024x128 .fp8e4m3) : FVec F S128x1024 .bf16 :=
  mulf (transpose S128x1024 [1, 0] (extf .bf16 (shapeCast S1024x128 c shapeCasts_S1024x128_S1024x128) bitsLt_fp8e4m3_bf16) transposes_S1024x128_p1_0_S128x1024)
    (truncf .bf16 (broadcastTo S128x1024 (shapeCast S1x1024 (shapeCast S1x1024 X shapeCasts_S1x1x1024_S1x1024) shapeCasts_S1x1024_S1x1024) broadcasts_S1x1024_S128x1024) bitsLt_bf16_f32)

theorem blkG_apply (X : Vec F S1x1x1024 .f32) (c : Vec F S1024x128 .fp8e4m3) (x : S128x1024.Idx) :
    blkG X c x = FloatOps.mulf (FloatOps.extf .bf16 bitsLt_fp8e4m3_bf16 (c (ix2 (x 1) (x 0)))) (FloatOps.truncf .bf16 bitsLt_bf16_f32 (X (ix3 0 0 (x 1)))) := by
  pointwise [blkG]

/-- The whole block: each code, transposed, times the scale of its token and group. -/
def out (x0 : Vec F S1024x1024 .fp8e4m3) (x1 : Vec F S1x8x1024 .f32) : Vec F S1024x1024 .bf16 :=
  fun j => FloatOps.mulf (FloatOps.extf .bf16 bitsLt_fp8e4m3_bf16 (x0 (ix2 (j 1) (j 0))))
    (FloatOps.truncf .bf16 bitsLt_bf16_f32 (x1 (ix3 0 ⟨(j 0).val / 128, by have : (j 0).val < 1024 := (j 0).isLt; omega⟩ (j 1))))

/-- A group is that group's rows of the block. -/
theorem piece (x0 : Vec F S1024x1024 .fp8e4m3) (x1 : Vec F S1x8x1024 .f32) (g : Fin 8) {off offC : Fin 2 → ℕ} {offX : Fin 3 → ℕ}
    (inb : ∀ a, off a + S128x1024.size a ≤ S1024x1024.size a) (he : off = ![128 * g.val, 0])
    (inbC : ∀ a, offC a + S1024x128.size a ≤ S1024x1024.size a) (heC : offC = ![0, 128 * g.val])
    (inbX : ∀ a, offX a + S1x1x1024.size a ≤ S1x8x1024.size a) (heX : offX = ![0, g.val, 0]) {X : Vec F S1x1x1024 .f32} {c : Vec F S1024x128 .fp8e4m3}
    (hX : X = VecWindow.window x1 offX S1x1x1024.size inbX) (hc : c = VecWindow.window x0 offC S1024x128.size inbC) (p : FVec F S128x1024 .bf16) (hp : p = blkG X c) (x : S128x1024.Idx) :
    p x = out x0 x1 ((Rect.unit (s := S1024x1024) off S128x1024.size inb).emb x) := by
  subst he heC heX hX hc hp
  have h0 : (x 0).val < 128 := (x 0).isLt
  refine (blkG_apply _ _ _).trans ?_
  unfold out
  refine congrArg₂ FloatOps.mulf (congrArg (FloatOps.extf .bf16 bitsLt_fp8e4m3_bf16) ?_) (congrArg (FloatOps.truncf .bf16 bitsLt_bf16_f32) ?_)
  · show x0 _ = x0 _
    congr 1; funext b; apply Fin.ext; fin_cases b
    · rfl
    · rfl
  · show x1 _ = x1 _
    congr 1; funext b; apply Fin.ext; fin_cases b
    · rfl
    · show g.val + 1 * 0 = (128 * g.val + 1 * (x 0).val) / 128; omega
    · rfl

/-! ## One run of the body -/

variable (𝒱₀ : Variants)

/-- The body leaves the block in the result's buffer. -/
theorem run (c : Dev nD) (i : grid0.Coords) (arg2 : Memref sig .tc .vmem S1024x1024 .fp8e4m3) (harg2 : arg2.IsWhole) (arg3 : Memref sig .tc .vmem S1x8x1024 .f32) (harg3 : arg3.IsWhole)
    (arg4 : Memref sig .tc .vmem S1024x1024 .bf16) (harg4 : arg4.IsWhole) (x0 : Vec F S1024x1024 .fp8e4m3) (x1 : Vec F S1x8x1024 .f32) (d2 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) 𝒱₀ c none) E (cc0_deq_t i arg2 harg2 arg3 harg3 arg4 harg4) K := by
  simp only [cc0_deq_t_eq_skeleton]; unfold cc0_deq_t_skel
  simp only [k0_part1_eq_skeleton, k0_part2_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  funext y
  refine View.read_writes_apply_of_pieces _ _ _ _ ?_ y (View.cover_of_tiledL (s := S1024x1024) _ S128x1024.size (by sl_kernel_rfl) y)
  · clear hf2
    have P : ∀ (g : Fin 8) {off offC : Fin 2 → ℕ} {offX : Fin 3 → ℕ} (inb : ∀ a, off a + S128x1024.size a ≤ S1024x1024.size a) (he : off = ![128 * g.val, 0])
        (inbC : ∀ a, offC a + S1024x128.size a ≤ S1024x1024.size a) (heC : offC = ![0, 128 * g.val])
        (inbX : ∀ a, offX a + S1x1x1024.size a ≤ S1x8x1024.size a) (heX : offX = ![0, g.val, 0]) (p : FVec F S128x1024 .bf16)
        (hp : p = blkG (arg3.view.readAt (Elt F) (Rect.unit (s := S1x8x1024) offX S1x1x1024.size inbX).toLoadRect (harg3.unread x1))
          (arg2.view.readAt (Elt F) (Rect.unit (s := S1024x1024) offC S1024x128.size inbC).toLoadRect (harg2.unread x0))) (x : S128x1024.Idx),
        p x = out x0 x1 ((Rect.unit (s := S1024x1024) off S128x1024.size inb).emb x) := fun g off offC offX inb he inbC heC inbX heX p hp x =>
      piece x0 x1 g inb he inbC heC inbX heX (ldTail arg3 harg3 x1 inbX) (ldTail arg2 harg2 x0 inbC) p hp x
    refine List.forall_mem_cons.2 ⟨P 7 inb_S1024x1024_S128x1024_896_0 rfl inb_S1024x1024_S1024x128_0_896 rfl inb_S1x8x1024_S1x1x1024_0_7_0 rfl _ rfl, ?_⟩
    refine List.forall_mem_cons.2 ⟨P 6 inb_S1024x1024_S128x1024_768_0 rfl inb_S1024x1024_S1024x128_0_768 rfl inb_S1x8x1024_S1x1x1024_0_6_0 rfl _ rfl, ?_⟩
    refine List.forall_mem_cons.2 ⟨P 5 inb_S1024x1024_S128x1024_640_0 rfl inb_S1024x1024_S1024x128_0_640 rfl inb_S1x8x1024_S1x1x1024_0_5_0 rfl _ rfl, ?_⟩
    refine List.forall_mem_cons.2 ⟨P 4 inb_S1024x1024_S128x1024_512_0 rfl inb_S1024x1024_S1024x128_0_512 rfl inb_S1x8x1024_S1x1x1024_0_4_0 rfl _ rfl, ?_⟩
    refine List.forall_mem_cons.2 ⟨P 3 inb_S1024x1024_S128x1024_384_0 rfl inb_S1024x1024_S1024x128_0_384 rfl inb_S1x8x1024_S1x1x1024_0_3_0 rfl _ rfl, ?_⟩
    refine List.forall_mem_cons.2 ⟨P 2 inb_S1024x1024_S128x1024_256_0 rfl inb_S1024x1024_S1024x128_0_256 rfl inb_S1x8x1024_S1x1x1024_0_2_0 rfl _ rfl, ?_⟩
    refine List.forall_mem_cons.2 ⟨P 1 inb_S1024x1024_S128x1024_128_0 rfl inb_S1024x1024_S1024x128_0_128 rfl inb_S1x8x1024_S1x1x1024_0_1_0 rfl _ rfl, ?_⟩
    refine List.forall_mem_cons.2 ⟨P 0 inb_S1024x1024_S128x1024_0_0 rfl inb_S1024x1024_S1024x128_0_0 rfl inb_S1x8x1024_S1x1x1024_0_0_0 rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's invariant: what it scopes, untouched. -/
def ΦK (c : Dev nD) : sProp 𝕄 :=
  iprop(Pipeline.scopedRest (Ix := Ix) (Name := ℕ) (U := U) (Lvl := Lvl) (Val := Elt F) spec0 c ∗ ∃ r, prngReg c r)

/-- The proof data: the operands' buffers keep their blocks, the result's holds the block the body makes. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg0.W) : (dat (Ix := Ix) (U := U) (Lvl := Lvl) V D c).A w = V c (Pipeline.arrRef spec0 w) := by
  dsimp only [dat]

theorem after_0 (c : Dev nD) (t : Fin cfg0.N) : (dat (Ix := Ix) (U := U) (Lvl := Lvl) V D c).after 0 t = iblk V c 0 t := by dsimp only [dat]
theorem after_1 (c : Dev nD) (t : Fin cfg0.N) : (dat (Ix := Ix) (U := U) (Lvl := Lvl) V D c).after 1 t = iblk V c 1 t := by dsimp only [dat]
theorem after_2 (c : Dev nD) (t : Fin cfg0.N) : (dat (Ix := Ix) (U := U) (Lvl := Lvl) V D c).after 2 t = out (iblk V c 0 t) (iblk V c 1 t) := by dsimp only [dat]

theorem before_0 (c : Dev nD) (t : Fin cfg0.N) (d) : (dat (Ix := Ix) (U := U) (Lvl := Lvl) V D c).before 0 t d = iblk V c 0 t := by
  unfold Dat.before; rw [if_pos (fetch0_0 t)]; rfl
theorem before_1 (c : Dev nD) (t : Fin cfg0.N) (d) : (dat (Ix := Ix) (U := U) (Lvl := Lvl) V D c).before 1 t d = iblk V c 1 t := by
  unfold Dat.before; rw [if_pos (fetch0_1 t)]; rfl

/-! ## The body obligation -/

variable (ι : Ix)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W0, bigSep_W0, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid0.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.KernelIdeal.Own.DeqT

end
-- ==== Proof.KernelIdeal.DeqRows.lean ====
/-
  The call that dequantises the output gradient: what one run of its body does, its proof data and its body obligation. Each code is
  multiplied with its group's scale, group by group.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.KernelIdeal.Own.DeqRows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

theorem slg : ∀ g : Fin 32, S512x32.Slices ![0, g.val] S512x1 := by decide

/-- A group of 128 columns: its codes times the scales of the rows in it. -/
def blkG (g : Fin 32) (X : Vec F S1x32x512 .f32) (c : Vec F S512x128 .fp8e5m2) : FVec F S512x128 .bf16 :=
  mulf (extf .bf16 (shapeCast S512x128 c shapeCasts_S512x128_S512x128) bitsLt_fp8e5m2_bf16)
    (truncf .bf16 (broadcastTo S512x128 (shapeCast S512x1 (extractStridedSlice S512x1 ![0, g.val] (k1_pay4 X) (slg g)) shapeCasts_S512x1_S512x1) broadcasts_S512x1_S512x128) bitsLt_bf16_f32)

/-- The whole block: each code times the scale of its row and group. -/
def out (x0 : Vec F S512x4096 .fp8e5m2) (x1 : Vec F S1x32x512 .f32) : Vec F S512x4096 .bf16 :=
  fun j => FloatOps.mulf (FloatOps.extf .bf16 bitsLt_fp8e5m2_bf16 (x0 j))
    (FloatOps.truncf .bf16 bitsLt_bf16_f32 (x1 (ix3 0 ⟨(j 1).val / 128, by have : (j 1).val < 4096 := (j 1).isLt; omega⟩ (j 0))))

/-- A group is that group's columns of the block. -/
theorem piece (x0 : Vec F S512x4096 .fp8e5m2) (x1 : Vec F S1x32x512 .f32) (g : Fin 32) {off : Fin 2 → ℕ}
    (inb : ∀ a, off a + S512x128.size a ≤ S512x4096.size a) (he : off = ![0, 128 * g.val]) {X : Vec F S1x32x512 .f32} {c : Vec F S512x128 .fp8e5m2}
    (hX : X = x1) (hc : c = VecWindow.window x0 off S512x128.size inb) (p : FVec F S512x128 .bf16) (hp : p = blkG g X c) (x : S512x128.Idx) :
    p x = out x0 x1 ((Rect.unit (s := S512x4096) off S512x128.size inb).emb x) := by
  subst he hX hc hp
  have h1 : (x 1).val < 128 := (x 1).isLt
  unfold out
  refine (show _ = FloatOps.mulf (FloatOps.extf .bf16 bitsLt_fp8e5m2_bf16 (x0 ((Rect.unit (s := S512x4096) ![0, 128 * g.val] S512x128.size inb).emb x)))
    (FloatOps.truncf .bf16 bitsLt_bf16_f32 (X (ix3 0 g (x 0)))) from ?_).trans ?_
  · generalize hw : VecWindow.window x0 ![0, 128 * g.val] S512x128.size inb = w
    rw [show x0 ((Rect.unit (s := S512x4096) ![0, 128 * g.val] S512x128.size inb).emb x) = w x by rw [← hw]; rfl]
    pointwise [blkG, k1_pay4]
  · congr 3; funext a; apply Fin.ext; fin_cases a
    · rfl
    · show g.val = (128 * g.val + 1 * (x 1).val) / 128; omega
    · show (x 0).val = 0 + 1 * (x 0).val; omega

/-! ## One run of the body -/

variable (𝒱₀ : Variants)

/-- The body leaves the block in the result's buffer. -/
theorem run (c : Dev nD) (i : grid1.Coords) (arg1 : Memref sig .tc .vmem S512x4096 .fp8e5m2) (harg1 : arg1.IsWhole) (arg2 : Memref sig .tc .vmem S1x32x512 .f32) (harg2 : arg2.IsWhole)
    (arg3 : Memref sig .tc .vmem S512x4096 .bf16) (harg3 : arg3.IsWhole) (x0 : Vec F S512x4096 .fp8e5m2) (x1 : Vec F S1x32x512 .f32) (d2 : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare d2
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) 𝒱₀ c none) E (cc1_deq_rows i arg1 harg1 arg2 harg2 arg3 harg3) K := by
  simp only [cc1_deq_rows_eq_skeleton]; unfold cc1_deq_rows_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  funext y
  refine View.read_writes_apply_of_pieces _ _ _ _ ?_ y (View.cover_of_tiledL (s := S512x4096) _ S512x128.size (by sl_kernel_rfl) y)
  · clear hf2
    have P : ∀ (g : Fin 32) {off : Fin 2 → ℕ} (inb : ∀ a, off a + S512x128.size a ≤ S512x4096.size a) (he : off = ![0, 128 * g.val]) (p : FVec F S512x128 .bf16)
        (hp : p = blkG g (arg2.view.readAt (Elt F) (Rect.unit (s := S1x32x512) ![0, 0, 0] S1x32x512.size inb_S1x32x512_S1x32x512_0_0_0).toLoadRect (harg2.unread x1))
          (arg1.view.readAt (Elt F) (Rect.unit (s := S512x4096) off S512x128.size inb).toLoadRect (harg1.unread x0))) (x : S512x128.Idx),
        p x = out x0 x1 ((Rect.unit (s := S512x4096) off S512x128.size inb).emb x) := fun g off inb he p hp x =>
      piece x0 x1 g inb he ((View.readAt_full _ _ _).trans (harg2.read_unread _)) (ldTail arg1 harg1 x0 inb) p hp x
    refine List.forall_mem_cons.2 ⟨P 31 _ rfl _ rfl, ?_⟩
    refine List.forall_mem_cons.2 ⟨P 30 _ rfl _ rfl, ?_⟩
    refine List.forall_mem_cons.2 ⟨P 29 _ rfl _ rfl, ?_⟩
    refine List.forall_mem_cons.2 ⟨P 28 _ rfl _ rfl, ?_⟩
    refine List.forall_mem_cons.2 ⟨P 27 _ rfl _ rfl, ?_⟩
    refine List.forall_mem_cons.2 ⟨P 26 _ rfl _ rfl, ?_⟩
    refine List.forall_mem_cons.2 ⟨P 25 _ rfl _ rfl, ?_⟩
    refine List.forall_mem_cons.2 ⟨P 24 _ rfl _ rfl, ?_⟩
    refine List.forall_mem_cons.2 ⟨P 23 _ rfl _ rfl, ?_⟩
    refine List.forall_mem_cons.2 ⟨P 22 _ rfl _ rfl, ?_⟩
    refine List.forall_mem_cons.2 ⟨P 21 _ rfl _ rfl, ?_⟩
    refine List.forall_mem_cons.2 ⟨P 20 _ rfl _ rfl, ?_⟩
    refine List.forall_mem_cons.2 ⟨P 19 _ rfl _ rfl, ?_⟩
    refine List.forall_mem_cons.2 ⟨P 18 _ rfl _ rfl, ?_⟩
    refine List.forall_mem_cons.2 ⟨P 17 _ rfl _ rfl, ?_⟩
    refine List.forall_mem_cons.2 ⟨P 16 _ rfl _ rfl, ?_⟩
    refine List.forall_mem_cons.2 ⟨P 15 _ rfl _ rfl, ?_⟩
    refine List.forall_mem_cons.2 ⟨P 14 _ rfl _ rfl, ?_⟩
    refine List.forall_mem_cons.2 ⟨P 13 _ rfl _ rfl, ?_⟩
    refine List.forall_mem_cons.2 ⟨P 12 _ rfl _ rfl, ?_⟩
    refine List.forall_mem_cons.2 ⟨P 11 _ rfl _ rfl, ?_⟩
    refine List.forall_mem_cons.2 ⟨P 10 _ rfl _ rfl, ?_⟩
    refine List.forall_mem_cons.2 ⟨P 9 _ rfl _ rfl, ?_⟩
    refine List.forall_mem_cons.2 ⟨P 8 _ rfl _ rfl, ?_⟩
    refine List.forall_mem_cons.2 ⟨P 7 _ rfl _ rfl, ?_⟩
    refine List.forall_mem_cons.2 ⟨P 6 _ rfl _ rfl, ?_⟩
    refine List.forall_mem_cons.2 ⟨P 5 _ rfl _ rfl, ?_⟩
    refine List.forall_mem_cons.2 ⟨P 4 _ rfl _ rfl, ?_⟩
    refine List.forall_mem_cons.2 ⟨P 3 _ rfl _ rfl, ?_⟩
    refine List.forall_mem_cons.2 ⟨P 2 _ rfl _ rfl, ?_⟩
    refine List.forall_mem_cons.2 ⟨P 1 _ rfl _ rfl, ?_⟩
    refine List.forall_mem_cons.2 ⟨P 0 _ rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's invariant: what it scopes, untouched. -/
def ΦK (c : Dev nD) : sProp 𝕄 :=
  iprop(Pipeline.scopedRest (Ix := Ix) (Name := ℕ) (U := U) (Lvl := Lvl) (Val := Elt F) spec1 c ∗ ∃ r, prngReg c r)

/-- The proof data: the operands' buffers keep their blocks, the result's holds the block the body makes. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg1.W) : (dat (Ix := Ix) (U := U) (Lvl := Lvl) V D c).A w = V c (Pipeline.arrRef spec1 w) := by
  dsimp only [dat]

theorem after_0 (c : Dev nD) (t : Fin cfg1.N) : (dat (Ix := Ix) (U := U) (Lvl := Lvl) V D c).after 0 t = iblk V c 0 t := by dsimp only [dat]
theorem after_1 (c : Dev nD) (t : Fin cfg1.N) : (dat (Ix := Ix) (U := U) (Lvl := Lvl) V D c).after 1 t = iblk V c 1 t := by dsimp only [dat]
theorem after_2 (c : Dev nD) (t : Fin cfg1.N) : (dat (Ix := Ix) (U := U) (Lvl := Lvl) V D c).after 2 t = out (iblk V c 0 t) (iblk V c 1 t) := by dsimp only [dat]

theorem before_0 (c : Dev nD) (t : Fin cfg1.N) (d) : (dat (Ix := Ix) (U := U) (Lvl := Lvl) V D c).before 0 t d = iblk V c 0 t := by
  unfold Dat.before; rw [if_pos (fetch1_0 t)]; rfl
theorem before_1 (c : Dev nD) (t : Fin cfg1.N) (d) : (dat (Ix := Ix) (U := U) (Lvl := Lvl) V D c).before 1 t d = iblk V c 1 t := by
  unfold Dat.before; rw [if_pos (fetch1_1 t)]; rfl

/-! ## The body obligation -/

variable (ι : Ix)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W1, bigSep_W1, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid1.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.KernelIdeal.Own.DeqRows

end
-- ==== Proof.KernelIdeal.DeqWd.lean ====
/-
  The call that dequantises the down weights: what one run of its body does, its proof data and its body obligation. Each code is
  multiplied with its group's scale, group by group.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.KernelIdeal.Own.DeqWd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

theorem slg : ∀ g : Fin 32, S1x32.Slices ![0, g.val] S1x1 := by decide

/-- A square of 128 by 128: its codes times its scale. -/
def blkG (g : Fin 32) (X : Vec F S1x1x1x32 .f32) (c : Vec F S1x128x128 .fp8e4m3) : FVec F S1x128x128 .bf16 :=
  shapeCast S1x128x128 (mulf (extf .bf16 (shapeCast S128x128 c shapeCasts_S1x128x128_S128x128) bitsLt_fp8e4m3_bf16)
    (truncf .bf16 (broadcastTo S128x128 (shapeCast S1x1 (extractStridedSlice S1x1 ![0, g.val] (k2_pay3 X) (slg g)) shapeCasts_S1x1_S1x1) broadcasts_S1x1_S128x128) bitsLt_bf16_f32))
    shapeCasts_S128x128_S1x128x128

theorem blkG_apply (g : Fin 32) (X : Vec F S1x1x1x32 .f32) (c : Vec F S1x128x128 .fp8e4m3) (x : S1x128x128.Idx) :
    blkG g X c x = FloatOps.mulf (FloatOps.extf .bf16 bitsLt_fp8e4m3_bf16 (c x)) (FloatOps.truncf .bf16 bitsLt_bf16_f32 (X (ix4 0 0 0 g))) := by
  obtain ⟨a, r, q, rfl⟩ : ∃ (a : Fin 1) (r q : Fin 128), x = ix3 a r q := ⟨x 0, x 1, x 2, by funext b; fin_cases b <;> rfl⟩
  obtain rfl : a = 0 := Subsingleton.elim _ _
  pointwise [blkG, k2_pay3]

/-- The whole block: each code times the scale of its square. -/
def out (x0 : Vec F S1x256x4096 .fp8e4m3) (x1 : Vec F S1x2x1x32 .f32) : Vec F S1x256x4096 .bf16 :=
  fun j => FloatOps.mulf (FloatOps.extf .bf16 bitsLt_fp8e4m3_bf16 (x0 j))
    (FloatOps.truncf .bf16 bitsLt_bf16_f32 (x1 (ix4 0 ⟨(j 1).val / 128, by have : (j 1).val < 256 := (j 1).isLt; omega⟩ 0 ⟨(j 2).val / 128, by have : (j 2).val < 4096 := (j 2).isLt; omega⟩)))

/-- A square of the block. -/
theorem piece (x0 : Vec F S1x256x4096 .fp8e4m3) (x1 : Vec F S1x2x1x32 .f32) (a : Fin 2) (g : Fin 32) {off : Fin 3 → ℕ} {offX : Fin 4 → ℕ}
    (inb : ∀ a, off a + S1x128x128.size a ≤ S1x256x4096.size a) (he : off = ![0, 128 * a.val, 128 * g.val])
    (inbX : ∀ a, offX a + S1x1x1x32.size a ≤ S1x2x1x32.size a) (heX : offX = ![0, a.val, 0, 0]) {X : Vec F S1x1x1x32 .f32} {c : Vec F S1x128x128 .fp8e4m3}
    (hX : X = VecWindow.window x1 offX S1x1x1x32.size inbX) (hc : c = VecWindow.window x0 off S1x128x128.size inb) (p : FVec F S1x128x128 .bf16) (hp : p = blkG g X c) (x : S1x128x128.Idx) :
    p x = out x0 x1 ((Rect.unit (s := S1x256x4096) off S1x128x128.size inb).emb x) := by
  subst he heX hX hc hp
  have h1 : (x 1).val < 128 := (x 1).isLt
  have h2 : (x 2).val < 128 := (x 2).isLt
  refine (blkG_apply _ _ _ _).trans ?_
  unfold out
  refine congrArg₂ FloatOps.mulf rfl (congrArg (FloatOps.truncf .bf16 bitsLt_bf16_f32) ?_)
  show x1 _ = x1 _
  congr 1; funext b; apply Fin.ext; fin_cases b
  · rfl
  · show a.val + 1 * 0 = (128 * a.val + 1 * (x 1).val) / 128; omega
  · rfl
  · show 0 + 1 * g.val = (128 * g.val + 1 * (x 2).val) / 128; omega

/-! ## One run of the body -/

variable (𝒱₀ : Variants)

/-- The body leaves the block in the result's buffer. -/
theorem run (c : Dev nD) (i : grid2.Coords) (arg2 : Memref sig .tc .vmem S1x256x4096 .fp8e4m3) (harg2 : arg2.IsWhole) (arg3 : Memref sig .tc .vmem S1x2x1x32 .f32) (harg3 : arg3.IsWhole)
    (arg4 : Memref sig .tc .vmem S1x256x4096 .bf16) (harg4 : arg4.IsWhole) (x0 : Vec F S1x256x4096 .fp8e4m3) (x1 : Vec F S1x2x1x32 .f32) (d2 : Vec F S1x256x4096 .bf16) (E : Set ℕ) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) 𝒱₀ c none) E (cc2_deq_blk i arg2 harg2 arg3 harg3 arg4 harg4) K := by
  simp only [cc2_deq_blk_eq_skeleton]; unfold cc2_deq_blk_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  funext y
  refine View.read_writes_apply_of_pieces _ _ _ _ ?_ y (View.cover_of_tiledL (s := S1x256x4096) _ S1x128x128.size (by sl_kernel_rfl) y)
  · clear hf2
    have P : ∀ (a : Fin 2) (g : Fin 32) {off : Fin 3 → ℕ} {offX : Fin 4 → ℕ} (inb : ∀ a, off a + S1x128x128.size a ≤ S1x256x4096.size a) (he : off = ![0, 128 * a.val, 128 * g.val])
        (inbX : ∀ a, offX a + S1x1x1x32.size a ≤ S1x2x1x32.size a) (heX : offX = ![0, a.val, 0, 0]) (p : FVec F S1x128x128 .bf16)
        (hp : p = blkG g (arg3.view.readAt (Elt F) (Rect.unit (s := S1x2x1x32) offX S1x1x1x32.size inbX).toLoadRect (harg3.unread x1))
          (arg2.view.readAt (Elt F) (Rect.unit (s := S1x256x4096) off S1x128x128.size inb).toLoadRect (harg2.unread x0))) (x : S1x128x128.Idx),
        p x = out x0 x1 ((Rect.unit (s := S1x256x4096) off S1x128x128.size inb).emb x) := fun a g off offX inb he inbX heX p hp x =>
      piece x0 x1 a g inb he inbX heX (ldTail arg3 harg3 x1 inbX) (ldTail arg2 harg2 x0 inb) p hp x
    refine List.forall_mem_cons.2 ⟨P 1 31 _ rfl inb_S1x2x1x32_S1x1x1x32_0_1_0_0 rfl _ rfl, ?_⟩
    refine List.forall_mem_cons.2 ⟨P 1 30 _ rfl inb_S1x2x1x32_S1x1x1x32_0_1_0_0 rfl _ rfl, ?_⟩
    refine List.forall_mem_cons.2 ⟨P 1 29 _ rfl inb_S1x2x1x32_S1x1x1x32_0_1_0_0 rfl _ rfl, ?_⟩
    refine List.forall_mem_cons.2 ⟨P 1 28 _ rfl inb_S1x2x1x32_S1x1x1x32_0_1_0_0 rfl _ rfl, ?_⟩
    refine List.forall_mem_cons.2 ⟨P 1 27 _ rfl inb_S1x2x1x32_S1x1x1x32_0_1_0_0 rfl _ rfl, ?_⟩
    refine List.forall_mem_cons.2 ⟨P 1 26 _ rfl inb_S1x2x1x32_S1x1x1x32_0_1_0_0 rfl _ rfl, ?_⟩
    refine List.forall_mem_cons.2 ⟨P 1 25 _ rfl inb_S1x2x1x32_S1x1x1x32_0_1_0_0 rfl _ rfl, ?_⟩
    refine List.forall_mem_cons.2 ⟨P 1 24 _ rfl inb_S1x2x1x32_S1x1x1x32_0_1_0_0 rfl _ rfl, ?_⟩
    refine List.forall_mem_cons.2 ⟨P 1 23 _ rfl inb_S1x2x1x32_S1x1x1x32_0_1_0_0 rfl _ rfl, ?_⟩
    refine List.forall_mem_cons.2 ⟨P 1 22 _ rfl inb_S1x2x1x32_S1x1x1x32_0_1_0_0 rfl _ rfl, ?_⟩
    refine List.forall_mem_cons.2 ⟨P 1 21 _ rfl inb_S1x2x1x32_S1x1x1x32_0_1_0_0 rfl _ rfl, ?_⟩
    refine List.forall_mem_cons.2 ⟨P 1 20 _ rfl inb_S1x2x1x32_S1x1x1x32_0_1_0_0 rfl _ rfl, ?_⟩
    refine List.forall_mem_cons.2 ⟨P 1 19 _ rfl inb_S1x2x1x32_S1x1x1x32_0_1_0_0 rfl _ rfl, ?_⟩
    refine List.forall_mem_cons.2 ⟨P 1 18 _ rfl inb_S1x2x1x32_S1x1x1x32_0_1_0_0 rfl _ rfl, ?_⟩
    refine List.forall_mem_cons.2 ⟨P 1 17 _ rfl inb_S1x2x1x32_S1x1x1x32_0_1_0_0 rfl _ rfl, ?_⟩
    refine List.forall_mem_cons.2 ⟨P 1 16 _ rfl inb_S1x2x1x32_S1x1x1x32_0_1_0_0 rfl _ rfl, ?_⟩
    refine List.forall_mem_cons.2 ⟨P 1 15 _ rfl inb_S1x2x1x32_S1x1x1x32_0_1_0_0 rfl _ rfl, ?_⟩
    refine List.forall_mem_cons.2 ⟨P 1 14 _ rfl inb_S1x2x1x32_S1x1x1x32_0_1_0_0 rfl _ rfl, ?_⟩
    refine List.forall_mem_cons.2 ⟨P 1 13 _ rfl inb_S1x2x1x32_S1x1x1x32_0_1_0_0 rfl _ rfl, ?_⟩
    refine List.forall_mem_cons.2 ⟨P 1 12 _ rfl inb_S1x2x1x32_S1x1x1x32_0_1_0_0 rfl _ rfl, ?_⟩
    refine List.forall_mem_cons.2 ⟨P 1 11 _ rfl inb_S1x2x1x32_S1x1x1x32_0_1_0_0 rfl _ rfl, ?_⟩
    refine List.forall_mem_cons.2 ⟨P 1 10 _ rfl inb_S1x2x1x32_S1x1x1x32_0_1_0_0 rfl _ rfl, ?_⟩
    refine List.forall_mem_cons.2 ⟨P 1 9 _ rfl inb_S1x2x1x32_S1x1x1x32_0_1_0_0 rfl _ rfl, ?_⟩
    refine List.forall_mem_cons.2 ⟨P 1 8 _ rfl inb_S1x2x1x32_S1x1x1x32_0_1_0_0 rfl _ rfl, ?_⟩
    refine List.forall_mem_cons.2 ⟨P 1 7 _ rfl inb_S1x2x1x32_S1x1x1x32_0_1_0_0 rfl _ rfl, ?_⟩
    refine List.forall_mem_cons.2 ⟨P 1 6 _ rfl inb_S1x2x1x32_S1x1x1x32_0_1_0_0 rfl _ rfl, ?_⟩
    refine List.forall_mem_cons.2 ⟨P 1 5 _ rfl inb_S1x2x1x32_S1x1x1x32_0_1_0_0 rfl _ rfl, ?_⟩
    refine List.forall_mem_cons.2 ⟨P 1 4 _ rfl inb_S1x2x1x32_S1x1x1x32_0_1_0_0 rfl _ rfl, ?_⟩
    refine List.forall_mem_cons.2 ⟨P 1 3 _ rfl inb_S1x2x1x32_S1x1x1x32_0_1_0_0 rfl _ rfl, ?_⟩
    refine List.forall_mem_cons.2 ⟨P 1 2 _ rfl inb_S1x2x1x32_S1x1x1x32_0_1_0_0 rfl _ rfl, ?_⟩
    refine List.forall_mem_cons.2 ⟨P 1 1 _ rfl inb_S1x2x1x32_S1x1x1x32_0_1_0_0 rfl _ rfl, ?_⟩
    refine List.forall_mem_cons.2 ⟨P 1 0 _ rfl inb_S1x2x1x32_S1x1x1x32_0_1_0_0 rfl _ rfl, ?_⟩
    refine List.forall_mem_cons.2 ⟨P 0 31 _ rfl inb_S1x2x1x32_S1x1x1x32_0_0_0_0 rfl _ rfl, ?_⟩
    refine List.forall_mem_cons.2 ⟨P 0 30 _ rfl inb_S1x2x1x32_S1x1x1x32_0_0_0_0 rfl _ rfl, ?_⟩
    refine List.forall_mem_cons.2 ⟨P 0 29 _ rfl inb_S1x2x1x32_S1x1x1x32_0_0_0_0 rfl _ rfl, ?_⟩
    refine List.forall_mem_cons.2 ⟨P 0 28 _ rfl inb_S1x2x1x32_S1x1x1x32_0_0_0_0 rfl _ rfl, ?_⟩
    refine List.forall_mem_cons.2 ⟨P 0 27 _ rfl inb_S1x2x1x32_S1x1x1x32_0_0_0_0 rfl _ rfl, ?_⟩
    refine List.forall_mem_cons.2 ⟨P 0 26 _ rfl inb_S1x2x1x32_S1x1x1x32_0_0_0_0 rfl _ rfl, ?_⟩
    refine List.forall_mem_cons.2 ⟨P 0 25 _ rfl inb_S1x2x1x32_S1x1x1x32_0_0_0_0 rfl _ rfl, ?_⟩
    refine List.forall_mem_cons.2 ⟨P 0 24 _ rfl inb_S1x2x1x32_S1x1x1x32_0_0_0_0 rfl _ rfl, ?_⟩
    refine List.forall_mem_cons.2 ⟨P 0 23 _ rfl inb_S1x2x1x32_S1x1x1x32_0_0_0_0 rfl _ rfl, ?_⟩
    refine List.forall_mem_cons.2 ⟨P 0 22 _ rfl inb_S1x2x1x32_S1x1x1x32_0_0_0_0 rfl _ rfl, ?_⟩
    refine List.forall_mem_cons.2 ⟨P 0 21 _ rfl inb_S1x2x1x32_S1x1x1x32_0_0_0_0 rfl _ rfl, ?_⟩
    refine List.forall_mem_cons.2 ⟨P 0 20 _ rfl inb_S1x2x1x32_S1x1x1x32_0_0_0_0 rfl _ rfl, ?_⟩
    refine List.forall_mem_cons.2 ⟨P 0 19 _ rfl inb_S1x2x1x32_S1x1x1x32_0_0_0_0 rfl _ rfl, ?_⟩
    refine List.forall_mem_cons.2 ⟨P 0 18 _ rfl inb_S1x2x1x32_S1x1x1x32_0_0_0_0 rfl _ rfl, ?_⟩
    refine List.forall_mem_cons.2 ⟨P 0 17 _ rfl inb_S1x2x1x32_S1x1x1x32_0_0_0_0 rfl _ rfl, ?_⟩
    refine List.forall_mem_cons.2 ⟨P 0 16 _ rfl inb_S1x2x1x32_S1x1x1x32_0_0_0_0 rfl _ rfl, ?_⟩
    refine List.forall_mem_cons.2 ⟨P 0 15 _ rfl inb_S1x2x1x32_S1x1x1x32_0_0_0_0 rfl _ rfl, ?_⟩
    refine List.forall_mem_cons.2 ⟨P 0 14 _ rfl inb_S1x2x1x32_S1x1x1x32_0_0_0_0 rfl _ rfl, ?_⟩
    refine List.forall_mem_cons.2 ⟨P 0 13 _ rfl inb_S1x2x1x32_S1x1x1x32_0_0_0_0 rfl _ rfl, ?_⟩
    refine List.forall_mem_cons.2 ⟨P 0 12 _ rfl inb_S1x2x1x32_S1x1x1x32_0_0_0_0 rfl _ rfl, ?_⟩
    refine List.forall_mem_cons.2 ⟨P 0 11 _ rfl inb_S1x2x1x32_S1x1x1x32_0_0_0_0 rfl _ rfl, ?_⟩
    refine List.forall_mem_cons.2 ⟨P 0 10 _ rfl inb_S1x2x1x32_S1x1x1x32_0_0_0_0 rfl _ rfl, ?_⟩
    refine List.forall_mem_cons.2 ⟨P 0 9 _ rfl inb_S1x2x1x32_S1x1x1x32_0_0_0_0 rfl _ rfl, ?_⟩
    refine List.forall_mem_cons.2 ⟨P 0 8 _ rfl inb_S1x2x1x32_S1x1x1x32_0_0_0_0 rfl _ rfl, ?_⟩
    refine List.forall_mem_cons.2 ⟨P 0 7 _ rfl inb_S1x2x1x32_S1x1x1x32_0_0_0_0 rfl _ rfl, ?_⟩
    refine List.forall_mem_cons.2 ⟨P 0 6 _ rfl inb_S1x2x1x32_S1x1x1x32_0_0_0_0 rfl _ rfl, ?_⟩
    refine List.forall_mem_cons.2 ⟨P 0 5 _ rfl inb_S1x2x1x32_S1x1x1x32_0_0_0_0 rfl _ rfl, ?_⟩
    refine List.forall_mem_cons.2 ⟨P 0 4 _ rfl inb_S1x2x1x32_S1x1x1x32_0_0_0_0 rfl _ rfl, ?_⟩
    refine List.forall_mem_cons.2 ⟨P 0 3 _ rfl inb_S1x2x1x32_S1x1x1x32_0_0_0_0 rfl _ rfl, ?_⟩
    refine List.forall_mem_cons.2 ⟨P 0 2 _ rfl inb_S1x2x1x32_S1x1x1x32_0_0_0_0 rfl _ rfl, ?_⟩
    refine List.forall_mem_cons.2 ⟨P 0 1 _ rfl inb_S1x2x1x32_S1x1x1x32_0_0_0_0 rfl _ rfl, ?_⟩
    refine List.forall_mem_cons.2 ⟨P 0 0 _ rfl inb_S1x2x1x32_S1x1x1x32_0_0_0_0 rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's invariant: what it scopes, untouched. -/
def ΦK (c : Dev nD) : sProp 𝕄 :=
  iprop(Pipeline.scopedRest (Ix := Ix) (Name := ℕ) (U := U) (Lvl := Lvl) (Val := Elt F) spec2 c ∗ ∃ r, prngReg c r)

/-- The proof data: the operands' buffers keep their blocks, the result's holds the block the body makes. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg2.W) : (dat (Ix := Ix) (U := U) (Lvl := Lvl) V D c).A w = V c (Pipeline.arrRef spec2 w) := by
  dsimp only [dat]

theorem after_0 (c : Dev nD) (t : Fin cfg2.N) : (dat (Ix := Ix) (U := U) (Lvl := Lvl) V D c).after 0 t = iblk V c 0 t := by dsimp only [dat]
theorem after_1 (c : Dev nD) (t : Fin cfg2.N) : (dat (Ix := Ix) (U := U) (Lvl := Lvl) V D c).after 1 t = iblk V c 1 t := by dsimp only [dat]
theorem after_2 (c : Dev nD) (t : Fin cfg2.N) : (dat (Ix := Ix) (U := U) (Lvl := Lvl) V D c).after 2 t = out (iblk V c 0 t) (iblk V c 1 t) := by dsimp only [dat]

theorem before_0 (c : Dev nD) (t : Fin cfg2.N) (d) : (dat (Ix := Ix) (U := U) (Lvl := Lvl) V D c).before 0 t d = iblk V c 0 t := by
  unfold Dat.before; rw [if_pos (fetch2_0 t)]; rfl
theorem before_1 (c : Dev nD) (t : Fin cfg2.N) (d) : (dat (Ix := Ix) (U := U) (Lvl := Lvl) V D c).before 1 t d = iblk V c 1 t := by
  unfold Dat.before; rw [if_pos (fetch2_1 t)]; rfl

/-! ## The body obligation -/

variable (ι : Ix)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W2, bigSep_W2, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid2.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.KernelIdeal.Own.DeqWd

end
-- ==== Proof.KernelIdeal.DeqWgu.lean ====
/-
  The call that dequantises the gate and up weights: what one run of its body does, its proof data and its body obligation. Each code is
  multiplied with its group's scale, group by group.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 65536

noncomputable section

namespace Cert.KernelIdeal.Own.DeqWgu

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- A load of a part of a buffer reads that part of what the buffer holds. -/
theorem ldTail {sp : Space} {s : Shape} {e : EltTy} (m : Memref sig .tc sp s e) (h : m.IsWhole) (x : Vec F s e) {off size : Fin s.rank → ℕ}
    (inb : ∀ a, off a + size a ≤ s.size a) :
    m.view.readAt (Elt F) (Rect.unit off size inb).toLoadRect (h.unread x) = VecWindow.window x off size inb :=
  (View.readAt_unit _ _ _ rfl inb).trans (by rw [h.read_unread])

/-! ## A block in closed form -/

theorem slg : ∀ g : Fin 86, S1x86.Slices ![0, g.val] S1x1 := by decide

/-- A square of 128 by 128: its codes times its scale. -/
def blkG (g : Fin 86) (X : Vec F S1x1x1x86 .f32) (c : Vec F S1x128x128 .fp8e4m3) : FVec F S1x128x128 .bf16 :=
  shapeCast S1x128x128 (mulf (extf .bf16 (shapeCast S128x128 c shapeCasts_S1x128x128_S128x128) bitsLt_fp8e4m3_bf16)
    (truncf .bf16 (broadcastTo S128x128 (shapeCast S1x1 (extractStridedSlice S1x1 ![0, g.val] (k3_pay3 X) (slg g)) shapeCasts_S1x1_S1x1) broadcasts_S1x1_S128x128) bitsLt_bf16_f32))
    shapeCasts_S128x128_S1x128x128

theorem blkG_apply (g : Fin 86) (X : Vec F S1x1x1x86 .f32) (c : Vec F S1x128x128 .fp8e4m3) (x : S1x128x128.Idx) :
    blkG g X c x = FloatOps.mulf (FloatOps.extf .bf16 bitsLt_fp8e4m3_bf16 (c x)) (FloatOps.truncf .bf16 bitsLt_bf16_f32 (X (ix4 0 0 0 g))) := by
  obtain ⟨a, r, q, rfl⟩ : ∃ (a : Fin 1) (r q : Fin 128), x = ix3 a r q := ⟨x 0, x 1, x 2, by funext b; fin_cases b <;> rfl⟩
  obtain rfl : a = 0 := Subsingleton.elim _ _
  pointwise [blkG, k3_pay3]

/-- The whole block: each code times the scale of its square. -/
def out (x0 : Vec F S1x128x11008 .fp8e4m3) (x1 : Vec F S1x1x1x86 .f32) : Vec F S1x128x11008 .bf16 :=
  fun j => FloatOps.mulf (FloatOps.extf .bf16 bitsLt_fp8e4m3_bf16 (x0 j))
    (FloatOps.truncf .bf16 bitsLt_bf16_f32 (x1 (ix4 0 ⟨(j 1).val / 128, by have : (j 1).val < 128 := (j 1).isLt; omega⟩ 0 ⟨(j 2).val / 128, by have : (j 2).val < 11008 := (j 2).isLt; omega⟩)))

/-- A square of the block. -/
theorem piece (x0 : Vec F S1x128x11008 .fp8e4m3) (x1 : Vec F S1x1x1x86 .f32) (a : Fin 1) (g : Fin 86) {off : Fin 3 → ℕ} {offX : Fin 4 → ℕ}
    (inb : ∀ a, off a + S1x128x128.size a ≤ S1x128x11008.size a) (he : off = ![0, 128 * a.val, 128 * g.val])
    (inbX : ∀ a, offX a + S1x1x1x86.size a ≤ S1x1x1x86.size a) (heX : offX = ![0, a.val, 0, 0]) {X : Vec F S1x1x1x86 .f32} {c : Vec F S1x128x128 .fp8e4m3}
    (hX : X = VecWindow.window x1 offX S1x1x1x86.size inbX) (hc : c = VecWindow.window x0 off S1x128x128.size inb) (p : FVec F S1x128x128 .bf16) (hp : p = blkG g X c) (x : S1x128x128.Idx) :
    p x = out x0 x1 ((Rect.unit (s := S1x128x11008) off S1x128x128.size inb).emb x) := by
  subst he heX hX hc hp
  have h1 : (x 1).val < 128 := (x 1).isLt
  have h2 : (x 2).val < 128 := (x 2).isLt
  refine (blkG_apply _ _ _ _).trans ?_
  unfold out
  refine congrArg₂ FloatOps.mulf rfl (congrArg (FloatOps.truncf .bf16 bitsLt_bf16_f32) ?_)
  show x1 _ = x1 _
  congr 1; funext b; apply Fin.ext; fin_cases b
  · rfl
  · show a.val + 1 * 0 = (128 * a.val + 1 * (x 1).val) / 128; omega
  · rfl
  · show 0 + 1 * g.val = (128 * g.val + 1 * (x 2).val) / 128; omega

/-! ## One run of the body -/

variable (𝒱₀ : Variants)

/-- The body leaves the block in the result's buffer. -/
theorem run (c : Dev nD) (i : grid3.Coords) (arg2 : Memref sig .tc .vmem S1x128x11008 .fp8e4m3) (harg2 : arg2.IsWhole) (arg3 : Memref sig .tc .vmem S1x1x1x86 .f32) (harg3 : arg3.IsWhole)
    (arg4 : Memref sig .tc .vmem S1x128x11008 .bf16) (harg4 : arg4.IsWhole) (x0 : Vec F S1x128x11008 .fp8e4m3) (x1 : Vec F S1x1x1x86 .f32) (d2 : Vec F S1x128x11008 .bf16) (E : Set ℕ) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) 𝒱₀ c none) E (cc3_deq_blk i arg2 harg2 arg3 harg3 arg4 harg4) K := by
  simp only [cc3_deq_blk_eq_skeleton]; unfold cc3_deq_blk_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton, k3_part18_eq_skeleton, k3_part19_eq_skeleton, k3_part20_eq_skeleton, k3_part21_eq_skeleton, k3_part22_eq_skeleton, k3_part23_eq_skeleton, k3_part24_eq_skeleton, k3_part25_eq_skeleton, k3_part26_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  funext y
  refine View.read_writes_apply_of_pieces _ _ _ _ ?_ y (View.cover_of_tiledL (s := S1x128x11008) _ S1x128x128.size (by sl_kernel_rfl) y)
  · clear hf2
    have P : ∀ (a : Fin 1) (g : Fin 86) {off : Fin 3 → ℕ} {offX : Fin 4 → ℕ} (inb : ∀ a, off a + S1x128x128.size a ≤ S1x128x11008.size a) (he : off = ![0, 128 * a.val, 128 * g.val])
        (inbX : ∀ a, offX a + S1x1x1x86.size a ≤ S1x1x1x86.size a) (heX : offX = ![0, a.val, 0, 0]) (p : FVec F S1x128x128 .bf16)
        (hp : p = blkG g (arg3.view.readAt (Elt F) (Rect.unit (s := S1x1x1x86) offX S1x1x1x86.size inbX).toLoadRect (harg3.unread x1))
          (arg2.view.readAt (Elt F) (Rect.unit (s := S1x128x11008) off S1x128x128.size inb).toLoadRect (harg2.unread x0))) (x : S1x128x128.Idx),
        p x = out x0 x1 ((Rect.unit (s := S1x128x11008) off S1x128x128.size inb).emb x) := fun a g off offX inb he inbX heX p hp x =>
      piece x0 x1 a g inb he inbX heX (ldTail arg3 harg3 x1 inbX) (ldTail arg2 harg2 x0 inb) p hp x
    refine List.forall_mem_cons.2 ⟨P 0 85 _ rfl inb_S1x1x1x86_S1x1x1x86_0_0_0_0 rfl _ rfl, ?_⟩
    refine List.forall_mem_cons.2 ⟨P 0 84 _ rfl inb_S1x1x1x86_S1x1x1x86_0_0_0_0 rfl _ rfl, ?_⟩
    refine List.forall_mem_cons.2 ⟨P 0 83 _ rfl inb_S1x1x1x86_S1x1x1x86_0_0_0_0 rfl _ rfl, ?_⟩
    refine List.forall_mem_cons.2 ⟨P 0 82 _ rfl inb_S1x1x1x86_S1x1x1x86_0_0_0_0 rfl _ rfl, ?_⟩
    refine List.forall_mem_cons.2 ⟨P 0 81 _ rfl inb_S1x1x1x86_S1x1x1x86_0_0_0_0 rfl _ rfl, ?_⟩
    refine List.forall_mem_cons.2 ⟨P 0 80 _ rfl inb_S1x1x1x86_S1x1x1x86_0_0_0_0 rfl _ rfl, ?_⟩
    refine List.forall_mem_cons.2 ⟨P 0 79 _ rfl inb_S1x1x1x86_S1x1x1x86_0_0_0_0 rfl _ rfl, ?_⟩
    refine List.forall_mem_cons.2 ⟨P 0 78 _ rfl inb_S1x1x1x86_S1x1x1x86_0_0_0_0 rfl _ rfl, ?_⟩
    refine List.forall_mem_cons.2 ⟨P 0 77 _ rfl inb_S1x1x1x86_S1x1x1x86_0_0_0_0 rfl _ rfl, ?_⟩
    refine List.forall_mem_cons.2 ⟨P 0 76 _ rfl inb_S1x1x1x86_S1x1x1x86_0_0_0_0 rfl _ rfl, ?_⟩
    refine List.forall_mem_cons.2 ⟨P 0 75 _ rfl inb_S1x1x1x86_S1x1x1x86_0_0_0_0 rfl _ rfl, ?_⟩
    refine List.forall_mem_cons.2 ⟨P 0 74 _ rfl inb_S1x1x1x86_S1x1x1x86_0_0_0_0 rfl _ rfl, ?_⟩
    refine List.forall_mem_cons.2 ⟨P 0 73 _ rfl inb_S1x1x1x86_S1x1x1x86_0_0_0_0 rfl _ rfl, ?_⟩
    refine List.forall_mem_cons.2 ⟨P 0 72 _ rfl inb_S1x1x1x86_S1x1x1x86_0_0_0_0 rfl _ rfl, ?_⟩
    refine List.forall_mem_cons.2 ⟨P 0 71 _ rfl inb_S1x1x1x86_S1x1x1x86_0_0_0_0 rfl _ rfl, ?_⟩
    refine List.forall_mem_cons.2 ⟨P 0 70 _ rfl inb_S1x1x1x86_S1x1x1x86_0_0_0_0 rfl _ rfl, ?_⟩
    refine List.forall_mem_cons.2 ⟨P 0 69 _ rfl inb_S1x1x1x86_S1x1x1x86_0_0_0_0 rfl _ rfl, ?_⟩
    refine List.forall_mem_cons.2 ⟨P 0 68 _ rfl inb_S1x1x1x86_S1x1x1x86_0_0_0_0 rfl _ rfl, ?_⟩
    refine List.forall_mem_cons.2 ⟨P 0 67 _ rfl inb_S1x1x1x86_S1x1x1x86_0_0_0_0 rfl _ rfl, ?_⟩
    refine List.forall_mem_cons.2 ⟨P 0 66 _ rfl inb_S1x1x1x86_S1x1x1x86_0_0_0_0 rfl _ rfl, ?_⟩
    refine List.forall_mem_cons.2 ⟨P 0 65 _ rfl inb_S1x1x1x86_S1x1x1x86_0_0_0_0 rfl _ rfl, ?_⟩
    refine List.forall_mem_cons.2 ⟨P 0 64 _ rfl inb_S1x1x1x86_S1x1x1x86_0_0_0_0 rfl _ rfl, ?_⟩
    refine List.forall_mem_cons.2 ⟨P 0 63 _ rfl inb_S1x1x1x86_S1x1x1x86_0_0_0_0 rfl _ rfl, ?_⟩
    refine List.forall_mem_cons.2 ⟨P 0 62 _ rfl inb_S1x1x1x86_S1x1x1x86_0_0_0_0 rfl _ rfl, ?_⟩
    refine List.forall_mem_cons.2 ⟨P 0 61 _ rfl inb_S1x1x1x86_S1x1x1x86_0_0_0_0 rfl _ rfl, ?_⟩
    refine List.forall_mem_cons.2 ⟨P 0 60 _ rfl inb_S1x1x1x86_S1x1x1x86_0_0_0_0 rfl _ rfl, ?_⟩
    refine List.forall_mem_cons.2 ⟨P 0 59 _ rfl inb_S1x1x1x86_S1x1x1x86_0_0_0_0 rfl _ rfl, ?_⟩
    refine List.forall_mem_cons.2 ⟨P 0 58 _ rfl inb_S1x1x1x86_S1x1x1x86_0_0_0_0 rfl _ rfl, ?_⟩
    refine List.forall_mem_cons.2 ⟨P 0 57 _ rfl inb_S1x1x1x86_S1x1x1x86_0_0_0_0 rfl _ rfl, ?_⟩
    refine List.forall_mem_cons.2 ⟨P 0 56 _ rfl inb_S1x1x1x86_S1x1x1x86_0_0_0_0 rfl _ rfl, ?_⟩
    refine List.forall_mem_cons.2 ⟨P 0 55 _ rfl inb_S1x1x1x86_S1x1x1x86_0_0_0_0 rfl _ rfl, ?_⟩
    refine List.forall_mem_cons.2 ⟨P 0 54 _ rfl inb_S1x1x1x86_S1x1x1x86_0_0_0_0 rfl _ rfl, ?_⟩
    refine List.forall_mem_cons.2 ⟨P 0 53 _ rfl inb_S1x1x1x86_S1x1x1x86_0_0_0_0 rfl _ rfl, ?_⟩
    refine List.forall_mem_cons.2 ⟨P 0 52 _ rfl inb_S1x1x1x86_S1x1x1x86_0_0_0_0 rfl _ rfl, ?_⟩
    refine List.forall_mem_cons.2 ⟨P 0 51 _ rfl inb_S1x1x1x86_S1x1x1x86_0_0_0_0 rfl _ rfl, ?_⟩
    refine List.forall_mem_cons.2 ⟨P 0 50 _ rfl inb_S1x1x1x86_S1x1x1x86_0_0_0_0 rfl _ rfl, ?_⟩
    refine List.forall_mem_cons.2 ⟨P 0 49 _ rfl inb_S1x1x1x86_S1x1x1x86_0_0_0_0 rfl _ rfl, ?_⟩
    refine List.forall_mem_cons.2 ⟨P 0 48 _ rfl inb_S1x1x1x86_S1x1x1x86_0_0_0_0 rfl _ rfl, ?_⟩
    refine List.forall_mem_cons.2 ⟨P 0 47 _ rfl inb_S1x1x1x86_S1x1x1x86_0_0_0_0 rfl _ rfl, ?_⟩
    refine List.forall_mem_cons.2 ⟨P 0 46 _ rfl inb_S1x1x1x86_S1x1x1x86_0_0_0_0 rfl _ rfl, ?_⟩
    refine List.forall_mem_cons.2 ⟨P 0 45 _ rfl inb_S1x1x1x86_S1x1x1x86_0_0_0_0 rfl _ rfl, ?_⟩
    refine List.forall_mem_cons.2 ⟨P 0 44 _ rfl inb_S1x1x1x86_S1x1x1x86_0_0_0_0 rfl _ rfl, ?_⟩
    refine List.forall_mem_cons.2 ⟨P 0 43 _ rfl inb_S1x1x1x86_S1x1x1x86_0_0_0_0 rfl _ rfl, ?_⟩
    refine List.forall_mem_cons.2 ⟨P 0 42 _ rfl inb_S1x1x1x86_S1x1x1x86_0_0_0_0 rfl _ rfl, ?_⟩
    refine List.forall_mem_cons.2 ⟨P 0 41 _ rfl inb_S1x1x1x86_S1x1x1x86_0_0_0_0 rfl _ rfl, ?_⟩
    refine List.forall_mem_cons.2 ⟨P 0 40 _ rfl inb_S1x1x1x86_S1x1x1x86_0_0_0_0 rfl _ rfl, ?_⟩
    refine List.forall_mem_cons.2 ⟨P 0 39 _ rfl inb_S1x1x1x86_S1x1x1x86_0_0_0_0 rfl _ rfl, ?_⟩
    refine List.forall_mem_cons.2 ⟨P 0 38 _ rfl inb_S1x1x1x86_S1x1x1x86_0_0_0_0 rfl _ rfl, ?_⟩
    refine List.forall_mem_cons.2 ⟨P 0 37 _ rfl inb_S1x1x1x86_S1x1x1x86_0_0_0_0 rfl _ rfl, ?_⟩
    refine List.forall_mem_cons.2 ⟨P 0 36 _ rfl inb_S1x1x1x86_S1x1x1x86_0_0_0_0 rfl _ rfl, ?_⟩
    refine List.forall_mem_cons.2 ⟨P 0 35 _ rfl inb_S1x1x1x86_S1x1x1x86_0_0_0_0 rfl _ rfl, ?_⟩
    refine List.forall_mem_cons.2 ⟨P 0 34 _ rfl inb_S1x1x1x86_S1x1x1x86_0_0_0_0 rfl _ rfl, ?_⟩
    refine List.forall_mem_cons.2 ⟨P 0 33 _ rfl inb_S1x1x1x86_S1x1x1x86_0_0_0_0 rfl _ rfl, ?_⟩
    refine List.forall_mem_cons.2 ⟨P 0 32 _ rfl inb_S1x1x1x86_S1x1x1x86_0_0_0_0 rfl _ rfl, ?_⟩
    refine List.forall_mem_cons.2 ⟨P 0 31 _ rfl inb_S1x1x1x86_S1x1x1x86_0_0_0_0 rfl _ rfl, ?_⟩
    refine List.forall_mem_cons.2 ⟨P 0 30 _ rfl inb_S1x1x1x86_S1x1x1x86_0_0_0_0 rfl _ rfl, ?_⟩
    refine List.forall_mem_cons.2 ⟨P 0 29 _ rfl inb_S1x1x1x86_S1x1x1x86_0_0_0_0 rfl _ rfl, ?_⟩
    refine List.forall_mem_cons.2 ⟨P 0 28 _ rfl inb_S1x1x1x86_S1x1x1x86_0_0_0_0 rfl _ rfl, ?_⟩
    refine List.forall_mem_cons.2 ⟨P 0 27 _ rfl inb_S1x1x1x86_S1x1x1x86_0_0_0_0 rfl _ rfl, ?_⟩
    refine List.forall_mem_cons.2 ⟨P 0 26 _ rfl inb_S1x1x1x86_S1x1x1x86_0_0_0_0 rfl _ rfl, ?_⟩
    refine List.forall_mem_cons.2 ⟨P 0 25 _ rfl inb_S1x1x1x86_S1x1x1x86_0_0_0_0 rfl _ rfl, ?_⟩
    refine List.forall_mem_cons.2 ⟨P 0 24 _ rfl inb_S1x1x1x86_S1x1x1x86_0_0_0_0 rfl _ rfl, ?_⟩
    refine List.forall_mem_cons.2 ⟨P 0 23 _ rfl inb_S1x1x1x86_S1x1x1x86_0_0_0_0 rfl _ rfl, ?_⟩
    refine List.forall_mem_cons.2 ⟨P 0 22 _ rfl inb_S1x1x1x86_S1x1x1x86_0_0_0_0 rfl _ rfl, ?_⟩
    refine List.forall_mem_cons.2 ⟨P 0 21 _ rfl inb_S1x1x1x86_S1x1x1x86_0_0_0_0 rfl _ rfl, ?_⟩
    refine List.forall_mem_cons.2 ⟨P 0 20 _ rfl inb_S1x1x1x86_S1x1x1x86_0_0_0_0 rfl _ rfl, ?_⟩
    refine List.forall_mem_cons.2 ⟨P 0 19 _ rfl inb_S1x1x1x86_S1x1x1x86_0_0_0_0 rfl _ rfl, ?_⟩
    refine List.forall_mem_cons.2 ⟨P 0 18 _ rfl inb_S1x1x1x86_S1x1x1x86_0_0_0_0 rfl _ rfl, ?_⟩
    refine List.forall_mem_cons.2 ⟨P 0 17 _ rfl inb_S1x1x1x86_S1x1x1x86_0_0_0_0 rfl _ rfl, ?_⟩
    refine List.forall_mem_cons.2 ⟨P 0 16 _ rfl inb_S1x1x1x86_S1x1x1x86_0_0_0_0 rfl _ rfl, ?_⟩
    refine List.forall_mem_cons.2 ⟨P 0 15 _ rfl inb_S1x1x1x86_S1x1x1x86_0_0_0_0 rfl _ rfl, ?_⟩
    refine List.forall_mem_cons.2 ⟨P 0 14 _ rfl inb_S1x1x1x86_S1x1x1x86_0_0_0_0 rfl _ rfl, ?_⟩
    refine List.forall_mem_cons.2 ⟨P 0 13 _ rfl inb_S1x1x1x86_S1x1x1x86_0_0_0_0 rfl _ rfl, ?_⟩
    refine List.forall_mem_cons.2 ⟨P 0 12 _ rfl inb_S1x1x1x86_S1x1x1x86_0_0_0_0 rfl _ rfl, ?_⟩
    refine List.forall_mem_cons.2 ⟨P 0 11 _ rfl inb_S1x1x1x86_S1x1x1x86_0_0_0_0 rfl _ rfl, ?_⟩
    refine List.forall_mem_cons.2 ⟨P 0 10 _ rfl inb_S1x1x1x86_S1x1x1x86_0_0_0_0 rfl _ rfl, ?_⟩
    refine List.forall_mem_cons.2 ⟨P 0 9 _ rfl inb_S1x1x1x86_S1x1x1x86_0_0_0_0 rfl _ rfl, ?_⟩
    refine List.forall_mem_cons.2 ⟨P 0 8 _ rfl inb_S1x1x1x86_S1x1x1x86_0_0_0_0 rfl _ rfl, ?_⟩
    refine List.forall_mem_cons.2 ⟨P 0 7 _ rfl inb_S1x1x1x86_S1x1x1x86_0_0_0_0 rfl _ rfl, ?_⟩
    refine List.forall_mem_cons.2 ⟨P 0 6 _ rfl inb_S1x1x1x86_S1x1x1x86_0_0_0_0 rfl _ rfl, ?_⟩
    refine List.forall_mem_cons.2 ⟨P 0 5 _ rfl inb_S1x1x1x86_S1x1x1x86_0_0_0_0 rfl _ rfl, ?_⟩
    refine List.forall_mem_cons.2 ⟨P 0 4 _ rfl inb_S1x1x1x86_S1x1x1x86_0_0_0_0 rfl _ rfl, ?_⟩
    refine List.forall_mem_cons.2 ⟨P 0 3 _ rfl inb_S1x1x1x86_S1x1x1x86_0_0_0_0 rfl _ rfl, ?_⟩
    refine List.forall_mem_cons.2 ⟨P 0 2 _ rfl inb_S1x1x1x86_S1x1x1x86_0_0_0_0 rfl _ rfl, ?_⟩
    refine List.forall_mem_cons.2 ⟨P 0 1 _ rfl inb_S1x1x1x86_S1x1x1x86_0_0_0_0 rfl _ rfl, ?_⟩
    refine List.forall_mem_cons.2 ⟨P 0 0 _ rfl inb_S1x1x1x86_S1x1x1x86_0_0_0_0 rfl _ rfl, ?_⟩
    exact fun _ h => absurd h List.not_mem_nil

/-! ## The proof data -/

variable (V : (c : Dev nD) → (b : Ref sig .tc) → Buf (Elt F) ((c : Thread nD τ).loc b)) (D : Dev nD → CellTallies nD τ sig Ix)

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The call's invariant: what it scopes, untouched. -/
def ΦK (c : Dev nD) : sProp 𝕄 :=
  iprop(Pipeline.scopedRest (Ix := Ix) (Name := ℕ) (U := U) (Lvl := Lvl) (Val := Elt F) spec3 c ∗ ∃ r, prngReg c r)

/-- The proof data: the operands' buffers keep their blocks, the result's holds the block the body makes. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => out (iblk V c 0 t) (iblk V c 1 t)
  Φ _ := ΦK (F := F) (Ix := Ix) (U := U) (Lvl := Lvl) c
  q _ := fullShare
  owed _ := D c

theorem A_eq (c : Dev nD) (w : Fin cfg3.W) : (dat (Ix := Ix) (U := U) (Lvl := Lvl) V D c).A w = V c (Pipeline.arrRef spec3 w) := by
  dsimp only [dat]

theorem after_0 (c : Dev nD) (t : Fin cfg3.N) : (dat (Ix := Ix) (U := U) (Lvl := Lvl) V D c).after 0 t = iblk V c 0 t := by dsimp only [dat]
theorem after_1 (c : Dev nD) (t : Fin cfg3.N) : (dat (Ix := Ix) (U := U) (Lvl := Lvl) V D c).after 1 t = iblk V c 1 t := by dsimp only [dat]
theorem after_2 (c : Dev nD) (t : Fin cfg3.N) : (dat (Ix := Ix) (U := U) (Lvl := Lvl) V D c).after 2 t = out (iblk V c 0 t) (iblk V c 1 t) := by dsimp only [dat]

theorem before_0 (c : Dev nD) (t : Fin cfg3.N) (d) : (dat (Ix := Ix) (U := U) (Lvl := Lvl) V D c).before 0 t d = iblk V c 0 t := by
  unfold Dat.before; rw [if_pos (fetch3_0 t)]; rfl
theorem before_1 (c : Dev nD) (t : Fin cfg3.N) (d) : (dat (Ix := Ix) (U := U) (Lvl := Lvl) V D c).before 1 t d = iblk V c 1 t := by
  unfold Dat.before; rw [if_pos (fetch3_1 t)]; rfl

/-! ## The body obligation -/

variable (ι : Ix)

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point. -/
theorem body_obligation (c : Dev nD) : BodyObligation (dat (Ix := Ix) (U := U) (Lvl := Lvl) V D c) (defs₀ (F := F)) 𝒱₀ ι Set.univ := fun t => by
  rw [bigSep_W3, bigSep_W3, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (run 𝒱₀ c (grid3.coords t) _ _ _ _ _ _ (iblk V c 0 t) (iblk V c 1 t) ((dat (Ix := Ix) (U := U) (Lvl := Lvl) V D c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

end Cert.KernelIdeal.Own.DeqWgu

end
-- ==== Proof.KernelIdeal.DhRun.lean ====
/-
  The call that makes the hidden activations and their gradients: what one run of its body does. For each of the groups of
  128 features of a block the stored gate and up codes are dequantised, the product of the output gradient with the down
  weights is taken for up to four groups at once, and the three results are written group by group. The last block of
  features overhangs the arrays, and there only the two groups inside are computed.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.ValueKit

@[expose] public section

set_option maxRecDepth 16384

noncomputable section

namespace Cert.KernelIdeal.Own.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl
/-! ## One group of 128 features -/

theorem slcol : ∀ g : Fin 12, S512x16.Slices ![0, g.val] S512x1 := by decide
theorem sl4 : ∀ g : Fin 12, S512x512.Slices ![0, 128 * (g.val % 4)] S512x128 := by decide
theorem sl2 : ∀ g : Fin 12, S512x256.Slices ![0, 128 * (g.val % 2)] S512x128 := by decide
theorem inbw : ∀ g : Fin 12, ∀ a, (![512 * (g.val / 4), 0] : Fin 2 → ℕ) a + S512x4096.size a ≤ S1536x4096.size a := by decide

/-- The scales of one group, one for each token, spread over the group. -/
def colg (g : Fin 12) (v : FVec F S512x16 .f32) : FVec F S512x128 .bf16 :=
  truncf .bf16 (broadcastTo S512x128 (shapeCast S512x1 (extractStridedSlice S512x1 ![0, g.val] v (slcol g)) shapeCasts_S512x1_S512x1) broadcasts_S512x1_S512x128) bitsLt_bf16_f32

/-- The hidden activations of one group, features by tokens. -/
def hG (b0 b1 : FVec F S512x128 .bf16) (c0 c1 : Vec F S1x1x512x128 .fp8e4m3) : FVec F S128x512 .bf16 := k4_pay28 b0 b1 c0 c1

/-- The gradient of the gate of one group, from the gradient `d` of the activations. -/
def dgG (d : FVec F S512x128 .f32) (b0 b1 : FVec F S512x128 .bf16) (c0 c1 : Vec F S1x1x512x128 .fp8e4m3) : FVec F S1x512x128 .bf16 :=
  shapeCast S1x512x128 (truncf .bf16 (mulf (mulf (mulf d (k4_pay24 b1 c1)) (k4_pay25 b0 c0))
    (addf (broadcast S512x128 (Scalar.ofBits .f32 0x3F800000#32)) (mulf (k4_pay23 b0 c0)
      (subf (broadcast S512x128 (Scalar.ofBits .f32 0x3F800000#32)) (k4_pay25 b0 c0))))) bitsLt_bf16_f32) shapeCasts_S512x128_S1x512x128

/-- The gradient of the up projection of one group, from the gradient `d` of the activations. -/
def duG (d : FVec F S512x128 .f32) (b0 : FVec F S512x128 .bf16) (c0 : Vec F S1x1x512x128 .fp8e4m3) : FVec F S1x512x128 .bf16 :=
  shapeCast S1x512x128 (truncf .bf16 (mulf d (k4_pay26 b0 c0)) bitsLt_bf16_f32) shapeCasts_S512x128_S1x512x128

/-! ## A block of the results in closed form -/

/-- The scales of group `g` of the gate (`k = 0`) or of the up projection, from their block. -/
def colS (x3 : Vec F S1x12x2x512 .f32) (k : Fin 2) (g : Fin 12) : FVec F S512x128 .bf16 :=
  fun j => FloatOps.truncf .bf16 bitsLt_bf16_f32 (x3 (ix4 0 g k (j 0)))

/-- The codes of group `g` of the gate (`k = 0`) or of the up projection, from their block. -/
def cw (x2 : Vec F S1x2x512x1536 .fp8e4m3) (k : Fin 2) (g : Fin 12) : Vec F S1x1x512x128 .fp8e4m3 :=
  fun j => x2 (ix4 0 k (j 2) ⟨128 * g.val + (j 3).val, by have := g.isLt; have : (j 3).val < 128 := (j 3).isLt; omega⟩)

/-- The gradient of the activations of group `g` of a whole block. -/
def dA (x0 : Vec F S512x4096 .bf16) (x1 : Vec F S1536x4096 .bf16) (g : Fin 12) : FVec F S512x128 .f32 :=
  extractStridedSlice S512x128 ![0, 128 * (g.val % 4)] (k4_pay20 x0 (VecWindow.window x1 ![512 * (g.val / 4), 0] S512x4096.size (inbw g))) (sl4 g)

/-- The gradient of the activations of group `g` of the last block, which has two groups. -/
def dB (x0 : Vec F S512x4096 .bf16) (x1 : Vec F S1536x4096 .bf16) (g : Fin 12) : FVec F S512x128 .f32 :=
  extractStridedSlice S512x128 ![0, 128 * (g.val % 2)] (k4_pay133 x0 (VecWindow.window x1 ![0, 0] S256x4096.size inb_S1536x4096_S256x4096_0_0)) (sl2 g)

/-- The group of a feature of a block. -/
def grp (n : ℕ) (h : n < 1536) : Fin 12 := ⟨n / 128, by omega⟩

theorem lt0 (j : S1536x512.Idx) : (j 0).val < 1536 := (j 0).isLt
theorem lt2 (j : S2x512x1536.Idx) : (j 2).val < 1536 := (j 2).isLt

/-- The block of hidden activations. -/
def hOut (x2 : Vec F S1x2x512x1536 .fp8e4m3) (x3 : Vec F S1x12x2x512 .f32) : Vec F S1536x512 .bf16 :=
  fun j => hG (colS x3 0 (grp (j 0).val (lt0 j))) (colS x3 1 (grp (j 0).val (lt0 j))) (cw x2 0 (grp (j 0).val (lt0 j))) (cw x2 1 (grp (j 0).val (lt0 j)))
    (ix2 ⟨(j 0).val % 128, Nat.mod_lt _ (by decide)⟩ (j 1))

/-- The block of gradients of gate and up projection, from the gradient of the activations of each group. -/
def dOut (d : Fin 12 → FVec F S512x128 .f32) (x2 : Vec F S1x2x512x1536 .fp8e4m3) (x3 : Vec F S1x12x2x512 .f32) : Vec F S2x512x1536 .bf16 :=
  fun j => if (j 0).val = 0 then
      dgG (d (grp (j 2).val (lt2 j))) (colS x3 0 (grp (j 2).val (lt2 j))) (colS x3 1 (grp (j 2).val (lt2 j))) (cw x2 0 (grp (j 2).val (lt2 j))) (cw x2 1 (grp (j 2).val (lt2 j)))
        (ix3 0 (j 1) ⟨(j 2).val % 128, Nat.mod_lt _ (by decide)⟩)
    else
      duG (d (grp (j 2).val (lt2 j))) (colS x3 0 (grp (j 2).val (lt2 j))) (cw x2 0 (grp (j 2).val (lt2 j)))
        (ix3 0 (j 1) ⟨(j 2).val % 128, Nat.mod_lt _ (by decide)⟩)

theorem grp_eq (n : ℕ) (h : n < 1536) (g : Fin 12) (r : ℕ) (hr : r < 128) (e : n = 128 * g.val + r) : grp n h = g := Fin.ext (by show n / 128 = g.val; omega)

/-! ## What the body reads and writes -/

/-- A load of a whole buffer reads what the buffer holds. -/
theorem ldFull {sp : Space} {s : Shape} {e : EltTy} (m : Memref sig .tc sp s e) (h : m.IsWhole) (x : Vec F s e) {off : Fin s.rank → ℕ}
    (inb : ∀ a, off a + s.size a ≤ s.size a) : m.view.readAt (Elt F) (Rect.unit off s.size inb).toLoadRect (h.unread x) = x :=
  (View.readAt_full _ _ _).trans (h.read_unread _)

/-- A load of a part of a buffer reads that part of what the buffer holds. -/
theorem ldTail {sp : Space} {s : Shape} {e : EltTy} (m : Memref sig .tc sp s e) (h : m.IsWhole) (x : Vec F s e) {off off' size : Fin s.rank → ℕ}
    (inb : ∀ a, off a + size a ≤ s.size a) (he : off = off') (inb' : ∀ a, off' a + size a ≤ s.size a) :
    m.view.readAt (Elt F) (Rect.unit off size inb).toLoadRect (h.unread x) = VecWindow.window x off' size inb' :=
  (View.readAt_unit _ _ _ he inb').trans (by rw [h.read_unread])

/-- A load of a group's codes. -/
theorem ldC (m : Memref sig .tc .vmem S1x2x512x1536 .fp8e4m3) (h : m.IsWhole) (x2 : Vec F S1x2x512x1536 .fp8e4m3) (k : Fin 2) (g : Fin 12) {off : Fin 4 → ℕ}
    (inb : ∀ a, off a + S1x1x512x128.size a ≤ S1x2x512x1536.size a) (he : off = ![0, k.val, 0, 128 * g.val]) :
    m.view.readAt (Elt F) (Rect.unit (s := S1x2x512x1536) off S1x1x512x128.size inb).toLoadRect (h.unread x2) = cw x2 k g := by
  subst he
  rw [ldTail m h x2 inb rfl inb]
  funext j
  show x2 _ = x2 _
  congr 1; funext a; apply Fin.ext
  have h0 : (j 0).val = 0 := by have : (j 0).val < 1 := (j 0).isLt; omega
  have h1 : (j 1).val = 0 := by have : (j 1).val < 1 := (j 1).isLt; omega
  fin_cases a
  · show 0 + 1 * (j 0).val = 0; omega
  · show k.val + 1 * (j 1).val = k.val; omega
  · show 0 + 1 * (j 2).val = (j 2).val; omega
  · show 128 * g.val + 1 * (j 3).val = 128 * g.val + (j 3).val; omega

section Scratch
variable (arg5 : Memref sig .tc .vmem S1x12x2x512 .f32) (harg5 : arg5.IsWhole) (arg8 : Memref sig .tc .vmem S2x16x512 .f32) (harg8 : arg8.IsWhole)
  (x3 : Vec F S1x12x2x512 .f32) (a : Vec F S2x16x512 .f32)

/-- The scratch's writes: the scales of gate and up projection. -/
def scrL : List (View.Piece (Elt F) S2x16x512 .f32) :=
  [⟨Rect.unit ![1, 0, 0] S1x12x512.size inb_S2x16x512_S1x12x512_1_0_0,
      k4_pay17 (arg5.view.readAt (Elt F) (Rect.unit (s := S1x12x2x512) ![0, 0, 1, 0] S1x12x1x512.size inb_S1x12x2x512_S1x12x1x512_0_0_1_0).toLoadRect (harg5.unread x3))⟩,
    ⟨Rect.unit ![0, 0, 0] S1x12x512.size inb_S2x16x512_S1x12x512_0_0_0,
      k4_pay16 (arg5.view.readAt (Elt F) (Rect.unit (s := S1x12x2x512) ![0, 0, 0, 0] S1x12x1x512.size inb_S1x12x2x512_S1x12x1x512_0_0_0_0).toLoadRect (harg5.unread x3))⟩]
/-- The scales of the gate, read back from the scratch. -/
def v16 : Vec F S1x16x512 .f32 :=
  arg8.view.readAt (Elt F) (Rect.unit (s := S2x16x512) ![0, 0, 0] S1x16x512.size inb_S2x16x512_S1x16x512_0_0_0).toLoadRect (arg8.view.writes (Elt F) (harg8.unread a) (scrL arg5 harg5 x3))
/-- The scales of the up projection, read back from the scratch. -/
def v19 : Vec F S1x16x512 .f32 :=
  arg8.view.readAt (Elt F) (Rect.unit (s := S2x16x512) ![1, 0, 0] S1x16x512.size inb_S2x16x512_S1x16x512_1_0_0).toLoadRect (arg8.view.writes (Elt F) (harg8.unread a) (scrL arg5 harg5 x3))

theorem v16_apply (g : Fin 12) (r : Fin 512) : v16 arg5 harg5 arg8 harg8 x3 a (ix3 0 ⟨g.val, Nat.lt_of_lt_of_le g.isLt (by decide)⟩ r) = x3 (ix4 0 g 0 r) := by
  unfold v16 scrL
  rw [View.readAt_unit _ _ _ rfl inb_S2x16x512_S1x16x512_0_0_0]
  show View.read _ _ _ _ = _
  rw [View.read_writes_cons_unit_of_not_mem _ _ _ _ _ _ rfl (0 : Fin 3) (.inl (by show 0 + 1 * 0 < 1; decide))]
  rw [View.read_writes_cons_unit_of_mem _ _ _ _ _ _ (ix3 0 g r : S1x12x512.Idx) rfl (fun b => by fin_cases b <;> simp [Rect.emb_apply])]
  rw [ldTail arg5 harg5 x3 _ rfl inb_S1x12x2x512_S1x12x1x512_0_0_0_0]
  pointwise [k4_pay16]
  show x3 _ = x3 _
  congr 1; funext b; apply Fin.ext; fin_cases b <;> simp [Rect.emb_apply]

theorem v19_apply (g : Fin 12) (r : Fin 512) : v19 arg5 harg5 arg8 harg8 x3 a (ix3 0 ⟨g.val, Nat.lt_of_lt_of_le g.isLt (by decide)⟩ r) = x3 (ix4 0 g 1 r) := by
  unfold v19 scrL
  rw [View.readAt_unit _ _ _ rfl inb_S2x16x512_S1x16x512_1_0_0]
  show View.read _ _ _ _ = _
  rw [View.read_writes_cons_unit_of_mem _ _ _ _ _ _ (ix3 0 g r : S1x12x512.Idx) rfl (fun b => by fin_cases b <;> simp [Rect.emb_apply])]
  rw [ldTail arg5 harg5 x3 _ rfl inb_S1x12x2x512_S1x12x1x512_0_0_1_0]
  pointwise [k4_pay17]
  show x3 _ = x3 _
  congr 1; funext b; apply Fin.ext; fin_cases b <;> simp [Rect.emb_apply]

theorem col16 (g : Fin 12) : colg g (k4_pay18 (v16 arg5 harg5 arg8 harg8 x3 a)) = colS x3 0 g := by
  funext j
  refine Eq.trans ?_ (congrArg (FloatOps.truncf .bf16 bitsLt_bf16_f32) (v16_apply arg5 harg5 arg8 harg8 x3 a g (j 0)))
  generalize v16 arg5 harg5 arg8 harg8 x3 a = v
  pointwise [colg, k4_pay18]

theorem col19 (g : Fin 12) : colg g (k4_pay19 (v19 arg5 harg5 arg8 harg8 x3 a)) = colS x3 1 g := by
  funext j
  refine Eq.trans ?_ (congrArg (FloatOps.truncf .bf16 bitsLt_bf16_f32) (v19_apply arg5 harg5 arg8 harg8 x3 a g (j 0)))
  generalize v19 arg5 harg5 arg8 harg8 x3 a = v
  pointwise [colg, k4_pay19]

end Scratch

/-! ## The pieces written -/

section Pieces
variable (x2 : Vec F S1x2x512x1536 .fp8e4m3) (x3 : Vec F S1x12x2x512 .f32) (d : Fin 12 → FVec F S512x128 .f32) (g : Fin 12)
  {u w : FVec F S512x16 .f32} {C C' : Vec F S1x1x512x128 .fp8e4m3}

/-- A group's hidden activations are that group's rows of the block. -/
theorem hPiece {off : Fin 2 → ℕ} (inb : ∀ a, off a + S128x512.size a ≤ S1536x512.size a) (he : off = ![128 * g.val, 0])
    (hu : colg g u = colS x3 0 g) (hw : colg g w = colS x3 1 g) (hC : C = cw x2 0 g) (hC' : C' = cw x2 1 g)
    (p : FVec F S128x512 .bf16) (hp : p = hG (colg g u) (colg g w) C C') (x : S128x512.Idx) :
    p x = hOut x2 x3 ((Rect.unit (s := S1536x512) off S128x512.size inb).emb x) := by
  subst he hC hC' hp
  rw [hu, hw]
  have h0 : (x 0).val < 128 := (x 0).isLt
  have e0 : ((Rect.unit (s := S1536x512) ![128 * g.val, 0] S128x512.size inb).emb x 0).val = 128 * g.val + (x 0).val := by
    show 128 * g.val + 1 * (x 0).val = _; omega
  have e1 : (Rect.unit (s := S1536x512) ![128 * g.val, 0] S128x512.size inb).emb x 1 = x 1 := Fin.ext (by show 0 + 1 * (x 1).val = _; omega)
  unfold hOut
  rw [grp_eq _ _ g (x 0).val h0 e0, e1]
  congr 1; funext a; fin_cases a
  · apply Fin.ext; show (x 0).val = _ % 128; rw [e0]; omega
  · rfl

/-- A group's gradient of the gate is that group's columns of the first half of the block. -/
theorem dgPiece {off : Fin 3 → ℕ} (inb : ∀ a, off a + S1x512x128.size a ≤ S2x512x1536.size a) (he : off = ![0, 0, 128 * g.val])
    (hu : colg g u = colS x3 0 g) (hw : colg g w = colS x3 1 g) (hC : C = cw x2 0 g) (hC' : C' = cw x2 1 g)
    {D : FVec F S512x128 .f32} (hD : D = d g)
    (p : FVec F S1x512x128 .bf16) (hp : p = dgG D (colg g u) (colg g w) C C') (x : S1x512x128.Idx) :
    p x = dOut d x2 x3 ((Rect.unit (s := S2x512x1536) off S1x512x128.size inb).emb x) := by
  subst he hC hC' hD hp
  rw [hu, hw]
  have hx0 : (x 0).val = 0 := by have : (x 0).val < 1 := (x 0).isLt; omega
  have h0 : (x 2).val < 128 := (x 2).isLt
  have e0 : ((Rect.unit (s := S2x512x1536) ![0, 0, 128 * g.val] S1x512x128.size inb).emb x 0).val = 0 := by
    show 0 + 1 * (x 0).val = _; omega
  have e1 : (Rect.unit (s := S2x512x1536) ![0, 0, 128 * g.val] S1x512x128.size inb).emb x 1 = x 1 := Fin.ext (by show 0 + 1 * (x 1).val = _; omega)
  have e2 : ((Rect.unit (s := S2x512x1536) ![0, 0, 128 * g.val] S1x512x128.size inb).emb x 2).val = 128 * g.val + (x 2).val := by
    show 128 * g.val + 1 * (x 2).val = _; omega
  unfold dOut
  rw [grp_eq _ _ g (x 2).val h0 e2, if_pos e0, e1]
  congr 1; funext a; fin_cases a
  · apply Fin.ext; exact hx0
  · rfl
  · apply Fin.ext; show (x 2).val = _ % 128; rw [e2]; omega

/-- A group's gradient of the up projection is that group's columns of the second half of the block. -/
theorem duPiece {off : Fin 3 → ℕ} (inb : ∀ a, off a + S1x512x128.size a ≤ S2x512x1536.size a) (he : off = ![1, 0, 128 * g.val])
    (hu : colg g u = colS x3 0 g) (hC : C = cw x2 0 g) {D : FVec F S512x128 .f32} (hD : D = d g)
    (p : FVec F S1x512x128 .bf16) (hp : p = duG D (colg g u) C) (x : S1x512x128.Idx) :
    p x = dOut d x2 x3 ((Rect.unit (s := S2x512x1536) off S1x512x128.size inb).emb x) := by
  subst he hC hD hp
  rw [hu]
  have hx0 : (x 0).val = 0 := by have : (x 0).val < 1 := (x 0).isLt; omega
  have h0 : (x 2).val < 128 := (x 2).isLt
  have e0 : ¬ ((Rect.unit (s := S2x512x1536) ![1, 0, 128 * g.val] S1x512x128.size inb).emb x 0).val = 0 := by
    show ¬ 1 + 1 * (x 0).val = 0; omega
  have e1 : (Rect.unit (s := S2x512x1536) ![1, 0, 128 * g.val] S1x512x128.size inb).emb x 1 = x 1 := Fin.ext (by show 0 + 1 * (x 1).val = _; omega)
  have e2 : ((Rect.unit (s := S2x512x1536) ![1, 0, 128 * g.val] S1x512x128.size inb).emb x 2).val = 128 * g.val + (x 2).val := by
    show 128 * g.val + 1 * (x 2).val = _; omega
  unfold dOut
  rw [grp_eq _ _ g (x 2).val h0 e2, if_neg e0, e1]
  congr 1; funext a; fin_cases a
  · apply Fin.ext; exact hx0
  · rfl
  · apply Fin.ext; show (x 2).val = _ % 128; rw [e2]; omega

end Pieces

/-! ## One run of the body -/

variable (𝒱₀ : Variants)

section Runs
variable (c : Dev nD) (i : grid4.Coords) (arg2 : Memref sig .tc .vmem S512x4096 .bf16) (harg2 : arg2.IsWhole) (arg3 : Memref sig .tc .vmem S1536x4096 .bf16) (harg3 : arg3.IsWhole)
  (arg4 : Memref sig .tc .vmem S1x2x512x1536 .fp8e4m3) (harg4 : arg4.IsWhole) (arg5 : Memref sig .tc .vmem S1x12x2x512 .f32) (harg5 : arg5.IsWhole)
  (arg6 : Memref sig .tc .vmem S1536x512 .bf16) (harg6 : arg6.IsWhole) (arg7 : Memref sig .tc .vmem S2x512x1536 .bf16) (harg7 : arg7.IsWhole)
  (arg8 : Memref sig .tc .vmem S2x16x512 .f32) (harg8 : arg8.IsWhole)
  (x0 : Vec F S512x4096 .bf16) (x1 : Vec F S1536x4096 .bf16) (x2 : Vec F S1x2x512x1536 .fp8e4m3) (x3 : Vec F S1x12x2x512 .f32)
  (d4 : Vec F S1536x512 .bf16) (d5 : Vec F S2x512x1536 .bf16) (a : Vec F S2x16x512 .f32) (E : Set ℕ)

theorem ldD0 {off : Fin 2 → ℕ} (inb : ∀ a, off a + S512x4096.size a ≤ S512x4096.size a) : arg2.view.readAt (Elt F) (Rect.unit (s := S512x4096) off S512x4096.size inb).toLoadRect (harg2.unread x0) = x0 :=
  ldFull arg2 harg2 x0 inb
theorem ldD1 (g : Fin 12) {off : Fin 2 → ℕ} (inb : ∀ a, off a + S512x4096.size a ≤ S1536x4096.size a) (he : off = ![512 * (g.val / 4), 0]) :
    arg3.view.readAt (Elt F) (Rect.unit (s := S1536x4096) off S512x4096.size inb).toLoadRect (harg3.unread x1) = VecWindow.window x1 ![512 * (g.val / 4), 0] S512x4096.size (inbw g) :=
  ldTail arg3 harg3 x1 inb he _

/-- The gradient of the activations of a group, from the operands' buffers. -/
def DA (g : Fin 12) {off0 off : Fin 2 → ℕ} (inb0 : ∀ a, off0 a + S512x4096.size a ≤ S512x4096.size a) (inb : ∀ a, off a + S512x4096.size a ≤ S1536x4096.size a) : FVec F S512x128 .f32 :=
  extractStridedSlice S512x128 ![0, 128 * (g.val % 4)] (k4_pay20 (arg2.view.readAt (Elt F) (Rect.unit (s := S512x4096) off0 S512x4096.size inb0).toLoadRect (harg2.unread x0))
    (arg3.view.readAt (Elt F) (Rect.unit (s := S1536x4096) off S512x4096.size inb).toLoadRect (harg3.unread x1))) (sl4 g)

theorem DA_eq (g : Fin 12) {off0 off : Fin 2 → ℕ} (inb0 : ∀ a, off0 a + S512x4096.size a ≤ S512x4096.size a) (inb : ∀ a, off a + S512x4096.size a ≤ S1536x4096.size a)
    (he : off = ![512 * (g.val / 4), 0]) : DA arg2 harg2 arg3 harg3 x0 x1 g inb0 inb = dA x0 x1 g := by
  unfold DA dA
  rw [ldD0, ldD1 arg3 harg3 x1 g inb he]

/-- A whole block of features. -/
theorem runA (K : PUnit → sProp 𝕄) (h1 : k4_cond1 i = 1#1) (h2 : ¬ k4_cond2 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d4 ∗ owns (c : Thread nD τ) arg7 fullShare d5
        ∗ owns (c : Thread nD τ) arg8 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (hOut x2 x3)
            ∗ owns (c : Thread nD τ) arg7 fullShare (dOut (dA x0 x1) x2 x3) ∗ ∃ a', owns (c : Thread nD τ) arg8 fullShare a') -∗ K ⟨⟩))
      ⊢ wp frame (wpE (defs₀ (F := F)) 𝒱₀ c none) E (cc4_dh_swiglu i arg2 harg2 arg3 harg3 arg4 harg4 arg5 harg5 arg6 harg6 arg7 harg7 arg8 harg8) K := by
  simp only [cc4_dh_swiglu_eq_skeleton]; unfold cc4_dh_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    funext y
    refine View.read_writes_apply_of_pieces _ _ _ _ ?_ y (View.cover_of_tiledL (s := S1536x512) _ S128x512.size (by sl_kernel_rfl) y)
    exact (List.forall_mem_cons.2 ⟨hPiece x2 x3 11 inb_S1536x512_S128x512_1408_0 rfl (col16 arg5 harg5 arg8 harg8 x3 a 11) (col19 arg5 harg5 arg8 harg8 x3 a 11) (ldC arg4 harg4 x2 0 11 inb_S1x2x512x1536_S1x1x512x128_0_0_0_1408 rfl) (ldC arg4 harg4 x2 1 11 inb_S1x2x512x1536_S1x1x512x128_0_1_0_1408 rfl) _ rfl,
      (List.forall_mem_cons.2 ⟨hPiece x2 x3 10 inb_S1536x512_S128x512_1280_0 rfl (col16 arg5 harg5 arg8 harg8 x3 a 10) (col19 arg5 harg5 arg8 harg8 x3 a 10) (ldC arg4 harg4 x2 0 10 inb_S1x2x512x1536_S1x1x512x128_0_0_0_1280 rfl) (ldC arg4 harg4 x2 1 10 inb_S1x2x512x1536_S1x1x512x128_0_1_0_1280 rfl) _ rfl,
      (List.forall_mem_cons.2 ⟨hPiece x2 x3 9 inb_S1536x512_S128x512_1152_0 rfl (col16 arg5 harg5 arg8 harg8 x3 a 9) (col19 arg5 harg5 arg8 harg8 x3 a 9) (ldC arg4 harg4 x2 0 9 inb_S1x2x512x1536_S1x1x512x128_0_0_0_1152 rfl) (ldC arg4 harg4 x2 1 9 inb_S1x2x512x1536_S1x1x512x128_0_1_0_1152 rfl) _ rfl,
      (List.forall_mem_cons.2 ⟨hPiece x2 x3 8 inb_S1536x512_S128x512_1024_0 rfl (col16 arg5 harg5 arg8 harg8 x3 a 8) (col19 arg5 harg5 arg8 harg8 x3 a 8) (ldC arg4 harg4 x2 0 8 inb_S1x2x512x1536_S1x1x512x128_0_0_0_1024 rfl) (ldC arg4 harg4 x2 1 8 inb_S1x2x512x1536_S1x1x512x128_0_1_0_1024 rfl) _ rfl,
      (List.forall_mem_cons.2 ⟨hPiece x2 x3 7 inb_S1536x512_S128x512_896_0 rfl (col16 arg5 harg5 arg8 harg8 x3 a 7) (col19 arg5 harg5 arg8 harg8 x3 a 7) (ldC arg4 harg4 x2 0 7 inb_S1x2x512x1536_S1x1x512x128_0_0_0_896 rfl) (ldC arg4 harg4 x2 1 7 inb_S1x2x512x1536_S1x1x512x128_0_1_0_896 rfl) _ rfl,
      (List.forall_mem_cons.2 ⟨hPiece x2 x3 6 inb_S1536x512_S128x512_768_0 rfl (col16 arg5 harg5 arg8 harg8 x3 a 6) (col19 arg5 harg5 arg8 harg8 x3 a 6) (ldC arg4 harg4 x2 0 6 inb_S1x2x512x1536_S1x1x512x128_0_0_0_768 rfl) (ldC arg4 harg4 x2 1 6 inb_S1x2x512x1536_S1x1x512x128_0_1_0_768 rfl) _ rfl,
      (List.forall_mem_cons.2 ⟨hPiece x2 x3 5 inb_S1536x512_S128x512_640_0 rfl (col16 arg5 harg5 arg8 harg8 x3 a 5) (col19 arg5 harg5 arg8 harg8 x3 a 5) (ldC arg4 harg4 x2 0 5 inb_S1x2x512x1536_S1x1x512x128_0_0_0_640 rfl) (ldC arg4 harg4 x2 1 5 inb_S1x2x512x1536_S1x1x512x128_0_1_0_640 rfl) _ rfl,
      (List.forall_mem_cons.2 ⟨hPiece x2 x3 4 inb_S1536x512_S128x512_512_0 rfl (col16 arg5 harg5 arg8 harg8 x3 a 4) (col19 arg5 harg5 arg8 harg8 x3 a 4) (ldC arg4 harg4 x2 0 4 inb_S1x2x512x1536_S1x1x512x128_0_0_0_512 rfl) (ldC arg4 harg4 x2 1 4 inb_S1x2x512x1536_S1x1x512x128_0_1_0_512 rfl) _ rfl,
      (List.forall_mem_cons.2 ⟨hPiece x2 x3 3 inb_S1536x512_S128x512_384_0 rfl (col16 arg5 harg5 arg8 harg8 x3 a 3) (col19 arg5 harg5 arg8 harg8 x3 a 3) (ldC arg4 harg4 x2 0 3 inb_S1x2x512x1536_S1x1x512x128_0_0_0_384 rfl) (ldC arg4 harg4 x2 1 3 inb_S1x2x512x1536_S1x1x512x128_0_1_0_384 rfl) _ rfl,
      (List.forall_mem_cons.2 ⟨hPiece x2 x3 2 inb_S1536x512_S128x512_256_0 rfl (col16 arg5 harg5 arg8 harg8 x3 a 2) (col19 arg5 harg5 arg8 harg8 x3 a 2) (ldC arg4 harg4 x2 0 2 inb_S1x2x512x1536_S1x1x512x128_0_0_0_256 rfl) (ldC arg4 harg4 x2 1 2 inb_S1x2x512x1536_S1x1x512x128_0_1_0_256 rfl) _ rfl,
      (List.forall_mem_cons.2 ⟨hPiece x2 x3 1 inb_S1536x512_S128x512_128_0 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) _ rfl,
      (List.forall_mem_cons.2 ⟨hPiece x2 x3 0 inb_S1536x512_S128x512_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) _ rfl,
      (fun _ h => absurd h List.not_mem_nil)⟩)⟩)⟩)⟩)⟩)⟩)⟩)⟩)⟩)⟩)⟩)⟩)
  isplitl [H5]
  · iexists _; isplitr
    swap; · iexact H5
    ipureintro
    funext y
    refine View.read_writes_apply_of_pieces _ _ _ _ ?_ y (View.cover_of_tiledL (s := S2x512x1536) _ S1x512x128.size (by sl_kernel_rfl) y)
    exact (List.forall_mem_cons.2 ⟨duPiece x2 x3 (dA x0 x1) 11 inb_S2x512x1536_S1x512x128_1_0_1408 rfl (col16 arg5 harg5 arg8 harg8 x3 a 11) (ldC arg4 harg4 x2 0 11 inb_S1x2x512x1536_S1x1x512x128_0_0_0_1408 rfl) (DA_eq arg2 harg2 arg3 harg3 x0 x1 11 inb_S512x4096_S512x4096_0_0 inb_S1536x4096_S512x4096_1024_0 rfl) _ rfl,
      (List.forall_mem_cons.2 ⟨dgPiece x2 x3 (dA x0 x1) 11 inb_S2x512x1536_S1x512x128_0_0_1408 rfl (col16 arg5 harg5 arg8 harg8 x3 a 11) (col19 arg5 harg5 arg8 harg8 x3 a 11) (ldC arg4 harg4 x2 0 11 inb_S1x2x512x1536_S1x1x512x128_0_0_0_1408 rfl) (ldC arg4 harg4 x2 1 11 inb_S1x2x512x1536_S1x1x512x128_0_1_0_1408 rfl) (DA_eq arg2 harg2 arg3 harg3 x0 x1 11 inb_S512x4096_S512x4096_0_0 inb_S1536x4096_S512x4096_1024_0 rfl) _ rfl,
      (List.forall_mem_cons.2 ⟨duPiece x2 x3 (dA x0 x1) 10 inb_S2x512x1536_S1x512x128_1_0_1280 rfl (col16 arg5 harg5 arg8 harg8 x3 a 10) (ldC arg4 harg4 x2 0 10 inb_S1x2x512x1536_S1x1x512x128_0_0_0_1280 rfl) (DA_eq arg2 harg2 arg3 harg3 x0 x1 10 inb_S512x4096_S512x4096_0_0 inb_S1536x4096_S512x4096_1024_0 rfl) _ rfl,
      (List.forall_mem_cons.2 ⟨dgPiece x2 x3 (dA x0 x1) 10 inb_S2x512x1536_S1x512x128_0_0_1280 rfl (col16 arg5 harg5 arg8 harg8 x3 a 10) (col19 arg5 harg5 arg8 harg8 x3 a 10) (ldC arg4 harg4 x2 0 10 inb_S1x2x512x1536_S1x1x512x128_0_0_0_1280 rfl) (ldC arg4 harg4 x2 1 10 inb_S1x2x512x1536_S1x1x512x128_0_1_0_1280 rfl) (DA_eq arg2 harg2 arg3 harg3 x0 x1 10 inb_S512x4096_S512x4096_0_0 inb_S1536x4096_S512x4096_1024_0 rfl) _ rfl,
      (List.forall_mem_cons.2 ⟨duPiece x2 x3 (dA x0 x1) 9 inb_S2x512x1536_S1x512x128_1_0_1152 rfl (col16 arg5 harg5 arg8 harg8 x3 a 9) (ldC arg4 harg4 x2 0 9 inb_S1x2x512x1536_S1x1x512x128_0_0_0_1152 rfl) (DA_eq arg2 harg2 arg3 harg3 x0 x1 9 inb_S512x4096_S512x4096_0_0 inb_S1536x4096_S512x4096_1024_0 rfl) _ rfl,
      (List.forall_mem_cons.2 ⟨dgPiece x2 x3 (dA x0 x1) 9 inb_S2x512x1536_S1x512x128_0_0_1152 rfl (col16 arg5 harg5 arg8 harg8 x3 a 9) (col19 arg5 harg5 arg8 harg8 x3 a 9) (ldC arg4 harg4 x2 0 9 inb_S1x2x512x1536_S1x1x512x128_0_0_0_1152 rfl) (ldC arg4 harg4 x2 1 9 inb_S1x2x512x1536_S1x1x512x128_0_1_0_1152 rfl) (DA_eq arg2 harg2 arg3 harg3 x0 x1 9 inb_S512x4096_S512x4096_0_0 inb_S1536x4096_S512x4096_1024_0 rfl) _ rfl,
      (List.forall_mem_cons.2 ⟨duPiece x2 x3 (dA x0 x1) 8 inb_S2x512x1536_S1x512x128_1_0_1024 rfl (col16 arg5 harg5 arg8 harg8 x3 a 8) (ldC arg4 harg4 x2 0 8 inb_S1x2x512x1536_S1x1x512x128_0_0_0_1024 rfl) (DA_eq arg2 harg2 arg3 harg3 x0 x1 8 inb_S512x4096_S512x4096_0_0 inb_S1536x4096_S512x4096_1024_0 rfl) _ rfl,
      (List.forall_mem_cons.2 ⟨dgPiece x2 x3 (dA x0 x1) 8 inb_S2x512x1536_S1x512x128_0_0_1024 rfl (col16 arg5 harg5 arg8 harg8 x3 a 8) (col19 arg5 harg5 arg8 harg8 x3 a 8) (ldC arg4 harg4 x2 0 8 inb_S1x2x512x1536_S1x1x512x128_0_0_0_1024 rfl) (ldC arg4 harg4 x2 1 8 inb_S1x2x512x1536_S1x1x512x128_0_1_0_1024 rfl) (DA_eq arg2 harg2 arg3 harg3 x0 x1 8 inb_S512x4096_S512x4096_0_0 inb_S1536x4096_S512x4096_1024_0 rfl) _ rfl,
      (List.forall_mem_cons.2 ⟨duPiece x2 x3 (dA x0 x1) 7 inb_S2x512x1536_S1x512x128_1_0_896 rfl (col16 arg5 harg5 arg8 harg8 x3 a 7) (ldC arg4 harg4 x2 0 7 inb_S1x2x512x1536_S1x1x512x128_0_0_0_896 rfl) (DA_eq arg2 harg2 arg3 harg3 x0 x1 7 inb_S512x4096_S512x4096_0_0 inb_S1536x4096_S512x4096_512_0 rfl) _ rfl,
      (List.forall_mem_cons.2 ⟨dgPiece x2 x3 (dA x0 x1) 7 inb_S2x512x1536_S1x512x128_0_0_896 rfl (col16 arg5 harg5 arg8 harg8 x3 a 7) (col19 arg5 harg5 arg8 harg8 x3 a 7) (ldC arg4 harg4 x2 0 7 inb_S1x2x512x1536_S1x1x512x128_0_0_0_896 rfl) (ldC arg4 harg4 x2 1 7 inb_S1x2x512x1536_S1x1x512x128_0_1_0_896 rfl) (DA_eq arg2 harg2 arg3 harg3 x0 x1 7 inb_S512x4096_S512x4096_0_0 inb_S1536x4096_S512x4096_512_0 rfl) _ rfl,
      (List.forall_mem_cons.2 ⟨duPiece x2 x3 (dA x0 x1) 6 inb_S2x512x1536_S1x512x128_1_0_768 rfl (col16 arg5 harg5 arg8 harg8 x3 a 6) (ldC arg4 harg4 x2 0 6 inb_S1x2x512x1536_S1x1x512x128_0_0_0_768 rfl) (DA_eq arg2 harg2 arg3 harg3 x0 x1 6 inb_S512x4096_S512x4096_0_0 inb_S1536x4096_S512x4096_512_0 rfl) _ rfl,
      (List.forall_mem_cons.2 ⟨dgPiece x2 x3 (dA x0 x1) 6 inb_S2x512x1536_S1x512x128_0_0_768 rfl (col16 arg5 harg5 arg8 harg8 x3 a 6) (col19 arg5 harg5 arg8 harg8 x3 a 6) (ldC arg4 harg4 x2 0 6 inb_S1x2x512x1536_S1x1x512x128_0_0_0_768 rfl) (ldC arg4 harg4 x2 1 6 inb_S1x2x512x1536_S1x1x512x128_0_1_0_768 rfl) (DA_eq arg2 harg2 arg3 harg3 x0 x1 6 inb_S512x4096_S512x4096_0_0 inb_S1536x4096_S512x4096_512_0 rfl) _ rfl,
      (List.forall_mem_cons.2 ⟨duPiece x2 x3 (dA x0 x1) 5 inb_S2x512x1536_S1x512x128_1_0_640 rfl (col16 arg5 harg5 arg8 harg8 x3 a 5) (ldC arg4 harg4 x2 0 5 inb_S1x2x512x1536_S1x1x512x128_0_0_0_640 rfl) (DA_eq arg2 harg2 arg3 harg3 x0 x1 5 inb_S512x4096_S512x4096_0_0 inb_S1536x4096_S512x4096_512_0 rfl) _ rfl,
      (List.forall_mem_cons.2 ⟨dgPiece x2 x3 (dA x0 x1) 5 inb_S2x512x1536_S1x512x128_0_0_640 rfl (col16 arg5 harg5 arg8 harg8 x3 a 5) (col19 arg5 harg5 arg8 harg8 x3 a 5) (ldC arg4 harg4 x2 0 5 inb_S1x2x512x1536_S1x1x512x128_0_0_0_640 rfl) (ldC arg4 harg4 x2 1 5 inb_S1x2x512x1536_S1x1x512x128_0_1_0_640 rfl) (DA_eq arg2 harg2 arg3 harg3 x0 x1 5 inb_S512x4096_S512x4096_0_0 inb_S1536x4096_S512x4096_512_0 rfl) _ rfl,
      (List.forall_mem_cons.2 ⟨duPiece x2 x3 (dA x0 x1) 4 inb_S2x512x1536_S1x512x128_1_0_512 rfl (col16 arg5 harg5 arg8 harg8 x3 a 4) (ldC arg4 harg4 x2 0 4 inb_S1x2x512x1536_S1x1x512x128_0_0_0_512 rfl) (DA_eq arg2 harg2 arg3 harg3 x0 x1 4 inb_S512x4096_S512x4096_0_0 inb_S1536x4096_S512x4096_512_0 rfl) _ rfl,
      (List.forall_mem_cons.2 ⟨dgPiece x2 x3 (dA x0 x1) 4 inb_S2x512x1536_S1x512x128_0_0_512 rfl (col16 arg5 harg5 arg8 harg8 x3 a 4) (col19 arg5 harg5 arg8 harg8 x3 a 4) (ldC arg4 harg4 x2 0 4 inb_S1x2x512x1536_S1x1x512x128_0_0_0_512 rfl) (ldC arg4 harg4 x2 1 4 inb_S1x2x512x1536_S1x1x512x128_0_1_0_512 rfl) (DA_eq arg2 harg2 arg3 harg3 x0 x1 4 inb_S512x4096_S512x4096_0_0 inb_S1536x4096_S512x4096_512_0 rfl) _ rfl,
      (List.forall_mem_cons.2 ⟨duPiece x2 x3 (dA x0 x1) 3 inb_S2x512x1536_S1x512x128_1_0_384 rfl (col16 arg5 harg5 arg8 harg8 x3 a 3) (ldC arg4 harg4 x2 0 3 inb_S1x2x512x1536_S1x1x512x128_0_0_0_384 rfl) (DA_eq arg2 harg2 arg3 harg3 x0 x1 3 inb_S512x4096_S512x4096_0_0 inb_S1536x4096_S512x4096_0_0 rfl) _ rfl,
      (List.forall_mem_cons.2 ⟨dgPiece x2 x3 (dA x0 x1) 3 inb_S2x512x1536_S1x512x128_0_0_384 rfl (col16 arg5 harg5 arg8 harg8 x3 a 3) (col19 arg5 harg5 arg8 harg8 x3 a 3) (ldC arg4 harg4 x2 0 3 inb_S1x2x512x1536_S1x1x512x128_0_0_0_384 rfl) (ldC arg4 harg4 x2 1 3 inb_S1x2x512x1536_S1x1x512x128_0_1_0_384 rfl) (DA_eq arg2 harg2 arg3 harg3 x0 x1 3 inb_S512x4096_S512x4096_0_0 inb_S1536x4096_S512x4096_0_0 rfl) _ rfl,
      (List.forall_mem_cons.2 ⟨duPiece x2 x3 (dA x0 x1) 2 inb_S2x512x1536_S1x512x128_1_0_256 rfl (col16 arg5 harg5 arg8 harg8 x3 a 2) (ldC arg4 harg4 x2 0 2 inb_S1x2x512x1536_S1x1x512x128_0_0_0_256 rfl) (DA_eq arg2 harg2 arg3 harg3 x0 x1 2 inb_S512x4096_S512x4096_0_0 inb_S1536x4096_S512x4096_0_0 rfl) _ rfl,
      (List.forall_mem_cons.2 ⟨dgPiece x2 x3 (dA x0 x1) 2 inb_S2x512x1536_S1x512x128_0_0_256 rfl (col16 arg5 harg5 arg8 harg8 x3 a 2) (col19 arg5 harg5 arg8 harg8 x3 a 2) (ldC arg4 harg4 x2 0 2 inb_S1x2x512x1536_S1x1x512x128_0_0_0_256 rfl) (ldC arg4 harg4 x2 1 2 inb_S1x2x512x1536_S1x1x512x128_0_1_0_256 rfl) (DA_eq arg2 harg2 arg3 harg3 x0 x1 2 inb_S512x4096_S512x4096_0_0 inb_S1536x4096_S512x4096_0_0 rfl) _ rfl,
      (List.forall_mem_cons.2 ⟨duPiece x2 x3 (dA x0 x1) 1 inb_S2x512x1536_S1x512x128_1_0_128 rfl (col16 arg5 harg5 arg8 harg8 x3 a 1) (ldC arg4 harg4 x2 0 1 inb_S1x2x512x1536_S1x1x512x128_0_0_0_128 rfl) (DA_eq arg2 harg2 arg3 harg3 x0 x1 1 inb_S512x4096_S512x4096_0_0 inb_S1536x4096_S512x4096_0_0 rfl) _ rfl,
      (List.forall_mem_cons.2 ⟨dgPiece x2 x3 (dA x0 x1) 1 inb_S2x512x1536_S1x512x128_0_0_128 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) (DA_eq arg2 harg2 arg3 harg3 x0 x1 1 inb_S512x4096_S512x4096_0_0 inb_S1536x4096_S512x4096_0_0 rfl) _ rfl,
      (List.forall_mem_cons.2 ⟨duPiece x2 x3 (dA x0 x1) 0 inb_S2x512x1536_S1x512x128_1_0_0 rfl (col16 arg5 harg5 arg8 harg8 x3 a 0) (ldC arg4 harg4 x2 0 0 inb_S1x2x512x1536_S1x1x512x128_0_0_0_0 rfl) (DA_eq arg2 harg2 arg3 harg3 x0 x1 0 inb_S512x4096_S512x4096_0_0 inb_S1536x4096_S512x4096_0_0 rfl) _ rfl,
      (List.forall_mem_cons.2 ⟨dgPiece x2 x3 (dA x0 x1) 0 inb_S2x512x1536_S1x512x128_0_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) (DA_eq arg2 harg2 arg3 harg3 x0 x1 0 inb_S512x4096_S512x4096_0_0 inb_S1536x4096_S512x4096_0_0 rfl) _ rfl,
      (fun _ h => absurd h List.not_mem_nil)⟩)⟩)⟩)⟩)⟩)⟩)⟩)⟩)⟩)⟩)⟩)⟩)⟩)⟩)⟩)⟩)⟩)⟩)⟩)⟩)⟩)⟩)⟩)⟩)
  iexists _, _; isplitr
  swap; · iexact H6
  ipureintro; rfl

/-- The gradient of the activations of a group of the last block, from the operands' buffers. -/
def DB (g : Fin 12) {off0 off : Fin 2 → ℕ} (inb0 : ∀ a, off0 a + S512x4096.size a ≤ S512x4096.size a) (inb : ∀ a, off a + S256x4096.size a ≤ S1536x4096.size a) : FVec F S512x128 .f32 :=
  extractStridedSlice S512x128 ![0, 128 * (g.val % 2)] (k4_pay133 (arg2.view.readAt (Elt F) (Rect.unit (s := S512x4096) off0 S512x4096.size inb0).toLoadRect (harg2.unread x0))
    (arg3.view.readAt (Elt F) (Rect.unit (s := S1536x4096) off S256x4096.size inb).toLoadRect (harg3.unread x1))) (sl2 g)

theorem DB_eq (g : Fin 12) {off0 off : Fin 2 → ℕ} (inb0 : ∀ a, off0 a + S512x4096.size a ≤ S512x4096.size a) (inb : ∀ a, off a + S256x4096.size a ≤ S1536x4096.size a)
    (he : off = ![0, 0]) : DB arg2 harg2 arg3 harg3 x0 x1 g inb0 inb = dB x0 x1 g := by
  unfold DB dB
  rw [ldD0, ldTail arg3 harg3 x1 inb he inb_S1536x4096_S256x4096_0_0]

/-- The last block of features, of which two groups lie inside the arrays. -/
theorem runB (K : PUnit → sProp 𝕄) (h1 : ¬ k4_cond1 i = 1#1) (h2 : k4_cond2 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d4 ∗ owns (c : Thread nD τ) arg7 fullShare d5
        ∗ owns (c : Thread nD τ) arg8 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ y4, ⌜∀ j : S1536x512.Idx, (j 0).val < 256 → y4 j = hOut x2 x3 j⌝ ∗ owns (c : Thread nD τ) arg6 fullShare y4)
            ∗ (∃ y5, ⌜∀ j : S2x512x1536.Idx, (j 2).val < 256 → y5 j = dOut (dB x0 x1) x2 x3 j⌝ ∗ owns (c : Thread nD τ) arg7 fullShare y5) ∗ ∃ a', owns (c : Thread nD τ) arg8 fullShare a') -∗ K ⟨⟩))
      ⊢ wp frame (wpE (defs₀ (F := F)) 𝒱₀ c none) E (cc4_dh_swiglu i arg2 harg2 arg3 harg3 arg4 harg4 arg5 harg5 arg6 harg6 arg7 harg7 arg8 harg8) K := by
  simp only [cc4_dh_swiglu_eq_skeleton]; unfold cc4_dh_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap
    · iexists _; isplitr
      swap; · iexact H4
      ipureintro; rfl
    ipureintro
    intro y hy
    have h1 : (y 1).val < 512 := (y 1).isLt
    have mem : ∀ (o : ℕ) (inb : ∀ a, (![o, 0] : Fin 2 → ℕ) a + S128x512.size a ≤ S1536x512.size a), o ≤ (y 0).val → (y 0).val < o + 128 →
        y ∈ (Rect.unit (s := S1536x512) ![o, 0] S128x512.size inb).set := fun o inb e1 e2 => Rect.mem_set_unit.2 fun a => by
      fin_cases a
      · exact ⟨e1, e2⟩
      · exact ⟨Nat.zero_le _, by show (y 1).val < 0 + 512; omega⟩
    refine View.read_writes_apply_of_pieces _ _ _ _ ?_ y ?_
    · exact (List.forall_mem_cons.2 ⟨hPiece x2 x3 1 inb_S1536x512_S128x512_128_0 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) _ rfl,
      (List.forall_mem_cons.2 ⟨hPiece x2 x3 0 inb_S1536x512_S128x512_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) _ rfl,
      (fun _ h => absurd h List.not_mem_nil)⟩)⟩)
    · by_cases h : (y 0).val < 128
      · exact ⟨_, List.mem_cons_of_mem _ List.mem_cons_self, mem 0 inb_S1536x512_S128x512_0_0 (Nat.zero_le _) (by omega)⟩
      · exact ⟨_, List.mem_cons_self, mem 128 inb_S1536x512_S128x512_128_0 (by omega) (by omega)⟩
  isplitl [H5]
  · iexists _; isplitr
    swap
    · iexists _; isplitr
      swap; · iexact H5
      ipureintro; rfl
    ipureintro
    intro y hy
    have h1 : (y 1).val < 512 := (y 1).isLt
    have mem : ∀ (o p : ℕ) (inb : ∀ a, (![o, 0, p] : Fin 3 → ℕ) a + S1x512x128.size a ≤ S2x512x1536.size a), (y 0).val = o → p ≤ (y 2).val → (y 2).val < p + 128 →
        y ∈ (Rect.unit (s := S2x512x1536) ![o, 0, p] S1x512x128.size inb).set := fun o p inb e0 e1 e2 => Rect.mem_set_unit.2 fun a => by
      fin_cases a
      · exact ⟨le_of_eq e0.symm, by show (y 0).val < o + 1; omega⟩
      · exact ⟨Nat.zero_le _, by show (y 1).val < 0 + 512; omega⟩
      · exact ⟨e1, e2⟩
    have h0 : (y 0).val < 2 := (y 0).isLt
    refine View.read_writes_apply_of_pieces _ _ _ _ ?_ y ?_
    · exact (List.forall_mem_cons.2 ⟨duPiece x2 x3 (dB x0 x1) 1 inb_S2x512x1536_S1x512x128_1_0_128 rfl (col16 arg5 harg5 arg8 harg8 x3 a 1) (ldC arg4 harg4 x2 0 1 inb_S1x2x512x1536_S1x1x512x128_0_0_0_128 rfl) (DB_eq arg2 harg2 arg3 harg3 x0 x1 1 inb_S512x4096_S512x4096_0_0 inb_S1536x4096_S256x4096_0_0 rfl) _ rfl,
      (List.forall_mem_cons.2 ⟨dgPiece x2 x3 (dB x0 x1) 1 inb_S2x512x1536_S1x512x128_0_0_128 rfl (col16 arg5 harg5 arg8 harg8 x3 a 1) (col19 arg5 harg5 arg8 harg8 x3 a 1) (ldC arg4 harg4 x2 0 1 inb_S1x2x512x1536_S1x1x512x128_0_0_0_128 rfl) (ldC arg4 harg4 x2 1 1 inb_S1x2x512x1536_S1x1x512x128_0_1_0_128 rfl) (DB_eq arg2 harg2 arg3 harg3 x0 x1 1 inb_S512x4096_S512x4096_0_0 inb_S1536x4096_S256x4096_0_0 rfl) _ rfl,
      (List.forall_mem_cons.2 ⟨duPiece x2 x3 (dB x0 x1) 0 inb_S2x512x1536_S1x512x128_1_0_0 rfl (col16 arg5 harg5 arg8 harg8 x3 a 0) (ldC arg4 harg4 x2 0 0 inb_S1x2x512x1536_S1x1x512x128_0_0_0_0 rfl) (DB_eq arg2 harg2 arg3 harg3 x0 x1 0 inb_S512x4096_S512x4096_0_0 inb_S1536x4096_S256x4096_0_0 rfl) _ rfl,
      (List.forall_mem_cons.2 ⟨dgPiece x2 x3 (dB x0 x1) 0 inb_S2x512x1536_S1x512x128_0_0_0 rfl (col16 arg5 harg5 arg8 harg8 x3 a 0) (col19 arg5 harg5 arg8 harg8 x3 a 0) (ldC arg4 harg4 x2 0 0 inb_S1x2x512x1536_S1x1x512x128_0_0_0_0 rfl) (ldC arg4 harg4 x2 1 0 inb_S1x2x512x1536_S1x1x512x128_0_1_0_0 rfl) (DB_eq arg2 harg2 arg3 harg3 x0 x1 0 inb_S512x4096_S512x4096_0_0 inb_S1536x4096_S256x4096_0_0 rfl) _ rfl,
      (fun _ h => absurd h List.not_mem_nil)⟩)⟩)⟩)⟩)
    · by_cases h : (y 2).val < 128
      · by_cases hh : (y 0).val = 0
        · exact ⟨_, List.mem_cons_of_mem _ (List.mem_cons_of_mem _ (List.mem_cons_of_mem _ List.mem_cons_self)), mem 0 0 inb_S2x512x1536_S1x512x128_0_0_0 hh (Nat.zero_le _) (by omega)⟩
        · exact ⟨_, List.mem_cons_of_mem _ (List.mem_cons_of_mem _ List.mem_cons_self), mem 1 0 inb_S2x512x1536_S1x512x128_1_0_0 (by omega) (Nat.zero_le _) (by omega)⟩
      · by_cases hh : (y 0).val = 0
        · exact ⟨_, List.mem_cons_of_mem _ List.mem_cons_self, mem 0 128 inb_S2x512x1536_S1x512x128_0_0_128 hh (by omega) (by omega)⟩
        · exact ⟨_, List.mem_cons_self, mem 1 128 inb_S2x512x1536_S1x512x128_1_0_128 (by omega) (by omega) (by omega)⟩
  iexists _, _; isplitr
  swap; · iexact H6
  ipureintro; rfl

end Runs

end Cert.KernelIdeal.Own.Dh
end
-- ==== Proof.KernelIdeal.Dh.lean ====
/-
  The call for the gradient of the activations as a pipeline: what its buffers hold point by point, and that the body
  keeps to it, from any contents of the arrays. The last block of features overhangs the arrays; of it only the part
  inside is followed, and the results' part inside reads nothing past the operands' ends.
-/
module

public import proofs.«01_k».proof.Proof.KernelIdeal.DhRun

@[expose] public section

set_option maxRecDepth 16384

noncomputable section

namespace Cert.KernelIdeal.Own.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The blocks -/

/-- Window `w`'s block at point `t`, the part inside its array. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The weight's block, zeros past the array's end. -/
def xb1 (c : Dev nD) (t : Fin cfg4.N) : Vec F S1536x4096 .bf16 := win4_1.fill (grid4.coords t) (fun _ => Scalar.ofBits .bf16 0#16) (iblk V c 1 t)
/-- The block of codes, zeros past the array's end. -/
def xb2 (c : Dev nD) (t : Fin cfg4.N) : Vec F S1x2x512x1536 .fp8e4m3 := win4_2.fill (grid4.coords t) (fun _ => Scalar.ofBits .fp8e4m3 0#8) (iblk V c 2 t)
/-- The block of scales, zeros past the array's end. -/
def xb3 (c : Dev nD) (t : Fin cfg4.N) : Vec F S1x12x2x512 .f32 := win4_3.fill (grid4.coords t) (fun _ => Scalar.ofBits .f32 0#32) (iblk V c 3 t)

/-- Of a whole block everything lies inside the arrays. -/
theorem noclip : ∀ t : Fin cfg4.N, ¬ t.val / 48 = 7 → (∀ a, win4_1.clip (grid4.coords t) a = none) ∧ (∀ a, win4_2.clip (grid4.coords t) a = none)
    ∧ (∀ a, win4_3.clip (grid4.coords t) a = none) ∧ (∀ a, win4_4.clip (grid4.coords t) a = none) ∧ ∀ a, win4_5.clip (grid4.coords t) a = none :=
  (by decide +kernel : ∀ t : Fin grid4.N, _)

/-- Of the last block, 256 features and two groups. -/
theorem xsz : ∀ t : Fin cfg4.N, t.val / 48 = 7 → (∀ a, win4_1.xsize (grid4.coords t) a = (![256, 4096] : Fin 2 → ℕ) a) ∧ (∀ a, win4_2.xsize (grid4.coords t) a = (![1, 2, 512, 256] : Fin 4 → ℕ) a)
    ∧ (∀ a, win4_3.xsize (grid4.coords t) a = (![1, 2, 2, 512] : Fin 4 → ℕ) a) ∧ (∀ a, win4_4.xsize (grid4.coords t) a = (![256, 512] : Fin 2 → ℕ) a)
    ∧ ∀ a, win4_5.xsize (grid4.coords t) a = (![2, 512, 256] : Fin 3 → ℕ) a :=
  (by decide +kernel : ∀ t : Fin grid4.N, _)

/-- The two kinds of points. -/
theorem hc : ∀ t : Fin cfg4.N, (k4_cond1 (grid4.coords t) = 1#1 ↔ ¬ t.val / 48 = 7) ∧ (k4_cond2 (grid4.coords t) = 1#1 ↔ t.val / 48 = 7) :=
  (by decide +kernel : ∀ t : Fin grid4.N, _)

/-- The gradient of the activations of a group, at a point of the block of features `n`. -/
def dsel (n : ℕ) (x0 : Vec F S512x4096 .bf16) (x1 : Vec F S1536x4096 .bf16) : Fin 12 → FVec F S512x128 .f32 := if n = 7 then dB x0 x1 else dA x0 x1

/-! ## Of the last block, the part inside reads nothing past the operands' ends -/

section Last

variable (t : Fin cfg4.N) (h7 : t.val / 48 = 7)
include h7

theorem colS_fill (d d' : Vec F S1x12x2x512 .f32) (b : (win4_3.xblock (grid4.coords t)).Idx → Elt F .f32) (k : Fin 2) (g : Fin 12) (hg : g.val < 2) :
    colS (win4_3.fill (grid4.coords t) d b) k g = colS (win4_3.fill (grid4.coords t) d' b) k g := by
  funext j
  have hm : win4_3.moved (grid4.coords t) (ix4 0 g k (j 0) : S1x12x2x512.Idx) = true := (win4_3.moved_iff _ _).mpr fun a => by
    rw [(xsz t h7).2.2.1 a]
    fin_cases a
    · exact Nat.zero_lt_one
    · exact hg
    · exact k.isLt
    · exact (j 0).isLt
  unfold colS Window.fill
  rw [dif_pos hm, dif_pos hm]

theorem cw_fill (d d' : Vec F S1x2x512x1536 .fp8e4m3) (b : (win4_2.xblock (grid4.coords t)).Idx → Elt F .fp8e4m3) (k : Fin 2) (g : Fin 12) (hg : g.val < 2) :
    cw (win4_2.fill (grid4.coords t) d b) k g = cw (win4_2.fill (grid4.coords t) d' b) k g := by
  funext j
  have h3 : (j 3).val < 128 := (j 3).isLt
  have hm : win4_2.moved (grid4.coords t) (ix4 0 k (j 2) ⟨128 * g.val + (j 3).val, by omega⟩ : S1x2x512x1536.Idx) = true := (win4_2.moved_iff _ _).mpr fun a => by
    rw [(xsz t h7).2.1 a]
    fin_cases a
    · exact Nat.zero_lt_one
    · exact k.isLt
    · exact (j 2).isLt
    · show 128 * g.val + (j 3).val < 256; omega
  unfold cw Window.fill
  rw [dif_pos hm, dif_pos hm]

theorem dB_fill (x0 : Vec F S512x4096 .bf16) (d d' : Vec F S1536x4096 .bf16) (b : (win4_1.xblock (grid4.coords t)).Idx → Elt F .bf16) :
    dB x0 (win4_1.fill (grid4.coords t) d b) = dB x0 (win4_1.fill (grid4.coords t) d' b) := by
  have e : VecWindow.window (win4_1.fill (grid4.coords t) d b) ![0, 0] S256x4096.size inb_S1536x4096_S256x4096_0_0
      = VecWindow.window (win4_1.fill (grid4.coords t) d' b) ![0, 0] S256x4096.size inb_S1536x4096_S256x4096_0_0 := by
    funext y
    have hm : win4_1.moved (grid4.coords t) ((Rect.unit (s := S1536x4096) ![0, 0] S256x4096.size inb_S1536x4096_S256x4096_0_0).emb y) = true :=
      (win4_1.moved_iff _ _).mpr fun a => by
        rw [(xsz t h7).1 a, Rect.emb_apply]
        have := (y a).isLt
        have hz : (![0, 0] : Fin 2 → ℕ) a = 0 := by fin_cases a <;> rfl
        show (![0, 0] : Fin 2 → ℕ) a + 1 * (y a).val < _
        rw [hz]; show 0 + 1 * (y a).val < _; rw [Nat.zero_add, Nat.one_mul]; exact this
    show win4_1.fill _ _ _ _ = win4_1.fill _ _ _ _
    unfold Window.fill; rw [dif_pos hm, dif_pos hm]
  unfold dB
  rw [e]

end Last

/-- Two contents of a block have the same part inside the array if they agree wherever the transfer moves. -/
theorem cut_congr {G : Pipeline.Grid} (w : Window sig G) (i : G.Coords) {α : Type} (X Y : w.block.Idx → α)
    (h : ∀ j, w.moved i j = true → X j = Y j) : w.cut i X = w.cut i Y := funext fun j => h _ (w.moved_xinj i j)

/-- The activations' part inside reads nothing past the operands' ends. -/
theorem hOut_fill (t : Fin cfg4.N) (d2 d2' : Vec F S1x2x512x1536 .fp8e4m3) (d3 d3' : Vec F S1x12x2x512 .f32)
    (b2 : (win4_2.xblock (grid4.coords t)).Idx → Elt F .fp8e4m3) (b3 : (win4_3.xblock (grid4.coords t)).Idx → Elt F .f32)
    (y : Vec F S1536x512 .bf16) (hy : ∀ j : S1536x512.Idx, (t.val / 48 = 7 → (j 0).val < 256) → y j = hOut (win4_2.fill (grid4.coords t) d2 b2) (win4_3.fill (grid4.coords t) d3 b3) j) :
    win4_4.cut (grid4.coords t) y = win4_4.cut (grid4.coords t) (hOut (win4_2.fill (grid4.coords t) d2' b2) (win4_3.fill (grid4.coords t) d3' b3)) := by
  refine cut_congr _ _ _ _ fun j hm => ?_
  by_cases h7 : t.val / 48 = 7
  · have hj : (j 0).val < 256 := by have := (win4_4.moved_iff _ _).mp hm 0; rw [(xsz t h7).2.2.2.1 0] at this; exact this
    rw [hy j fun _ => hj]
    have hg : (grp (j 0).val (lt0 j)).val < 2 := by show (j 0).val / 128 < 2; omega
    unfold hOut
    rw [colS_fill t h7 d3 d3' b3 0 _ hg, colS_fill t h7 d3 d3' b3 1 _ hg, cw_fill t h7 d2 d2' b2 0 _ hg, cw_fill t h7 d2 d2' b2 1 _ hg]
  · rw [hy j fun h => absurd h h7, Pipeline.fill_of_clip_none (cfg := cfg4) 2 (grid4.coords t) (noclip t h7).2.1 d2 d2' b2,
      Pipeline.fill_of_clip_none (cfg := cfg4) 3 (grid4.coords t) (noclip t h7).2.2.1 d3 d3' b3]

/-- The gradients' part inside reads nothing past the operands' ends. -/
theorem dOut_fill (t : Fin cfg4.N) (x0 : Vec F S512x4096 .bf16) (d1 d1' : Vec F S1536x4096 .bf16) (d2 d2' : Vec F S1x2x512x1536 .fp8e4m3) (d3 d3' : Vec F S1x12x2x512 .f32)
    (b1 : (win4_1.xblock (grid4.coords t)).Idx → Elt F .bf16) (b2 : (win4_2.xblock (grid4.coords t)).Idx → Elt F .fp8e4m3) (b3 : (win4_3.xblock (grid4.coords t)).Idx → Elt F .f32)
    (y : Vec F S2x512x1536 .bf16) (hy : ∀ j : S2x512x1536.Idx, (t.val / 48 = 7 → (j 2).val < 256) →
      y j = dOut (dsel (t.val / 48) x0 (win4_1.fill (grid4.coords t) d1 b1)) (win4_2.fill (grid4.coords t) d2 b2) (win4_3.fill (grid4.coords t) d3 b3) j) :
    win4_5.cut (grid4.coords t) y
      = win4_5.cut (grid4.coords t) (dOut (dsel (t.val / 48) x0 (win4_1.fill (grid4.coords t) d1' b1)) (win4_2.fill (grid4.coords t) d2' b2) (win4_3.fill (grid4.coords t) d3' b3)) := by
  refine cut_congr _ _ _ _ fun j hm => ?_
  by_cases h7 : t.val / 48 = 7
  · have hj : (j 2).val < 256 := by have := (win4_5.moved_iff _ _).mp hm 2; rw [(xsz t h7).2.2.2.2 2] at this; exact this
    rw [hy j fun _ => hj]
    have hg : (grp (j 2).val (lt2 j)).val < 2 := by show (j 2).val / 128 < 2; omega
    unfold dOut dsel
    rw [if_pos h7, if_pos h7, dB_fill t h7 x0 d1 d1' b1]
    rw [colS_fill t h7 d3 d3' b3 0 _ hg, colS_fill t h7 d3 d3' b3 1 _ hg, cw_fill t h7 d2 d2' b2 0 _ hg, cw_fill t h7 d2 d2' b2 1 _ hg]
  · rw [hy j fun h => absurd h h7, Pipeline.fill_of_clip_none (cfg := cfg4) 1 (grid4.coords t) (noclip t h7).1 d1 d1' b1,
      Pipeline.fill_of_clip_none (cfg := cfg4) 2 (grid4.coords t) (noclip t h7).2.1 d2 d2' b2,
      Pipeline.fill_of_clip_none (cfg := cfg4) 3 (grid4.coords t) (noclip t h7).2.2.1 d3 d3' b3]

/-- The call's scratch. -/
abbrev sc : Memref sig .tc .vmem S2x16x512 .f32 := Memref.whole cc4_scratch0

/-! ## The proof data -/

/-- What the core holds between points: the scratch, at anything, and the rest of what the call scopes. -/
def ΦK (c : Dev nD) : sProp 𝕄 :=
  iprop((∃ a : Vec F S2x16x512 .f32, owns (c : Thread nD τ) sc fullShare a)
    ∗ Pipeline.scopedRestBut (Ix := Ix) (Name := ℕ) (U := U) (Lvl := Lvl) (Val := Elt F) spec4 c [cc4_scratch0] ∗ ∃ r, prngReg c r)

/-- The activations' block after point `t`. -/
def out4 (c : Dev nD) (t : Fin cfg4.N) : Vec F S1536x512 .bf16 := hOut (xb2 V c t) (xb3 V c t)
/-- The gradients' block after point `t`. -/
def out5 (c : Dev nD) (t : Fin cfg4.N) : Vec F S2x512x1536 .bf16 := dOut (dsel (t.val / 48) (iblk V c 0 t) (xb1 V c t)) (xb2 V c t) (xb3 V c t)

/-- The proof data: the operands' buffers keep their blocks, the results' hold the closed forms. -/
def dat (c : Dev nD) : Dat τ (Elt F) Ix ℕ U Lvl cfg4 c where
  A w := V c (Pipeline.arrRef spec4 w)
  after w t := match w with
    | ⟨0, _⟩ => iblk V c 0 t
    | ⟨1, _⟩ => xb1 V c t
    | ⟨2, _⟩ => xb2 V c t
    | ⟨3, _⟩ => xb3 V c t
    | ⟨4, _⟩ => out4 V c t
    | ⟨5, _⟩ => out5 V c t
  Φ _ := ΦK (F := F) (Ix := Ix) (U := U) (Lvl := Lvl) c
  q _ := fullShare
  owed _ := D c

theorem A_eq (c : Dev nD) (w : Fin cfg4.W) : (dat (Ix := Ix) (U := U) (Lvl := Lvl) V D c).A w = V c (Pipeline.arrRef spec4 w) := by
  dsimp only [dat]

theorem after_0 (c : Dev nD) (t : Fin cfg4.N) : (dat (Ix := Ix) (U := U) (Lvl := Lvl) V D c).after 0 t = iblk V c 0 t := by dsimp only [dat]
theorem after_4 (c : Dev nD) (t : Fin cfg4.N) : (dat (Ix := Ix) (U := U) (Lvl := Lvl) V D c).after 4 t = out4 V c t := by dsimp only [dat]
theorem after_5 (c : Dev nD) (t : Fin cfg4.N) : (dat (Ix := Ix) (U := U) (Lvl := Lvl) V D c).after 5 t = out5 V c t := by dsimp only [dat]

theorem before_0 (c : Dev nD) (t : Fin cfg4.N) (d) : (dat (Ix := Ix) (U := U) (Lvl := Lvl) V D c).before 0 t d = iblk V c 0 t := by
  unfold Dat.before; rw [if_pos (fetch4_0 t)]; rfl
theorem before_1 (c : Dev nD) (t : Fin cfg4.N) (d) : (dat (Ix := Ix) (U := U) (Lvl := Lvl) V D c).before 1 t d = win4_1.fill (grid4.coords t) d (iblk V c 1 t) :=
  (dat (Ix := Ix) (U := U) (Lvl := Lvl) V D c).before_in_eq_fetched 1 rfl (fun _ => rfl)
    (fun t t' h => funext fun a => congrArg (fun n => Pipeline.Clip.of n ((cfg4.win 1).size a) (S11008x4096.size a)) (congrFun h a))
    (fun t => win4_1.cut_fill _ _ _) t d
theorem before_2 (c : Dev nD) (t : Fin cfg4.N) (d) : (dat (Ix := Ix) (U := U) (Lvl := Lvl) V D c).before 2 t d = win4_2.fill (grid4.coords t) d (iblk V c 2 t) := by
  unfold Dat.before; rw [if_pos (fetch4_2 t)]; rfl
theorem before_3 (c : Dev nD) (t : Fin cfg4.N) (d) : (dat (Ix := Ix) (U := U) (Lvl := Lvl) V D c).before 3 t d = win4_3.fill (grid4.coords t) d (iblk V c 3 t) := by
  unfold Dat.before; rw [if_pos (fetch4_3 t)]; rfl

/-- The results' buffers are stored at every point. -/
theorem not_idle (t : Fin cfg4.N) : (!(k4_cond1 (grid4.coords t) == 1#1) && !(k4_cond2 (grid4.coords t) == 1#1)) = false := by
  by_cases h : t.val / 48 = 7
  · rw [(hc t).2.mpr h]; simp
  · rw [(hc t).1.mpr h]; simp

theorem not_idle4 (t : Fin cfg4.N) : idle4 4 (grid4.coords t) = false := not_idle t
theorem not_idle5 (t : Fin cfg4.N) : idle4 5 (grid4.coords t) = false := not_idle t

/-- What the call scopes is its scratch and the rest. -/
theorem rest_split (c : Dev nD) :
    (Pipeline.scopedRest (Ix := Ix) (Name := ℕ) (U := U) (Lvl := Lvl) (Val := Elt F) spec4 c : sProp 𝕄)
      = iprop(iprop((∃ f : Buf (Elt F) ((c : Thread nD τ).loc cc4_scratch0), ((c : Thread nD τ).loc cc4_scratch0) ↦{fullShare} f))
          ∗ Pipeline.scopedRestBut (Ix := Ix) (Name := ℕ) (U := U) (Lvl := Lvl) (Val := Elt F) spec4 c [cc4_scratch0]) :=
  Pipeline.scopedRest_split_of_list spec4 c [cc4_scratch0] (by decide) (by decide)

/-- From what the call scopes to what the core holds before the first point. -/
theorem Φ_in (c : Dev nD) : iprop(Pipeline.scopedRest (Ix := Ix) (Name := ℕ) (U := U) (Lvl := Lvl) (Val := Elt F) spec4 c ∗ ∃ r, prngReg c r) ⊢ (dat (Ix := Ix) (U := U) (Lvl := Lvl) V D c).Φ 0 := by
  rw [rest_split]
  show _ ⊢ ΦK c
  unfold ΦK
  iintro ⟨⟨⟨%f, H⟩, Hr⟩, Hp⟩
  isplitl [H]
  · iexists f
    iapply (Entails.of_eq (owns_whole (c : Thread nD τ) cc4_scratch0 fullShare f).symm); iexact H
  isplitl [Hr]; · iexact Hr
  iexact Hp

/-- And back after the last. -/
theorem Φ_out (c : Dev nD) (t : Fin (cfg4.N + 1)) : (dat (Ix := Ix) (U := U) (Lvl := Lvl) V D c).Φ t ⊢ iprop(Pipeline.scopedRest (Ix := Ix) (Name := ℕ) (U := U) (Lvl := Lvl) (Val := Elt F) spec4 c ∗ ∃ r, prngReg c r) := by
  rw [rest_split]
  show ΦK c ⊢ _
  unfold ΦK
  iintro ⟨⟨%f, H⟩, Hr, Hp⟩
  isplitl [H Hr]
  · isplitl [H]
    · iexists f
      iapply (Entails.of_eq (owns_whole (c : Thread nD τ) cc4_scratch0 fullShare f)); iexact H
    iexact Hr
  iexact Hp

/-! ## The body obligation -/

variable (ι : Ix)

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The body at a point: the results' buffers hold the closed forms, where the block lies inside the arrays. -/
theorem body_run (c : Dev nD) (t : Fin cfg4.N) (x0 : Vec F S512x4096 .bf16) (x1 : Vec F S1536x4096 .bf16) (x2 : Vec F S1x2x512x1536 .fp8e4m3) (x3 : Vec F S1x12x2x512 .f32)
    (d4 : Vec F S1536x512 .bf16) (d5 : Vec F S2x512x1536 .bf16) (a : Vec F S2x16x512 .f32) (K : PUnit → sProp 𝕄) :
    iprop(owns (c : Thread nD τ) (st4_0 t) fullShare x0 ∗ owns (c : Thread nD τ) (st4_1 t) fullShare x1 ∗ owns (c : Thread nD τ) (st4_2 t) fullShare x2
        ∗ owns (c : Thread nD τ) (st4_3 t) fullShare x3 ∗ owns (c : Thread nD τ) (st4_4 t) fullShare d4 ∗ owns (c : Thread nD τ) (st4_5 t) fullShare d5
        ∗ owns (c : Thread nD τ) sc fullShare a
        ∗ (iprop(owns (c : Thread nD τ) (st4_0 t) fullShare x0 ∗ owns (c : Thread nD τ) (st4_1 t) fullShare x1 ∗ owns (c : Thread nD τ) (st4_2 t) fullShare x2
            ∗ owns (c : Thread nD τ) (st4_3 t) fullShare x3
            ∗ (∃ y4, ⌜∀ j : S1536x512.Idx, (t.val / 48 = 7 → (j 0).val < 256) → y4 j = hOut x2 x3 j⌝ ∗ owns (c : Thread nD τ) (st4_4 t) fullShare y4)
            ∗ (∃ y5, ⌜∀ j : S2x512x1536.Idx, (t.val / 48 = 7 → (j 2).val < 256) → y5 j = dOut (dsel (t.val / 48) x0 x1) x2 x3 j⌝ ∗ owns (c : Thread nD τ) (st4_5 t) fullShare y5)
            ∗ ∃ a', owns (c : Thread nD τ) sc fullShare a') -∗ K ⟨⟩))
      ⊢ wp frame (wpE (defs₀ (F := F)) 𝒱₀ c none) Set.univ (bodyAt4 t) K := by
  by_cases h7 : t.val / 48 = 7
  · iintro ⟨H0, H1, H2, H3, H4, H5, Hs, Hk⟩
    iapply (runB 𝒱₀ c (grid4.coords t) _ _ _ _ _ _ _ _ _ _ _ _ _ _ x0 x1 x2 x3 d4 d5 a Set.univ K (fun h => (hc t).1.mp h h7) ((hc t).2.mpr h7))
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, ⟨%y4, %e4, H4⟩, ⟨%y5, %e5, H5⟩, Hs⟩
    iapply Hk
    isplitl [H0]; · iexact H0
    isplitl [H1]; · iexact H1
    isplitl [H2]; · iexact H2
    isplitl [H3]; · iexact H3
    isplitl [H4]
    · iexists y4; isplitr
      · ipureintro; exact fun j hj => e4 j (hj h7)
      iexact H4
    isplitl [H5]
    · iexists y5; isplitr
      · ipureintro; unfold dsel; rw [if_pos h7]; exact fun j hj => e5 j (hj h7)
      iexact H5
    iexact Hs
  · iintro ⟨H0, H1, H2, H3, H4, H5, Hs, Hk⟩
    iapply (runA 𝒱₀ c (grid4.coords t) _ _ _ _ _ _ _ _ _ _ _ _ _ _ x0 x1 x2 x3 d4 d5 a Set.univ K ((hc t).1.mpr h7) (fun h => h7 ((hc t).2.mp h)))
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    iapply Hk
    isplitl [H0]; · iexact H0
    isplitl [H1]; · iexact H1
    isplitl [H2]; · iexact H2
    isplitl [H3]; · iexact H3
    isplitl [H4]
    · iexists _; isplitr
      swap; · iexact H4
      ipureintro; exact fun j _ => rfl
    isplitl [H5]
    · iexists _; isplitr
      swap; · iexact H5
      ipureintro; unfold dsel; rw [if_neg h7]; exact fun j _ => rfl
    iexact Hs

/-- The library's body obligation, at every point. -/
theorem body_obligation (c : Dev nD) : BodyObligationLoose (dat (Ix := Ix) (U := U) (Lvl := Lvl) V D c) (defs₀ (F := F)) 𝒱₀ ι Set.univ := fun t => by
  rw [bigSep_W4, bigSep_W4, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl,
    show (dat (Ix := Ix) (U := U) (Lvl := Lvl) V D c).Φ t.castSucc = ΦK c from rfl]
  rw [not_idle4]
  unfold ΦK
  iintro ⟨⟨⟨%a, Hs⟩, Hr, Hp⟩, Ho, ⟨%d0, H0⟩, ⟨%d1, H1⟩, ⟨%d2, H2⟩, ⟨%d3, H3⟩, ⟨%d4, H4⟩, ⟨%d5, H5⟩⟩
  rw [before_0 V D c t d0, before_1 V D c t d1, before_2 V D c t d2, before_3 V D c t d3]
  iapply (body_run 𝒱₀ c t _ _ _ _ ((dat (Ix := Ix) (U := U) (Lvl := Lvl) V D c).before 4 t d4) ((dat (Ix := Ix) (U := U) (Lvl := Lvl) V D c).before 5 t d5) a _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, ⟨%y4, %e4, H4⟩, ⟨%y5, %e5, H5⟩, Hs⟩
  isplitl [Hs Hr Hp]
  · isplitl [Hs]; · iexact Hs
    isplitl [Hr]; · iexact Hr
    iexact Hp
  isplitl [Ho]; · iexact Ho
  isplitl [H0]; · rw [after_0]; iexact H0
  isplitl [H1]
  · iexists d1
    rw [show win4_1.cut (grid4.coords t) ((dat (Ix := Ix) (U := U) (Lvl := Lvl) V D c).after 1 t) = iblk V c 1 t from win4_1.cut_fill _ _ _]; iexact H1
  isplitl [H2]
  · iexists d2
    rw [show win4_2.cut (grid4.coords t) ((dat (Ix := Ix) (U := U) (Lvl := Lvl) V D c).after 2 t) = iblk V c 2 t from win4_2.cut_fill _ _ _]; iexact H2
  isplitl [H3]
  · iexists d3
    rw [show win4_3.cut (grid4.coords t) ((dat (Ix := Ix) (U := U) (Lvl := Lvl) V D c).after 3 t) = iblk V c 3 t from win4_3.cut_fill _ _ _]; iexact H3
  isplitl [H4]
  · iexists y4
    rw [after_4, win4_4.fill_congr_cut (grid4.coords t) (show win4_4.cut (grid4.coords t) y4 = win4_4.cut (grid4.coords t) (out4 V c t) from hOut_fill t _ _ _ _ _ _ y4 e4)]; iexact H4
  · iexists y5
    rw [after_5, win4_5.fill_congr_cut (grid4.coords t) (show win4_5.cut (grid4.coords t) y5 = win4_5.cut (grid4.coords t) (out5 V c t) from dOut_fill t _ _ _ _ _ _ _ _ _ _ y5 e5)]; iexact H5

end Cert.KernelIdeal.Own.Dh

end
-- ==== Proof.KernelIdeal.DxRun.lean ====
/-
  The call for `dx`: what one run of its body does. Two blocks are read, the scratch is filled with zeros (first step
  of a block of the result) or kept, a product is added to it, and at the last step it is rounded into the result's
  block. The blocks at the end of the inner axis overhang the arrays, and there only the part inside is read.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.KernelIdeal.Own.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions -/

/-- The step's number modulo 4, as the body computes it. -/
abbrev remW (n : ℕ) : BitVec 32 :=
  Scalar.select (Scalar.andi (Scalar.xori (Scalar.cmpi .slt (Scalar.remsi (BitVec.ofNat 32 n) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 n) (Scalar.select (Scalar.cmpi .eq 4#32 0#32) 1#32 4#32)) 0#32)) (Scalar.addi (Scalar.remsi (BitVec.ofNat 32 n) (Scalar.select (Scalar.cmpi .eq 4#32 0#32) 1#32 4#32)) (Scalar.select (Scalar.cmpi .eq 4#32 0#32) 1#32 4#32)) (Scalar.remsi (BitVec.ofNat 32 n) (Scalar.select (Scalar.cmpi .eq 4#32 0#32) 1#32 4#32))

/-- The scratch is filled with zeros. -/
abbrev c1 (n : ℕ) : Prop := Scalar.cmpi .ne (Scalar.extui (Scalar.cmpi .eq (BitVec.ofNat 32 n) 0#32)) 0#32 = 1#1
/-- Whole blocks are multiplied. -/
abbrev c2 (n : ℕ) : Prop := Scalar.cmpi .ne (Scalar.extui (Scalar.cmpi .slt (remW n) 3#32)) 0#32 = 1#1
/-- The parts of overhanging blocks inside the arrays are multiplied. -/
abbrev c3 (n : ℕ) : Prop := Scalar.cmpi .ne (Scalar.extui (Scalar.cmpi .eq (remW n) 3#32)) 0#32 = 1#1

theorem hc1 : ∀ n < 8, c1 n ↔ n = 0 := by decide
theorem hc2 : ∀ n < 8, c2 n ↔ ¬ n % 4 = 3 := by decide
theorem hc3 : ∀ n < 8, c3 n ↔ n % 4 = 3 := by decide
theorem hc4 : ∀ i : grid7.Coords, k7_cond4 i = 1#1 ↔ (i 2).val = 7 := fun i =>
  (by decide : ∀ n < 8, (Scalar.cmpi .ne (Scalar.extui (Scalar.cmpi .eq (BitVec.ofNat 32 n) 7#32) : BitVec 32) 0#32 = 1#1) ↔ n = 7) (i 2).val (i 2).isLt

/-! ## One run of the body -/

/-- The part of the first operand's block inside its array, at the end of the inner axis. -/
abbrev tl0 (x : Vec F S1x1024x2816 .bf16) : Vec F S1x1024x2560 .bf16 := VecWindow.window x ![0, 0, 0] S1x1024x2560.size inb_S1x1024x2816_S1x1024x2560_0_0_0
/-- The part of the second operand's block inside its array. -/
abbrev tl1 (x : Vec F S1x2048x2816 .bf16) : Vec F S1x2048x2560 .bf16 := VecWindow.window x ![0, 0, 0] S1x2048x2560.size inb_S1x2048x2816_S1x2048x2560_0_0_0

/-- What the scratch holds after step `n` of a block, from what it held before. -/
def step (n : ℕ) (x0 : Vec F S1x1024x2816 .bf16) (x1 : Vec F S1x2048x2816 .bf16) (a : Vec F S1024x2048 .f32) : Vec F S1024x2048 .f32 :=
  if n = 0 then k7_pay2 (k7_pay1 (F := F)) x0 x1 else if n % 4 = 3 then k7_pay3 a (tl0 x0) (tl1 x1) else k7_pay2 a x0 x1

/-- A load of a whole buffer reads what the buffer holds. -/
theorem ldFull {sp : Space} {s : Shape} {e : EltTy} (m : Memref sig .tc sp s e) (h : m.IsWhole) (x : Vec F s e) {off : Fin s.rank → ℕ}
    (inb : ∀ a, off a + s.size a ≤ s.size a) : m.view.readAt (Elt F) (Rect.unit off s.size inb).toLoadRect (h.unread x) = x :=
  (View.readAt_full _ _ _).trans (h.read_unread _)

/-- A load of a part of a buffer reads that part of what the buffer holds. -/
theorem ldTail {sp : Space} {s : Shape} {e : EltTy} (m : Memref sig .tc sp s e) (h : m.IsWhole) (x : Vec F s e) {off size : Fin s.rank → ℕ}
    (inb inb' : ∀ a, off a + size a ≤ s.size a) :
    m.view.readAt (Elt F) (Rect.unit off size inb).toLoadRect (h.unread x) = VecWindow.window x off size inb' :=
  (View.readAt_unit _ _ _ rfl inb').trans (by rw [h.read_unread])

variable (𝒱₀ : Variants)

section Runs
variable (c : Dev nD) (i : grid7.Coords) (arg3 : Memref sig .tc .vmem S1x1024x2816 .bf16) (harg3 : arg3.IsWhole)
  (arg4 : Memref sig .tc .vmem S1x2048x2816 .bf16) (harg4 : arg4.IsWhole) (arg5 : Memref sig .tc .vmem S1024x2048 .bf16) (harg5 : arg5.IsWhole)
  (arg6 : Memref sig .tc .vmem S1024x2048 .f32) (harg6 : arg6.IsWhole)
  (x0 : Vec F S1x1024x2816 .bf16) (x1 : Vec F S1x2048x2816 .bf16) (a : Vec F S1024x2048 .f32) (E : Set ℕ)

/-- The first step: zeros, then a product of whole blocks. -/
theorem runA (K : PUnit → sProp 𝕄) (h1 : c1 (i 2).val) (h2 : c2 (i 2).val) (h3 : ¬ c3 (i 2).val) (h4 : ¬ k7_cond4 i = 1#1) :
    iprop(owns (c : Thread nD τ) arg3 fullShare x0 ∗ owns (c : Thread nD τ) arg4 fullShare x1 ∗ owns (c : Thread nD τ) arg6 fullShare a
        ∗ (iprop(owns (c : Thread nD τ) arg3 fullShare x0 ∗ owns (c : Thread nD τ) arg4 fullShare x1
            ∗ owns (c : Thread nD τ) arg6 fullShare (k7_pay2 (k7_pay1 (F := F)) x0 x1)) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg6.eq_unread hf2
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k7_pay2 (F := F)) (View.readCov_full _ _ _ _ _)) (ldFull _ harg3 _ _)) (ldFull _ harg4 _ _))

/-- A later step with whole blocks: their product is added. -/
theorem runB (K : PUnit → sProp 𝕄) (h1 : ¬ c1 (i 2).val) (h2 : c2 (i 2).val) (h3 : ¬ c3 (i 2).val) (h4 : ¬ k7_cond4 i = 1#1) :
    iprop(owns (c : Thread nD τ) arg3 fullShare x0 ∗ owns (c : Thread nD τ) arg4 fullShare x1 ∗ owns (c : Thread nD τ) arg6 fullShare a
        ∗ (iprop(owns (c : Thread nD τ) arg3 fullShare x0 ∗ owns (c : Thread nD τ) arg4 fullShare x1
            ∗ owns (c : Thread nD τ) arg6 fullShare (k7_pay2 a x0 x1)) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg6.eq_unread hf2
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k7_pay2 (F := F)) (ldFull _ harg6 _ _)) (ldFull _ harg3 _ _)) (ldFull _ harg4 _ _))

/-- A step at the end of the inner axis: the product of the parts inside the arrays is added. -/
theorem runC (K : PUnit → sProp 𝕄) (h1 : ¬ c1 (i 2).val) (h2 : ¬ c2 (i 2).val) (h3 : c3 (i 2).val) (h4 : ¬ k7_cond4 i = 1#1) :
    iprop(owns (c : Thread nD τ) arg3 fullShare x0 ∗ owns (c : Thread nD τ) arg4 fullShare x1 ∗ owns (c : Thread nD τ) arg6 fullShare a
        ∗ (iprop(owns (c : Thread nD τ) arg3 fullShare x0 ∗ owns (c : Thread nD τ) arg4 fullShare x1
            ∗ owns (c : Thread nD τ) arg6 fullShare (k7_pay3 a (tl0 x0) (tl1 x1))) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg6.eq_unread hf2
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k7_pay3 (F := F)) (ldFull _ harg6 _ _)) (ldTail _ harg3 _ _ _)) (ldTail _ harg4 _ _ _))

/-- The last step: that, and the sum is rounded into the result's block. -/
theorem runD (d : Vec F S1024x2048 .bf16) (K : PUnit → sProp 𝕄) (h1 : ¬ c1 (i 2).val) (h2 : ¬ c2 (i 2).val) (h3 : c3 (i 2).val) (h4 : k7_cond4 i = 1#1) :
    iprop(owns (c : Thread nD τ) arg3 fullShare x0 ∗ owns (c : Thread nD τ) arg4 fullShare x1 ∗ owns (c : Thread nD τ) arg6 fullShare a ∗ owns (c : Thread nD τ) arg5 fullShare d
        ∗ (iprop(owns (c : Thread nD τ) arg3 fullShare x0 ∗ owns (c : Thread nD τ) arg4 fullShare x1
            ∗ owns (c : Thread nD τ) arg6 fullShare (k7_pay3 a (tl0 x0) (tl1 x1))
            ∗ owns (c : Thread nD τ) arg5 fullShare (k7_pay4 (k7_pay3 a (tl0 x0) (tl1 x1)))) -∗ K ⟨⟩))
      ⊢ wp frame (wpE (defs₀ (F := F)) 𝒱₀ c none) E (cc7_dx i arg3 harg3 arg4 harg4 arg5 harg5 arg6 harg6) K := by
  simp only [cc7_dx_eq_skeleton]; unfold cc7_dx_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg6.eq_unread hf2; obtain rfl := harg5.eq_unread hf3
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    exact (View.read_writes_full _ _ _ _ _).trans (congr (congr (congrArg (k7_pay3 (F := F)) (ldFull _ harg6 _ _)) (ldTail _ harg3 _ _ _)) (ldTail _ harg4 _ _ _))
  iexists _; isplitr
  swap; · iexact H3
  ipureintro
  sl_unfold_words
  exact (View.read_writes_full _ _ _ _ _).trans (congrArg (k7_pay4 (F := F)) ((View.readCov_full _ _ _ _ _).trans (congr (congr (congrArg (k7_pay3 (F := F)) (ldFull _ harg6 _ _)) (ldTail _ harg3 _ _ _)) (ldTail _ harg4 _ _ _))))

end Runs

end Cert.KernelIdeal.Own.Dx

end
-- ==== Proof.KernelIdeal.DwguRun.lean ====
/-
  The call for `dw_gu`: what one run of its body does. Two blocks are read and their product is added to the block of
  the result, which the first step fills with zeros. The blocks at the end of the feature axis overhang the arrays, and
  there only the part inside is computed.
-/
module

public import proofs.«01_k».proof.Proof.KernelIdeal.DxRun
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.KernelIdeal.Own.Dwgu

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Own.Dx (remW c1 c2 c3 ldFull ldTail)
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions -/

theorem hc1 (i : grid5.Coords) : k5_cond1 i = 1#1 ↔ (i 2).val = 0 :=
  (by decide : ∀ n < 12, c1 n ↔ n = 0) (i 2).val (i 2).isLt
theorem hc2 (i : grid5.Coords) : k5_cond2 i = 1#1 ↔ ¬ (i 0).val % 4 = 3 := Dx.hc2 (i 0).val (i 0).isLt
theorem hc3 (i : grid5.Coords) : k5_cond3 i = 1#1 ↔ (i 0).val % 4 = 3 := Dx.hc3 (i 0).val (i 0).isLt

/-! ## One run of the body -/

/-- The part of the second operand's block inside its array, at the end of the feature axis. -/
abbrev tl1 (x : Vec F S1x2048x2816 .bf16) : Vec F S1x2048x2560 .bf16 := VecWindow.window x ![0, 0, 0] S1x2048x2560.size inb_S1x2048x2816_S1x2048x2560_0_0_0
/-- The part of the result's block inside its array. -/
abbrev tl2 (x : Vec F S1x1024x2816 .f32) : Vec F S1x1024x2560 .f32 := VecWindow.window x ![0, 0, 0] S1x1024x2560.size inb_S1x1024x2816_S1x1024x2560_0_0_0
/-- The result's block with that part replaced. -/
abbrev pt2 (x : Vec F S1x1024x2816 .f32) (w : Vec F S1x1024x2560 .f32) : Vec F S1x1024x2816 .f32 := VecWindow.put x ![0, 0, 0] S1x1024x2560.size w

/-- What the result's block holds after step `k` of feature block `j`, from what it held before. -/
def step (j k : ℕ) (x0 : Vec F S1024x2048 .bf16) (x1 : Vec F S1x2048x2816 .bf16) (a : Vec F S1x1024x2816 .f32) : Vec F S1x1024x2816 .f32 :=
  if j % 4 = 3 then (if k = 0 then pt2 (k5_pay1 (F := F)) (k5_pay3 (tl2 (k5_pay1 (F := F))) x0 (tl1 x1)) else pt2 a (k5_pay3 (tl2 a) x0 (tl1 x1)))
  else (if k = 0 then k5_pay2 (k5_pay1 (F := F)) x0 x1 else k5_pay2 a x0 x1)

variable (𝒱₀ : Variants)

section Runs
variable (c : Dev nD) (i : grid5.Coords) (arg3 : Memref sig .tc .vmem S1024x2048 .bf16) (harg3 : arg3.IsWhole)
  (arg4 : Memref sig .tc .vmem S1x2048x2816 .bf16) (harg4 : arg4.IsWhole) (arg5 : Memref sig .tc .vmem S1x1024x2816 .f32) (harg5 : arg5.IsWhole)
  (x0 : Vec F S1024x2048 .bf16) (x1 : Vec F S1x2048x2816 .bf16) (a : Vec F S1x1024x2816 .f32) (E : Set ℕ)

/-- The first step of a whole block. -/
theorem runA (K : PUnit → sProp 𝕄) (h1 : k5_cond1 i = 1#1)(h2 : k5_cond2 i = 1#1)(h3 : ¬ k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k5_pay2 (k5_pay1 (F := F)) x0 x1)) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k5_pay2 (F := F)) (View.readCov_full _ _ _ _ _)) (ldFull _ harg3 _ _)) (ldFull _ harg4 _ _))

/-- A later step of a whole block. -/
theorem runB (K : PUnit → sProp 𝕄) (h1 : ¬ k5_cond1 i = 1#1)(h2 : k5_cond2 i = 1#1)(h3 : ¬ k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k5_pay2 a x0 x1)) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k5_pay2 (F := F)) (ldFull _ harg5 _ _)) (ldFull _ harg3 _ _)) (ldFull _ harg4 _ _))

/-- The first step of a block that overhangs the arrays. -/
theorem runC (K : PUnit → sProp 𝕄) (h1 : k5_cond1 i = 1#1)(h2 : ¬ k5_cond2 i = 1#1)(h3 : k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (pt2 (k5_pay1 (F := F)) (k5_pay3 (tl2 (k5_pay1 (F := F))) x0 (tl1 x1)))) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  sl_unfold_words
  refine (View.read_writes_cons_put _ _ _ _ _ rfl).trans ?_
  refine congrArg₂ (fun (z : Vec F S1x1024x2816 .f32) (w : Vec F S1x1024x2560 .f32) => pt2 z w) (View.read_writes_full _ _ _ _ _) (congr (congr (congrArg (k5_pay3 (F := F)) ?_) (ldFull _ harg3 _ _)) (ldTail _ harg4 _ _ _))
  exact (View.readAt_unit arg5.view _ _ rfl _).trans (congrArg tl2 (View.read_writes_full _ _ _ _ _))

/-- A later step of a block that overhangs the arrays. -/
theorem runD (K : PUnit → sProp 𝕄) (h1 : ¬ k5_cond1 i = 1#1)(h2 : ¬ k5_cond2 i = 1#1)(h3 : k5_cond3 i = 1#1) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (pt2 a (k5_pay3 (tl2 a) x0 (tl1 x1)))) -∗ K ⟨⟩))
      ⊢ wp frame (wpE (defs₀ (F := F)) 𝒱₀ c none) E (cc5_dw_gu i arg3 harg3 arg4 harg4 arg5 harg5) K := by
  simp only [cc5_dw_gu_eq_skeleton]; unfold cc5_dw_gu_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  sl_unfold_words
  refine (View.read_writes_cons_put _ _ _ _ _ rfl).trans ?_
  exact congrArg₂ (fun (z : Vec F S1x1024x2816 .f32) (w : Vec F S1x1024x2560 .f32) => pt2 z w) (harg5.read_unread _) (congr (congr (congrArg (k5_pay3 (F := F)) (ldTail _ harg5 _ _ _)) (ldFull _ harg3 _ _)) (ldTail _ harg4 _ _ _))

end Runs

end Cert.KernelIdeal.Own.Dwgu

end
-- ==== Proof.KernelIdeal.Dwgu.lean ====
/-
  The call for `dw_gu` as a pipeline: what its buffers hold point by point, and that the body keeps to it, from any
  contents of the arrays. The result's buffer gathers the products of one block; of a block that overhangs the array
  only the part inside is followed.
-/
module

public import proofs.«01_k».proof.Proof.KernelIdeal.DwguRun

@[expose] public section

set_option maxRecDepth 16384

noncomputable section

namespace Cert.KernelIdeal.Own.Dwgu

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Two contents of a block have the same part inside the array iff they agree wherever the transfer moves. -/
theorem cut_iff {G : Pipeline.Grid} (w : Window sig G) (i : G.Coords) {α : Type} (X Y : w.block.Idx → α) :
    w.cut i X = w.cut i Y ↔ ∀ j, w.moved i j = true → X j = Y j :=
  ⟨fun h j hm => congrFun h fun a => ⟨(j a).val, (w.moved_iff i j).mp hm a⟩, fun h => funext fun j => h _ (w.moved_xinj i j)⟩

/-! ## The blocks -/

/-- Window `w`'s block at point `t`, the part inside its array. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The second operand's block, zeros past the array's end. -/
def xb1 (c : Dev nD) (t : Fin cfg5.N) : Vec F S1x2048x2816 .bf16 :=
  win5_1.fill (grid5.coords t) (fun _ => Scalar.ofBits .bf16 0#16) (iblk V c 1 t)

theorem e0 (t : Fin cfg5.N) : (grid5.coords t 0).val = t.val / 48 := by
  have ht : t.val < 384 := Nat.lt_of_lt_of_eq t.isLt N_5
  rw [show (grid5.coords t 0).val = t.val / 48 % 8 from Pipeline.Grid.coords_val t 0 (by decide) rfl]
  omega
theorem e2 (t : Fin cfg5.N) : (grid5.coords t 2).val = t.val % 12 := by
  rw [show (grid5.coords t 2).val = t.val / 1 % 12 from Pipeline.Grid.coords_val t 2 (by decide) rfl, Nat.div_one]

/-- How much of each block lies inside its array. -/
theorem xsz : ∀ t : Fin cfg5.N, (¬ t.val / 48 % 4 = 3 → (∀ a, win5_1.clip (grid5.coords t) a = none) ∧ ∀ a, win5_2.clip (grid5.coords t) a = none)
    ∧ (t.val / 48 % 4 = 3 → (∀ a, win5_1.xsize (grid5.coords t) a = S1x2048x2560.size a) ∧ ∀ a, win5_2.xsize (grid5.coords t) a = S1x1024x2560.size a) :=
  (by decide +kernel : ∀ t : Fin grid5.N, _)

/-- Of a block that does not overhang everything is inside. -/
theorem all_moved (t : Fin cfg5.N) (h : ∀ a, win5_2.clip (grid5.coords t) a = none) (j : S1x1024x2816.Idx) : win5_2.moved (grid5.coords t) j = true :=
  (win5_2.moved_iff _ j).mpr fun a => by have := (j a).isLt; unfold Window.xsize; rw [h a]; exact this

/-- The part inside an overhanging block of the second operand. -/
theorem tl1_congr (t : Fin cfg5.N) (h3 : t.val / 48 % 4 = 3) (X Y : Vec F S1x2048x2816 .bf16)
    (h : ∀ j, win5_1.moved (grid5.coords t) j = true → X j = Y j) : tl1 X = tl1 Y := by
  funext y
  refine h _ ((win5_1.moved_iff _ _).mpr fun a => ?_)
  rw [((xsz t).2 h3).1 a, Rect.emb_apply]
  have := (y a).isLt
  have hz : (![0, 0, 0] : Fin 3 → ℕ) a = 0 := by fin_cases a <;> rfl
  show (![0, 0, 0] : Fin 3 → ℕ) a + 1 * (y a).val < _
  rw [hz]; show 0 + 1 * (y a).val < _; rw [Nat.zero_add, Nat.one_mul]; exact this

/-- The part inside an overhanging block of the result. -/
theorem tl2_congr (t : Fin cfg5.N) (h3 : t.val / 48 % 4 = 3) (X Y : Vec F S1x1024x2816 .f32)
    (h : ∀ j, win5_2.moved (grid5.coords t) j = true → X j = Y j) : tl2 X = tl2 Y := by
  funext y
  refine h _ ((win5_2.moved_iff _ _).mpr fun a => ?_)
  rw [((xsz t).2 h3).2 a, Rect.emb_apply]
  have := (y a).isLt
  have hz : (![0, 0, 0] : Fin 3 → ℕ) a = 0 := by fin_cases a <;> rfl
  show (![0, 0, 0] : Fin 3 → ℕ) a + 1 * (y a).val < _
  rw [hz]; show 0 + 1 * (y a).val < _; rw [Nat.zero_add, Nat.one_mul]; exact this

/-- A block with its part inside the array replaced is the replacement there. -/
theorem pt2_moved (t : Fin cfg5.N) (h3 : t.val / 48 % 4 = 3) (X Y : Vec F S1x1024x2816 .f32) (w : Vec F S1x1024x2560 .f32) (j : S1x1024x2816.Idx)
    (hm : win5_2.moved (grid5.coords t) j = true) : pt2 X w j = pt2 Y w j := by
  have hj : ∀ a, (![0, 0, 0] : Fin 3 → ℕ) a ≤ (j a).val ∧ (j a).val < (![0, 0, 0] : Fin 3 → ℕ) a + S1x1024x2560.size a := fun a => by
    have := (win5_2.moved_iff _ _).mp hm a
    rw [((xsz t).2 h3).2 a] at this
    have hz : (![0, 0, 0] : Fin 3 → ℕ) a = 0 := by fin_cases a <;> rfl
    rw [hz]; exact ⟨Nat.zero_le _, by rw [Nat.zero_add]; exact this⟩
  unfold pt2 VecWindow.put
  rw [dif_pos hj, dif_pos hj]

/-- A step's part inside the array reads nothing past the arrays' ends. -/
theorem step_cut (t : Fin cfg5.N) (x0 : Vec F S1024x2048 .bf16) (d1 d1' : Vec F S1x2048x2816 .bf16)
    (g1 : (win5_1.xblock (grid5.coords t)).Idx → Elt F .bf16) (a a' : Vec F S1x1024x2816 .f32)
    (ha : t.val % 12 ≠ 0 → win5_2.cut (grid5.coords t) a = win5_2.cut (grid5.coords t) a') :
    win5_2.cut (grid5.coords t) (step (t.val / 48) (t.val % 12) x0 (win5_1.fill (grid5.coords t) d1 g1) a)
      = win5_2.cut (grid5.coords t) (step (t.val / 48) (t.val % 12) x0 (win5_1.fill (grid5.coords t) d1' g1) a') := by
  by_cases h3 : t.val / 48 % 4 = 3
  · have e1 : tl1 (win5_1.fill (grid5.coords t) d1 g1) = tl1 (win5_1.fill (grid5.coords t) d1' g1) :=
      tl1_congr t h3 _ _ fun j hm => by unfold Window.fill; rw [dif_pos hm, dif_pos hm]
    unfold step
    simp only [if_pos h3, e1]
    by_cases h0 : t.val % 12 = 0
    · simp only [if_pos h0]
    · simp only [if_neg h0]
      rw [tl2_congr t h3 a a' ((cut_iff _ _ _ _).mp (ha h0))]
      exact (cut_iff _ _ _ _).mpr fun j hm => pt2_moved t h3 _ _ _ j hm
  · have e1 : win5_1.fill (grid5.coords t) d1 g1 = win5_1.fill (grid5.coords t) d1' g1 :=
      Pipeline.fill_of_clip_none (cfg := cfg5) 1 (grid5.coords t) ((xsz t).1 h3).1 d1 d1' g1
    unfold step
    simp only [if_neg h3, e1]
    by_cases h0 : t.val % 12 = 0
    · simp only [if_pos h0]
    · rw [show a = a' from funext fun j => (cut_iff _ _ _ _).mp (ha h0) j (all_moved t ((xsz t).1 h3).2 j)]

/-! ## What the result's buffer holds -/

/-- The result's buffer after point `n`. -/
def acc (c : Dev nD) : (n : ℕ) → n < cfg5.N → Vec F S1x1024x2816 .f32
  | 0, h => step (0 / 48) (0 % 12) (iblk V c 0 ⟨0, h⟩) (xb1 V c ⟨0, h⟩) (k5_pay1 (F := F))
  | n + 1, h => step ((n + 1) / 48) ((n + 1) % 12) (iblk V c 0 ⟨n + 1, h⟩) (xb1 V c ⟨n + 1, h⟩) (acc c n (Nat.lt_of_succ_lt h))

/-! ## The proof data -/

/-- The call's invariant: what it scopes, untouched. -/
def ΦK (c : Dev nD) : sProp 𝕄 :=
  iprop(Pipeline.scopedRest (Ix := Ix) (Name := ℕ) (U := U) (Lvl := Lvl) (Val := Elt F) spec5 c ∗ ∃ r, prngReg c r)

/-- The proof data: the operands' buffers keep their blocks, the result's gathers the products. -/
def dat (c : Dev nD) : Dat τ (Elt F) Ix ℕ U Lvl cfg5 c where
  A w := V c (Pipeline.arrRef spec5 w)
  after w t := match w with
    | ⟨0, _⟩ => iblk V c 0 t
    | ⟨1, _⟩ => xb1 V c t
    | ⟨2, _⟩ => acc V c t.val t.isLt
  Φ _ := ΦK (F := F) (Ix := Ix) (U := U) (Lvl := Lvl) c
  q _ := fullShare
  owed _ := D c

theorem A_eq (c : Dev nD) (w : Fin cfg5.W) : (dat (Ix := Ix) (U := U) (Lvl := Lvl) V D c).A w = V c (Pipeline.arrRef spec5 w) := by
  dsimp only [dat]

theorem after_0 (c : Dev nD) (t : Fin cfg5.N) : (dat (Ix := Ix) (U := U) (Lvl := Lvl) V D c).after 0 t = iblk V c 0 t := by dsimp only [dat]
theorem after_2 (c : Dev nD) (t : Fin cfg5.N) : (dat (Ix := Ix) (U := U) (Lvl := Lvl) V D c).after 2 t = acc V c t.val t.isLt := by dsimp only [dat]

theorem before_0 (c : Dev nD) (t : Fin cfg5.N) (d) : (dat (Ix := Ix) (U := U) (Lvl := Lvl) V D c).before 0 t d = iblk V c 0 t := by
  unfold Dat.before; rw [if_pos (fetch5_0 t)]; rfl
theorem before_1 (c : Dev nD) (t : Fin cfg5.N) (d) : (dat (Ix := Ix) (U := U) (Lvl := Lvl) V D c).before 1 t d = win5_1.fill (grid5.coords t) d (iblk V c 1 t) := by
  unfold Dat.before; rw [if_pos (fetch5_1 t)]; rfl

/-- The result's buffer is stored at every point. -/
theorem not_idle (t : Fin cfg5.N) : idle5 2 (grid5.coords t) = false := by
  show (!(k5_cond1 (grid5.coords t) == 1#1) && !(k5_cond2 (grid5.coords t) == 1#1) && !(k5_cond3 (grid5.coords t) == 1#1)) = false
  by_cases h : (grid5.coords t 0).val % 4 = 3
  · rw [(hc3 _).mpr h]; simp
  · rw [(hc2 _).mpr h]; simp

/-- What lies inside a block lies inside it at the point before, when that is a point of the same block. -/
theorem moved_prev (n : ℕ) (h : n + 1 < cfg5.N) (h0 : (n + 1) % 12 ≠ 0) (j : S1x1024x2816.Idx)
    (hm : win5_2.moved (grid5.coords ⟨n + 1, h⟩) j = true) : win5_2.moved (grid5.coords ⟨n, Nat.lt_of_succ_lt h⟩) j = true := by
  by_cases h3 : n / 48 % 4 = 3
  · refine (win5_2.moved_iff _ _).mpr fun a => ?_
    have := (win5_2.moved_iff _ _).mp hm a
    rw [((xsz ⟨n + 1, h⟩).2 (by show (n + 1) / 48 % 4 = 3; omega)).2 a] at this
    rw [((xsz ⟨n, Nat.lt_of_succ_lt h⟩).2 h3).2 a]; exact this
  · exact all_moved _ ((xsz ⟨n, Nat.lt_of_succ_lt h⟩).1 h3).2 j

/-- Inside a block that is not new, the body finds what the point before left. -/
theorem before_2 (c : Dev nD) (n : ℕ) (h : n + 1 < cfg5.N) (h0 : (n + 1) % 12 ≠ 0) (d) (j : S1x1024x2816.Idx)
    (hm : win5_2.moved (grid5.coords ⟨n + 1, h⟩) j = true) :
    (dat (Ix := Ix) (U := U) (Lvl := Lvl) V D c).before 2 ⟨n + 1, h⟩ d j = acc V c n (Nat.lt_of_succ_lt h) j := by
  have hf : ¬ (cfg5.win 2).flush ⟨n, Nat.lt_of_succ_lt h⟩ = true := fun e => by
    have := (flush5_2 ⟨n, Nat.lt_of_succ_lt h⟩).mp e
    have : n % 12 = 11 := this
    omega
  rw [(dat (Ix := Ix) (U := U) (Lvl := Lvl) V D c).before_of_pos 2 ⟨n + 1, h⟩ (Nat.succ_ne_zero n) rfl d]
  show (if (cfg5.win 2).flush ⟨n, _⟩ = true then d else (dat (Ix := Ix) (U := U) (Lvl := Lvl) V D c).left 2 ⟨n, _⟩ d) j = _
  rw [if_neg hf]
  unfold Dat.left
  rw [show cfg5.idle 2 (cfg5.grid.coords ⟨n, Nat.lt_of_succ_lt h⟩) = false from not_idle _]
  show win5_2.fill (grid5.coords ⟨n, _⟩) d (win5_2.cut (grid5.coords ⟨n, _⟩) ((dat (Ix := Ix) (U := U) (Lvl := Lvl) V D c).after 2 ⟨n, _⟩)) j = _
  unfold Window.fill
  rw [dif_pos (moved_prev n h h0 j hm), after_2]
  rfl

/-- The body's step at `t` makes the inside of the block after `t`. -/
theorem acc_step (c : Dev nD) (t : Fin cfg5.N) (d1 : Vec F S1x2048x2816 .bf16) (d2) :
    win5_2.cut (grid5.coords t) (step (t.val / 48) (t.val % 12) (iblk V c 0 t) (win5_1.fill (grid5.coords t) d1 (iblk V c 1 t)) ((dat (Ix := Ix) (U := U) (Lvl := Lvl) V D c).before 2 t d2))
      = win5_2.cut (grid5.coords t) (acc V c t.val t.isLt) := by
  obtain ⟨n, hn⟩ := t
  cases n with
  | zero => exact step_cut ⟨0, hn⟩ (iblk V c 0 ⟨0, hn⟩) d1 (fun _ => Scalar.ofBits .bf16 0#16) (iblk V c 1 ⟨0, hn⟩) ((dat (Ix := Ix) (U := U) (Lvl := Lvl) V D c).before 2 ⟨0, hn⟩ d2) (k5_pay1 (F := F)) fun h => absurd rfl h
  | succ n =>
    exact step_cut ⟨n + 1, hn⟩ _ d1 (fun _ => Scalar.ofBits .bf16 0#16) _ _ (acc V c n (Nat.lt_of_succ_lt hn)) fun h =>
      (cut_iff _ _ _ _).mpr fun j hm => before_2 V D c n hn h d2 j hm

/-! ## The body obligation -/

variable (ι : Ix)

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The body at a point: the result's buffer takes one step. -/
theorem body_run (c : Dev nD) (t : Fin cfg5.N) (x0 : Vec F S1024x2048 .bf16) (x1 : Vec F S1x2048x2816 .bf16) (a : Vec F S1x1024x2816 .f32)
    (K : PUnit → sProp 𝕄) :
    iprop(owns (c : Thread nD τ) (st5_0 t) fullShare x0 ∗ owns (c : Thread nD τ) (st5_1 t) fullShare x1 ∗ owns (c : Thread nD τ) (st5_2 t) fullShare a
        ∗ (iprop(owns (c : Thread nD τ) (st5_0 t) fullShare x0 ∗ owns (c : Thread nD τ) (st5_1 t) fullShare x1
            ∗ owns (c : Thread nD τ) (st5_2 t) fullShare (step (t.val / 48) (t.val % 12) x0 x1 a)) -∗ K ⟨⟩))
      ⊢ wp frame (wpE (defs₀ (F := F)) 𝒱₀ c none) Set.univ (bodyAt5 t) K := by
  unfold step
  by_cases h3 : t.val / 48 % 4 = 3
  · have k3 : k5_cond3 (grid5.coords t) = 1#1 := (hc3 _).mpr (by rw [e0]; exact h3)
    have k2 : ¬ k5_cond2 (grid5.coords t) = 1#1 := fun h => (hc2 _).mp h (by rw [e0]; exact h3)
    simp only [if_pos h3]
    by_cases h0 : t.val % 12 = 0
    · simp only [if_pos h0]
      exact runC 𝒱₀ c (grid5.coords t) _ _ _ _ _ _ _ _ _ Set.univ K ((hc1 _).mpr (by rw [e2]; exact h0)) k2 k3
    · simp only [if_neg h0]
      exact runD 𝒱₀ c (grid5.coords t) _ _ _ _ _ _ _ _ _ Set.univ K (fun h => h0 (by rw [← e2]; exact (hc1 _).mp h)) k2 k3
  · have k3 : ¬ k5_cond3 (grid5.coords t) = 1#1 := fun h => h3 (by rw [← e0]; exact (hc3 _).mp h)
    have k2 : k5_cond2 (grid5.coords t) = 1#1 := (hc2 _).mpr (by rw [e0]; exact h3)
    simp only [if_neg h3]
    by_cases h0 : t.val % 12 = 0
    · simp only [if_pos h0]
      exact runA 𝒱₀ c (grid5.coords t) _ _ _ _ _ _ _ _ _ Set.univ K ((hc1 _).mpr (by rw [e2]; exact h0)) k2 k3
    · simp only [if_neg h0]
      exact runB 𝒱₀ c (grid5.coords t) _ _ _ _ _ _ _ _ _ Set.univ K (fun h => h0 (by rw [← e2]; exact (hc1 _).mp h)) k2 k3

/-- The library's body obligation, at every point. -/
theorem body_obligation (c : Dev nD) : BodyObligationLoose (dat (Ix := Ix) (U := U) (Lvl := Lvl) V D c) (defs₀ (F := F)) 𝒱₀ ι Set.univ := fun t => by
  rw [bigSep_W5, bigSep_W5, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  rw [not_idle]
  iintro ⟨HΦ, Ho, ⟨%d0, H0⟩, ⟨%d1, H1⟩, ⟨%d2, H2⟩⟩
  rw [before_0 V D c t d0, before_1 V D c t d1]
  iapply (body_run 𝒱₀ c t _ _ ((dat (Ix := Ix) (U := U) (Lvl := Lvl) V D c).before 2 t d2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]
  · iexists d1
    rw [show win5_1.cut (grid5.coords t) ((dat (Ix := Ix) (U := U) (Lvl := Lvl) V D c).after 1 t) = iblk V c 1 t from win5_1.cut_fill _ _ _]; iexact H1
  · iexists (step (t.val / 48) (t.val % 12) (iblk V c 0 t) (win5_1.fill (grid5.coords t) d1 (iblk V c 1 t)) ((dat (Ix := Ix) (U := U) (Lvl := Lvl) V D c).before 2 t d2))
    rw [after_2, win5_2.fill_congr_cut (grid5.coords t) (acc_step V D c t d1 d2)]; iexact H2

end Cert.KernelIdeal.Own.Dwgu

end
-- ==== Proof.KernelIdeal.DwdRun.lean ====
/-
  The call for `dw_down`: what one run of its body does. Two blocks are read and their product is added to the block of
  the result, which the first step fills with zeros.
-/
module

public import proofs.«01_k».proof.Proof.KernelIdeal.DxRun
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.KernelIdeal.Own.Dwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Own.Dx (remW c1 c2 c3 ldFull ldTail)
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The branch condition -/

theorem hc1 (i : grid6.Coords) : c1 (i 2).val ↔ (i 2).val = 0 :=
  (by decide : ∀ n < 12, c1 n ↔ n = 0) (i 2).val (i 2).isLt

/-! ## One run of the body -/

/-- What the result's block holds after step `k`, from what it held before. -/
def step (k : ℕ) (x0 : Vec F S1376x2048 .bf16) (x1 : Vec F S2048x1024 .bf16) (a : Vec F S1376x1024 .f32) : Vec F S1376x1024 .f32 :=
  if k = 0 then k6_pay2 (k6_pay1 (F := F)) x0 x1 else k6_pay2 a x0 x1

variable (𝒱₀ : Variants)

section Runs
variable (c : Dev nD) (i : grid6.Coords) (arg3 : Memref sig .tc .vmem S1376x2048 .bf16) (harg3 : arg3.IsWhole)
  (arg4 : Memref sig .tc .vmem S2048x1024 .bf16) (harg4 : arg4.IsWhole) (arg5 : Memref sig .tc .vmem S1376x1024 .f32) (harg5 : arg5.IsWhole)
  (x0 : Vec F S1376x2048 .bf16) (x1 : Vec F S2048x1024 .bf16) (a : Vec F S1376x1024 .f32) (E : Set ℕ)

/-- The first step of a block. -/
theorem runA (K : PUnit → sProp 𝕄) (h1 : c1 (i 2).val) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k6_pay2 (k6_pay1 (F := F)) x0 x1)) -∗ K ⟨⟩))
      ⊢ wp frame (wpE (defs₀ (F := F)) 𝒱₀ c none) E (cc6_dw_down i arg3 harg3 arg4 harg4 arg5 harg5) K := by
  simp only [cc6_dw_down_eq_skeleton]; unfold cc6_dw_down_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := sl_exact h1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k6_pay2 (F := F)) (View.readCov_full _ _ _ _ _)) (ldFull _ harg3 _ _)) (ldFull _ harg4 _ _))

/-- A later step of a block. -/
theorem runB (K : PUnit → sProp 𝕄) (h1 : ¬ c1 (i 2).val) :
    iprop(owns (c : Thread nD τ) arg3 fullShare x0 ∗ owns (c : Thread nD τ) arg4 fullShare x1 ∗ owns (c : Thread nD τ) arg5 fullShare a
        ∗ (iprop(owns (c : Thread nD τ) arg3 fullShare x0 ∗ owns (c : Thread nD τ) arg4 fullShare x1
            ∗ owns (c : Thread nD τ) arg5 fullShare (k6_pay2 a x0 x1)) -∗ K ⟨⟩))
      ⊢ wp frame (wpE (defs₀ (F := F)) 𝒱₀ c none) E (cc6_dw_down i arg3 harg3 arg4 harg4 arg5 harg5) K := by
  simp only [cc6_dw_down_eq_skeleton]; unfold cc6_dw_down_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := sl_exact h1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  exact (View.read_writes_full _ _ _ _ _).trans (congr (congr (congrArg (k6_pay2 (F := F)) (ldFull _ harg5 _ _)) (ldFull _ harg3 _ _)) (ldFull _ harg4 _ _))

end Runs

end Cert.KernelIdeal.Own.Dwd

end
-- ==== Proof.KernelIdeal.Dwd.lean ====
/-
  The call for `dw_down` as a pipeline: what its buffers hold point by point, and that the body keeps to it, from any
  contents of the arrays. The result's buffer gathers the products of one block.
-/
module

public import proofs.«01_k».proof.Proof.KernelIdeal.DwdRun

@[expose] public section

set_option maxRecDepth 16384

noncomputable section

namespace Cert.KernelIdeal.Own.Dwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem e2 (t : Fin cfg6.N) : (grid6.coords t 2).val = t.val % 12 := by
  rw [show (grid6.coords t 2).val = t.val / 1 % 12 from Pipeline.Grid.coords_val t 2 (by decide) rfl, Nat.div_one]

/-- What the result's buffer holds after point `n`. -/
def acc (c : Dev nD) : (n : ℕ) → n < cfg6.N → Vec F S1376x1024 .f32
  | 0, h => step (0 % 12) (iblk V c 0 ⟨0, h⟩) (iblk V c 1 ⟨0, h⟩) (k6_pay1 (F := F))
  | n + 1, h => step ((n + 1) % 12) (iblk V c 0 ⟨n + 1, h⟩) (iblk V c 1 ⟨n + 1, h⟩) (acc c n (Nat.lt_of_succ_lt h))

/-! ## The proof data -/

/-- The call's invariant: what it scopes, untouched. -/
def ΦK (c : Dev nD) : sProp 𝕄 :=
  iprop(Pipeline.scopedRest (Ix := Ix) (Name := ℕ) (U := U) (Lvl := Lvl) (Val := Elt F) spec6 c ∗ ∃ r, prngReg c r)

/-- The proof data: the operands' buffers keep their blocks, the result's gathers the products. -/
def dat (c : Dev nD) : Dat τ (Elt F) Ix ℕ U Lvl cfg6 c where
  A w := V c (Pipeline.arrRef spec6 w)
  after w t := match w with
    | ⟨0, _⟩ => iblk V c 0 t
    | ⟨1, _⟩ => iblk V c 1 t
    | ⟨2, _⟩ => acc V c t.val t.isLt
  Φ _ := ΦK (F := F) (Ix := Ix) (U := U) (Lvl := Lvl) c
  q _ := fullShare
  owed _ := D c

theorem A_eq (c : Dev nD) (w : Fin cfg6.W) : (dat (Ix := Ix) (U := U) (Lvl := Lvl) V D c).A w = V c (Pipeline.arrRef spec6 w) := by
  dsimp only [dat]

theorem after_0 (c : Dev nD) (t : Fin cfg6.N) : (dat (Ix := Ix) (U := U) (Lvl := Lvl) V D c).after 0 t = iblk V c 0 t := by dsimp only [dat]
theorem after_1 (c : Dev nD) (t : Fin cfg6.N) : (dat (Ix := Ix) (U := U) (Lvl := Lvl) V D c).after 1 t = iblk V c 1 t := by dsimp only [dat]
theorem after_2 (c : Dev nD) (t : Fin cfg6.N) : (dat (Ix := Ix) (U := U) (Lvl := Lvl) V D c).after 2 t = acc V c t.val t.isLt := by dsimp only [dat]

theorem before_0 (c : Dev nD) (t : Fin cfg6.N) (d) : (dat (Ix := Ix) (U := U) (Lvl := Lvl) V D c).before 0 t d = iblk V c 0 t := by
  unfold Dat.before; rw [if_pos (fetch6_0 t)]; rfl
theorem before_1 (c : Dev nD) (t : Fin cfg6.N) (d) : (dat (Ix := Ix) (U := U) (Lvl := Lvl) V D c).before 1 t d = iblk V c 1 t := by
  unfold Dat.before; rw [if_pos (fetch6_1 t)]; rfl

/-- Inside a block that is not new, the body finds what the point before left. -/
theorem before_2 (c : Dev nD) (n : ℕ) (h : n + 1 < cfg6.N) (h0 : (n + 1) % 12 ≠ 0) (d) :
    (dat (Ix := Ix) (U := U) (Lvl := Lvl) V D c).before 2 ⟨n + 1, h⟩ d = acc V c n (Nat.lt_of_succ_lt h) := by
  have hf : ¬ (cfg6.win 2).flush ⟨n, Nat.lt_of_succ_lt h⟩ = true := fun e => by
    have := (flush6_2 ⟨n, Nat.lt_of_succ_lt h⟩).mp e
    have : n % 12 = 11 := this
    omega
  rw [(dat (Ix := Ix) (U := U) (Lvl := Lvl) V D c).before_of_pos 2 ⟨n + 1, h⟩ (Nat.succ_ne_zero n) rfl d]
  show (if (cfg6.win 2).flush ⟨n, _⟩ = true then d else (dat (Ix := Ix) (U := U) (Lvl := Lvl) V D c).left 2 ⟨n, _⟩ d) = _
  rw [if_neg hf]
  rfl

/-- The body's step at `t` makes the block after `t`. -/
theorem acc_step (c : Dev nD) (t : Fin cfg6.N) (d2) :
    step (t.val % 12) (iblk V c 0 t) (iblk V c 1 t) ((dat (Ix := Ix) (U := U) (Lvl := Lvl) V D c).before 2 t d2) = acc V c t.val t.isLt := by
  obtain ⟨n, hn⟩ := t
  cases n with
  | zero => show step (0 % 12) _ _ _ = step (0 % 12) _ _ _; unfold step; rw [if_pos (Nat.zero_mod 12), if_pos (Nat.zero_mod 12)]
  | succ n =>
    show step ((n + 1) % 12) _ _ _ = step ((n + 1) % 12) _ _ _
    by_cases h0 : (n + 1) % 12 = 0
    · unfold step; rw [if_pos h0, if_pos h0]
    · rw [before_2 V D c n hn h0]

/-! ## The body obligation -/

variable (ι : Ix)

/-- The body table's row at point `t`'s slots is the body as `bodyAt6` spells it. -/
theorem defs₀_row (t : Fin cfg6.N) :
    defs₀ (F := F) .tc cfg6.body (cfg6.bodyArgs t (cfg6.slots t)) = bodyAt6 t := by
  unfold defs₀; rw [Defs.onTc_tc]

/-- The body at a point: the result's buffer takes one step. -/
theorem body_run (c : Dev nD) (t : Fin cfg6.N) (x0 : Vec F S1376x2048 .bf16) (x1 : Vec F S2048x1024 .bf16) (a : Vec F S1376x1024 .f32)
    (K : PUnit → sProp 𝕄) :
    iprop(owns (c : Thread nD τ) (st6_0 t) fullShare x0 ∗ owns (c : Thread nD τ) (st6_1 t) fullShare x1 ∗ owns (c : Thread nD τ) (st6_2 t) fullShare a
        ∗ (iprop(owns (c : Thread nD τ) (st6_0 t) fullShare x0 ∗ owns (c : Thread nD τ) (st6_1 t) fullShare x1
            ∗ owns (c : Thread nD τ) (st6_2 t) fullShare (step (t.val % 12) x0 x1 a)) -∗ K ⟨⟩))
      ⊢ wp frame (wpE (defs₀ (F := F)) 𝒱₀ c none) Set.univ (bodyAt6 t) K := by
  unfold step
  by_cases h0 : t.val % 12 = 0
  · simp only [if_pos h0]
    exact runA 𝒱₀ c (grid6.coords t) _ _ _ _ _ _ _ _ _ Set.univ K ((hc1 _).mpr (by rw [e2]; exact h0))
  · simp only [if_neg h0]
    exact runB 𝒱₀ c (grid6.coords t) _ _ _ _ _ _ _ _ _ Set.univ K (fun h => h0 (by rw [← e2]; exact (hc1 _).mp h))

/-- The library's body obligation, at every point. -/
theorem body_obligation (c : Dev nD) : BodyObligation (dat (Ix := Ix) (U := U) (Lvl := Lvl) V D c) (defs₀ (F := F)) 𝒱₀ ι Set.univ := fun t => by
  rw [bigSep_W6, bigSep_W6, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.succ = (dat (Ix := Ix) (U := U) (Lvl := Lvl) V D c).Φ t.castSucc from rfl]
  iintro ⟨HΦ, Ho, ⟨%d0, H0⟩, ⟨%d1, H1⟩, ⟨%d2, H2⟩⟩
  rw [before_0 V D c t d0, before_1 V D c t d1]
  iapply (body_run 𝒱₀ c t _ _ ((dat (Ix := Ix) (U := U) (Lvl := Lvl) V D c).before 2 t d2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · rw [after_0]; iexact H0
  isplitl [H1]; · rw [after_1]; iexact H1
  rw [after_2, ← acc_step (U := U) (Lvl := Lvl) V D c t d2]; iexact H2

end Cert.KernelIdeal.Own.Dwd

end
-- ==== Proof.KernelIdeal.Dx.lean ====
/-
  The call for `dx` as a pipeline: what its buffers and its scratch hold point by point, and that the body keeps to it,
  from any contents of the arrays.
-/
module

public import proofs.«01_k».proof.Proof.KernelIdeal.DxRun

@[expose] public section

set_option maxRecDepth 16384

noncomputable section

namespace Cert.KernelIdeal.Own.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The blocks -/

/-- Window `w`'s block at point `t`, the part inside its array. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The first operand's block, zeros past the array's end. -/
def xb0 (c : Dev nD) (t : Fin cfg7.N) : Vec F S1x1024x2816 .bf16 :=
  win7_0.fill (grid7.coords t) (fun _ => Scalar.ofBits .bf16 0#16) (iblk V c 0 t)
/-- The second operand's block, zeros past the array's end. -/
def xb1 (c : Dev nD) (t : Fin cfg7.N) : Vec F S1x2048x2816 .bf16 :=
  win7_1.fill (grid7.coords t) (fun _ => Scalar.ofBits .bf16 0#16) (iblk V c 1 t)

/-- How much of each block lies inside its array. -/
theorem xsz : ∀ t : Fin cfg7.N, (¬ t.val % 4 = 3 → (∀ a, win7_0.clip (grid7.coords t) a = none) ∧ ∀ a, win7_1.clip (grid7.coords t) a = none)
    ∧ (t.val % 4 = 3 → (∀ a, win7_0.xsize (grid7.coords t) a = S1x1024x2560.size a) ∧ ∀ a, win7_1.xsize (grid7.coords t) a = S1x2048x2560.size a) :=
  (by decide +kernel : ∀ t : Fin grid7.N, _)

/-- A step reads nothing past the arrays' ends. -/
theorem step_fill (t : Fin cfg7.N) (d0 d0' : Vec F S1x1024x2816 .bf16) (d1 d1' : Vec F S1x2048x2816 .bf16)
    (g0 : (win7_0.xblock (grid7.coords t)).Idx → Elt F .bf16) (g1 : (win7_1.xblock (grid7.coords t)).Idx → Elt F .bf16) (a : Vec F S1024x2048 .f32) :
    step (t.val % 8) (win7_0.fill (grid7.coords t) d0 g0) (win7_1.fill (grid7.coords t) d1 g1) a
      = step (t.val % 8) (win7_0.fill (grid7.coords t) d0' g0) (win7_1.fill (grid7.coords t) d1' g1) a := by
  by_cases h3 : t.val % 4 = 3
  · have e0 : tl0 (win7_0.fill (grid7.coords t) d0 g0) = tl0 (win7_0.fill (grid7.coords t) d0' g0) := by
      funext y
      have hm : win7_0.moved (grid7.coords t) ((Rect.unit (s := S1x1024x2816) ![0, 0, 0] S1x1024x2560.size inb_S1x1024x2816_S1x1024x2560_0_0_0).emb y) = true :=
        (win7_0.moved_iff _ _).mpr fun a => by
          rw [((xsz t).2 h3).1 a, Rect.emb_apply]
          have := (y a).isLt
          have hz : (![0, 0, 0] : Fin 3 → ℕ) a = 0 := by fin_cases a <;> rfl
          show (![0, 0, 0] : Fin 3 → ℕ) a + 1 * (y a).val < _
          rw [hz]; show 0 + 1 * (y a).val < _; rw [Nat.zero_add, Nat.one_mul]; exact this
      show win7_0.fill _ _ _ _ = win7_0.fill _ _ _ _
      unfold Window.fill; rw [dif_pos hm, dif_pos hm]
    have e1 : tl1 (win7_1.fill (grid7.coords t) d1 g1) = tl1 (win7_1.fill (grid7.coords t) d1' g1) := by
      funext y
      have hm : win7_1.moved (grid7.coords t) ((Rect.unit (s := S1x2048x2816) ![0, 0, 0] S1x2048x2560.size inb_S1x2048x2816_S1x2048x2560_0_0_0).emb y) = true :=
        (win7_1.moved_iff _ _).mpr fun a => by
          rw [((xsz t).2 h3).2 a, Rect.emb_apply]
          have := (y a).isLt
          have hz : (![0, 0, 0] : Fin 3 → ℕ) a = 0 := by fin_cases a <;> rfl
          show (![0, 0, 0] : Fin 3 → ℕ) a + 1 * (y a).val < _
          rw [hz]; show 0 + 1 * (y a).val < _; rw [Nat.zero_add, Nat.one_mul]; exact this
      show win7_1.fill _ _ _ _ = win7_1.fill _ _ _ _
      unfold Window.fill; rw [dif_pos hm, dif_pos hm]
    have hA : ¬ t.val % 8 = 0 := by omega
    have hB : t.val % 8 % 4 = 3 := by omega
    unfold step
    simp only [if_neg hA, if_pos hB, e0, e1]
  · rw [Pipeline.fill_of_clip_none (cfg := cfg7) 0 (grid7.coords t) ((xsz t).1 h3).1 d0 d0' g0,
      Pipeline.fill_of_clip_none (cfg := cfg7) 1 (grid7.coords t) ((xsz t).1 h3).2 d1 d1' g1]

/-! ## What the scratch holds -/

/-- The scratch after point `n`. -/
def acc (c : Dev nD) : (n : ℕ) → n < cfg7.N → Vec F S1024x2048 .f32
  | 0, h => step 0 (xb0 V c ⟨0, h⟩) (xb1 V c ⟨0, h⟩) (k7_pay1 (F := F))
  | n + 1, h => step ((n + 1) % 8) (xb0 V c ⟨n + 1, h⟩) (xb1 V c ⟨n + 1, h⟩) (acc c n (Nat.lt_of_succ_lt h))

/-- The body's step at `t` makes the scratch after `t` from the scratch after the point before, whatever is past the
    arrays' ends. -/
theorem acc_step (c : Dev nD) (t : Fin cfg7.N) (a : Vec F S1024x2048 .f32) (ha : ∀ n (h : n < cfg7.N), t.val = n + 1 → a = acc V c n h)
    (d0 : Vec F S1x1024x2816 .bf16) (d1 : Vec F S1x2048x2816 .bf16) :
    step (t.val % 8) (win7_0.fill (grid7.coords t) d0 (iblk V c 0 t)) (win7_1.fill (grid7.coords t) d1 (iblk V c 1 t)) a = acc V c t.val t.isLt := by
  rw [step_fill t d0 (fun _ => Scalar.ofBits .bf16 0#16) d1 (fun _ => Scalar.ofBits .bf16 0#16)]
  obtain ⟨n, hn⟩ := t
  cases n with
  | zero => rfl
  | succ n => rw [ha n (Nat.lt_of_succ_lt hn) rfl]; rfl

/-- The call's scratch. -/
abbrev sc : Memref sig .tc .vmem S1024x2048 .f32 := Memref.whole cc7_scratch0

/-! ## The proof data -/

/-- What the core holds between points: the scratch after the point before, and the rest of what the call scopes. -/
def ΦK (c : Dev nD) (t : Fin (cfg7.N + 1)) : sProp 𝕄 :=
  iprop((∃ a, ⌜∀ n (h : n < cfg7.N), t.val = n + 1 → a = acc V c n h⌝ ∗ owns (c : Thread nD τ) sc fullShare a)
    ∗ Pipeline.scopedRestBut (Ix := Ix) (Name := ℕ) (U := U) (Lvl := Lvl) (Val := Elt F) spec7 c [cc7_scratch0] ∗ ∃ r, prngReg c r)

/-- The proof data: the operands' buffers keep their blocks, the result's block is the rounded scratch. -/
def dat (c : Dev nD) : Dat τ (Elt F) Ix ℕ U Lvl cfg7 c where
  A w := V c (Pipeline.arrRef spec7 w)
  after w t := match w with
    | ⟨0, _⟩ => xb0 V c t
    | ⟨1, _⟩ => xb1 V c t
    | ⟨2, _⟩ => k7_pay4 (acc V c t.val t.isLt)
  Φ t := ΦK (F := F) (Ix := Ix) (U := U) (Lvl := Lvl) V c t
  q _ := fullShare
  owed _ := D c

theorem A_eq (c : Dev nD) (w : Fin cfg7.W) : (dat (Ix := Ix) (U := U) (Lvl := Lvl) V D c).A w = V c (Pipeline.arrRef spec7 w) := by
  dsimp only [dat]

theorem after_2 (c : Dev nD) (t : Fin cfg7.N) : (dat (Ix := Ix) (U := U) (Lvl := Lvl) V D c).after 2 t = k7_pay4 (acc V c t.val t.isLt) := by dsimp only [dat]

theorem before_0 (c : Dev nD) (t : Fin cfg7.N) (d) : (dat (Ix := Ix) (U := U) (Lvl := Lvl) V D c).before 0 t d = win7_0.fill (grid7.coords t) d (iblk V c 0 t) := by
  unfold Dat.before; rw [if_pos (fetch7_0 t)]; rfl
theorem before_1 (c : Dev nD) (t : Fin cfg7.N) (d) : (dat (Ix := Ix) (U := U) (Lvl := Lvl) V D c).before 1 t d = win7_1.fill (grid7.coords t) d (iblk V c 1 t) := by
  unfold Dat.before; rw [if_pos (fetch7_1 t)]; rfl

/-- What the call scopes is its scratch and the rest. -/
theorem rest_split (c : Dev nD) :
    (Pipeline.scopedRest (Ix := Ix) (Name := ℕ) (U := U) (Lvl := Lvl) (Val := Elt F) spec7 c : sProp 𝕄)
      = iprop(iprop((∃ f : Buf (Elt F) ((c : Thread nD τ).loc cc7_scratch0), ((c : Thread nD τ).loc cc7_scratch0) ↦{fullShare} f))
          ∗ Pipeline.scopedRestBut (Ix := Ix) (Name := ℕ) (U := U) (Lvl := Lvl) (Val := Elt F) spec7 c [cc7_scratch0]) :=
  Pipeline.scopedRest_split_of_list spec7 c [cc7_scratch0] (by decide) (by decide)

/-- From what the call scopes to what the core holds before the first point. -/
theorem Φ_in (c : Dev nD) : iprop(Pipeline.scopedRest (Ix := Ix) (Name := ℕ) (U := U) (Lvl := Lvl) (Val := Elt F) spec7 c ∗ ∃ r, prngReg c r) ⊢ (dat (Ix := Ix) (U := U) (Lvl := Lvl) V D c).Φ 0 := by
  rw [rest_split]
  show _ ⊢ ΦK V c 0
  unfold ΦK
  iintro ⟨⟨⟨%f, H⟩, Hr⟩, Hp⟩
  isplitl [H]
  · iexists f
    isplitr; · ipureintro; intro n h e; exact absurd e (Nat.succ_ne_zero n).symm
    iapply (Entails.of_eq (owns_whole (c : Thread nD τ) cc7_scratch0 fullShare f).symm); iexact H
  isplitl [Hr]; · iexact Hr
  iexact Hp

/-- And back after the last. -/
theorem Φ_out (c : Dev nD) (t : Fin (cfg7.N + 1)) : (dat (Ix := Ix) (U := U) (Lvl := Lvl) V D c).Φ t ⊢ iprop(Pipeline.scopedRest (Ix := Ix) (Name := ℕ) (U := U) (Lvl := Lvl) (Val := Elt F) spec7 c ∗ ∃ r, prngReg c r) := by
  rw [rest_split]
  show ΦK V c t ⊢ _
  unfold ΦK
  iintro ⟨⟨%f, -, H⟩, Hr, Hp⟩
  isplitl [H Hr]
  · isplitl [H]
    · iexists f
      iapply (Entails.of_eq (owns_whole (c : Thread nD τ) cc7_scratch0 fullShare f)); iexact H
    iexact Hr
  iexact Hp

/-! ## The body obligation -/

variable (ι : Ix)

theorem e2 (t : Fin cfg7.N) : (grid7.coords t 2).val = t.val % 8 := by
  rw [show (grid7.coords t 2).val = t.val / 1 % 8 from Pipeline.Grid.coords_val t 2 (by decide) rfl, Nat.div_one]

/-- The body table's row at point `t`'s slots is the body as `bodyAt7` spells it. -/
theorem defs₀_row (t : Fin cfg7.N) :
    defs₀ (F := F) .tc cfg7.body (cfg7.bodyArgs t (cfg7.slots t)) = bodyAt7 t := by
  unfold defs₀; rw [Defs.onTc_tc]

/-- The scratch after point `t` is what the next point is told of it. -/
theorem told (c : Dev nD) (t : Fin cfg7.N) : ∀ n (h : n < cfg7.N), t.succ.val = n + 1 → acc V c t.val t.isLt = acc V c n h := by
  intro n h e
  obtain rfl : t.val = n := by simpa using e
  rfl

/-- At every point but the last of a block: the scratch is updated, the result's buffer stays. -/
theorem body_idle (c : Dev nD) (t : Fin cfg7.N) (hi : ¬ t.val % 8 = 7) (d0 : Vec F S1x1024x2816 .bf16) (d1 : Vec F S1x2048x2816 .bf16)
    (a : Vec F S1024x2048 .f32) (ha : ∀ n (h : n < cfg7.N), t.val = n + 1 → a = acc V c n h) (K : PUnit → sProp 𝕄) :
    iprop(owns (c : Thread nD τ) (st7_0 t) fullShare (win7_0.fill (grid7.coords t) d0 (iblk V c 0 t))
        ∗ owns (c : Thread nD τ) (st7_1 t) fullShare (win7_1.fill (grid7.coords t) d1 (iblk V c 1 t)) ∗ owns (c : Thread nD τ) sc fullShare a
        ∗ (iprop(owns (c : Thread nD τ) (st7_0 t) fullShare (win7_0.fill (grid7.coords t) d0 (iblk V c 0 t))
            ∗ owns (c : Thread nD τ) (st7_1 t) fullShare (win7_1.fill (grid7.coords t) d1 (iblk V c 1 t))
            ∗ owns (c : Thread nD τ) sc fullShare (acc V c t.val t.isLt)) -∗ K ⟨⟩))
      ⊢ wp frame (wpE (defs₀ (F := F)) 𝒱₀ c none) Set.univ (bodyAt7 t) K := by
  rw [← acc_step V c t a ha d0 d1]
  have h8 : t.val % 8 < 8 := Nat.mod_lt _ (by decide)
  have h4 : ¬ k7_cond4 (grid7.coords t) = 1#1 := fun h => hi ((e2 t).symm.trans ((hc4 _).mp h))
  unfold step
  by_cases h0 : t.val % 8 = 0
  · rw [if_pos h0]
    exact runA 𝒱₀ c (grid7.coords t) _ _ _ _ _ _ _ _ _ _ a Set.univ K (by rw [e2]; exact (hc1 _ h8).mpr h0)
      (by rw [e2]; exact (hc2 _ h8).mpr (by omega)) (by rw [e2]; exact fun h => absurd ((hc3 _ h8).mp h) (by omega)) h4
  · rw [if_neg h0]
    by_cases h3 : t.val % 8 % 4 = 3
    · rw [if_pos h3]
      exact runC 𝒱₀ c (grid7.coords t) _ _ _ _ _ _ _ _ _ _ a Set.univ K (by rw [e2]; exact fun h => h0 ((hc1 _ h8).mp h))
        (by rw [e2]; exact fun h => (hc2 _ h8).mp h h3) (by rw [e2]; exact (hc3 _ h8).mpr h3) h4
    · rw [if_neg h3]
      exact runB 𝒱₀ c (grid7.coords t) _ _ _ _ _ _ _ _ _ _ a Set.univ K (by rw [e2]; exact fun h => h0 ((hc1 _ h8).mp h))
        (by rw [e2]; exact (hc2 _ h8).mpr h3) (by rw [e2]; exact fun h => h3 ((hc3 _ h8).mp h)) h4

/-- At the last point of a block: the scratch is updated and rounded into the result's buffer. -/
theorem body_last (c : Dev nD) (t : Fin cfg7.N) (hi : t.val % 8 = 7) (d0 : Vec F S1x1024x2816 .bf16) (d1 : Vec F S1x2048x2816 .bf16)
    (a : Vec F S1024x2048 .f32) (d : Vec F S1024x2048 .bf16) (ha : ∀ n (h : n < cfg7.N), t.val = n + 1 → a = acc V c n h) (K : PUnit → sProp 𝕄) :
    iprop(owns (c : Thread nD τ) (st7_0 t) fullShare (win7_0.fill (grid7.coords t) d0 (iblk V c 0 t))
        ∗ owns (c : Thread nD τ) (st7_1 t) fullShare (win7_1.fill (grid7.coords t) d1 (iblk V c 1 t)) ∗ owns (c : Thread nD τ) sc fullShare a
        ∗ owns (c : Thread nD τ) (st7_2 t) fullShare d
        ∗ (iprop(owns (c : Thread nD τ) (st7_0 t) fullShare (win7_0.fill (grid7.coords t) d0 (iblk V c 0 t))
            ∗ owns (c : Thread nD τ) (st7_1 t) fullShare (win7_1.fill (grid7.coords t) d1 (iblk V c 1 t))
            ∗ owns (c : Thread nD τ) sc fullShare (acc V c t.val t.isLt)
            ∗ owns (c : Thread nD τ) (st7_2 t) fullShare (k7_pay4 (acc V c t.val t.isLt))) -∗ K ⟨⟩))
      ⊢ wp frame (wpE (defs₀ (F := F)) 𝒱₀ c none) Set.univ (bodyAt7 t) K := by
  rw [← acc_step V c t a ha d0 d1]
  have h8 : t.val % 8 < 8 := Nat.mod_lt _ (by decide)
  have h0 : ¬ t.val % 8 = 0 := by omega
  have h3 : t.val % 8 % 4 = 3 := by omega
  unfold step
  rw [if_neg h0, if_pos h3]
  exact runD 𝒱₀ c (grid7.coords t) _ _ _ _ _ _ _ _ _ _ a Set.univ d K (by rw [e2]; exact fun h => h0 ((hc1 _ h8).mp h))
        (by rw [e2]; exact fun h => (hc2 _ h8).mp h h3) (by rw [e2]; exact (hc3 _ h8).mpr h3) ((hc4 _).mpr ((e2 t).trans hi))

/-- The library's body obligation, at every point. -/
theorem body_obligation (c : Dev nD) : BodyObligationLoose (dat (Ix := Ix) (U := U) (Lvl := Lvl) V D c) (defs₀ (F := F)) 𝒱₀ ι Set.univ := fun t => by
  rw [bigSep_W7, bigSep_W7, defs₀_row]
  simp only
  rw [show (dat (Ix := Ix) (U := U) (Lvl := Lvl) V D c).owesAt ι t.succ = (dat (Ix := Ix) (U := U) (Lvl := Lvl) V D c).owesAt ι t.castSucc from rfl, show (dat (Ix := Ix) (U := U) (Lvl := Lvl) V D c).Φ t.castSucc = ΦK V c t.castSucc from rfl,
    show (dat (Ix := Ix) (U := U) (Lvl := Lvl) V D c).Φ t.succ = ΦK V c t.succ from rfl]
  by_cases hi : t.val % 8 = 7
  · have hf : (win7 2).flush t = true := (flush7_2 t).mpr hi
    have hid : idle7 2 (grid7.coords t) = false := by
      show (!(k7_cond4 (grid7.coords t) == 1#1)) = false
      rw [(hc4 _).mpr ((e2 t).trans hi)]; rfl
    rw [hid]
    unfold ΦK
    iintro ⟨⟨⟨%a, %ha, Hs⟩, Hr, Hp⟩, Ho, ⟨%d0, H0⟩, ⟨%d1, H1⟩, ⟨%d2, H2⟩⟩
    rw [before_0 V D c t d0, before_1 V D c t d1]
    iapply (body_last 𝒱₀ V c t hi d0 d1 a ((dat (Ix := Ix) (U := U) (Lvl := Lvl) V D c).before 2 t d2) ha _)
    isplitl [H0]; · iexact H0
    isplitl [H1]; · iexact H1
    isplitl [Hs]; · iexact Hs
    isplitl [H2]; · iexact H2
    iintro ⟨H0, H1, Hs, H2⟩
    isplitl [Hs Hr Hp]
    · isplitl [Hs]
      · iexists _; isplitr; · ipureintro; exact told V c t
        iexact Hs
      isplitl [Hr]; · iexact Hr
      iexact Hp
    isplitl [Ho]; · iexact Ho
    isplitl [H0]
    · iexists d0
      rw [show win7_0.cut (grid7.coords t) ((dat (Ix := Ix) (U := U) (Lvl := Lvl) V D c).after 0 t) = iblk V c 0 t from win7_0.cut_fill _ _ _]; iexact H0
    isplitl [H1]
    · iexists d1
      rw [show win7_1.cut (grid7.coords t) ((dat (Ix := Ix) (U := U) (Lvl := Lvl) V D c).after 1 t) = iblk V c 1 t from win7_1.cut_fill _ _ _]; iexact H1
    rw [after_2]; iexact H2
  · have hf : (win7 2).flush t = false := by
      cases h : (win7 2).flush t with
      | false => rfl
      | true => exact absurd ((flush7_2 t).mp h) hi
    have hid : idle7 2 (grid7.coords t) = true := by
      show (!(k7_cond4 (grid7.coords t) == 1#1)) = true
      have h4 : ¬ k7_cond4 (grid7.coords t) = 1#1 := fun h => hi ((e2 t).symm.trans ((hc4 _).mp h))
      simp [h4]
    rw [hid, hf]
    unfold ΦK
    iintro ⟨⟨⟨%a, %ha, Hs⟩, Hr, Hp⟩, Ho, ⟨%d0, H0⟩, ⟨%d1, H1⟩, ⟨%d2, H2⟩⟩
    rw [before_0 V D c t d0, before_1 V D c t d1]
    iapply (body_idle 𝒱₀ V c t hi d0 d1 a ha _)
    isplitl [H0]; · iexact H0
    isplitl [H1]; · iexact H1
    isplitl [Hs]; · iexact Hs
    iintro ⟨H0, H1, Hs⟩
    isplitl [Hs Hr Hp]
    · isplitl [Hs]
      · iexists _; isplitr; · ipureintro; exact told V c t
        iexact Hs
      isplitl [Hr]; · iexact Hr
      iexact Hp
    isplitl [Ho]; · iexact Ho
    isplitl [H0]
    · iexists d0
      rw [show win7_0.cut (grid7.coords t) ((dat (Ix := Ix) (U := U) (Lvl := Lvl) V D c).after 0 t) = iblk V c 0 t from win7_0.cut_fill _ _ _]; iexact H0
    isplitl [H1]
    · iexists d1
      rw [show win7_1.cut (grid7.coords t) ((dat (Ix := Ix) (U := U) (Lvl := Lvl) V D c).after 1 t) = iblk V c 1 t from win7_1.cut_fill _ _ _]; iexact H1
    iexists d2; iexact H2

end Cert.KernelIdeal.Own.Dx

end
-- ==== Proof.KernelIdeal.Run.lean ====
/-
  The whole program: each call's record between the contents of the unscoped buffers before it and after it, the host
  operations between, and the run — every execution ends, the arguments stay, the results are at the contents the calls
  and the host operations leave, every semaphore is at zero.
-/
module

public import proofs.«01_k».proof.Proof.Gen.KernelIdeal.Regions
public import proofs.«01_k».proof.Proof.KernelIdeal.DeqT
public import proofs.«01_k».proof.Proof.KernelIdeal.DeqRows
public import proofs.«01_k».proof.Proof.KernelIdeal.DeqWd
public import proofs.«01_k».proof.Proof.KernelIdeal.DeqWgu
public import proofs.«01_k».proof.Proof.KernelIdeal.Dh
public import proofs.«01_k».proof.Proof.KernelIdeal.Dwgu
public import proofs.«01_k».proof.Proof.KernelIdeal.Dwd
public import proofs.«01_k».proof.Proof.KernelIdeal.Dx
public import Idealize.ShloMosaic.Lib.Pipeline.RegionArrays

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The ghost algebra: the pipelines' rounds alone. -/
abbrev UU : Type := UR sig nD τ

local notation "𝕄" => MT nD τ sig Unit (Elt F) ℕ UU ℕ

/-- No region lends or borrows: one level on every core's own cells. -/
def L : GSem nD τ sig → Finset Unit := fun g => if g.1.2 = .tc then {()} else ∅
def lv : GSem nD τ sig → Unit → ℕ := fun _ _ => 0
/-- The core owes nothing across a region. -/
abbrev D0 : Dev nD → CellTallies nD τ sig Unit := fun _ => 0

variable (m : (ℓ : Loc nD τ sig) → Buf (Elt F) ℓ)

/-! ## The buffers' contents between items -/

/-- Core `c`'s unscoped buffers at launch. -/
def W0 (c : Dev nD) : Valuation τ sig (Elt F) := fun b => m (c, b)
/-- After the host operations of item 0. -/
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h
/-- Writing one buffer keeps the others. -/
theorem upd_of (W : Valuation τ sig (Elt F)) {r b : Ref sig .tc} (h : r ∉ [b]) (x) : Function.update W (Proc.devRef .tc b) x r = W r :=
  Function.update_of_ne (StableHlo.devRef_ne_of_ne fun e => h (List.mem_singleton.2 e)) _ _
/-- Region 0's proof data, from the contents before it. -/
def dat0 (c : Dev nD) : Dat τ (Elt F) Unit ℕ UU ℕ cfg0 c := DeqT.dat (fun c b => W1 m c (Proc.devRef .tc b)) D0 c
theorem A0 (c : Dev nD) (w : Fin cfg0.W) : (dat0 m c).A w = W1 m c (Proc.devRef .tc (Pipeline.arrRef spec0 w)) :=
  DeqT.A_eq (U := UU) (Lvl := ℕ) (fun c b => W1 m c (Proc.devRef .tc b)) D0 c w
/-- After region 0. -/
def W2 (c : Dev nD) : Valuation τ sig (Elt F) := Function.update (W1 m c) (Proc.devRef .tc main_v6) ((dat0 m c).arrAt 2 cfg0.N)
theorem W2_of (c : Dev nD) (r : Ref sig .tc) (h : r ∉ ([main_v6] : List (Ref sig .tc))) : W2 m c r = W1 m c r :=
  upd_of _ h _
theorem W2_main_v6 (c : Dev nD) : W2 m c (Proc.devRef .tc main_v6) = (dat0 m c).arrAt 2 cfg0.N := by
  unfold W2; rw [Function.update_self]
/-- Region 1's proof data, from the contents before it. -/
def dat1 (c : Dev nD) : Dat τ (Elt F) Unit ℕ UU ℕ cfg1 c := DeqRows.dat (fun c b => W2 m c (Proc.devRef .tc b)) D0 c
theorem A1 (c : Dev nD) (w : Fin cfg1.W) : (dat1 m c).A w = W2 m c (Proc.devRef .tc (Pipeline.arrRef spec1 w)) :=
  DeqRows.A_eq (U := UU) (Lvl := ℕ) (fun c b => W2 m c (Proc.devRef .tc b)) D0 c w
/-- After region 1. -/
def W3 (c : Dev nD) : Valuation τ sig (Elt F) := Function.update (W2 m c) (Proc.devRef .tc main_v7) ((dat1 m c).arrAt 2 cfg1.N)
theorem W3_of (c : Dev nD) (r : Ref sig .tc) (h : r ∉ ([main_v7] : List (Ref sig .tc))) : W3 m c r = W2 m c r :=
  upd_of _ h _
theorem W3_main_v7 (c : Dev nD) : W3 m c (Proc.devRef .tc main_v7) = (dat1 m c).arrAt 2 cfg1.N := by
  unfold W3; rw [Function.update_self]
/-- After the host operations of item 3. -/
def W4 (c : Dev nD) : Valuation τ sig (Elt F) := StableHlo.after hostOps2 (W3 m c)
theorem W4_of (c : Dev nD) (r : Ref sig .tc) (h : r ∉ hostOps2_W) : W4 m c r = W3 m c r :=
  StableHlo.after_of_writes_sub hostOps2 _ hostOps2_writes h
/-- Region 2's proof data, from the contents before it. -/
def dat2 (c : Dev nD) : Dat τ (Elt F) Unit ℕ UU ℕ cfg2 c := DeqWd.dat (fun c b => W4 m c (Proc.devRef .tc b)) D0 c
theorem A2 (c : Dev nD) (w : Fin cfg2.W) : (dat2 m c).A w = W4 m c (Proc.devRef .tc (Pipeline.arrRef spec2 w)) :=
  DeqWd.A_eq (U := UU) (Lvl := ℕ) (fun c b => W4 m c (Proc.devRef .tc b)) D0 c w
/-- After region 2. -/
def W5 (c : Dev nD) : Valuation τ sig (Elt F) := Function.update (W4 m c) (Proc.devRef .tc main_v11) ((dat2 m c).arrAt 2 cfg2.N)
theorem W5_of (c : Dev nD) (r : Ref sig .tc) (h : r ∉ ([main_v11] : List (Ref sig .tc))) : W5 m c r = W4 m c r :=
  upd_of _ h _
theorem W5_main_v11 (c : Dev nD) : W5 m c (Proc.devRef .tc main_v11) = (dat2 m c).arrAt 2 cfg2.N := by
  unfold W5; rw [Function.update_self]
/-- After the host operations of item 5. -/
def W6 (c : Dev nD) : Valuation τ sig (Elt F) := StableHlo.after hostOps3 (W5 m c)
theorem W6_of (c : Dev nD) (r : Ref sig .tc) (h : r ∉ hostOps3_W) : W6 m c r = W5 m c r :=
  StableHlo.after_of_writes_sub hostOps3 _ hostOps3_writes h
/-- Region 3's proof data, from the contents before it. -/
def dat3 (c : Dev nD) : Dat τ (Elt F) Unit ℕ UU ℕ cfg3 c := DeqWgu.dat (fun c b => W6 m c (Proc.devRef .tc b)) D0 c
theorem A3 (c : Dev nD) (w : Fin cfg3.W) : (dat3 m c).A w = W6 m c (Proc.devRef .tc (Pipeline.arrRef spec3 w)) :=
  DeqWgu.A_eq (U := UU) (Lvl := ℕ) (fun c b => W6 m c (Proc.devRef .tc b)) D0 c w
/-- After region 3. -/
def W7 (c : Dev nD) : Valuation τ sig (Elt F) := Function.update (W6 m c) (Proc.devRef .tc main_v16) ((dat3 m c).arrAt 2 cfg3.N)
theorem W7_of (c : Dev nD) (r : Ref sig .tc) (h : r ∉ ([main_v16] : List (Ref sig .tc))) : W7 m c r = W6 m c r :=
  upd_of _ h _
theorem W7_main_v16 (c : Dev nD) : W7 m c (Proc.devRef .tc main_v16) = (dat3 m c).arrAt 2 cfg3.N := by
  unfold W7; rw [Function.update_self]
/-- Region 4's proof data, from the contents before it. -/
def dat4 (c : Dev nD) : Dat τ (Elt F) Unit ℕ UU ℕ cfg4 c := Dh.dat (fun c b => W7 m c (Proc.devRef .tc b)) D0 c
theorem A4 (c : Dev nD) (w : Fin cfg4.W) : (dat4 m c).A w = W7 m c (Proc.devRef .tc (Pipeline.arrRef spec4 w)) :=
  Dh.A_eq (U := UU) (Lvl := ℕ) (fun c b => W7 m c (Proc.devRef .tc b)) D0 c w
/-- After region 4. -/
def W8 (c : Dev nD) : Valuation τ sig (Elt F) := Function.update (Function.update (W7 m c) (Proc.devRef .tc main_v17_0) ((dat4 m c).arrAt 4 cfg4.N)) (Proc.devRef .tc main_v17_1) ((dat4 m c).arrAt 5 cfg4.N)
theorem W8_of (c : Dev nD) (r : Ref sig .tc) (h : r ∉ ([main_v17_0, main_v17_1] : List (Ref sig .tc))) : W8 m c r = W7 m c r := by
  unfold W8; rw [Function.update_of_ne (StableHlo.devRef_ne_of_ne (fun e => h (by simp only [e, List.mem_cons, true_or, or_true])) : (Proc.devRef .tc r : DevRef τ sig) ≠ Proc.devRef .tc main_v17_1), Function.update_of_ne (StableHlo.devRef_ne_of_ne (fun e => h (by simp only [e, List.mem_cons, true_or, or_true])) : (Proc.devRef .tc r : DevRef τ sig) ≠ Proc.devRef .tc main_v17_0)]
theorem W8_main_v17_0 (c : Dev nD) : W8 m c (Proc.devRef .tc main_v17_0) = (dat4 m c).arrAt 4 cfg4.N := by
  unfold W8; rw [Function.update_of_ne (StableHlo.devRef_ne_of_ne (by decide) : (Proc.devRef .tc main_v17_0 : DevRef τ sig) ≠ Proc.devRef .tc main_v17_1), Function.update_self]
theorem W8_main_v17_1 (c : Dev nD) : W8 m c (Proc.devRef .tc main_v17_1) = (dat4 m c).arrAt 5 cfg4.N := by
  unfold W8; rw [Function.update_self]
/-- Region 5's proof data, from the contents before it. -/
def dat5 (c : Dev nD) : Dat τ (Elt F) Unit ℕ UU ℕ cfg5 c := Dwgu.dat (fun c b => W8 m c (Proc.devRef .tc b)) D0 c
theorem A5 (c : Dev nD) (w : Fin cfg5.W) : (dat5 m c).A w = W8 m c (Proc.devRef .tc (Pipeline.arrRef spec5 w)) :=
  Dwgu.A_eq (U := UU) (Lvl := ℕ) (fun c b => W8 m c (Proc.devRef .tc b)) D0 c w
/-- After region 5. -/
def W9 (c : Dev nD) : Valuation τ sig (Elt F) := Function.update (W8 m c) (Proc.devRef .tc main_v18) ((dat5 m c).arrAt 2 cfg5.N)
theorem W9_of (c : Dev nD) (r : Ref sig .tc) (h : r ∉ ([main_v18] : List (Ref sig .tc))) : W9 m c r = W8 m c r :=
  upd_of _ h _
theorem W9_main_v18 (c : Dev nD) : W9 m c (Proc.devRef .tc main_v18) = (dat5 m c).arrAt 2 cfg5.N := by
  unfold W9; rw [Function.update_self]
/-- Region 6's proof data, from the contents before it. -/
def dat6 (c : Dev nD) : Dat τ (Elt F) Unit ℕ UU ℕ cfg6 c := Dwd.dat (fun c b => W9 m c (Proc.devRef .tc b)) D0 c
theorem A6 (c : Dev nD) (w : Fin cfg6.W) : (dat6 m c).A w = W9 m c (Proc.devRef .tc (Pipeline.arrRef spec6 w)) :=
  Dwd.A_eq (U := UU) (Lvl := ℕ) (fun c b => W9 m c (Proc.devRef .tc b)) D0 c w
/-- After region 6. -/
def W10 (c : Dev nD) : Valuation τ sig (Elt F) := Function.update (W9 m c) (Proc.devRef .tc main_v19) ((dat6 m c).arrAt 2 cfg6.N)
theorem W10_of (c : Dev nD) (r : Ref sig .tc) (h : r ∉ ([main_v19] : List (Ref sig .tc))) : W10 m c r = W9 m c r :=
  upd_of _ h _
theorem W10_main_v19 (c : Dev nD) : W10 m c (Proc.devRef .tc main_v19) = (dat6 m c).arrAt 2 cfg6.N := by
  unfold W10; rw [Function.update_self]
/-- Region 7's proof data, from the contents before it. -/
def dat7 (c : Dev nD) : Dat τ (Elt F) Unit ℕ UU ℕ cfg7 c := Dx.dat (fun c b => W10 m c (Proc.devRef .tc b)) D0 c
theorem A7 (c : Dev nD) (w : Fin cfg7.W) : (dat7 m c).A w = W10 m c (Proc.devRef .tc (Pipeline.arrRef spec7 w)) :=
  Dx.A_eq (U := UU) (Lvl := ℕ) (fun c b => W10 m c (Proc.devRef .tc b)) D0 c w
/-- After region 7. -/
def W11 (c : Dev nD) : Valuation τ sig (Elt F) := Function.update (W10 m c) (Proc.devRef .tc main_v20) ((dat7 m c).arrAt 2 cfg7.N)
theorem W11_of (c : Dev nD) (r : Ref sig .tc) (h : r ∉ ([main_v20] : List (Ref sig .tc))) : W11 m c r = W10 m c r :=
  upd_of _ h _
theorem W11_main_v20 (c : Dev nD) : W11 m c (Proc.devRef .tc main_v20) = (dat7 m c).arrAt 2 cfg7.N := by
  unfold W11; rw [Function.update_self]
/-- After the host operations of item 11. -/
def W12 (c : Dev nD) : Valuation τ sig (Elt F) := StableHlo.after hostOps8 (W11 m c)
theorem W12_of (c : Dev nD) (r : Ref sig .tc) (h : r ∉ hostOps8_W) : W12 m c r = W11 m c r :=
  StableHlo.after_of_writes_sub hostOps8 _ hostOps8_writes h

/-! ## No item writes an argument -/

/-- A buffer no item writes keeps its contents from launch to end. -/
theorem kept (c : Dev nD) (r : Ref sig .tc) (h12 : r ∉ (hostOps8_W : List (Ref sig .tc))) (h11 : r ∉ ([main_v20] : List (Ref sig .tc))) (h10 : r ∉ ([main_v19] : List (Ref sig .tc))) (h9 : r ∉ ([main_v18] : List (Ref sig .tc))) (h8 : r ∉ ([main_v17_0, main_v17_1] : List (Ref sig .tc))) (h7 : r ∉ ([main_v16] : List (Ref sig .tc))) (h6 : r ∉ (hostOps3_W : List (Ref sig .tc))) (h5 : r ∉ ([main_v11] : List (Ref sig .tc))) (h4 : r ∉ (hostOps2_W : List (Ref sig .tc))) (h3 : r ∉ ([main_v7] : List (Ref sig .tc))) (h2 : r ∉ ([main_v6] : List (Ref sig .tc))) (h1 : r ∉ (hostOps0_W : List (Ref sig .tc))) : W12 m c r = W0 m c r :=
  (W12_of m c r h12).trans <| (W11_of m c r h11).trans <| (W10_of m c r h10).trans <| (W9_of m c r h9).trans <| (W8_of m c r h8).trans <| (W7_of m c r h7).trans <| (W6_of m c r h6).trans <| (W5_of m c r h5).trans <| (W4_of m c r h4).trans <| (W3_of m c r h3).trans <| (W2_of m c r h2).trans <| W1_of m c r h1
theorem W12_main_arg0 (c : Dev nD) : W12 m c main_arg0 = m ((c : Thread nD τ).loc main_arg0) :=
  kept m c main_arg0 (by decide) (by decide) (by decide) (by decide) (by decide) (by decide) (by decide) (by decide) (by decide) (by decide) (by decide) (by decide)
theorem W12_main_arg1 (c : Dev nD) : W12 m c main_arg1 = m ((c : Thread nD τ).loc main_arg1) :=
  kept m c main_arg1 (by decide) (by decide) (by decide) (by decide) (by decide) (by decide) (by decide) (by decide) (by decide) (by decide) (by decide) (by decide)
theorem W12_main_arg2 (c : Dev nD) : W12 m c main_arg2 = m ((c : Thread nD τ).loc main_arg2) :=
  kept m c main_arg2 (by decide) (by decide) (by decide) (by decide) (by decide) (by decide) (by decide) (by decide) (by decide) (by decide) (by decide) (by decide)
theorem W12_main_arg3 (c : Dev nD) : W12 m c main_arg3 = m ((c : Thread nD τ).loc main_arg3) :=
  kept m c main_arg3 (by decide) (by decide) (by decide) (by decide) (by decide) (by decide) (by decide) (by decide) (by decide) (by decide) (by decide) (by decide)
theorem W12_main_arg4 (c : Dev nD) : W12 m c main_arg4 = m ((c : Thread nD τ).loc main_arg4) :=
  kept m c main_arg4 (by decide) (by decide) (by decide) (by decide) (by decide) (by decide) (by decide) (by decide) (by decide) (by decide) (by decide) (by decide)
theorem W12_main_arg5 (c : Dev nD) : W12 m c main_arg5 = m ((c : Thread nD τ).loc main_arg5) :=
  kept m c main_arg5 (by decide) (by decide) (by decide) (by decide) (by decide) (by decide) (by decide) (by decide) (by decide) (by decide) (by decide) (by decide)
theorem W12_main_arg6 (c : Dev nD) : W12 m c main_arg6 = m ((c : Thread nD τ).loc main_arg6) :=
  kept m c main_arg6 (by decide) (by decide) (by decide) (by decide) (by decide) (by decide) (by decide) (by decide) (by decide) (by decide) (by decide) (by decide)
theorem W12_main_arg7 (c : Dev nD) : W12 m c main_arg7 = m ((c : Thread nD τ).loc main_arg7) :=
  kept m c main_arg7 (by decide) (by decide) (by decide) (by decide) (by decide) (by decide) (by decide) (by decide) (by decide) (by decide) (by decide) (by decide)
theorem W12_main_arg8 (c : Dev nD) : W12 m c main_arg8 = m ((c : Thread nD τ).loc main_arg8) :=
  kept m c main_arg8 (by decide) (by decide) (by decide) (by decide) (by decide) (by decide) (by decide) (by decide) (by decide) (by decide) (by decide) (by decide)
theorem W12_main_arg9 (c : Dev nD) : W12 m c main_arg9 = m ((c : Thread nD τ).loc main_arg9) :=
  kept m c main_arg9 (by decide) (by decide) (by decide) (by decide) (by decide) (by decide) (by decide) (by decide) (by decide) (by decide) (by decide) (by decide)

/-! ## The regions -/

/-- The proof data of all the regions. -/
def pdats : (p : Fin 8) → (c : Dev nD) → Dat τ (Elt F) Unit ℕ UU ℕ (cfgs p) c
  | ⟨0, _⟩ => fun c => dat0 m c
  | ⟨1, _⟩ => fun c => dat1 m c
  | ⟨2, _⟩ => fun c => dat2 m c
  | ⟨3, _⟩ => fun c => dat3 m c
  | ⟨4, _⟩ => fun c => dat4 m c
  | ⟨5, _⟩ => fun c => dat5 m c
  | ⟨6, _⟩ => fun c => dat6 m c
  | ⟨7, _⟩ => fun c => dat7 m c

theorem cut (p : Fin 8) : Pipeline.LevelCut (pcfgs (F := F)) adm () L lv p D0 (fun _ => 0) :=
  ⟨fun _ _ _ => Finset.mem_singleton_self (), fun _ _ _ => le_rfl, fun _ _ _ h => absurd h (lt_irrefl _)⟩

/-- What rides beside the buffers: the generator's register and the core owing nothing. -/
def E (c : Dev nD) : sProp 𝕄 := iprop((∃ r, prngReg c r) ∗ ∃ W, owes (c : Thread nD τ) (0 : CellTallies nD τ sig Unit) W)

/-- Before a region: its arrays' buffers apart from the others. -/
theorem held_in (c : Dev nD) {A : Finset (DevRef τ sig)} (hA : A ⊆ Pipeline.ucRefs τ sig) (W : Valuation τ sig (Elt F)) :
    (iprop(StableHlo.held (c : Thread nD τ) (Pipeline.ucRefs τ sig) W ∗ E c) : sProp 𝕄)
      ⊢ iprop(StableHlo.held (c : Thread nD τ) A W ∗ (∃ r, prngReg c r)
        ∗ StableHlo.held (c : Thread nD τ) ((Pipeline.ucRefs τ sig) \ A) W ∗ ∃ X, owes (c : Thread nD τ) (D0 c) X) := by
  rw [StableHlo.held_sub_split (c : Thread nD τ) hA W]
  unfold E
  iintro ⟨⟨Ha, Hr⟩, Hp, HO⟩
  isplitl [Ha]; · iexact Ha
  isplitl [Hp]; · iexact Hp
  isplitl [Hr]; · iexact Hr
  iexact HO

/-- After a region: its arrays' buffers back among the others. -/
theorem held_out (c : Dev nD) {A : Finset (DevRef τ sig)} (hA : A ⊆ Pipeline.ucRefs τ sig) (W W' : Valuation τ sig (Elt F))
    (h : ∀ b ∈ (Pipeline.ucRefs τ sig) \ A, W' b = W b) :
    (iprop(StableHlo.held (c : Thread nD τ) A W' ∗ (∃ r, prngReg c r)
        ∗ StableHlo.held (c : Thread nD τ) ((Pipeline.ucRefs τ sig) \ A) W ∗ ∃ X, owes (c : Thread nD τ) (D0 c) X) : sProp 𝕄)
      ⊢ iprop(StableHlo.held (c : Thread nD τ) (Pipeline.ucRefs τ sig) W' ∗ E c) := by
  rw [StableHlo.held_sub_split (c : Thread nD τ) hA W', StableHlo.held_congr (c : Thread nD τ) (S := (Pipeline.ucRefs τ sig) \ A) h]
  unfold E
  iintro ⟨Ha, Hp, Hr, HO⟩
  isplitl [Ha Hr]; · isplitl [Ha] <;> iassumption
  isplitl [Hp]; · iexact Hp
  iexact HO

theorem arr0_mem (w : Fin cfg0.W) : Proc.devRef .tc (Pipeline.arrRef spec0 w) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig := Pipeline.arrRefs_sub_ucRefs spec0 (by decide)
/-- Across region 0 every other held buffer keeps its contents. -/
theorem rest0_eq (c : Dev nD) : ∀ b ∈ (Pipeline.ucRefs τ sig) \ Pipeline.arrRefs (τ := τ) spec0, W2 m c b = W1 m c b := fun b hb => by
  have hn : b ∉ Pipeline.arrRefs (τ := τ) spec0 := (Finset.mem_sdiff.mp hb).2
  have h_main_v6 : b ≠ Proc.devRef .tc main_v6 := by rintro rfl; exact hn (arr0_mem 2)
  unfold W2; rw [Function.update_of_ne h_main_v6]

set_option backward.isDefEq.respectTransparency.types false in
/-- Region 0: its arrays held at `W1` in and at `W2` out, every other held buffer riding. -/
def R0 (𝒱₀ : Variants) : RegionSeg (pcfgs (F := F)) adm (pdats m) () defs₀ 𝒱₀ L lv 0 :=
  Pipeline.RegionSeg.ofHeld (pcfgs (F := F)) adm (pdats m) () defs₀ 𝒱₀ L lv 0 D0
    (fun c => iprop(∃ r, prngReg c r)) (fun c => iprop(∃ r, prngReg c r))
    launch0.toP rfl
    (fun c => (DeqT.body_obligation (U := UU) (Lvl := ℕ) 𝒱₀ (fun c b => W1 m c (Proc.devRef .tc b)) D0 () c).loose) (fun _ _ => rfl) (fun _ => rfl)
    (fun c => (pdats m 0 c).share_full fun _ => rfl) (fun _ => .rfl) (fun _ => .rfl) (fun _ => 0) (cut 0)
    (fun c => StableHlo.held (c : Thread nD τ) ((Pipeline.ucRefs τ sig) \ Pipeline.arrRefs (τ := τ) spec0) (W1 m c))
    (W1 m) (W2 m) (fun c w => (show (dat0 m c).arrAt w 0 = (dat0 m c).A w from rfl).trans (A0 m c w))
    (fun c => fun | 0 => ((dat0 m c).arrAt_in 0 rfl _).trans ((A0 m c 0).trans (W2_of m c (Pipeline.arrRef spec0 0) (by decide)).symm) | 1 => ((dat0 m c).arrAt_in 1 rfl _).trans ((A0 m c 1).trans (W2_of m c (Pipeline.arrRef spec0 1) (by decide)).symm) | 2 => (W2_main_v6 m c).symm | ⟨_ + 3, h⟩ => absurd h (Nat.not_lt.2 (Nat.le_add_left _ _)))

theorem hpre0 (𝒱₀ : Variants) (c : Dev nD) :
    iprop(StableHlo.held (c : Thread nD τ) (Pipeline.ucRefs τ sig) (W1 m c) ∗ E c) ⊢ (R0 m 𝒱₀).pre c :=
  held_in c arr0_S (W1 m c)

theorem hpost0 (𝒱₀ : Variants) (c : Dev nD) :
    (R0 m 𝒱₀).post c ⊢ iprop(StableHlo.held (c : Thread nD τ) (Pipeline.ucRefs τ sig) (W2 m c) ∗ E c) :=
  held_out c arr0_S _ (W2 m c) (rest0_eq m c)

theorem arr1_mem (w : Fin cfg1.W) : Proc.devRef .tc (Pipeline.arrRef spec1 w) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig := Pipeline.arrRefs_sub_ucRefs spec1 (by decide)
/-- Across region 1 every other held buffer keeps its contents. -/
theorem rest1_eq (c : Dev nD) : ∀ b ∈ (Pipeline.ucRefs τ sig) \ Pipeline.arrRefs (τ := τ) spec1, W3 m c b = W2 m c b := fun b hb => by
  have hn : b ∉ Pipeline.arrRefs (τ := τ) spec1 := (Finset.mem_sdiff.mp hb).2
  have h_main_v7 : b ≠ Proc.devRef .tc main_v7 := by rintro rfl; exact hn (arr1_mem 2)
  unfold W3; rw [Function.update_of_ne h_main_v7]

set_option backward.isDefEq.respectTransparency.types false in
/-- Region 1: its arrays held at `W2` in and at `W3` out, every other held buffer riding. -/
def R1 (𝒱₀ : Variants) : RegionSeg (pcfgs (F := F)) adm (pdats m) () defs₀ 𝒱₀ L lv 1 :=
  Pipeline.RegionSeg.ofHeld (pcfgs (F := F)) adm (pdats m) () defs₀ 𝒱₀ L lv 1 D0
    (fun c => iprop(∃ r, prngReg c r)) (fun c => iprop(∃ r, prngReg c r))
    launch1.toP rfl
    (fun c => (DeqRows.body_obligation (U := UU) (Lvl := ℕ) 𝒱₀ (fun c b => W2 m c (Proc.devRef .tc b)) D0 () c).loose) (fun _ _ => rfl) (fun _ => rfl)
    (fun c => (pdats m 1 c).share_full fun _ => rfl) (fun _ => .rfl) (fun _ => .rfl) (fun _ => 0) (cut 1)
    (fun c => StableHlo.held (c : Thread nD τ) ((Pipeline.ucRefs τ sig) \ Pipeline.arrRefs (τ := τ) spec1) (W2 m c))
    (W2 m) (W3 m) (fun c w => (show (dat1 m c).arrAt w 0 = (dat1 m c).A w from rfl).trans (A1 m c w))
    (fun c => fun | 0 => ((dat1 m c).arrAt_in 0 rfl _).trans ((A1 m c 0).trans (W3_of m c (Pipeline.arrRef spec1 0) (by decide)).symm) | 1 => ((dat1 m c).arrAt_in 1 rfl _).trans ((A1 m c 1).trans (W3_of m c (Pipeline.arrRef spec1 1) (by decide)).symm) | 2 => (W3_main_v7 m c).symm | ⟨_ + 3, h⟩ => absurd h (Nat.not_lt.2 (Nat.le_add_left _ _)))

theorem hpre1 (𝒱₀ : Variants) (c : Dev nD) :
    iprop(StableHlo.held (c : Thread nD τ) (Pipeline.ucRefs τ sig) (W2 m c) ∗ E c) ⊢ (R1 m 𝒱₀).pre c :=
  held_in c arr1_S (W2 m c)

theorem hpost1 (𝒱₀ : Variants) (c : Dev nD) :
    (R1 m 𝒱₀).post c ⊢ iprop(StableHlo.held (c : Thread nD τ) (Pipeline.ucRefs τ sig) (W3 m c) ∗ E c) :=
  held_out c arr1_S _ (W3 m c) (rest1_eq m c)

theorem arr2_mem (w : Fin cfg2.W) : Proc.devRef .tc (Pipeline.arrRef spec2 w) ∈ Pipeline.arrRefs (τ := τ) spec2 :=
  Finset.mem_map_of_mem _ (Finset.mem_image_of_mem _ (Finset.mem_univ w))
theorem arr2_S : Pipeline.arrRefs (τ := τ) spec2 ⊆ Pipeline.ucRefs τ sig := Pipeline.arrRefs_sub_ucRefs spec2 (by decide)
/-- Across region 2 every other held buffer keeps its contents. -/
theorem rest2_eq (c : Dev nD) : ∀ b ∈ (Pipeline.ucRefs τ sig) \ Pipeline.arrRefs (τ := τ) spec2, W5 m c b = W4 m c b := fun b hb => by
  have hn : b ∉ Pipeline.arrRefs (τ := τ) spec2 := (Finset.mem_sdiff.mp hb).2
  have h_main_v11 : b ≠ Proc.devRef .tc main_v11 := by rintro rfl; exact hn (arr2_mem 2)
  unfold W5; rw [Function.update_of_ne h_main_v11]

set_option backward.isDefEq.respectTransparency.types false in
/-- Region 2: its arrays held at `W4` in and at `W5` out, every other held buffer riding. -/
def R2 (𝒱₀ : Variants) : RegionSeg (pcfgs (F := F)) adm (pdats m) () defs₀ 𝒱₀ L lv 2 :=
  Pipeline.RegionSeg.ofHeld (pcfgs (F := F)) adm (pdats m) () defs₀ 𝒱₀ L lv 2 D0
    (fun c => iprop(∃ r, prngReg c r)) (fun c => iprop(∃ r, prngReg c r))
    launch2.toP rfl
    (fun c => (DeqWd.body_obligation (U := UU) (Lvl := ℕ) 𝒱₀ (fun c b => W4 m c (Proc.devRef .tc b)) D0 () c).loose) (fun _ _ => rfl) (fun _ => rfl)
    (fun c => (pdats m 2 c).share_full fun _ => rfl) (fun _ => .rfl) (fun _ => .rfl) (fun _ => 0) (cut 2)
    (fun c => StableHlo.held (c : Thread nD τ) ((Pipeline.ucRefs τ sig) \ Pipeline.arrRefs (τ := τ) spec2) (W4 m c))
    (W4 m) (W5 m) (fun c w => (show (dat2 m c).arrAt w 0 = (dat2 m c).A w from rfl).trans (A2 m c w))
    (fun c => fun | 0 => ((dat2 m c).arrAt_in 0 rfl _).trans ((A2 m c 0).trans (W5_of m c (Pipeline.arrRef spec2 0) (by decide)).symm) | 1 => ((dat2 m c).arrAt_in 1 rfl _).trans ((A2 m c 1).trans (W5_of m c (Pipeline.arrRef spec2 1) (by decide)).symm) | 2 => (W5_main_v11 m c).symm | ⟨_ + 3, h⟩ => absurd h (Nat.not_lt.2 (Nat.le_add_left _ _)))

theorem hpre2 (𝒱₀ : Variants) (c : Dev nD) :
    iprop(StableHlo.held (c : Thread nD τ) (Pipeline.ucRefs τ sig) (W4 m c) ∗ E c) ⊢ (R2 m 𝒱₀).pre c :=
  held_in c arr2_S (W4 m c)

theorem hpost2 (𝒱₀ : Variants) (c : Dev nD) :
    (R2 m 𝒱₀).post c ⊢ iprop(StableHlo.held (c : Thread nD τ) (Pipeline.ucRefs τ sig) (W5 m c) ∗ E c) :=
  held_out c arr2_S _ (W5 m c) (rest2_eq m c)

theorem arr3_mem (w : Fin cfg3.W) : Proc.devRef .tc (Pipeline.arrRef spec3 w) ∈ Pipeline.arrRefs (τ := τ) spec3 :=
  Finset.mem_map_of_mem _ (Finset.mem_image_of_mem _ (Finset.mem_univ w))
theorem arr3_S : Pipeline.arrRefs (τ := τ) spec3 ⊆ Pipeline.ucRefs τ sig := Pipeline.arrRefs_sub_ucRefs spec3 (by decide)
/-- Across region 3 every other held buffer keeps its contents. -/
theorem rest3_eq (c : Dev nD) : ∀ b ∈ (Pipeline.ucRefs τ sig) \ Pipeline.arrRefs (τ := τ) spec3, W7 m c b = W6 m c b := fun b hb => by
  have hn : b ∉ Pipeline.arrRefs (τ := τ) spec3 := (Finset.mem_sdiff.mp hb).2
  have h_main_v16 : b ≠ Proc.devRef .tc main_v16 := by rintro rfl; exact hn (arr3_mem 2)
  unfold W7; rw [Function.update_of_ne h_main_v16]

set_option backward.isDefEq.respectTransparency.types false in
/-- Region 3: its arrays held at `W6` in and at `W7` out, every other held buffer riding. -/
def R3 (𝒱₀ : Variants) : RegionSeg (pcfgs (F := F)) adm (pdats m) () defs₀ 𝒱₀ L lv 3 :=
  Pipeline.RegionSeg.ofHeld (pcfgs (F := F)) adm (pdats m) () defs₀ 𝒱₀ L lv 3 D0
    (fun c => iprop(∃ r, prngReg c r)) (fun c => iprop(∃ r, prngReg c r))
    launch3.toP rfl
    (fun c => (DeqWgu.body_obligation (U := UU) (Lvl := ℕ) 𝒱₀ (fun c b => W6 m c (Proc.devRef .tc b)) D0 () c).loose) (fun _ _ => rfl) (fun _ => rfl)
    (fun c => (pdats m 3 c).share_full fun _ => rfl) (fun _ => .rfl) (fun _ => .rfl) (fun _ => 0) (cut 3)
    (fun c => StableHlo.held (c : Thread nD τ) ((Pipeline.ucRefs τ sig) \ Pipeline.arrRefs (τ := τ) spec3) (W6 m c))
    (W6 m) (W7 m) (fun c w => (show (dat3 m c).arrAt w 0 = (dat3 m c).A w from rfl).trans (A3 m c w))
    (fun c => fun | 0 => ((dat3 m c).arrAt_in 0 rfl _).trans ((A3 m c 0).trans (W7_of m c (Pipeline.arrRef spec3 0) (by decide)).symm) | 1 => ((dat3 m c).arrAt_in 1 rfl _).trans ((A3 m c 1).trans (W7_of m c (Pipeline.arrRef spec3 1) (by decide)).symm) | 2 => (W7_main_v16 m c).symm | ⟨_ + 3, h⟩ => absurd h (Nat.not_lt.2 (Nat.le_add_left _ _)))

theorem hpre3 (𝒱₀ : Variants) (c : Dev nD) :
    iprop(StableHlo.held (c : Thread nD τ) (Pipeline.ucRefs τ sig) (W6 m c) ∗ E c) ⊢ (R3 m 𝒱₀).pre c :=
  held_in c arr3_S (W6 m c)

theorem hpost3 (𝒱₀ : Variants) (c : Dev nD) :
    (R3 m 𝒱₀).post c ⊢ iprop(StableHlo.held (c : Thread nD τ) (Pipeline.ucRefs τ sig) (W7 m c) ∗ E c) :=
  held_out c arr3_S _ (W7 m c) (rest3_eq m c)

theorem arr4_mem (w : Fin cfg4.W) : Proc.devRef .tc (Pipeline.arrRef spec4 w) ∈ Pipeline.arrRefs (τ := τ) spec4 :=
  Finset.mem_map_of_mem _ (Finset.mem_image_of_mem _ (Finset.mem_univ w))
theorem arr4_S : Pipeline.arrRefs (τ := τ) spec4 ⊆ Pipeline.ucRefs τ sig := Pipeline.arrRefs_sub_ucRefs spec4 (by decide)
/-- Across region 4 every other held buffer keeps its contents. -/
theorem rest4_eq (c : Dev nD) : ∀ b ∈ (Pipeline.ucRefs τ sig) \ Pipeline.arrRefs (τ := τ) spec4, W8 m c b = W7 m c b := fun b hb => by
  have hn : b ∉ Pipeline.arrRefs (τ := τ) spec4 := (Finset.mem_sdiff.mp hb).2
  have h_main_v17_0 : b ≠ Proc.devRef .tc main_v17_0 := by rintro rfl; exact hn (arr4_mem 4)
  have h_main_v17_1 : b ≠ Proc.devRef .tc main_v17_1 := by rintro rfl; exact hn (arr4_mem 5)
  unfold W8; rw [Function.update_of_ne h_main_v17_1, Function.update_of_ne h_main_v17_0]

set_option backward.isDefEq.respectTransparency.types false in
/-- Region 4: its arrays held at `W7` in and at `W8` out, every other held buffer riding. -/
def R4 (𝒱₀ : Variants) : RegionSeg (pcfgs (F := F)) adm (pdats m) () defs₀ 𝒱₀ L lv 4 :=
  Pipeline.RegionSeg.ofHeld (pcfgs (F := F)) adm (pdats m) () defs₀ 𝒱₀ L lv 4 D0
    (fun c => iprop(∃ r, prngReg c r)) (fun c => iprop(∃ r, prngReg c r))
    launch4.toP rfl
    (fun c => Dh.body_obligation (U := UU) (Lvl := ℕ) 𝒱₀ (fun c b => W7 m c (Proc.devRef .tc b)) D0 () c) (fun _ _ => rfl) (fun _ => rfl)
    (fun c => (pdats m 4 c).share_full fun _ => rfl) (fun c => Dh.Φ_in (U := UU) (Lvl := ℕ) (fun c b => W7 m c (Proc.devRef .tc b)) D0 c) (fun c => Dh.Φ_out (U := UU) (Lvl := ℕ) (fun c b => W7 m c (Proc.devRef .tc b)) D0 c (Fin.last cfg4.N)) (fun _ => 0) (cut 4)
    (fun c => StableHlo.held (c : Thread nD τ) ((Pipeline.ucRefs τ sig) \ Pipeline.arrRefs (τ := τ) spec4) (W7 m c))
    (W7 m) (W8 m) (fun c w => (show (dat4 m c).arrAt w 0 = (dat4 m c).A w from rfl).trans (A4 m c w))
    (fun c => fun | 0 => ((dat4 m c).arrAt_in 0 rfl _).trans ((A4 m c 0).trans (W8_of m c (Pipeline.arrRef spec4 0) (by decide)).symm) | 1 => ((dat4 m c).arrAt_in 1 rfl _).trans ((A4 m c 1).trans (W8_of m c (Pipeline.arrRef spec4 1) (by decide)).symm) | 2 => ((dat4 m c).arrAt_in 2 rfl _).trans ((A4 m c 2).trans (W8_of m c (Pipeline.arrRef spec4 2) (by decide)).symm) | 3 => ((dat4 m c).arrAt_in 3 rfl _).trans ((A4 m c 3).trans (W8_of m c (Pipeline.arrRef spec4 3) (by decide)).symm) | 4 => (W8_main_v17_0 m c).symm | 5 => (W8_main_v17_1 m c).symm | ⟨_ + 6, h⟩ => absurd h (Nat.not_lt.2 (Nat.le_add_left _ _)))

theorem hpre4 (𝒱₀ : Variants) (c : Dev nD) :
    iprop(StableHlo.held (c : Thread nD τ) (Pipeline.ucRefs τ sig) (W7 m c) ∗ E c) ⊢ (R4 m 𝒱₀).pre c :=
  held_in c arr4_S (W7 m c)

theorem hpost4 (𝒱₀ : Variants) (c : Dev nD) :
    (R4 m 𝒱₀).post c ⊢ iprop(StableHlo.held (c : Thread nD τ) (Pipeline.ucRefs τ sig) (W8 m c) ∗ E c) :=
  held_out c arr4_S _ (W8 m c) (rest4_eq m c)

theorem arr5_mem (w : Fin cfg5.W) : Proc.devRef .tc (Pipeline.arrRef spec5 w) ∈ Pipeline.arrRefs (τ := τ) spec5 :=
  Finset.mem_map_of_mem _ (Finset.mem_image_of_mem _ (Finset.mem_univ w))
theorem arr5_S : Pipeline.arrRefs (τ := τ) spec5 ⊆ Pipeline.ucRefs τ sig := Pipeline.arrRefs_sub_ucRefs spec5 (by decide)
/-- Across region 5 every other held buffer keeps its contents. -/
theorem rest5_eq (c : Dev nD) : ∀ b ∈ (Pipeline.ucRefs τ sig) \ Pipeline.arrRefs (τ := τ) spec5, W9 m c b = W8 m c b := fun b hb => by
  have hn : b ∉ Pipeline.arrRefs (τ := τ) spec5 := (Finset.mem_sdiff.mp hb).2
  have h_main_v18 : b ≠ Proc.devRef .tc main_v18 := by rintro rfl; exact hn (arr5_mem 2)
  unfold W9; rw [Function.update_of_ne h_main_v18]

set_option backward.isDefEq.respectTransparency.types false in
/-- Region 5: its arrays held at `W8` in and at `W9` out, every other held buffer riding. -/
def R5 (𝒱₀ : Variants) : RegionSeg (pcfgs (F := F)) adm (pdats m) () defs₀ 𝒱₀ L lv 5 :=
  Pipeline.RegionSeg.ofHeld (pcfgs (F := F)) adm (pdats m) () defs₀ 𝒱₀ L lv 5 D0
    (fun c => iprop(∃ r, prngReg c r)) (fun c => iprop(∃ r, prngReg c r))
    launch5.toP rfl
    (fun c => Dwgu.body_obligation (U := UU) (Lvl := ℕ) 𝒱₀ (fun c b => W8 m c (Proc.devRef .tc b)) D0 () c) (fun _ _ => rfl) (fun _ => rfl)
    (fun c => (pdats m 5 c).share_full fun _ => rfl) (fun _ => .rfl) (fun _ => .rfl) (fun _ => 0) (cut 5)
    (fun c => StableHlo.held (c : Thread nD τ) ((Pipeline.ucRefs τ sig) \ Pipeline.arrRefs (τ := τ) spec5) (W8 m c))
    (W8 m) (W9 m) (fun c w => (show (dat5 m c).arrAt w 0 = (dat5 m c).A w from rfl).trans (A5 m c w))
    (fun c => fun | 0 => ((dat5 m c).arrAt_in 0 rfl _).trans ((A5 m c 0).trans (W9_of m c (Pipeline.arrRef spec5 0) (by decide)).symm) | 1 => ((dat5 m c).arrAt_in 1 rfl _).trans ((A5 m c 1).trans (W9_of m c (Pipeline.arrRef spec5 1) (by decide)).symm) | 2 => (W9_main_v18 m c).symm | ⟨_ + 3, h⟩ => absurd h (Nat.not_lt.2 (Nat.le_add_left _ _)))

theorem hpre5 (𝒱₀ : Variants) (c : Dev nD) :
    iprop(StableHlo.held (c : Thread nD τ) (Pipeline.ucRefs τ sig) (W8 m c) ∗ E c) ⊢ (R5 m 𝒱₀).pre c :=
  held_in c arr5_S (W8 m c)

theorem hpost5 (𝒱₀ : Variants) (c : Dev nD) :
    (R5 m 𝒱₀).post c ⊢ iprop(StableHlo.held (c : Thread nD τ) (Pipeline.ucRefs τ sig) (W9 m c) ∗ E c) :=
  held_out c arr5_S _ (W9 m c) (rest5_eq m c)

theorem arr6_mem (w : Fin cfg6.W) : Proc.devRef .tc (Pipeline.arrRef spec6 w) ∈ Pipeline.arrRefs (τ := τ) spec6 :=
  Finset.mem_map_of_mem _ (Finset.mem_image_of_mem _ (Finset.mem_univ w))
theorem arr6_S : Pipeline.arrRefs (τ := τ) spec6 ⊆ Pipeline.ucRefs τ sig := Pipeline.arrRefs_sub_ucRefs spec6 (by decide)
/-- Across region 6 every other held buffer keeps its contents. -/
theorem rest6_eq (c : Dev nD) : ∀ b ∈ (Pipeline.ucRefs τ sig) \ Pipeline.arrRefs (τ := τ) spec6, W10 m c b = W9 m c b := fun b hb => by
  have hn : b ∉ Pipeline.arrRefs (τ := τ) spec6 := (Finset.mem_sdiff.mp hb).2
  have h_main_v19 : b ≠ Proc.devRef .tc main_v19 := by rintro rfl; exact hn (arr6_mem 2)
  unfold W10; rw [Function.update_of_ne h_main_v19]

set_option backward.isDefEq.respectTransparency.types false in
/-- Region 6: its arrays held at `W9` in and at `W10` out, every other held buffer riding. -/
def R6 (𝒱₀ : Variants) : RegionSeg (pcfgs (F := F)) adm (pdats m) () defs₀ 𝒱₀ L lv 6 :=
  Pipeline.RegionSeg.ofHeld (pcfgs (F := F)) adm (pdats m) () defs₀ 𝒱₀ L lv 6 D0
    (fun c => iprop(∃ r, prngReg c r)) (fun c => iprop(∃ r, prngReg c r))
    launch6.toP rfl
    (fun c => (Dwd.body_obligation (U := UU) (Lvl := ℕ) 𝒱₀ (fun c b => W9 m c (Proc.devRef .tc b)) D0 () c).loose) (fun _ _ => rfl) (fun _ => rfl)
    (fun c => (pdats m 6 c).share_full fun _ => rfl) (fun _ => .rfl) (fun _ => .rfl) (fun _ => 0) (cut 6)
    (fun c => StableHlo.held (c : Thread nD τ) ((Pipeline.ucRefs τ sig) \ Pipeline.arrRefs (τ := τ) spec6) (W9 m c))
    (W9 m) (W10 m) (fun c w => (show (dat6 m c).arrAt w 0 = (dat6 m c).A w from rfl).trans (A6 m c w))
    (fun c => fun | 0 => ((dat6 m c).arrAt_in 0 rfl _).trans ((A6 m c 0).trans (W10_of m c (Pipeline.arrRef spec6 0) (by decide)).symm) | 1 => ((dat6 m c).arrAt_in 1 rfl _).trans ((A6 m c 1).trans (W10_of m c (Pipeline.arrRef spec6 1) (by decide)).symm) | 2 => (W10_main_v19 m c).symm | ⟨_ + 3, h⟩ => absurd h (Nat.not_lt.2 (Nat.le_add_left _ _)))

theorem hpre6 (𝒱₀ : Variants) (c : Dev nD) :
    iprop(StableHlo.held (c : Thread nD τ) (Pipeline.ucRefs τ sig) (W9 m c) ∗ E c) ⊢ (R6 m 𝒱₀).pre c :=
  held_in c arr6_S (W9 m c)

theorem hpost6 (𝒱₀ : Variants) (c : Dev nD) :
    (R6 m 𝒱₀).post c ⊢ iprop(StableHlo.held (c : Thread nD τ) (Pipeline.ucRefs τ sig) (W10 m c) ∗ E c) :=
  held_out c arr6_S _ (W10 m c) (rest6_eq m c)

theorem arr7_mem (w : Fin cfg7.W) : Proc.devRef .tc (Pipeline.arrRef spec7 w) ∈ Pipeline.arrRefs (τ := τ) spec7 :=
  Finset.mem_map_of_mem _ (Finset.mem_image_of_mem _ (Finset.mem_univ w))
theorem arr7_S : Pipeline.arrRefs (τ := τ) spec7 ⊆ Pipeline.ucRefs τ sig := Pipeline.arrRefs_sub_ucRefs spec7 (by decide)
/-- Across region 7 every other held buffer keeps its contents. -/
theorem rest7_eq (c : Dev nD) : ∀ b ∈ (Pipeline.ucRefs τ sig) \ Pipeline.arrRefs (τ := τ) spec7, W11 m c b = W10 m c b := fun b hb => by
  have hn : b ∉ Pipeline.arrRefs (τ := τ) spec7 := (Finset.mem_sdiff.mp hb).2
  have h_main_v20 : b ≠ Proc.devRef .tc main_v20 := by rintro rfl; exact hn (arr7_mem 2)
  unfold W11; rw [Function.update_of_ne h_main_v20]

set_option backward.isDefEq.respectTransparency.types false in
/-- Region 7: its arrays held at `W10` in and at `W11` out, every other held buffer riding. -/
def R7 (𝒱₀ : Variants) : RegionSeg (pcfgs (F := F)) adm (pdats m) () defs₀ 𝒱₀ L lv 7 :=
  Pipeline.RegionSeg.ofHeld (pcfgs (F := F)) adm (pdats m) () defs₀ 𝒱₀ L lv 7 D0
    (fun c => iprop(∃ r, prngReg c r)) (fun c => iprop(∃ r, prngReg c r))
    launch7.toP rfl
    (fun c => Dx.body_obligation (U := UU) (Lvl := ℕ) 𝒱₀ (fun c b => W10 m c (Proc.devRef .tc b)) D0 () c) (fun _ _ => rfl) (fun _ => rfl)
    (fun c => (pdats m 7 c).share_full fun _ => rfl) (fun c => Dx.Φ_in (U := UU) (Lvl := ℕ) (fun c b => W10 m c (Proc.devRef .tc b)) D0 c) (fun c => Dx.Φ_out (U := UU) (Lvl := ℕ) (fun c b => W10 m c (Proc.devRef .tc b)) D0 c (Fin.last cfg7.N)) (fun _ => 0) (cut 7)
    (fun c => StableHlo.held (c : Thread nD τ) ((Pipeline.ucRefs τ sig) \ Pipeline.arrRefs (τ := τ) spec7) (W10 m c))
    (W10 m) (W11 m) (fun c w => (show (dat7 m c).arrAt w 0 = (dat7 m c).A w from rfl).trans (A7 m c w))
    (fun c => fun | 0 => ((dat7 m c).arrAt_in 0 rfl _).trans ((A7 m c 0).trans (W11_of m c (Pipeline.arrRef spec7 0) (by decide)).symm) | 1 => ((dat7 m c).arrAt_in 1 rfl _).trans ((A7 m c 1).trans (W11_of m c (Pipeline.arrRef spec7 1) (by decide)).symm) | 2 => (W11_main_v20 m c).symm | ⟨_ + 3, h⟩ => absurd h (Nat.not_lt.2 (Nat.le_add_left _ _)))

theorem hpre7 (𝒱₀ : Variants) (c : Dev nD) :
    iprop(StableHlo.held (c : Thread nD τ) (Pipeline.ucRefs τ sig) (W10 m c) ∗ E c) ⊢ (R7 m 𝒱₀).pre c :=
  held_in c arr7_S (W10 m c)

theorem hpost7 (𝒱₀ : Variants) (c : Dev nD) :
    (R7 m 𝒱₀).post c ⊢ iprop(StableHlo.held (c : Thread nD τ) (Pipeline.ucRefs τ sig) (W11 m c) ∗ E c) :=
  held_out c arr7_S _ (W11 m c) (rest7_eq m c)

/-! ## The host stretches and the run -/

/-- The host operations of item 0. -/
def H0 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E

/-- The host operations of item 3. -/
def H2 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

/-- The host operations of item 5. -/
def H3 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m) E

/-- The host operations of item 11. -/
def H8 (𝒱₀ : Variants) : HostSeg (Ix := Unit) (Name := ℕ) (U := UU) (Lvl := ℕ) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W11 m) E

/-- The program's items as segments. -/
abbrev segs (𝒱₀ : Variants) (c : Dev nD) : List (Seg (pcfgs (F := F)) adm (pdats m) () defs₀ 𝒱₀ L lv) :=
  [.host (H0 m 𝒱₀), .region (R0 m 𝒱₀), .region (R1 m 𝒱₀), .host (H2 m 𝒱₀), .region (R2 m 𝒱₀), .host (H3 m 𝒱₀), .region (R3 m 𝒱₀), .region (R4 m 𝒱₀), .region (R5 m 𝒱₀), .region (R6 m 𝒱₀), .region (R7 m 𝒱₀), .host (H8 m 𝒱₀)]

theorem E_owes (c : Dev nD) : (E c : sProp 𝕄) ⊢ iprop(∃ W, owes (c : Thread nD τ) (0 : CellTallies nD τ sig Unit) W) := by
  unfold E
  iintro ⟨-, HO⟩
  iexact HO

/-- The variants: no call has a table. -/
abbrev 𝒱 : Variants := Variants.none

/-- The rounds' embedding. -/
abbrev EP : Emb (URounds (GSem nD τ sig) Unit) 𝕄 := emb₁

set_option backward.isDefEq.respectTransparency.types false in
/-- The program's run. -/
theorem run (ρ : Dev nD → PrngReg) :
    θ_run defs (onTc (τ := τ) (main (F := F))) ⟨m, fun _ => 0, ρ⟩ (fun r => (∀ c : Dev nD,
      r.2.mem ((c.tc : Thread nD τ).loc main_v21) = W12 m c (Proc.devRef .tc main_v21)
      ∧ r.2.mem ((c.tc : Thread nD τ).loc main_v22) = W12 m c (Proc.devRef .tc main_v22)
      ∧ r.2.mem ((c.tc : Thread nD τ).loc main_v19) = W12 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine Pipeline.θ_run_regions_kit_dev_sems (pcfgs (F := F)) adm (pdats m) () cellOf_inj EP defs₀ 𝒱 L lv m ρ main
    (segs m 𝒱)
    (fun c Q => by
      rewrite [main_chain c, Seg.run_eq_chain,
        show (segs m 𝒱 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8 ] from rfl]
      dsimp (config := { failIfUnchanged := false }) only
      exact .rfl)
    (fun c => by simp only [segs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m c) ∗ E c))
    (Tₙ := fun c => StableHlo.held (c : Thread nD τ) (Pipeline.ucRefs τ sig) (W12 m c))
    (hch := fun c => ⟨.rfl, hpre0 m 𝒱 c, (hpost0 m 𝒱 c).trans (hpre1 m 𝒱 c), hpost1 m 𝒱 c, hpre2 m 𝒱 c, hpost2 m 𝒱 c, hpre3 m 𝒱 c, (hpost3 m 𝒱 c).trans (hpre4 m 𝒱 c), (hpost4 m 𝒱 c).trans (hpre5 m 𝒱 c), (hpost5 m 𝒱 c).trans (hpre6 m 𝒱 c), (hpost6 m 𝒱 c).trans (hpre7 m 𝒱 c), hpost7 m 𝒱 c, sep_mono .rfl (E_owes c)⟩)
    (hinit := ?_) (QY := fun c s => s.mem ((c.tc : Thread nD τ).loc main_v21) = W12 m c (Proc.devRef .tc main_v21) ∧ s.mem ((c.tc : Thread nD τ).loc main_v22) = W12 m c (Proc.devRef .tc main_v22) ∧ s.mem ((c.tc : Thread nD τ).loc main_v19) = W12 m c (Proc.devRef .tc main_v19) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (EP (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (W0 m c) from
      Pipeline.unscopedBufs_held (Ix := Unit) (Name := ℕ) (U := UU) (Lvl := ℕ) c (W0 m c)]
    unfold E
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W12 m c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        h (Proc.devRef .tc main_v22) (Finset.mem_filter.mpr ⟨StableHlo.devRef_mem_tcRefs main_v22, by decide⟩),
        h (Proc.devRef .tc main_v19) (Finset.mem_filter.mpr ⟨StableHlo.devRef_mem_tcRefs main_v19, by decide⟩),
        (h (Proc.devRef .tc main_arg0) (Finset.mem_filter.mpr ⟨StableHlo.devRef_mem_tcRefs main_arg0, by decide⟩)).trans (W12_main_arg0 m c),
        (h (Proc.devRef .tc main_arg1) (Finset.mem_filter.mpr ⟨StableHlo.devRef_mem_tcRefs main_arg1, by decide⟩)).trans (W12_main_arg1 m c),
        (h (Proc.devRef .tc main_arg2) (Finset.mem_filter.mpr ⟨StableHlo.devRef_mem_tcRefs main_arg2, by decide⟩)).trans (W12_main_arg2 m c),
        (h (Proc.devRef .tc main_arg3) (Finset.mem_filter.mpr ⟨StableHlo.devRef_mem_tcRefs main_arg3, by decide⟩)).trans (W12_main_arg3 m c),
        (h (Proc.devRef .tc main_arg4) (Finset.mem_filter.mpr ⟨StableHlo.devRef_mem_tcRefs main_arg4, by decide⟩)).trans (W12_main_arg4 m c),
        (h (Proc.devRef .tc main_arg5) (Finset.mem_filter.mpr ⟨StableHlo.devRef_mem_tcRefs main_arg5, by decide⟩)).trans (W12_main_arg5 m c),
        (h (Proc.devRef .tc main_arg6) (Finset.mem_filter.mpr ⟨StableHlo.devRef_mem_tcRefs main_arg6, by decide⟩)).trans (W12_main_arg6 m c),
        (h (Proc.devRef .tc main_arg7) (Finset.mem_filter.mpr ⟨StableHlo.devRef_mem_tcRefs main_arg7, by decide⟩)).trans (W12_main_arg7 m c),
        (h (Proc.devRef .tc main_arg8) (Finset.mem_filter.mpr ⟨StableHlo.devRef_mem_tcRefs main_arg8, by decide⟩)).trans (W12_main_arg8 m c),
        (h (Proc.devRef .tc main_arg9) (Finset.mem_filter.mpr ⟨StableHlo.devRef_mem_tcRefs main_arg9, by decide⟩)).trans (W12_main_arg9 m c)⟩
    · iexact HSI

end Cert.KernelIdeal.Own

end
-- ==== Proof.KernelIdeal.DeqTValue.lean ====
/-
  What the call that dequantises the input activations leaves in its result, over the reals, from any contents of its operands.
-/
module

public import proofs.«01_k».proof.Proof.KernelIdeal.DeqT
public import Idealize.ShloMosaic.Lib.Pipeline.ValueKit

@[expose] public section

set_option maxRecDepth 16384

noncomputable section

namespace Cert.KernelIdeal.Own.DeqT

open Cert.KernelIdeal Cert.KernelIdeal.Gen Idealize.ShloMosaic Idealize.ShloMosaic.TcCoe Idealize.SL.RA Idealize.SL.Sem
open Idealize.ShloMosaic.Pipeline (Dat Window)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg0.N, win0_0.index t = ![t.val / 4, t.val % 4] ∧ win0_1.index t = ![t.val / 4 / 12, t.val % 4, t.val / 4 % 12] ∧ win0_2.index t = ![t.val % 4, t.val / 4] :=
  (by decide +kernel : ∀ t : Fin grid0.N, _)

/-- The whole result: each code times its scale. -/
def G (X : FVec Ideal S24576x4096 .fp8e4m3) (S : FVec Ideal S2x32x12288 .f32) : FVec Ideal S4096x24576 .bf16 :=
  fun i => (X (ix2 (i 1) (i 0)) : EReal) * S (ix3 ⟨(i 1).val / 12288, by have : (i 1).val < 24576 := (i 1).isLt; omega⟩ ⟨(i 0).val / 128, by have : (i 0).val < 4096 := (i 0).isLt; omega⟩ ⟨(i 1).val % 12288, Nat.mod_lt _ (by decide)⟩)

theorem iblk0_apply (c : Dev nD) (t : Fin cfg0.N) (y : S1024x1024.Idx) (i : S24576x4096.Idx) (h : ∀ a, (i a).val = (![t.val / 4, t.val % 4] : Fin 2 → ℕ) a * S1024x1024.size a + (y a).val) :
    (iblk V c 0 t : S1024x1024.Idx → EReal) y = (V c main_v0 : S24576x4096.Idx → EReal) i := by
  unfold iblk
  show (V c main_v0 : S24576x4096.Idx → EReal) (((cfg0.win 0).blk t).view.emb y) = _
  congr 1; funext a; apply Fin.ext
  refine (win0_0.rect_emb_val t y a).trans ?_
  rw [(idx t).1]
  exact (h a).symm

theorem iblk1_apply (c : Dev nD) (t : Fin cfg0.N) (y : S1x8x1024.Idx) (i : S2x32x12288.Idx) (h : ∀ a, (i a).val = (![t.val / 4 / 12, t.val % 4, t.val / 4 % 12] : Fin 3 → ℕ) a * S1x8x1024.size a + (y a).val) :
    (iblk V c 1 t : S1x8x1024.Idx → EReal) y = (V c main_v2 : S2x32x12288.Idx → EReal) i := by
  unfold iblk
  show (V c main_v2 : S2x32x12288.Idx → EReal) (((cfg0.win 1).blk t).view.emb y) = _
  congr 1; funext a; apply Fin.ext
  refine (win0_1.rect_emb_val t y a).trans ?_
  rw [(idx t).2.1]
  exact (h a).symm

/-- The result's array after the call. -/
theorem final (c : Dev nD) : (dat (U := U) (Lvl := Lvl) V D c).arrAt 2 cfg0.N = G (V c main_v0) (V c main_v2) := by
  refine (dat (U := U) (Lvl := Lvl) V D c).arrAt_eq_of_covers 2 _ (by decide +kernel) fun t hf y => ?_
  rw [after_2]
  refine (show _ = out (F := Ideal) (iblk V c 0 t) (iblk V c 1 t) (win0_2.xinj (grid0.coords t) y) from rfl).trans ?_
  have he : ∀ a, (((cfg0.win 2).blk t).view.emb y a).val = win0_2.index t a * win0_2.size a + (win0_2.xinj (grid0.coords t) y a).val :=
    fun a => win0_2.rect_emb_val t y a
  rw [(idx t).2.2] at he
  generalize ((cfg0.win 2).blk t).view.emb y = e at he ⊢
  generalize win0_2.xinj (grid0.coords t) y = z at he ⊢
  have ht : t.val < 96 := t.isLt
  have e0 : (e 0).val = t.val % 4 * 1024 + (z 0).val := he 0
  have e1 : (e 1).val = t.val / 4 * 1024 + (z 1).val := he 1
  have z0 : (z 0).val < 1024 := (z 0).isLt
  have z1 : (z 1).val < 1024 := (z 1).isLt
  unfold out G
  refine congrArg₂ (fun a b : EReal => a * b) (iblk0_apply V c t _ _ fun a => ?_) (iblk1_apply V c t _ _ fun a => ?_)
  · fin_cases a
    · show (e 1).val = t.val / 4 * 1024 + (z 1).val; omega
    · show (e 0).val = t.val % 4 * 1024 + (z 0).val; omega
  · fin_cases a
    · show (e 1).val / 12288 = t.val / 4 / 12 * 1 + 0; omega
    · show (e 0).val / 128 = t.val % 4 * 8 + (z 0).val / 128; omega
    · show (e 1).val % 12288 = t.val / 4 % 12 * 1024 + (z 1).val; omega

end Cert.KernelIdeal.Own.DeqT

end
-- ==== Proof.KernelIdeal.DeqRowsValue.lean ====
/-
  What the call that dequantises the output gradient leaves in its result, over the reals, from any contents of its operands.
-/
module

public import proofs.«01_k».proof.Proof.KernelIdeal.DeqRows
public import Idealize.ShloMosaic.Lib.Pipeline.ValueKit

@[expose] public section

set_option maxRecDepth 16384

noncomputable section

namespace Cert.KernelIdeal.Own.DeqRows

open Cert.KernelIdeal Cert.KernelIdeal.Gen Idealize.ShloMosaic Idealize.ShloMosaic.TcCoe Idealize.SL.RA Idealize.SL.Sem
open Idealize.ShloMosaic.Pipeline (Dat Window)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg1.N, win1_0.index t = ![t.val, 0] ∧ win1_1.index t = ![t.val / 24, 0, t.val % 24] ∧ win1_2.index t = ![t.val, 0] :=
  (by decide +kernel : ∀ t : Fin grid1.N, _)

/-- The whole result: each code times its scale. -/
def G (X : FVec Ideal S24576x4096 .fp8e5m2) (S : FVec Ideal S2x32x12288 .f32) : FVec Ideal S24576x4096 .bf16 :=
  fun i => (X i : EReal) * S (ix3 ⟨(i 0).val / 12288, by have : (i 0).val < 24576 := (i 0).isLt; omega⟩ ⟨(i 1).val / 128, by have : (i 1).val < 4096 := (i 1).isLt; omega⟩ ⟨(i 0).val % 12288, Nat.mod_lt _ (by decide)⟩)

theorem iblk0_apply (c : Dev nD) (t : Fin cfg1.N) (y : S512x4096.Idx) (i : S24576x4096.Idx) (h : ∀ a, (i a).val = (![t.val, 0] : Fin 2 → ℕ) a * S512x4096.size a + (y a).val) :
    (iblk V c 0 t : S512x4096.Idx → EReal) y = (V c main_v1 : S24576x4096.Idx → EReal) i := by
  unfold iblk
  show (V c main_v1 : S24576x4096.Idx → EReal) (((cfg1.win 0).blk t).view.emb y) = _
  congr 1; funext a; apply Fin.ext
  refine (win1_0.rect_emb_val t y a).trans ?_
  rw [(idx t).1]
  exact (h a).symm

theorem iblk1_apply (c : Dev nD) (t : Fin cfg1.N) (y : S1x32x512.Idx) (i : S2x32x12288.Idx) (h : ∀ a, (i a).val = (![t.val / 24, 0, t.val % 24] : Fin 3 → ℕ) a * S1x32x512.size a + (y a).val) :
    (iblk V c 1 t : S1x32x512.Idx → EReal) y = (V c main_v3 : S2x32x12288.Idx → EReal) i := by
  unfold iblk
  show (V c main_v3 : S2x32x12288.Idx → EReal) (((cfg1.win 1).blk t).view.emb y) = _
  congr 1; funext a; apply Fin.ext
  refine (win1_1.rect_emb_val t y a).trans ?_
  rw [(idx t).2.1]
  exact (h a).symm

/-- The result's array after the call. -/
theorem final (c : Dev nD) : (dat (U := U) (Lvl := Lvl) V D c).arrAt 2 cfg1.N = G (V c main_v1) (V c main_v3) := by
  refine (dat (U := U) (Lvl := Lvl) V D c).arrAt_eq_of_covers 2 _ (by decide +kernel) fun t hf y => ?_
  rw [after_2]
  refine (show _ = out (F := Ideal) (iblk V c 0 t) (iblk V c 1 t) (win1_2.xinj (grid1.coords t) y) from rfl).trans ?_
  have he : ∀ a, (((cfg1.win 2).blk t).view.emb y a).val = win1_2.index t a * win1_2.size a + (win1_2.xinj (grid1.coords t) y a).val :=
    fun a => win1_2.rect_emb_val t y a
  rw [(idx t).2.2] at he
  generalize ((cfg1.win 2).blk t).view.emb y = e at he ⊢
  generalize win1_2.xinj (grid1.coords t) y = z at he ⊢
  have ht : t.val < 48 := t.isLt
  have e0 : (e 0).val = t.val * 512 + (z 0).val := he 0
  have e1 : (e 1).val = 0 * 4096 + (z 1).val := he 1
  have z0 : (z 0).val < 512 := (z 0).isLt
  unfold out G
  refine congrArg₂ (fun a b : EReal => a * b) (iblk0_apply V c t _ _ fun a => ?_) (iblk1_apply V c t _ _ fun a => ?_)
  · fin_cases a
    · show (e 0).val = t.val * 512 + (z 0).val; omega
    · show (e 1).val = 0 * 4096 + (z 1).val; omega
  · fin_cases a
    · show (e 0).val / 12288 = t.val / 24 * 1 + 0; omega
    · show (e 1).val / 128 = 0 * 32 + (z 1).val / 128; omega
    · show (e 0).val % 12288 = t.val % 24 * 512 + (z 0).val; omega

end Cert.KernelIdeal.Own.DeqRows

end
-- ==== Proof.KernelIdeal.DeqWdValue.lean ====
/-
  What the call that dequantises the down weights leaves in its result, over the reals, from any contents of its operands.
-/
module

public import proofs.«01_k».proof.Proof.KernelIdeal.DeqWd
public import Idealize.ShloMosaic.Lib.Pipeline.ValueKit

@[expose] public section

set_option maxRecDepth 16384

noncomputable section

namespace Cert.KernelIdeal.Own.DeqWd

open Cert.KernelIdeal Cert.KernelIdeal.Gen Idealize.ShloMosaic Idealize.ShloMosaic.TcCoe Idealize.SL.RA Idealize.SL.Sem
open Idealize.ShloMosaic.Pipeline (Dat Window)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg2.N, win2_0.index t = ![0, t.val, 0] ∧ win2_1.index t = ![0, t.val, 0, 0] ∧ win2_2.index t = ![0, t.val, 0] :=
  (by decide +kernel : ∀ t : Fin grid2.N, _)

/-- The whole result: each code times its scale. -/
def G (X : FVec Ideal S1x11008x4096 .fp8e4m3) (S : FVec Ideal S1x86x1x32 .f32) : FVec Ideal S1x11008x4096 .bf16 :=
  fun i => (X i : EReal) * S (ix4 (i 0) ⟨(i 1).val / 128, by have : (i 1).val < 11008 := (i 1).isLt; omega⟩ 0 ⟨(i 2).val / 128, by have : (i 2).val < 4096 := (i 2).isLt; omega⟩)

theorem iblk0_apply (c : Dev nD) (t : Fin cfg2.N) (y : S1x256x4096.Idx) (i : S1x11008x4096.Idx) (h : ∀ a, (i a).val = (![0, t.val, 0] : Fin 3 → ℕ) a * S1x256x4096.size a + (y a).val) :
    (iblk V c 0 t : S1x256x4096.Idx → EReal) y = (V c main_v8 : S1x11008x4096.Idx → EReal) i := by
  unfold iblk
  show (V c main_v8 : S1x11008x4096.Idx → EReal) (((cfg2.win 0).blk t).view.emb y) = _
  congr 1; funext a; apply Fin.ext
  refine (win2_0.rect_emb_val t y a).trans ?_
  rw [(idx t).1]
  exact (h a).symm

theorem iblk1_apply (c : Dev nD) (t : Fin cfg2.N) (y : S1x2x1x32.Idx) (i : S1x86x1x32.Idx) (h : ∀ a, (i a).val = (![0, t.val, 0, 0] : Fin 4 → ℕ) a * S1x2x1x32.size a + (y a).val) :
    (iblk V c 1 t : S1x2x1x32.Idx → EReal) y = (V c main_v10 : S1x86x1x32.Idx → EReal) i := by
  unfold iblk
  show (V c main_v10 : S1x86x1x32.Idx → EReal) (((cfg2.win 1).blk t).view.emb y) = _
  congr 1; funext a; apply Fin.ext
  refine (win2_1.rect_emb_val t y a).trans ?_
  rw [(idx t).2.1]
  exact (h a).symm

/-- The result's array after the call. -/
theorem final (c : Dev nD) : (dat (U := U) (Lvl := Lvl) V D c).arrAt 2 cfg2.N = G (V c main_v8) (V c main_v10) := by
  refine (dat (U := U) (Lvl := Lvl) V D c).arrAt_eq_of_covers 2 _ (by decide +kernel) fun t hf y => ?_
  rw [after_2]
  refine (show _ = out (F := Ideal) (iblk V c 0 t) (iblk V c 1 t) (win2_2.xinj (grid2.coords t) y) from rfl).trans ?_
  have he : ∀ a, (((cfg2.win 2).blk t).view.emb y a).val = win2_2.index t a * win2_2.size a + (win2_2.xinj (grid2.coords t) y a).val :=
    fun a => win2_2.rect_emb_val t y a
  rw [(idx t).2.2] at he
  generalize ((cfg2.win 2).blk t).view.emb y = e at he ⊢
  generalize win2_2.xinj (grid2.coords t) y = z at he ⊢
  have ht : t.val < 43 := t.isLt
  have e0 : (e 0).val = 0 * 1 + (z 0).val := he 0
  have e1 : (e 1).val = t.val * 256 + (z 1).val := he 1
  have e2 : (e 2).val = 0 * 4096 + (z 2).val := he 2
  have z0 : (z 0).val < 1 := (z 0).isLt
  unfold out G
  refine congrArg₂ (fun a b : EReal => a * b) (iblk0_apply V c t _ _ fun a => ?_) (iblk1_apply V c t _ _ fun a => ?_)
  · fin_cases a
    · show (e 0).val = 0 * 1 + (z 0).val; omega
    · show (e 1).val = t.val * 256 + (z 1).val; omega
    · show (e 2).val = 0 * 4096 + (z 2).val; omega
  · fin_cases a
    · show (e 0).val = 0 * 1 + 0; omega
    · show (e 1).val / 128 = t.val * 2 + (z 1).val / 128; omega
    · show 0 = 0 * 1 + 0; omega
    · show (e 2).val / 128 = 0 * 32 + (z 2).val / 128; omega

end Cert.KernelIdeal.Own.DeqWd

end
-- ==== Proof.KernelIdeal.DeqWguValue.lean ====
/-
  What the call that dequantises the gate and up weights leaves in its result, over the reals, from any contents of its operands.
-/
module

public import proofs.«01_k».proof.Proof.KernelIdeal.DeqWgu
public import Idealize.ShloMosaic.Lib.Pipeline.ValueKit

@[expose] public section

set_option maxRecDepth 16384

noncomputable section

namespace Cert.KernelIdeal.Own.DeqWgu

open Cert.KernelIdeal Cert.KernelIdeal.Gen Idealize.ShloMosaic Idealize.ShloMosaic.TcCoe Idealize.SL.RA Idealize.SL.Sem
open Idealize.ShloMosaic.Pipeline (Dat Window)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg3.N, win3_0.index t = ![t.val / 32, t.val % 32, 0] ∧ win3_1.index t = ![t.val / 32, t.val % 32, 0, 0] ∧ win3_2.index t = ![t.val / 32, t.val % 32, 0] :=
  (by decide +kernel : ∀ t : Fin grid3.N, _)

/-- The whole result: each code times its scale. -/
def G (X : FVec Ideal S2x4096x11008 .fp8e4m3) (S : FVec Ideal S2x32x1x86 .f32) : FVec Ideal S2x4096x11008 .bf16 :=
  fun i => (X i : EReal) * S (ix4 (i 0) ⟨(i 1).val / 128, by have : (i 1).val < 4096 := (i 1).isLt; omega⟩ 0 ⟨(i 2).val / 128, by have : (i 2).val < 11008 := (i 2).isLt; omega⟩)

theorem iblk0_apply (c : Dev nD) (t : Fin cfg3.N) (y : S1x128x11008.Idx) (i : S2x4096x11008.Idx) (h : ∀ a, (i a).val = (![t.val / 32, t.val % 32, 0] : Fin 3 → ℕ) a * S1x128x11008.size a + (y a).val) :
    (iblk V c 0 t : S1x128x11008.Idx → EReal) y = (V c main_v13 : S2x4096x11008.Idx → EReal) i := by
  unfold iblk
  show (V c main_v13 : S2x4096x11008.Idx → EReal) (((cfg3.win 0).blk t).view.emb y) = _
  congr 1; funext a; apply Fin.ext
  refine (win3_0.rect_emb_val t y a).trans ?_
  rw [(idx t).1]
  exact (h a).symm

theorem iblk1_apply (c : Dev nD) (t : Fin cfg3.N) (y : S1x1x1x86.Idx) (i : S2x32x1x86.Idx) (h : ∀ a, (i a).val = (![t.val / 32, t.val % 32, 0, 0] : Fin 4 → ℕ) a * S1x1x1x86.size a + (y a).val) :
    (iblk V c 1 t : S1x1x1x86.Idx → EReal) y = (V c main_v15 : S2x32x1x86.Idx → EReal) i := by
  unfold iblk
  show (V c main_v15 : S2x32x1x86.Idx → EReal) (((cfg3.win 1).blk t).view.emb y) = _
  congr 1; funext a; apply Fin.ext
  refine (win3_1.rect_emb_val t y a).trans ?_
  rw [(idx t).2.1]
  exact (h a).symm

/-- The result's array after the call. -/
theorem final (c : Dev nD) : (dat (U := U) (Lvl := Lvl) V D c).arrAt 2 cfg3.N = G (V c main_v13) (V c main_v15) := by
  refine (dat (U := U) (Lvl := Lvl) V D c).arrAt_eq_of_covers 2 _ (by decide +kernel) fun t hf y => ?_
  rw [after_2]
  refine (show _ = out (F := Ideal) (iblk V c 0 t) (iblk V c 1 t) (win3_2.xinj (grid3.coords t) y) from rfl).trans ?_
  have he : ∀ a, (((cfg3.win 2).blk t).view.emb y a).val = win3_2.index t a * win3_2.size a + (win3_2.xinj (grid3.coords t) y a).val :=
    fun a => win3_2.rect_emb_val t y a
  rw [(idx t).2.2] at he
  generalize ((cfg3.win 2).blk t).view.emb y = e at he ⊢
  generalize win3_2.xinj (grid3.coords t) y = z at he ⊢
  have ht : t.val < 64 := t.isLt
  have e0 : (e 0).val = t.val / 32 * 1 + (z 0).val := he 0
  have e1 : (e 1).val = t.val % 32 * 128 + (z 1).val := he 1
  have e2 : (e 2).val = 0 * 11008 + (z 2).val := he 2
  have z0 : (z 0).val < 1 := (z 0).isLt
  have z1 : (z 1).val < 128 := (z 1).isLt
  unfold out G
  refine congrArg₂ (fun a b : EReal => a * b) (iblk0_apply V c t _ _ fun a => ?_) (iblk1_apply V c t _ _ fun a => ?_)
  · fin_cases a
    · show (e 0).val = t.val / 32 * 1 + (z 0).val; omega
    · show (e 1).val = t.val % 32 * 128 + (z 1).val; omega
    · show (e 2).val = 0 * 11008 + (z 2).val; omega
  · fin_cases a
    · show (e 0).val = t.val / 32 * 1 + 0; omega
    · show (e 1).val / 128 = t.val % 32 * 1 + (z 1).val / 128; omega
    · show 0 = 0 * 1 + 0; omega
    · show (e 2).val / 128 = 0 * 86 + (z 2).val / 128; omega

end Cert.KernelIdeal.Own.DeqWgu

end
-- ==== Proof.KernelIdeal.DhValue.lean ====
/-
  What the call for the gradient of the activations leaves in its two results, over the reals, from any contents of its
  operands: the hidden activations (features by tokens) and the gradients of gate and up projection. What its buffers
  hold past the arrays' ends enters nothing inside them.
-/
module

public import proofs.«01_k».proof.Proof.KernelIdeal.Dh
public import Idealize.ShloMosaic.Lib.Pipeline.ValueKit

@[expose] public section

set_option maxRecDepth 16384

noncomputable section

namespace Cert.KernelIdeal.Own.Dh

open Cert.KernelIdeal Cert.KernelIdeal.Gen Idealize.ShloMosaic Idealize.ShloMosaic.TcCoe Idealize.SL.RA Idealize.SL.Sem
open Idealize.ShloMosaic.Pipeline (Dat Window)
open scoped BigOperators

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg4.N, win4_0.index t = ![t.val % 48, 0] ∧ win4_1.index t = ![t.val / 48, 0]
    ∧ win4_2.index t = ![t.val % 48 / 24, 0, t.val % 48 % 24, t.val / 48] ∧ win4_3.index t = ![t.val % 48 / 24, t.val / 48, 0, t.val % 48 % 24]
    ∧ win4_4.index t = ![t.val / 48, t.val % 48] ∧ win4_5.index t = ![0, t.val % 48, t.val / 48] :=
  (by decide +kernel : ∀ t : Fin grid4.N, _)

/-- How much of the blocks lies inside the arrays. -/
theorem ext : ∀ t : Fin cfg4.N, (∀ a, win4_1.xsize (grid4.coords t) a = (![if t.val / 48 = 7 then 256 else 1536, 4096] : Fin 2 → ℕ) a)
    ∧ (∀ a, win4_2.xsize (grid4.coords t) a = (![1, 2, 512, if t.val / 48 = 7 then 256 else 1536] : Fin 4 → ℕ) a)
    ∧ (∀ a, win4_3.xsize (grid4.coords t) a = (![1, if t.val / 48 = 7 then 2 else 12, 2, 512] : Fin 4 → ℕ) a)
    ∧ win4_4.xsize (grid4.coords t) 0 = (if t.val / 48 = 7 then 256 else 1536) ∧ win4_5.xsize (grid4.coords t) 2 = (if t.val / 48 = 7 then 256 else 1536) :=
  (by decide +kernel : ∀ t : Fin grid4.N, _)

/-! ## One entry -/

/-- The hidden activation from gate `g` and up projection `u`. -/
def hE (g u : EReal) : EReal := g * Ideal.logistic g * u
/-- The gate's gradient from the activation's `d`. -/
def dgE (d g u : EReal) : EReal := d * u * Ideal.logistic g * (1 + g * (1 - Ideal.logistic g))
/-- The up projection's gradient. -/
def duE (d g : EReal) : EReal := d * (g * Ideal.logistic g)

theorem hG_apply (b0 b1 : FVec Ideal S512x128 .bf16) (c0 c1 : Vec Ideal S1x1x512x128 .fp8e4m3) (p : Fin 128) (r : Fin 512) :
    hG b0 b1 c0 c1 (ix2 p r) = hE ((c0 (ix4 0 0 r p) : EReal) * b0 (ix2 r p)) ((c1 (ix4 0 0 r p) : EReal) * b1 (ix2 r p)) := by
  pointwise [hG, k4_pay28, k4_pay26, k4_pay25, k4_pay24, k4_pay23]
  rfl

theorem dgG_apply (d : FVec Ideal S512x128 .f32) (b0 b1 : FVec Ideal S512x128 .bf16) (c0 c1 : Vec Ideal S1x1x512x128 .fp8e4m3) (r : Fin 512) (p : Fin 128) :
    dgG d b0 b1 c0 c1 (ix3 0 r p) = dgE (d (ix2 r p)) ((c0 (ix4 0 0 r p) : EReal) * b0 (ix2 r p)) ((c1 (ix4 0 0 r p) : EReal) * b1 (ix2 r p)) := by
  pointwise [dgG, k4_pay25, k4_pay24, k4_pay23]
  rfl

theorem duG_apply (d : FVec Ideal S512x128 .f32) (b0 : FVec Ideal S512x128 .bf16) (c0 : Vec Ideal S1x1x512x128 .fp8e4m3) (r : Fin 512) (p : Fin 128) :
    duG d b0 c0 (ix3 0 r p) = duE (d (ix2 r p)) ((c0 (ix4 0 0 r p) : EReal) * b0 (ix2 r p)) := by
  pointwise [duG, k4_pay26, k4_pay25, k4_pay23]
  rfl

theorem pay20_apply (x : FVec Ideal S512x4096 .bf16) (w : FVec Ideal S512x4096 .bf16) (j : S512x512.Idx) :
    (k4_pay20 (F := Ideal) x w j : EReal) = ∑ k : Fin 4096, (x (ix2 (j 0) k) : EReal) * (w (ix2 (j 1) k) : EReal) := by
  pointwise [k4_pay20]

theorem pay133_apply (x : FVec Ideal S512x4096 .bf16) (w : FVec Ideal S256x4096 .bf16) (j : S512x256.Idx) :
    (k4_pay133 (F := Ideal) x w j : EReal) = ∑ k : Fin 4096, (x (ix2 (j 0) k) : EReal) * (w (ix2 (j 1) k) : EReal) := by
  pointwise [k4_pay133]

theorem dA_apply (x0 : FVec Ideal S512x4096 .bf16) (x1 : FVec Ideal S1536x4096 .bf16) (g : Fin 12) (r : Fin 512) (p : Fin 128) (f : Fin 1536) (hf : f.val = 128 * g.val + p.val) :
    dA (F := Ideal) x0 x1 g (ix2 r p) = ∑ k : Fin 4096, (x0 (ix2 r k) : EReal) * (x1 (ix2 f k) : EReal) := by
  unfold dA
  show k4_pay20 (F := Ideal) _ _ _ = _
  rw [pay20_apply]
  refine Finset.sum_congr rfl fun k _ => congrArg₂ (fun a b : EReal => a * b) ?_ ?_
  · congr 1; funext a; apply Fin.ext; fin_cases a <;> simp [Rect.emb_apply]
  · show x1 _ = x1 _
    congr 1; funext a; apply Fin.ext
    have := g.isLt
    fin_cases a
    · show 512 * (g.val / 4) + 1 * (128 * (g.val % 4) + p.val) = f.val; omega
    · show 0 + 1 * k.val = k.val; omega

theorem dB_apply (x0 : FVec Ideal S512x4096 .bf16) (x1 : FVec Ideal S1536x4096 .bf16) (g : Fin 12) (hg : g.val < 2) (r : Fin 512) (p : Fin 128) (f : Fin 1536) (hf : f.val = 128 * g.val + p.val) :
    dB (F := Ideal) x0 x1 g (ix2 r p) = ∑ k : Fin 4096, (x0 (ix2 r k) : EReal) * (x1 (ix2 f k) : EReal) := by
  unfold dB
  show k4_pay133 (F := Ideal) _ _ _ = _
  rw [pay133_apply]
  refine Finset.sum_congr rfl fun k _ => congrArg₂ (fun a b : EReal => a * b) ?_ ?_
  · congr 1; funext a; apply Fin.ext; fin_cases a <;> simp [Rect.emb_apply]
  · show x1 _ = x1 _
    congr 1; funext a; apply Fin.ext
    fin_cases a
    · show 0 + 1 * (128 * (g.val % 2) + p.val) = f.val; omega
    · show 0 + 1 * k.val = k.val; omega

theorem dsel_apply (n : ℕ) (x0 : FVec Ideal S512x4096 .bf16) (x1 : FVec Ideal S1536x4096 .bf16) (g : Fin 12) (hg : n = 7 → g.val < 2) (r : Fin 512) (p : Fin 128) (f : Fin 1536) (hf : f.val = 128 * g.val + p.val) :
    dsel (F := Ideal) n x0 x1 g (ix2 r p) = ∑ k : Fin 4096, (x0 (ix2 r k) : EReal) * (x1 (ix2 f k) : EReal) := by
  unfold dsel
  split
  · exact dB_apply x0 x1 g (hg ‹_›) r p f hf
  · exact dA_apply x0 x1 g r p f hf

/-! ## The blocks -/

theorem iblk0_apply (c : Dev nD) (t : Fin cfg4.N) (y : S512x4096.Idx) (i : S24576x4096.Idx)
    (h0 : (i 0).val = t.val % 48 * 512 + (y 0).val) (h1 : (i 1).val = (y 1).val) :
    (iblk V c 0 t : S512x4096.Idx → EReal) y = (V c main_v7 : S24576x4096.Idx → EReal) i := by
  unfold iblk
  show (V c main_v7 : S24576x4096.Idx → EReal) (((cfg4.win 0).blk t).view.emb y) = _
  congr 1; funext a; apply Fin.ext
  refine (win4_0.rect_emb_val t y a).trans ?_
  rw [(idx t).1]
  fin_cases a
  · exact h0.symm
  · show 0 * 4096 + (y 1).val = (i 1).val; omega

theorem xb1_apply (c : Dev nD) (t : Fin cfg4.N) (y : S1536x4096.Idx) (i : S11008x4096.Idx)
    (h0 : (i 0).val = t.val / 48 * 1536 + (y 0).val) (h1 : (i 1).val = (y 1).val) :
    (xb1 V c t : S1536x4096.Idx → EReal) y = (V c main_v12 : S11008x4096.Idx → EReal) i := by
  have hm : win4_1.moved (grid4.coords t) y = true := (win4_1.moved_iff _ _).mpr fun a => by
    have b0 : (y 0).val < 1536 := (y 0).isLt
    have bi : (i 0).val < 11008 := (i 0).isLt
    rw [(ext t).1 a]
    fin_cases a
    · show (y 0).val < if t.val / 48 = 7 then 256 else 1536
      split <;> omega
    · exact (y 1).isLt
  unfold xb1 Window.fill
  rw [dif_pos hm]
  unfold iblk
  show (V c main_v12 : S11008x4096.Idx → EReal) (((cfg4.win 1).blk t).view.emb _) = _
  congr 1; funext a; apply Fin.ext
  refine (win4_1.rect_emb_val t _ a).trans ?_
  rw [(idx t).2.1]
  fin_cases a
  · exact h0.symm
  · show 0 * 4096 + (y 1).val = (i 1).val; omega

theorem xb2_apply (c : Dev nD) (t : Fin cfg4.N) (y : S1x2x512x1536.Idx) (i : S2x2x12288x11008.Idx)
    (h0 : (i 0).val = t.val % 48 / 24) (h1 : (i 1).val = (y 1).val) (h2 : (i 2).val = t.val % 48 % 24 * 512 + (y 2).val)
    (h3 : (i 3).val = t.val / 48 * 1536 + (y 3).val) :
    (xb2 V c t : S1x2x512x1536.Idx → EReal) y = (V c main_v4 : S2x2x12288x11008.Idx → EReal) i := by
  have hm : win4_2.moved (grid4.coords t) y = true := (win4_2.moved_iff _ _).mpr fun a => by
    have b3 : (y 3).val < 1536 := (y 3).isLt
    have bi : (i 3).val < 11008 := (i 3).isLt
    rw [(ext t).2.1 a]
    fin_cases a
    · exact (y 0).isLt
    · exact (y 1).isLt
    · exact (y 2).isLt
    · show (y 3).val < if t.val / 48 = 7 then 256 else 1536
      split <;> omega
  unfold xb2 Window.fill
  rw [dif_pos hm]
  unfold iblk
  show (V c main_v4 : S2x2x12288x11008.Idx → EReal) (((cfg4.win 2).blk t).view.emb _) = _
  congr 1; funext a; apply Fin.ext
  refine (win4_2.rect_emb_val t _ a).trans ?_
  rw [(idx t).2.2.1]
  have y0 : (y 0).val < 1 := (y 0).isLt
  fin_cases a
  · show t.val % 48 / 24 * 1 + (y 0).val = (i 0).val; omega
  · show 0 * 2 + (y 1).val = (i 1).val; omega
  · exact h2.symm
  · exact h3.symm

theorem xb3_apply (c : Dev nD) (t : Fin cfg4.N) (y : S1x12x2x512.Idx) (i : S2x86x2x12288.Idx)
    (h0 : (i 0).val = t.val % 48 / 24) (h1 : (i 1).val = t.val / 48 * 12 + (y 1).val) (h2 : (i 2).val = (y 2).val)
    (h3 : (i 3).val = t.val % 48 % 24 * 512 + (y 3).val) :
    (xb3 V c t : S1x12x2x512.Idx → EReal) y = (V c main_v5 : S2x86x2x12288.Idx → EReal) i := by
  have hm : win4_3.moved (grid4.coords t) y = true := (win4_3.moved_iff _ _).mpr fun a => by
    have b1 : (y 1).val < 12 := (y 1).isLt
    have bi : (i 1).val < 86 := (i 1).isLt
    rw [(ext t).2.2.1 a]
    fin_cases a
    · exact (y 0).isLt
    · show (y 1).val < if t.val / 48 = 7 then 2 else 12
      split <;> omega
    · exact (y 2).isLt
    · exact (y 3).isLt
  unfold xb3 Window.fill
  rw [dif_pos hm]
  unfold iblk
  show (V c main_v5 : S2x86x2x12288.Idx → EReal) (((cfg4.win 3).blk t).view.emb _) = _
  congr 1; funext a; apply Fin.ext
  refine (win4_3.rect_emb_val t _ a).trans ?_
  rw [(idx t).2.2.2.1]
  have y0 : (y 0).val < 1 := (y 0).isLt
  fin_cases a
  · show t.val % 48 / 24 * 1 + (y 0).val = (i 0).val; omega
  · exact h1.symm
  · show 0 * 2 + (y 2).val = (i 2).val; omega
  · exact h3.symm

/-! ## The results -/

/-- Gate (`k = 0`) or up projection at a token and a feature, from the codes and scales. -/
def guV (C : FVec Ideal S2x2x12288x11008 .fp8e4m3) (S : FVec Ideal S2x86x2x12288 .f32) (k : Fin 2) (t : Fin 24576) (f : Fin 11008) : EReal :=
  C (ix4 ⟨t.val / 12288, by omega⟩ k ⟨t.val % 12288, by omega⟩ f) * S (ix4 ⟨t.val / 12288, by omega⟩ ⟨f.val / 128, by omega⟩ k ⟨t.val % 12288, by omega⟩)

/-- The hidden activations, features by tokens. -/
def GH (C : FVec Ideal S2x2x12288x11008 .fp8e4m3) (S : FVec Ideal S2x86x2x12288 .f32) : FVec Ideal S11008x24576 .bf16 :=
  fun i => hE (guV C S 0 (i 1) (i 0)) (guV C S 1 (i 1) (i 0))

/-- The gradient of the activations. -/
def dhV (X : FVec Ideal S24576x4096 .bf16) (W : FVec Ideal S11008x4096 .bf16) (t : Fin 24576) (f : Fin 11008) : EReal :=
  ∑ k : Fin 4096, X (ix2 t k) * W (ix2 f k)

/-- The gradients of gate and up projection. -/
def GD (X : FVec Ideal S24576x4096 .bf16) (W : FVec Ideal S11008x4096 .bf16) (C : FVec Ideal S2x2x12288x11008 .fp8e4m3) (S : FVec Ideal S2x86x2x12288 .f32) :
    FVec Ideal S2x24576x11008 .bf16 :=
  fun i => if (i 0).val = 0 then dgE (dhV X W (i 1) (i 2)) (guV C S 0 (i 1) (i 2)) (guV C S 1 (i 1) (i 2)) else duE (dhV X W (i 1) (i 2)) (guV C S 0 (i 1) (i 2))

/-- A block's gate or up projection. -/
theorem gu_blk (c : Dev nD) (t : Fin cfg4.N) (k : Fin 2) (g : Fin 12) (r : Fin 512) (p : Fin 128) (T : Fin 24576) (f : Fin 11008)
    (hT : T.val = t.val % 48 * 512 + r.val) (hf : f.val = t.val / 48 * 1536 + (128 * g.val + p.val)) :
    (cw (F := Ideal) (xb2 V c t) k g (ix4 0 0 r p) : EReal) * colS (F := Ideal) (xb3 V c t) k g (ix2 r p) = guV (V c main_v4) (V c main_v5) k T f := by
  have hr := r.isLt
  have hp := p.isLt
  have hg := g.isLt
  unfold guV
  refine congrArg₂ (fun a b : EReal => a * b) (xb2_apply V c t _ _ ?_ rfl ?_ ?_) (xb3_apply V c t _ _ ?_ ?_ rfl ?_)
  · show T.val / 12288 = _; omega
  · show T.val % 12288 = t.val % 48 % 24 * 512 + r.val; omega
  · exact hf
  · show T.val / 12288 = _; omega
  · show f.val / 128 = t.val / 48 * 12 + g.val; omega
  · show T.val % 12288 = t.val % 48 % 24 * 512 + r.val; omega

/-- A block's gradient of the activations. -/
theorem dh_blk (c : Dev nD) (t : Fin cfg4.N) (g : Fin 12) (hg : t.val / 48 = 7 → g.val < 2) (r : Fin 512) (p : Fin 128) (T : Fin 24576) (f : Fin 11008)
    (hT : T.val = t.val % 48 * 512 + r.val) (hf : f.val = t.val / 48 * 1536 + (128 * g.val + p.val)) :
    dsel (F := Ideal) (t.val / 48) (iblk V c 0 t) (xb1 V c t) g (ix2 r p) = dhV (V c main_v7) (V c main_v12) T f := by
  have hp := p.isLt
  have hg' := g.isLt
  rw [dsel_apply _ _ _ g hg r p ⟨128 * g.val + p.val, by omega⟩ rfl]
  unfold dhV
  exact Finset.sum_congr rfl fun k _ => congrArg₂ (fun a b : EReal => a * b) (iblk0_apply V c t _ (ix2 T k) hT rfl) (xb1_apply V c t _ (ix2 f k) hf rfl)

/-- The activations' array after the call. -/
theorem final4 (c : Dev nD) : (dat (U := U) (Lvl := Lvl) V D c).arrAt 4 cfg4.N = GH (V c main_v4) (V c main_v5) := by
  refine (dat (U := U) (Lvl := Lvl) V D c).arrAt_eq_of_covers 4 _ (by decide +kernel) fun t hf y => ?_
  rw [after_4]
  refine (show _ = out4 V c t (win4_4.xinj (grid4.coords t) y) from rfl).trans ?_
  have he : ∀ a, (((cfg4.win 4).blk t).view.emb y a).val = win4_4.index t a * win4_4.size a + (win4_4.xinj (grid4.coords t) y a).val :=
    fun a => win4_4.rect_emb_val t y a
  rw [(idx t).2.2.2.2.1] at he
  generalize ((cfg4.win 4).blk t).view.emb y = e at he ⊢
  generalize win4_4.xinj (grid4.coords t) y = z at he ⊢
  have e0 : (e 0).val = t.val / 48 * 1536 + (z 0).val := he 0
  have e1 : (e 1).val = t.val % 48 * 512 + (z 1).val := he 1
  have z0 : (z 0).val < 1536 := (z 0).isLt
  unfold out4 hOut
  refine (hG_apply _ _ _ _ _ _).trans ?_
  show _ = hE (guV _ _ 0 (e 1) (e 0)) (guV _ _ 1 (e 1) (e 0))
  have hf' : (e 0).val = t.val / 48 * 1536 + (128 * (grp (z 0).val (lt0 z)).val + (z 0).val % 128) := by
    show _ = t.val / 48 * 1536 + (128 * ((z 0).val / 128) + (z 0).val % 128); omega
  exact congrArg₂ hE (gu_blk V c t 0 _ _ _ (e 1) (e 0) e1 hf') (gu_blk V c t 1 _ _ _ (e 1) (e 0) e1 hf')

/-- The gradients' array after the call. -/
theorem final5 (c : Dev nD) : (dat (U := U) (Lvl := Lvl) V D c).arrAt 5 cfg4.N = GD (V c main_v7) (V c main_v12) (V c main_v4) (V c main_v5) := by
  refine (dat (U := U) (Lvl := Lvl) V D c).arrAt_eq_of_covers 5 _ (by decide +kernel) fun t hf y => ?_
  have hy : (win4_5.xinj (grid4.coords t) y 2).val < (if t.val / 48 = 7 then 256 else 1536) := by rw [← (ext t).2.2.2.2]; exact (y 2).isLt
  rw [after_5]
  refine (show _ = out5 V c t (win4_5.xinj (grid4.coords t) y) from rfl).trans ?_
  have he : ∀ a, (((cfg4.win 5).blk t).view.emb y a).val = win4_5.index t a * win4_5.size a + (win4_5.xinj (grid4.coords t) y a).val :=
    fun a => win4_5.rect_emb_val t y a
  rw [(idx t).2.2.2.2.2] at he
  generalize ((cfg4.win 5).blk t).view.emb y = e at he ⊢
  generalize win4_5.xinj (grid4.coords t) y = z at he hy ⊢
  have e0 : (e 0).val = (z 0).val := (he 0).trans (Nat.zero_add _)
  have e1 : (e 1).val = t.val % 48 * 512 + (z 1).val := he 1
  have e2 : (e 2).val = t.val / 48 * 1536 + (z 2).val := he 2
  have z2 : (z 2).val < 1536 := (z 2).isLt
  have hf' : (e 2).val = t.val / 48 * 1536 + (128 * (grp (z 2).val (lt2 z)).val + (z 2).val % 128) := by
    show _ = t.val / 48 * 1536 + (128 * ((z 2).val / 128) + (z 2).val % 128); omega
  have hg : t.val / 48 = 7 → (grp (z 2).val (lt2 z)).val < 2 := fun h => by
    rw [if_pos h] at hy
    show (z 2).val / 128 < 2; omega
  have h0 := gu_blk V c t 0 _ _ ⟨(z 2).val % 128, Nat.mod_lt _ (by decide)⟩ (e 1) (e 2) e1 hf'
  have h1 := gu_blk V c t 1 _ _ ⟨(z 2).val % 128, Nat.mod_lt _ (by decide)⟩ (e 1) (e 2) e1 hf'
  have hd := dh_blk V c t _ hg _ ⟨(z 2).val % 128, Nat.mod_lt _ (by decide)⟩ (e 1) (e 2) e1 hf'
  unfold out5 dOut GD
  rw [e0]
  by_cases hz : (z 0).val = 0
  · rw [if_pos hz, if_pos hz]
    refine (dgG_apply _ _ _ _ _ _ _).trans ?_
    rw [h0, h1, hd]
  · rw [if_neg hz, if_neg hz]
    refine (duG_apply _ _ _ _ _).trans ?_
    rw [h0, hd]

end Cert.KernelIdeal.Own.Dh

end
-- ==== Proof.KernelIdeal.DwguValue.lean ====
/-
  What the call for the gate and up weights' gradient leaves in its result, over the reals, from any contents of its
  operands: for each half one product. The last feature block of a half overhangs the array; what its buffers hold past
  the array's end enters nothing inside it.
-/
module

public import proofs.«01_k».proof.Proof.KernelIdeal.Dwgu
public import Idealize.ShloMosaic.Lib.Pipeline.ValueKit

@[expose] public section

set_option maxRecDepth 16384

noncomputable section

namespace Cert.KernelIdeal.Own.Dwgu

open Cert.KernelIdeal Cert.KernelIdeal.Gen Idealize.ShloMosaic Idealize.ShloMosaic.TcCoe Idealize.SL.RA Idealize.SL.Sem
open Idealize.ShloMosaic.Pipeline (Dat Window)
open scoped BigOperators

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg5.N, win5_0.index t = ![t.val / 12 % 4, t.val % 12] ∧ win5_1.index t = ![t.val / 192, t.val % 12, t.val / 48 % 4]
    ∧ win5_2.index t = ![t.val / 192, t.val / 12 % 4, t.val / 48 % 4] :=
  (by decide +kernel : ∀ t : Fin grid5.N, _)

/-- How many columns of the blocks lie inside the arrays. -/
theorem cols : ∀ t : Fin cfg5.N, win5_1.xsize (grid5.coords t) 2 = (if t.val / 48 % 4 = 3 then 2560 else 2816)
    ∧ win5_2.xsize (grid5.coords t) 2 = (if t.val / 48 % 4 = 3 then 2560 else 2816)
    ∧ win5_1.xsize (grid5.coords t) 0 = 1 ∧ win5_1.xsize (grid5.coords t) 1 = 2048 :=
  (by decide +kernel : ∀ t : Fin grid5.N, _)

/-- The fill is zero. -/
theorem hzero (j : S1x1024x2816.Idx) : k5_pay1 (F := Ideal) j = 0 := by pointwise [k5_pay1]

/-- One product added, over a whole block. -/
theorem hpay2 (a : FVec Ideal S1x1024x2816 .f32) (x : FVec Ideal S1024x2048 .bf16) (y : FVec Ideal S1x2048x2816 .bf16) (j : S1x1024x2816.Idx) :
    k5_pay2 a x y j = a j + ∑ k : Fin 2048, x (ix2 (j 1) k) * y (ix3 0 k (j 2)) := by
  pointwise [k5_pay2]

/-- One product added, over the part of a block inside the array. -/
theorem hpay3 (a : FVec Ideal S1x1024x2560 .f32) (x : FVec Ideal S1024x2048 .bf16) (y : FVec Ideal S1x2048x2560 .bf16) (j : S1x1024x2560.Idx) :
    k5_pay3 a x y j = a j + ∑ k : Fin 2048, x (ix2 (j 1) k) * y (ix3 0 k (j 2)) := by
  pointwise [k5_pay3]

/-- One block's product. -/
def prod (x : FVec Ideal S1024x2048 .bf16) (y : FVec Ideal S1x2048x2816 .bf16) (j : S1x1024x2816.Idx) : EReal :=
  ∑ k : Fin 2048, x (ix2 (j 1) k) * y (ix3 0 k (j 2))

/-- What one step adds: nothing past the array's end. -/
def add (p : ℕ) (x : FVec Ideal S1024x2048 .bf16) (y : FVec Ideal S1x2048x2816 .bf16) (j : S1x1024x2816.Idx) : EReal :=
  if p % 4 = 3 ∧ 2560 ≤ (j 2).val then 0 else prod x y j

/-- The whole product. -/
def G (X : FVec Ideal S4096x24576 .bf16) (Y : FVec Ideal S2x24576x11008 .bf16) : FVec Ideal S2x4096x11008 .f32 :=
  fun j => ∑ k : Fin 24576, X (ix2 (j 1) k) * Y (ix3 (j 0) k (j 2))

theorem pt2_apply (a : FVec Ideal S1x1024x2816 .f32) (x : FVec Ideal S1024x2048 .bf16) (y : FVec Ideal S1x2048x2816 .bf16) (j : S1x1024x2816.Idx) :
    pt2 (F := Ideal) a (k5_pay3 (tl2 (F := Ideal) a) x (tl1 (F := Ideal) y)) j = a j + (if 2560 ≤ (j 2).val then 0 else prod x y j) := by
  by_cases h : 2560 ≤ (j 2).val
  · rw [if_pos h, add_zero]
    unfold pt2 VecWindow.put
    rw [dif_neg]
    intro hh
    have := (hh 2).2
    exact absurd (show (j 2).val < 2560 from by simpa using this) (by omega)
  · rw [if_neg h]
    have hj : ∀ b, (![0, 0, 0] : Fin 3 → ℕ) b ≤ (j b).val ∧ (j b).val < (![0, 0, 0] : Fin 3 → ℕ) b + S1x1024x2560.size b := by
      intro b
      fin_cases b
      · exact ⟨Nat.zero_le _, by have := (j 0).isLt; simpa using this⟩
      · exact ⟨Nat.zero_le _, by have := (j 1).isLt; simpa using this⟩
      · exact ⟨Nat.zero_le _, by simpa using h⟩
    unfold pt2 VecWindow.put
    rw [dif_pos hj, hpay3]
    unfold prod
    congr 1
    · show a _ = a j
      congr 1; funext b; apply Fin.ext; fin_cases b <;> simp [Rect.emb_apply, Rect.unitLocal]
    · refine Finset.sum_congr rfl fun k _ => ?_
      congr 1
      show y _ = y _
      congr 1; funext b; apply Fin.ext; fin_cases b <;> simp [Rect.emb_apply, Rect.unitLocal]

theorem step_apply (p k : ℕ) (x : FVec Ideal S1024x2048 .bf16) (y : FVec Ideal S1x2048x2816 .bf16) (a : FVec Ideal S1x1024x2816 .f32) (j : S1x1024x2816.Idx) :
    step (F := Ideal) p k x y a j = (if k = 0 then 0 else a j) + add p x y j := by
  unfold step add
  by_cases h3 : p % 4 = 3
  · rw [if_pos h3, show (if p % 4 = 3 ∧ 2560 ≤ (j 2).val then (0 : EReal) else prod x y j) = if 2560 ≤ (j 2).val then 0 else prod x y j from by
      simp only [h3, true_and]]
    by_cases h0 : k = 0
    · rw [if_pos h0, if_pos h0]
      exact (pt2_apply _ x y j).trans (by rw [hzero])
    · rw [if_neg h0, if_neg h0]
      exact pt2_apply a x y j
  · rw [if_neg h3, show (if p % 4 = 3 ∧ 2560 ≤ (j 2).val then (0 : EReal) else prod x y j) = prod x y j from if_neg fun h => h3 h.1]
    by_cases h0 : k = 0
    · rw [if_pos h0, if_pos h0]
      exact (hpay2 _ x y j).trans (by rw [hzero]; rfl)
    · rw [if_neg h0, if_neg h0]
      exact hpay2 a x y j

/-- What one point adds. -/
def term (c : Dev nD) (t : Fin cfg5.N) (j : S1x1024x2816.Idx) : EReal := add (t.val / 48) (iblk V c 0 t) (xb1 V c t) j

theorem acc_reset (c : Dev nD) (t : Fin cfg5.N) (h : t.val % 12 = 0) (j : S1x1024x2816.Idx) :
    acc V c t.val t.isLt j = 0 + term V c t j := by
  obtain ⟨n, hn⟩ := t
  cases n with
  | zero => show step (0 / 48) (0 % 12) _ _ _ j = _; rw [step_apply, if_pos rfl]; rfl
  | succ n => show step ((n + 1) / 48) ((n + 1) % 12) _ _ _ j = _; rw [step_apply, if_pos h]; rfl

theorem acc_add (c : Dev nD) (t : Fin cfg5.N) (h : ¬ t.val % 12 = 0) (j : S1x1024x2816.Idx) :
    acc V c t.val t.isLt j = acc V c (t.val - 1) (Nat.lt_of_le_of_lt (Nat.sub_le _ _) t.isLt) j + term V c t j := by
  obtain ⟨n, hn⟩ := t
  cases n with
  | zero => exact absurd rfl h
  | succ n => show step ((n + 1) / 48) ((n + 1) % 12) _ _ _ j = _; rw [step_apply, if_neg h]; rfl

/-- The first operand's block at an index. -/
theorem iblk0_apply (c : Dev nD) (t : Fin cfg5.N) (y : S1024x2048.Idx) (i : S4096x24576.Idx)
    (h0 : (i 0).val = t.val / 12 % 4 * 1024 + (y 0).val) (h1 : (i 1).val = t.val % 12 * 2048 + (y 1).val) :
    (iblk V c 0 t : S1024x2048.Idx → EReal) y = (V c main_v6 : S4096x24576.Idx → EReal) i := by
  unfold iblk
  show (V c main_v6 : S4096x24576.Idx → EReal) (((cfg5.win 0).blk t).view.emb y) = _
  congr 1; funext a; apply Fin.ext
  refine (win5_0.rect_emb_val t y a).trans ?_
  rw [(idx t).1]
  fin_cases a
  · exact h0.symm
  · exact h1.symm

/-- The second operand's block at an index inside the array. -/
theorem xb1_apply (c : Dev nD) (t : Fin cfg5.N) (y : S1x2048x2816.Idx) (i : S2x24576x11008.Idx)
    (h0 : (i 0).val = t.val / 192) (h1 : (i 1).val = t.val % 12 * 2048 + (y 1).val) (h2 : (i 2).val = t.val / 48 % 4 * 2816 + (y 2).val) :
    (xb1 V c t : S1x2048x2816.Idx → EReal) y = (V c main_v17_1 : S2x24576x11008.Idx → EReal) i := by
  have hm : win5_1.moved (grid5.coords t) y = true := (win5_1.moved_iff _ _).mpr fun a => by
    have hc := cols t
    have b2 : (y 2).val < 2816 := (y 2).isLt
    have bi : (i 2).val < 11008 := (i 2).isLt
    fin_cases a
    · show (y 0).val < win5_1.xsize (grid5.coords t) 0
      rw [hc.2.2.1]; exact (y 0).isLt
    · show (y 1).val < win5_1.xsize (grid5.coords t) 1
      rw [hc.2.2.2]; exact (y 1).isLt
    · show (y 2).val < win5_1.xsize (grid5.coords t) 2
      rw [hc.1]; split <;> omega
  unfold xb1 Window.fill
  rw [dif_pos hm]
  unfold iblk
  show (V c main_v17_1 : S2x24576x11008.Idx → EReal) (((cfg5.win 1).blk t).view.emb _) = _
  congr 1; funext a; apply Fin.ext
  refine (win5_1.rect_emb_val t _ a).trans ?_
  rw [(idx t).2.1]
  have y0 : (y 0).val = 0 := by have : (y 0).val < 1 := (y 0).isLt; omega
  fin_cases a
  · show t.val / 192 * 1 + (y 0).val = (i 0).val
    omega
  · exact h1.symm
  · exact h2.symm

/-- The result's array after the call. -/
theorem final (c : Dev nD) : (dat (U := U) (Lvl := Lvl) V D c).arrAt 2 cfg5.N = G (V c main_v6) (V c main_v17_1) := by
  refine (dat (U := U) (Lvl := Lvl) V D c).arrAt_eq_of_covers 2 _ (by decide +kernel) fun t hf y => ?_
  have hy : (y 2).val < (if t.val / 48 % 4 = 3 then 2560 else 2816) := by rw [← (cols t).2.1]; exact (y 2).isLt
  have ht : t.val < 384 := Nat.lt_of_lt_of_eq t.isLt N_5
  have hr : t.val % 12 = 11 := (flush5_2 t).mp hf
  rw [after_2]
  refine (show _ = acc V c t.val t.isLt (win5_2.xinj (grid5.coords t) y) from rfl).trans ?_
  rw [Pipeline.eq_sum_fin_of_reset_step_apply_of_flush (fun n h => acc V c n h) 12 (fun _ => 0) (term V c) (acc_reset V c) (acc_add V c)
    t hr _, zero_add]
  have ht' : ∀ s : Fin 12, (12 * (t.val / 12) + s.val) % 12 = s.val ∧ (12 * (t.val / 12) + s.val) / 12 = t.val / 12
      ∧ (12 * (t.val / 12) + s.val) / 48 = t.val / 48 ∧ (12 * (t.val / 12) + s.val) / 192 = t.val / 192 := fun s => by
    have := s.isLt
    omega
  have hterm : ∀ s : Fin 12, term V c ⟨12 * (t.val / 12) + s.val, Pipeline.run_point_lt_of_flush t hr s⟩ (win5_2.xinj (grid5.coords t) y)
      = prod (iblk V c 0 ⟨12 * (t.val / 12) + s.val, Pipeline.run_point_lt_of_flush t hr s⟩) (xb1 V c ⟨12 * (t.val / 12) + s.val, Pipeline.run_point_lt_of_flush t hr s⟩)
          (win5_2.xinj (grid5.coords t) y) := fun s => by
    unfold term add
    rw [if_neg]
    rintro ⟨h3, h⟩
    rw [show (⟨12 * (t.val / 12) + s.val, Pipeline.run_point_lt_of_flush t hr s⟩ : Fin cfg5.N).val / 48 = t.val / 48 from (ht' s).2.2.1] at h3
    rw [if_pos h3] at hy
    exact absurd hy (Nat.not_lt.2 h)
  rw [Finset.sum_congr rfl fun s _ => hterm s]
  have hz : (win5_2.xinj (grid5.coords t) y 0).val = 0 := by
    have : (win5_2.xinj (grid5.coords t) y 0).val < 1 := (win5_2.xinj (grid5.coords t) y 0).isLt
    omega
  have he : ∀ a, (((cfg5.win 2).blk t).view.emb y a).val = win5_2.index t a * win5_2.size a + (win5_2.xinj (grid5.coords t) y a).val :=
    fun a => win5_2.rect_emb_val t y a
  rw [(idx t).2.2] at he
  generalize ((cfg5.win 2).blk t).view.emb y = e at he ⊢
  generalize win5_2.xinj (grid5.coords t) y = z at he hz ⊢
  have e0 : (e 0).val = t.val / 192 := (he 0).trans (by rw [hz]; exact Nat.mul_one _)
  have e1 : (e 1).val = t.val / 12 % 4 * 1024 + (z 1).val := he 1
  have e2 : (e 2).val = t.val / 48 % 4 * 2816 + (z 2).val := he 2
  unfold prod G
  refine Fin.sum_mul_add_congr fun s k hl => ?_
  obtain ⟨h1, h2, h3, h4⟩ := ht' s
  have hT : (⟨12 * (t.val / 12) + s.val, Pipeline.run_point_lt_of_flush t hr s⟩ : Fin cfg5.N).val = 12 * (t.val / 12) + s.val := rfl
  generalize (⟨12 * (t.val / 12) + s.val, Pipeline.run_point_lt_of_flush t hr s⟩ : Fin cfg5.N) = T at hT ⊢
  rw [← hT] at h1 h2 h3 h4
  refine congrArg₂ (fun a b : EReal => a * b) (iblk0_apply V c T _ (ix2 (e 1) ⟨s.val * 2048 + k.val, hl⟩) ?_ ?_)
    (xb1_apply V c T _ (ix3 (e 0) ⟨s.val * 2048 + k.val, hl⟩ (e 2)) ?_ ?_ ?_)
  · rw [h2]; exact e1
  · rw [h1]; rfl
  · rw [h4]; exact e0
  · rw [h1]; rfl
  · rw [h3]; exact e2

end Cert.KernelIdeal.Own.Dwgu

end
-- ==== Proof.KernelIdeal.DwdValue.lean ====
/-
  What the call for `dw_down` leaves in its result, over the reals, from any contents of its operands: one product. The
  kernel fills a block of the result with zeros and adds twelve products of 2048 rows each to it; together these are the
  sum over all 24576 rows.
-/
module

public import proofs.«01_k».proof.Proof.KernelIdeal.Dwd
public import Idealize.ShloMosaic.Lib.Pipeline.ValueKit

@[expose] public section

set_option maxRecDepth 16384

noncomputable section

namespace Cert.KernelIdeal.Own.Dwd

open Cert.KernelIdeal Cert.KernelIdeal.Gen Idealize.ShloMosaic Idealize.ShloMosaic.TcCoe Idealize.SL.RA Idealize.SL.Sem
open Idealize.ShloMosaic.Pipeline (Dat)
open scoped BigOperators

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg6.N, win6_0.index t = ![t.val / 48, t.val % 12] ∧ win6_1.index t = ![t.val % 12, t.val / 12 % 4]
    ∧ win6_2.index t = ![t.val / 48, t.val / 12 % 4] :=
  (by decide +kernel : ∀ t : Fin grid6.N, _)

/-- The fill is zero. -/
theorem hzero (j : S1376x1024.Idx) : k6_pay1 (F := Ideal) j = 0 := by pointwise [k6_pay1]

/-- One product added. -/
theorem hpay (acc : FVec Ideal S1376x1024 .f32) (x : FVec Ideal S1376x2048 .bf16) (y : FVec Ideal S2048x1024 .bf16) (j : S1376x1024.Idx) :
    k6_pay2 acc x y j = acc j + ∑ k : Fin 2048, x (ix2 (j 0) k) * y (ix2 k (j 1)) := by
  pointwise [k6_pay2]

/-- One block's product. -/
def prod (x : FVec Ideal S1376x2048 .bf16) (y : FVec Ideal S2048x1024 .bf16) (j : S1376x1024.Idx) : EReal :=
  ∑ k : Fin 2048, x (ix2 (j 0) k) * y (ix2 k (j 1))

/-- The product one point adds. -/
def term (c : Dev nD) (t : Fin cfg6.N) (j : S1376x1024.Idx) : EReal := prod (iblk V c 0 t) (iblk V c 1 t) j

/-- The whole product. -/
def G (X : FVec Ideal S11008x24576 .bf16) (Y : FVec Ideal S24576x4096 .bf16) : FVec Ideal S11008x4096 .f32 :=
  fun j => ∑ k : Fin 24576, X (ix2 (j 0) k) * Y (ix2 k (j 1))

theorem acc_reset (c : Dev nD) (t : Fin cfg6.N) (h : t.val % 12 = 0) (j : S1376x1024.Idx) :
    acc V c t.val t.isLt j = 0 + term V c t j := by
  have e : acc V c t.val t.isLt = step (t.val % 12) (iblk V c 0 t) (iblk V c 1 t) (k6_pay1 (F := Ideal)) := by
    obtain ⟨n, hn⟩ := t
    cases n with
    | zero => rfl
    | succ n =>
      show step ((n + 1) % 12) _ _ _ = step ((n + 1) % 12) _ _ _
      unfold step; rw [if_pos h, if_pos h]
  rw [e, h]; unfold step; rw [if_pos rfl, hpay, hzero]; rfl

theorem acc_add (c : Dev nD) (t : Fin cfg6.N) (h : ¬ t.val % 12 = 0) (j : S1376x1024.Idx) :
    acc V c t.val t.isLt j = acc V c (t.val - 1) (Nat.lt_of_le_of_lt (Nat.sub_le _ _) t.isLt) j + term V c t j := by
  obtain ⟨n, hn⟩ := t
  cases n with
  | zero => exact absurd rfl h
  | succ n =>
    show step ((n + 1) % 12) _ _ (acc V c n _) j = acc V c n _ j + _
    unfold step; rw [if_neg h, hpay]; rfl

/-- The result's array after the call. -/
theorem final (c : Dev nD) : (dat (U := U) (Lvl := Lvl) V D c).arrAt 2 cfg6.N = G (V c main_v17_0) (V c main_v7) := by
  refine (dat (U := U) (Lvl := Lvl) V D c).arrAt_eq_of_covers 2 _ (by decide +kernel) fun t hf y => ?_
  blk_simp
  rw [after_2, Pipeline.eq_sum_fin_of_reset_step_apply_of_flush (fun n h => acc V c n h) 12 (fun _ => 0) (term V c) (acc_reset V c) (acc_add V c)
    t ((flush6_2 t).mp hf) _, zero_add]
  unfold term prod G
  refine Fin.sum_mul_add_congr fun s k hl => ?_
  blk_point [iblk, idx t, idx ⟨_, Pipeline.run_point_lt_of_flush t ((flush6_2 t).mp hf) s⟩]

end Cert.KernelIdeal.Own.Dwd

end
-- ==== Proof.KernelIdeal.DxValue.lean ====
/-
  What the call for `dx` leaves in its result, over the reals, from any contents of its operands: the sum of the two
  halves' products, each over 11008 features. The kernel adds eight blocks of features to a scratch of zeros, four of each
  half, and the last block of a half only as far as the arrays go.
-/
module

public import proofs.«01_k».proof.Proof.KernelIdeal.Dx
public import Idealize.ShloMosaic.Lib.Pipeline.ValueKit

@[expose] public section

set_option maxRecDepth 16384

noncomputable section

namespace Cert.KernelIdeal.Own.Dx

open Cert.KernelIdeal Cert.KernelIdeal.Gen Idealize.ShloMosaic Idealize.ShloMosaic.TcCoe Idealize.SL.RA Idealize.SL.Sem
open Idealize.ShloMosaic.Pipeline (Dat Window)
open scoped BigOperators

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The block fetched or written at each grid point. -/
theorem idx : ∀ t : Fin cfg7.N, win7_0.index t = ![t.val / 4 % 2, t.val / 16, t.val % 4] ∧ win7_1.index t = ![t.val / 4 % 2, t.val / 8 % 2, t.val % 4]
    ∧ win7_2.index t = ![t.val / 16, t.val / 8 % 2] :=
  (by decide +kernel : ∀ t : Fin grid7.N, _)

/-- How much of the blocks lies inside the arrays. -/
theorem ext : ∀ t : Fin cfg7.N, (∀ a : Fin 3, win7_0.xsize (grid7.coords t) a = (![1, 1024, if t.val % 4 = 3 then 2560 else 2816] : Fin 3 → ℕ) a)
    ∧ ∀ a : Fin 3, win7_1.xsize (grid7.coords t) a = (![1, 2048, if t.val % 4 = 3 then 2560 else 2816] : Fin 3 → ℕ) a :=
  (by decide +kernel : ∀ t : Fin grid7.N, _)

/-- The fill is zero. -/
theorem hzero (j : S1024x2048.Idx) : k7_pay1 (F := Ideal) j = 0 := by pointwise [k7_pay1]

/-- The rounding to the result's format is the identity. -/
theorem hround (a : FVec Ideal S1024x2048 .f32) (j : S1024x2048.Idx) : k7_pay4 (F := Ideal) a j = a j := by pointwise [k7_pay4]

/-- One product added, over whole blocks. -/
theorem hpay2 (a : FVec Ideal S1024x2048 .f32) (x : FVec Ideal S1x1024x2816 .bf16) (y : FVec Ideal S1x2048x2816 .bf16) (j : S1024x2048.Idx) :
    k7_pay2 a x y j = a j + ∑ k : Fin 2816, x (ix3 0 (j 0) k) * y (ix3 0 (j 1) k) := by
  pointwise [k7_pay2]

/-- One product added, over the parts of blocks inside the arrays. -/
theorem hpay3 (a : FVec Ideal S1024x2048 .f32) (x : FVec Ideal S1x1024x2560 .bf16) (y : FVec Ideal S1x2048x2560 .bf16) (j : S1024x2048.Idx) :
    k7_pay3 a x y j = a j + ∑ k : Fin 2560, x (ix3 0 (j 0) k) * y (ix3 0 (j 1) k) := by
  pointwise [k7_pay3]

/-- What one step adds: nothing past the arrays' ends. -/
def add (n : ℕ) (x : FVec Ideal S1x1024x2816 .bf16) (y : FVec Ideal S1x2048x2816 .bf16) (j : S1024x2048.Idx) : EReal :=
  ∑ k : Fin 2816, if n % 4 = 3 ∧ 2560 ≤ k.val then 0 else x (ix3 0 (j 0) k) * y (ix3 0 (j 1) k)

/-- One product of the two at a feature, zero past the last feature. -/
def pad (X : FVec Ideal S2x24576x11008 .bf16) (Y : FVec Ideal S2x4096x11008 .bf16) (h : Fin 2) (j : S24576x4096.Idx) (k : ℕ) : EReal :=
  if hk : k < 11008 then X (ix3 h (j 0) ⟨k, hk⟩) * Y (ix3 h (j 1) ⟨k, hk⟩) else 0

/-- One half's product. -/
def half (X : FVec Ideal S2x24576x11008 .bf16) (Y : FVec Ideal S2x4096x11008 .bf16) (h : Fin 2) (j : S24576x4096.Idx) : EReal :=
  ∑ k : Fin 11008, X (ix3 h (j 0) k) * Y (ix3 h (j 1) k)

/-- The sum of the halves' products. -/
def G (X : FVec Ideal S2x24576x11008 .bf16) (Y : FVec Ideal S2x4096x11008 .bf16) : FVec Ideal S24576x4096 .bf16 :=
  fun j => half X Y 0 j + half X Y 1 j

/-- Four blocks of 2816 features are a half's features and nothing more. -/
theorem half_eq (X : FVec Ideal S2x24576x11008 .bf16) (Y : FVec Ideal S2x4096x11008 .bf16) (h : Fin 2) (j : S24576x4096.Idx) :
    ∑ b : Fin 4, ∑ k : Fin 2816, pad X Y h j (b.val * 2816 + k.val) = half X Y h j := by
  have e1 : ∑ b : Fin 4, ∑ k : Fin 2816, pad X Y h j (b.val * 2816 + k.val) = ∑ l : Fin (11008 + 256), pad X Y h j l.val :=
    Fin.sum_mul_add_congr fun s k hl => rfl
  rw [e1, Fin.sum_univ_add]
  have z : ∑ i : Fin 256, pad X Y h j (Fin.natAdd 11008 i).val = 0 :=
    Finset.sum_eq_zero fun i _ => by
      unfold pad; rw [dif_neg]
      rw [Fin.val_natAdd]; omega
  rw [z, add_zero]
  unfold half
  refine Finset.sum_congr rfl fun k _ => ?_
  unfold pad
  rw [dif_pos (show (Fin.castAdd 256 k).val < 11008 from k.isLt)]
  rfl

/-- A step adds its product. -/
theorem step_apply (n : ℕ) (x : FVec Ideal S1x1024x2816 .bf16) (y : FVec Ideal S1x2048x2816 .bf16) (a : FVec Ideal S1024x2048 .f32) (j : S1024x2048.Idx) :
    step (F := Ideal) n x y a j = (if n = 0 then 0 else a j) + add n x y j := by
  have whole : ¬ n % 4 = 3 → add n x y j = ∑ k : Fin 2816, x (ix3 0 (j 0) k) * y (ix3 0 (j 1) k) := fun h3 => by
    unfold add
    exact Finset.sum_congr rfl fun k _ => if_neg fun h => h3 h.1
  unfold step
  by_cases h0 : n = 0
  · rw [if_pos h0, if_pos h0, whole (by omega)]
    exact (hpay2 _ x y j).trans (by rw [hzero])
  · rw [if_neg h0, if_neg h0]
    by_cases h3 : n % 4 = 3
    · rw [if_pos h3]
      refine (hpay3 a (tl0 (F := Ideal) x) (tl1 (F := Ideal) y) j).trans (congrArg (fun s : EReal => a j + s) ?_)
      have e : add n x y j = ∑ k : Fin (2560 + 256), if n % 4 = 3 ∧ 2560 ≤ k.val then (0 : EReal) else x (ix3 0 (j 0) k) * y (ix3 0 (j 1) k) := rfl
      rw [e, Fin.sum_univ_add]
      have z : ∑ i : Fin 256, (if n % 4 = 3 ∧ 2560 ≤ (Fin.natAdd 2560 i).val then (0 : EReal)
          else x (ix3 0 (j 0) (Fin.natAdd 2560 i)) * y (ix3 0 (j 1) (Fin.natAdd 2560 i))) = 0 :=
        Finset.sum_eq_zero fun i _ => if_pos ⟨h3, by rw [Fin.val_natAdd]; omega⟩
      rw [z, add_zero]
      refine Finset.sum_congr rfl fun k _ => ?_
      rw [if_neg (fun h => absurd h.2 (Nat.not_le.2 k.isLt))]
      refine congrArg₂ (fun a b : EReal => a * b) ?_ ?_
      · show x _ = x _
        congr 1; funext b; apply Fin.ext; fin_cases b <;> simp [Rect.emb_apply]
      · show y _ = y _
        congr 1; funext b; apply Fin.ext; fin_cases b <;> simp [Rect.emb_apply]
    · rw [if_neg h3, whole h3]
      exact hpay2 a x y j

/-- What one point adds. -/
def term (c : Dev nD) (t : Fin cfg7.N) (j : S1024x2048.Idx) : EReal := add (t.val % 8) (xb0 V c t) (xb1 V c t) j

theorem acc_reset (c : Dev nD) (t : Fin cfg7.N) (h : t.val % 8 = 0) (j : S1024x2048.Idx) :
    acc V c t.val t.isLt j = 0 + term V c t j := by
  obtain ⟨n, hn⟩ := t
  cases n with
  | zero => show step (0 % 8) _ _ _ j = _; rw [step_apply, if_pos rfl]; rfl
  | succ n => show step ((n + 1) % 8) _ _ _ j = _; rw [step_apply, if_pos h]; rfl

theorem acc_add (c : Dev nD) (t : Fin cfg7.N) (h : ¬ t.val % 8 = 0) (j : S1024x2048.Idx) :
    acc V c t.val t.isLt j = acc V c (t.val - 1) (Nat.lt_of_le_of_lt (Nat.sub_le _ _) t.isLt) j + term V c t j := by
  obtain ⟨n, hn⟩ := t
  cases n with
  | zero => exact absurd rfl h
  | succ n => show step ((n + 1) % 8) _ _ _ j = _; rw [step_apply, if_neg h]; rfl

/-- The first operand's block at an index inside the array. -/
theorem xb0_apply (c : Dev nD) (t : Fin cfg7.N) (y : S1x1024x2816.Idx) (i : S2x24576x11008.Idx)
    (h0 : (i 0).val = t.val / 4 % 2) (h1 : (i 1).val = t.val / 16 * 1024 + (y 1).val) (h2 : (i 2).val = t.val % 4 * 2816 + (y 2).val) :
    (xb0 V c t : S1x1024x2816.Idx → EReal) y = (V c main_v17_1 : S2x24576x11008.Idx → EReal) i := by
  have hm : win7_0.moved (grid7.coords t) y = true := (win7_0.moved_iff _ _).mpr fun a => by
    have hc := (ext t).1 a
    have b2 : (y 2).val < 2816 := (y 2).isLt
    have bi : (i 2).val < 11008 := (i 2).isLt
    rw [hc]
    fin_cases a
    · exact (y 0).isLt
    · exact (y 1).isLt
    · show (y 2).val < if t.val % 4 = 3 then 2560 else 2816
      split <;> omega
  unfold xb0 Window.fill
  rw [dif_pos hm]
  unfold iblk
  show (V c main_v17_1 : S2x24576x11008.Idx → EReal) (((cfg7.win 0).blk t).view.emb _) = _
  congr 1; funext a; apply Fin.ext
  refine (win7_0.rect_emb_val t _ a).trans ?_
  rw [(idx t).1]
  have y0 : (y 0).val = 0 := by have : (y 0).val < 1 := (y 0).isLt; omega
  fin_cases a
  · show t.val / 4 % 2 * 1 + (y 0).val = (i 0).val
    omega
  · exact h1.symm
  · exact h2.symm

/-- The second operand's block at an index inside the array. -/
theorem xb1_apply (c : Dev nD) (t : Fin cfg7.N) (y : S1x2048x2816.Idx) (i : S2x4096x11008.Idx)
    (h0 : (i 0).val = t.val / 4 % 2) (h1 : (i 1).val = t.val / 8 % 2 * 2048 + (y 1).val) (h2 : (i 2).val = t.val % 4 * 2816 + (y 2).val) :
    (xb1 V c t : S1x2048x2816.Idx → EReal) y = (V c main_v16 : S2x4096x11008.Idx → EReal) i := by
  have hm : win7_1.moved (grid7.coords t) y = true := (win7_1.moved_iff _ _).mpr fun a => by
    have hc := (ext t).2 a
    have b2 : (y 2).val < 2816 := (y 2).isLt
    have bi : (i 2).val < 11008 := (i 2).isLt
    rw [hc]
    fin_cases a
    · exact (y 0).isLt
    · exact (y 1).isLt
    · show (y 2).val < if t.val % 4 = 3 then 2560 else 2816
      split <;> omega
  unfold xb1 Window.fill
  rw [dif_pos hm]
  unfold iblk
  show (V c main_v16 : S2x4096x11008.Idx → EReal) (((cfg7.win 1).blk t).view.emb _) = _
  congr 1; funext a; apply Fin.ext
  refine (win7_1.rect_emb_val t _ a).trans ?_
  rw [(idx t).2.1]
  have y0 : (y 0).val = 0 := by have : (y 0).val < 1 := (y 0).isLt; omega
  fin_cases a
  · show t.val / 4 % 2 * 1 + (y 0).val = (i 0).val
    omega
  · exact h1.symm
  · exact h2.symm

/-- What a point adds, by the arrays. -/
theorem term_eq (c : Dev nD) (T : Fin cfg7.N) (z : S1024x2048.Idx) (e : S24576x4096.Idx) (h : Fin 2) (b : ℕ)
    (e0 : (e 0).val = T.val / 16 * 1024 + (z 0).val) (e1 : (e 1).val = T.val / 8 % 2 * 2048 + (z 1).val)
    (hh : h.val = T.val / 4 % 2) (hb : b = T.val % 4) :
    term V c T z = ∑ k : Fin 2816, pad (V c main_v17_1) (V c main_v16) h e (b * 2816 + k.val) := by
  unfold term add
  refine Finset.sum_congr rfl fun k _ => ?_
  have k1 := k.isLt
  unfold pad
  by_cases hk : b * 2816 + k.val < 11008
  · rw [dif_pos hk, if_neg (by rintro ⟨h3, h4⟩; omega)]
    exact congrArg₂ (fun a b : EReal => a * b)
      (xb0_apply V c T _ (ix3 h (e 0) ⟨b * 2816 + k.val, hk⟩) hh e0 (by rw [← hb]; rfl))
      (xb1_apply V c T _ (ix3 h (e 1) ⟨b * 2816 + k.val, hk⟩) hh e1 (by rw [← hb]; rfl))
  · rw [dif_neg hk, if_pos ⟨by omega, by omega⟩]

/-- The result's array after the call. -/
theorem final (c : Dev nD) : (dat (U := U) (Lvl := Lvl) V D c).arrAt 2 cfg7.N = G (V c main_v17_1) (V c main_v16) := by
  refine (dat (U := U) (Lvl := Lvl) V D c).arrAt_eq_of_covers 2 _ (by decide +kernel) fun t hf y => ?_
  have hr : t.val % 8 = 7 := (flush7_2 t).mp hf
  have he : ∀ a, (((cfg7.win 2).blk t).view.emb y a).val = win7_2.index t a * win7_2.size a + (win7_2.xinj (grid7.coords t) y a).val :=
    fun a => win7_2.rect_emb_val t y a
  rw [(idx t).2.2] at he
  rw [after_2]
  show (k7_pay4 (acc V c t.val t.isLt) : FVec Ideal S1024x2048 .bf16) (win7_2.xinj (grid7.coords t) y) = G (V c main_v17_1) (V c main_v16) (((cfg7.win 2).blk t).view.emb y)
  generalize ((cfg7.win 2).blk t).view.emb y = e at he ⊢
  generalize win7_2.xinj (grid7.coords t) y = z at he ⊢
  have e0 : (e 0).val = t.val / 16 * 1024 + (z 0).val := he 0
  have e1 : (e 1).val = t.val / 8 % 2 * 2048 + (z 1).val := he 1
  rw [hround, Pipeline.eq_sum_fin_of_reset_step_apply_of_flush (fun n h => acc V c n h) 8 (fun _ => 0) (term V c) (acc_reset V c) (acc_add V c)
    t hr _, zero_add]
  have ht : ∀ (h : Fin 2) (b : Fin 4) (s : Fin 8), s.val = h.val * 4 + b.val → term V c ⟨8 * (t.val / 8) + s.val, Pipeline.run_point_lt_of_flush t hr s⟩ z
      = ∑ k : Fin 2816, pad (V c main_v17_1) (V c main_v16) h e (b.val * 2816 + k.val) := fun h b s hs => by
    have := h.isLt
    have := b.isLt
    refine term_eq V c _ z e h b.val ?_ ?_ ?_ ?_
    · show (e 0).val = (8 * (t.val / 8) + s.val) / 16 * 1024 + (z 0).val
      rw [e0]; omega
    · show (e 1).val = (8 * (t.val / 8) + s.val) / 8 % 2 * 2048 + (z 1).val
      rw [e1]; omega
    · show h.val = (8 * (t.val / 8) + s.val) / 4 % 2
      omega
    · show b.val = (8 * (t.val / 8) + s.val) % 4
      omega
  unfold G
  rw [← half_eq, ← half_eq, Fin.sum_univ_eight, Fin.sum_univ_four, Fin.sum_univ_four,
    ht 0 0 0 rfl, ht 0 1 1 rfl, ht 0 2 2 rfl, ht 0 3 3 rfl, ht 1 0 4 rfl, ht 1 1 5 rfl, ht 1 2 6 rfl, ht 1 3 7 rfl]
  simp only [add_assoc]

end Cert.KernelIdeal.Own.Dx

end
-- ==== Proof.KernelIdeal.Terms.lean ====
/-
  The kernel's results over the reals, each call's closed form put together: functions of the ten arguments.
-/
module

public import proofs.«01_k».proof.Proof.KernelIdeal.DeqTValue
public import proofs.«01_k».proof.Proof.KernelIdeal.DeqRowsValue
public import proofs.«01_k».proof.Proof.KernelIdeal.DeqWdValue
public import proofs.«01_k».proof.Proof.KernelIdeal.DeqWguValue
public import proofs.«01_k».proof.Proof.KernelIdeal.DhValue
public import proofs.«01_k».proof.Proof.KernelIdeal.DwguValue
public import proofs.«01_k».proof.Proof.KernelIdeal.DwdValue
public import proofs.«01_k».proof.Proof.KernelIdeal.DxValue

@[expose] public section

set_option maxRecDepth 16384

noncomputable section

namespace Cert.KernelIdeal.Own

open Cert.KernelIdeal Cert.KernelIdeal.Gen
open Idealize.ShloMosaic Idealize.ShloMosaic.TcCoe Idealize.SL.Sem

/-- The input activations, channels by tokens. -/
def XT (x : FVec Ideal S2x12288x4096 .fp8e4m3) (xs : FVec Ideal S2x12288x32 .f32) : FVec Ideal S4096x24576 .bf16 :=
  DeqT.G (shapeCast S24576x4096 x shapeCasts_S2x12288x4096_S24576x4096) (transpose S2x32x12288 [0, 2, 1] xs transposes_S2x12288x32_S2x32x12288_0_2_1)

/-- The output gradient, tokens by channels. -/
def DY (y : FVec Ideal S2x12288x4096 .fp8e5m2) (ys : FVec Ideal S2x12288x32 .f32) : FVec Ideal S24576x4096 .bf16 :=
  DeqRows.G (shapeCast S24576x4096 y shapeCasts_S2x12288x4096_S24576x4096) (transpose S2x32x12288 [0, 2, 1] ys transposes_S2x12288x32_S2x32x12288_0_2_1)

/-- The down weights. -/
def WD (w : FVec Ideal S11008x4096 .fp8e4m3) (ws : FVec Ideal S86x32 .f32) : FVec Ideal S11008x4096 .bf16 :=
  shapeCast S11008x4096 (DeqWd.G (broadcastInDim S1x11008x4096 ![1, 2] bcast_S11008x4096_S1x11008x4096_1_2 w)
    (shapeCast S1x86x1x32 (broadcastInDim S1x86x32 ![1, 2] bcast_S86x32_S1x86x32_1_2 ws) shapeCasts_S1x86x32_S1x86x1x32)) shapeCasts_S1x11008x4096_S11008x4096

/-- The gate and up weights. -/
def WGU (w : FVec Ideal S4096x2x11008 .fp8e4m3) (ws : FVec Ideal S32x2x86 .f32) : FVec Ideal S2x4096x11008 .bf16 :=
  DeqWgu.G (transpose S2x4096x11008 [1, 0, 2] w transposes_S4096x2x11008_S2x4096x11008_1_0_2)
    (shapeCast S2x32x1x86 (transpose S2x32x86 [1, 0, 2] ws transposes_S32x2x86_S2x32x86_1_0_2) shapeCasts_S2x32x86_S2x32x1x86)

/-- The saved gate and up codes, gate and up before the tokens. -/
def GUC (u : FVec Ideal S2x12288x2x11008 .fp8e4m3) : FVec Ideal S2x2x12288x11008 .fp8e4m3 :=
  transpose S2x2x12288x11008 [0, 2, 1, 3] u transposes_S2x12288x2x11008_S2x2x12288x11008_0_2_1_3

/-- Their scales, blocks before gate and up before tokens. -/
def GUS (us : FVec Ideal S2x12288x2x86 .f32) : FVec Ideal S2x86x2x12288 .f32 :=
  transpose S2x86x2x12288 [0, 3, 2, 1] us transposes_S2x12288x2x86_S2x86x2x12288_0_3_2_1

/-- The hidden activations, features by tokens. -/
def HT (u : FVec Ideal S2x12288x2x11008 .fp8e4m3) (us : FVec Ideal S2x12288x2x86 .f32) : FVec Ideal S11008x24576 .bf16 :=
  Dh.GH (GUC u) (GUS us)

/-- The gradients of gate and up projection. -/
def DGU (y : FVec Ideal S2x12288x4096 .fp8e5m2) (ys : FVec Ideal S2x12288x32 .f32) (u : FVec Ideal S2x12288x2x11008 .fp8e4m3)
    (us : FVec Ideal S2x12288x2x86 .f32) (w : FVec Ideal S11008x4096 .fp8e4m3) (ws : FVec Ideal S86x32 .f32) : FVec Ideal S2x24576x11008 .bf16 :=
  Dh.GD (DY y ys) (WD w ws) (GUC u) (GUS us)

/-- The gradient of the input, from the gradients of gate and up projection and their weights. -/
def DXo (d : FVec Ideal S2x24576x11008 .bf16) (w : FVec Ideal S2x4096x11008 .bf16) : FVec Ideal S2x12288x4096 .bf16 :=
  shapeCast S2x12288x4096 (Dx.G d w) shapeCasts_S24576x4096_S2x12288x4096

/-- The gradient of the gate and up weights. -/
def DWGUo (x : FVec Ideal S4096x24576 .bf16) (d : FVec Ideal S2x24576x11008 .bf16) : FVec Ideal S4096x2x11008 .f32 :=
  transpose S4096x2x11008 [1, 0, 2] (Dwgu.G x d) transposes_S2x4096x11008_S4096x2x11008_1_0_2

end Cert.KernelIdeal.Own

end
-- ==== Proof.KernelIdeal.Values.lean ====
/-
  The whole program over the reals: every execution ends with the three results at their closed forms of the arguments.
-/
module

public import proofs.«01_k».proof.Proof.KernelIdeal.Run
public import proofs.«01_k».proof.Proof.KernelIdeal.Terms

@[expose] public section

set_option maxRecDepth 16384

noncomputable section

namespace Cert.KernelIdeal.Own

open Cert.KernelIdeal Cert.KernelIdeal.Gen
open Idealize.ShloMosaic Idealize.ShloMosaic.TcCoe Idealize.SL.Sem

variable (m : (ℓ : Loc nD τ sig) → Buf (Elt Ideal) ℓ)

theorem W1_v0 (c : Dev nD) : W1 m c main_v0 = shapeCast S24576x4096 (m ((c.tc : Thread nD τ).loc main_arg0)) shapeCasts_S2x12288x4096_S24576x4096 := by
  unfold W1 hostOps0
  after_results <;> rfl

theorem W1_v1 (c : Dev nD) : W1 m c main_v1 = shapeCast S24576x4096 (m ((c.tc : Thread nD τ).loc main_arg2)) shapeCasts_S2x12288x4096_S24576x4096 := by
  unfold W1 hostOps0
  after_results <;> rfl

theorem W1_v2 (c : Dev nD) : W1 m c main_v2 = transpose S2x32x12288 [0, 2, 1] (m ((c.tc : Thread nD τ).loc main_arg1)) transposes_S2x12288x32_S2x32x12288_0_2_1 := by
  unfold W1 hostOps0
  after_results <;> rfl

theorem W1_v3 (c : Dev nD) : W1 m c main_v3 = transpose S2x32x12288 [0, 2, 1] (m ((c.tc : Thread nD τ).loc main_arg3)) transposes_S2x12288x32_S2x32x12288_0_2_1 := by
  unfold W1 hostOps0
  after_results <;> rfl

theorem W1_v4 (c : Dev nD) : W1 m c main_v4 = GUC (m ((c.tc : Thread nD τ).loc main_arg4)) := by
  unfold W1 hostOps0
  after_results <;> rfl

theorem W1_v5 (c : Dev nD) : W1 m c main_v5 = GUS (m ((c.tc : Thread nD τ).loc main_arg5)) := by
  unfold W1 hostOps0
  after_results <;> rfl

theorem W2_v6 (c : Dev nD) : W2 m c main_v6 = XT (m ((c.tc : Thread nD τ).loc main_arg0)) (m ((c.tc : Thread nD τ).loc main_arg1)) := by
  refine (W2_main_v6 m c).trans <| (DeqT.final (U := UU) (Lvl := ℕ) (fun c b => W1 m c (Proc.devRef .tc b)) D0 c).trans ?_
  exact congrArg₂ DeqT.G (W1_v0 m c) (W1_v2 m c)

theorem W3_v7 (c : Dev nD) : W3 m c main_v7 = DY (m ((c.tc : Thread nD τ).loc main_arg2)) (m ((c.tc : Thread nD τ).loc main_arg3)) := by
  refine (W3_main_v7 m c).trans <| (DeqRows.final (U := UU) (Lvl := ℕ) (fun c b => W2 m c (Proc.devRef .tc b)) D0 c).trans ?_
  exact congrArg₂ DeqRows.G ((W2_of m c main_v1 (by decide)).trans (W1_v1 m c)) ((W2_of m c main_v3 (by decide)).trans (W1_v3 m c))

theorem W4_v8 (c : Dev nD) : W4 m c main_v8 = broadcastInDim S1x11008x4096 ![1, 2] bcast_S11008x4096_S1x11008x4096_1_2 (m ((c.tc : Thread nD τ).loc main_arg8)) := by
  have e : W4 m c main_v8 = broadcastInDim S1x11008x4096 ![1, 2] bcast_S11008x4096_S1x11008x4096_1_2 (W3 m c main_arg8) := by
    unfold W4 hostOps2
    after_results <;> rfl
  exact e.trans (congrArg (broadcastInDim S1x11008x4096 ![1, 2] bcast_S11008x4096_S1x11008x4096_1_2) ((W3_of m c main_arg8 (by decide)).trans ((W2_of m c main_arg8 (by decide)).trans (W1_of m c main_arg8 (by decide)))))

theorem W4_v10 (c : Dev nD) : W4 m c main_v10 = shapeCast S1x86x1x32 (broadcastInDim S1x86x32 ![1, 2] bcast_S86x32_S1x86x32_1_2 (m ((c.tc : Thread nD τ).loc main_arg9))) shapeCasts_S1x86x32_S1x86x1x32 := by
  have e : W4 m c main_v10 = shapeCast S1x86x1x32 (broadcastInDim S1x86x32 ![1, 2] bcast_S86x32_S1x86x32_1_2 (W3 m c main_arg9)) shapeCasts_S1x86x32_S1x86x1x32 := by
    unfold W4 hostOps2
    after_results <;> rfl
  exact e.trans (congrArg (fun z => shapeCast S1x86x1x32 (broadcastInDim S1x86x32 ![1, 2] bcast_S86x32_S1x86x32_1_2 z) shapeCasts_S1x86x32_S1x86x1x32) ((W3_of m c main_arg9 (by decide)).trans ((W2_of m c main_arg9 (by decide)).trans (W1_of m c main_arg9 (by decide)))))

theorem W5_v11 (c : Dev nD) : W5 m c main_v11 = DeqWd.G (broadcastInDim S1x11008x4096 ![1, 2] bcast_S11008x4096_S1x11008x4096_1_2 (m ((c.tc : Thread nD τ).loc main_arg8))) (shapeCast S1x86x1x32 (broadcastInDim S1x86x32 ![1, 2] bcast_S86x32_S1x86x32_1_2 (m ((c.tc : Thread nD τ).loc main_arg9))) shapeCasts_S1x86x32_S1x86x1x32) := by
  refine (W5_main_v11 m c).trans <| (DeqWd.final (U := UU) (Lvl := ℕ) (fun c b => W4 m c (Proc.devRef .tc b)) D0 c).trans ?_
  exact congrArg₂ DeqWd.G (W4_v8 m c) (W4_v10 m c)

theorem W6_v12 (c : Dev nD) : W6 m c main_v12 = WD (m ((c.tc : Thread nD τ).loc main_arg8)) (m ((c.tc : Thread nD τ).loc main_arg9)) := by
  have e : W6 m c main_v12 = shapeCast S11008x4096 (W5 m c main_v11) shapeCasts_S1x11008x4096_S11008x4096 := by
    unfold W6 hostOps3
    after_results <;> rfl
  exact e.trans (congrArg (fun z => shapeCast S11008x4096 z shapeCasts_S1x11008x4096_S11008x4096) (W5_v11 m c))

theorem W6_v13 (c : Dev nD) : W6 m c main_v13 = transpose S2x4096x11008 [1, 0, 2] (m ((c.tc : Thread nD τ).loc main_arg6)) transposes_S4096x2x11008_S2x4096x11008_1_0_2 := by
  have e : W6 m c main_v13 = transpose S2x4096x11008 [1, 0, 2] (W5 m c main_arg6) transposes_S4096x2x11008_S2x4096x11008_1_0_2 := by
    unfold W6 hostOps3
    after_results <;> rfl
  exact e.trans (congrArg (fun z => transpose S2x4096x11008 [1, 0, 2] z transposes_S4096x2x11008_S2x4096x11008_1_0_2) ((W5_of m c main_arg6 (by decide)).trans ((W4_of m c main_arg6 (by decide)).trans ((W3_of m c main_arg6 (by decide)).trans ((W2_of m c main_arg6 (by decide)).trans (W1_of m c main_arg6 (by decide)))))))

theorem W6_v15 (c : Dev nD) : W6 m c main_v15 = shapeCast S2x32x1x86 (transpose S2x32x86 [1, 0, 2] (m ((c.tc : Thread nD τ).loc main_arg7)) transposes_S32x2x86_S2x32x86_1_0_2) shapeCasts_S2x32x86_S2x32x1x86 := by
  have e : W6 m c main_v15 = shapeCast S2x32x1x86 (transpose S2x32x86 [1, 0, 2] (W5 m c main_arg7) transposes_S32x2x86_S2x32x86_1_0_2) shapeCasts_S2x32x86_S2x32x1x86 := by
    unfold W6 hostOps3
    after_results <;> rfl
  exact e.trans (congrArg (fun z => shapeCast S2x32x1x86 (transpose S2x32x86 [1, 0, 2] z transposes_S32x2x86_S2x32x86_1_0_2) shapeCasts_S2x32x86_S2x32x1x86) ((W5_of m c main_arg7 (by decide)).trans ((W4_of m c main_arg7 (by decide)).trans ((W3_of m c main_arg7 (by decide)).trans ((W2_of m c main_arg7 (by decide)).trans (W1_of m c main_arg7 (by decide)))))))

theorem W7_v16 (c : Dev nD) : W7 m c main_v16 = WGU (m ((c.tc : Thread nD τ).loc main_arg6)) (m ((c.tc : Thread nD τ).loc main_arg7)) := by
  refine (W7_main_v16 m c).trans <| (DeqWgu.final (U := UU) (Lvl := ℕ) (fun c b => W6 m c (Proc.devRef .tc b)) D0 c).trans ?_
  exact congrArg₂ DeqWgu.G (W6_v13 m c) (W6_v15 m c)

theorem W7_v7 (c : Dev nD) : W7 m c main_v7 = DY (m ((c.tc : Thread nD τ).loc main_arg2)) (m ((c.tc : Thread nD τ).loc main_arg3)) := ((W7_of m c main_v7 (by decide)).trans ((W6_of m c main_v7 (by decide)).trans ((W5_of m c main_v7 (by decide)).trans (W4_of m c main_v7 (by decide))))).trans (W3_v7 m c)
theorem W7_v12 (c : Dev nD) : W7 m c main_v12 = WD (m ((c.tc : Thread nD τ).loc main_arg8)) (m ((c.tc : Thread nD τ).loc main_arg9)) := (W7_of m c main_v12 (by decide)).trans (W6_v12 m c)
theorem W7_v4 (c : Dev nD) : W7 m c main_v4 = GUC (m ((c.tc : Thread nD τ).loc main_arg4)) := ((W7_of m c main_v4 (by decide)).trans ((W6_of m c main_v4 (by decide)).trans ((W5_of m c main_v4 (by decide)).trans ((W4_of m c main_v4 (by decide)).trans ((W3_of m c main_v4 (by decide)).trans (W2_of m c main_v4 (by decide))))))).trans (W1_v4 m c)
theorem W7_v5 (c : Dev nD) : W7 m c main_v5 = GUS (m ((c.tc : Thread nD τ).loc main_arg5)) := ((W7_of m c main_v5 (by decide)).trans ((W6_of m c main_v5 (by decide)).trans ((W5_of m c main_v5 (by decide)).trans ((W4_of m c main_v5 (by decide)).trans ((W3_of m c main_v5 (by decide)).trans (W2_of m c main_v5 (by decide))))))).trans (W1_v5 m c)

theorem W8_v17_0 (c : Dev nD) : W8 m c main_v17_0 = HT (m ((c.tc : Thread nD τ).loc main_arg4)) (m ((c.tc : Thread nD τ).loc main_arg5)) := by
  refine (W8_main_v17_0 m c).trans <| (Dh.final4 (U := UU) (Lvl := ℕ) (fun c b => W7 m c (Proc.devRef .tc b)) D0 c).trans ?_
  exact congrArg₂ Dh.GH (W7_v4 m c) (W7_v5 m c)

theorem W8_v17_1 (c : Dev nD) : W8 m c main_v17_1 = DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  refine (W8_main_v17_1 m c).trans <| (Dh.final5 (U := UU) (Lvl := ℕ) (fun c b => W7 m c (Proc.devRef .tc b)) D0 c).trans ?_
  unfold DGU
  rw [← W7_v7 m c, ← W7_v12 m c, ← W7_v4 m c, ← W7_v5 m c]

theorem W9_v18 (c : Dev nD) : W9 m c main_v18 = Dwgu.G (XT (m ((c.tc : Thread nD τ).loc main_arg0)) (m ((c.tc : Thread nD τ).loc main_arg1))) (DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) := by
  refine (W9_main_v18 m c).trans <| (Dwgu.final (U := UU) (Lvl := ℕ) (fun c b => W8 m c (Proc.devRef .tc b)) D0 c).trans ?_
  exact congrArg₂ Dwgu.G (((W8_of m c main_v6 (by decide)).trans ((W7_of m c main_v6 (by decide)).trans ((W6_of m c main_v6 (by decide)).trans ((W5_of m c main_v6 (by decide)).trans ((W4_of m c main_v6 (by decide)).trans (W3_of m c main_v6 (by decide))))))).trans (W2_v6 m c)) (W8_v17_1 m c)

theorem W10_v19 (c : Dev nD) : W10 m c main_v19 = Dwd.G (HT (m ((c.tc : Thread nD τ).loc main_arg4)) (m ((c.tc : Thread nD τ).loc main_arg5))) (DY (m ((c.tc : Thread nD τ).loc main_arg2)) (m ((c.tc : Thread nD τ).loc main_arg3))) := by
  refine (W10_main_v19 m c).trans <| (Dwd.final (U := UU) (Lvl := ℕ) (fun c b => W9 m c (Proc.devRef .tc b)) D0 c).trans ?_
  exact congrArg₂ Dwd.G ((W9_of m c main_v17_0 (by decide)).trans (W8_v17_0 m c)) (((W9_of m c main_v7 (by decide)).trans (W8_of m c main_v7 (by decide))).trans (W7_v7 m c))

theorem W11_v20 (c : Dev nD) : W11 m c main_v20 = Dx.G (DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) (WGU (m ((c.tc : Thread nD τ).loc main_arg6)) (m ((c.tc : Thread nD τ).loc main_arg7))) := by
  refine (W11_main_v20 m c).trans <| (Dx.final (U := UU) (Lvl := ℕ) (fun c b => W10 m c (Proc.devRef .tc b)) D0 c).trans ?_
  exact congrArg₂ Dx.G (((W10_of m c main_v17_1 (by decide)).trans (W9_of m c main_v17_1 (by decide))).trans (W8_v17_1 m c)) (((W10_of m c main_v16 (by decide)).trans ((W9_of m c main_v16 (by decide)).trans (W8_of m c main_v16 (by decide)))).trans (W7_v16 m c))

/-- `dx`, in the shape of the input. -/
theorem W12_v21 (c : Dev nD) : W12 m c main_v21 = DXo (DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) (WGU (m ((c.tc : Thread nD τ).loc main_arg6)) (m ((c.tc : Thread nD τ).loc main_arg7))) := by
  have e : W12 m c main_v21 = shapeCast S2x12288x4096 (W11 m c main_v20) shapeCasts_S24576x4096_S2x12288x4096 := by
    unfold W12 hostOps8
    after_results <;> rfl
  exact e.trans (congrArg (fun z => shapeCast S2x12288x4096 z shapeCasts_S24576x4096_S2x12288x4096) (W11_v20 m c))

/-- The gradient of the gate and up weights. -/
theorem W12_v22 (c : Dev nD) : W12 m c main_v22 = DWGUo (XT (m ((c.tc : Thread nD τ).loc main_arg0)) (m ((c.tc : Thread nD τ).loc main_arg1))) (DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) := by
  have e : W12 m c main_v22 = transpose S4096x2x11008 [1, 0, 2] (W11 m c main_v18) transposes_S2x4096x11008_S4096x2x11008_1_0_2 := by
    unfold W12 hostOps8
    after_results <;> rfl
  exact e.trans (congrArg (fun z => transpose S4096x2x11008 [1, 0, 2] z transposes_S2x4096x11008_S4096x2x11008_1_0_2) (((W11_of m c main_v18 (by decide)).trans (W10_of m c main_v18 (by decide))).trans (W9_v18 m c)))

/-- The gradient of the down weights. -/
theorem W12_v19 (c : Dev nD) : W12 m c main_v19 = Dwd.G (HT (m ((c.tc : Thread nD τ).loc main_arg4)) (m ((c.tc : Thread nD τ).loc main_arg5))) (DY (m ((c.tc : Thread nD τ).loc main_arg2)) (m ((c.tc : Thread nD τ).loc main_arg3))) := ((W12_of m c main_v19 (by decide)).trans (W11_of m c main_v19 (by decide))).trans (W10_v19 m c)

/-- The run with the results at their closed forms. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = DXo (DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) (WGU (m ((c.tc : Thread nD τ).loc main_arg6)) (m ((c.tc : Thread nD τ).loc main_arg7)))
      ∧ r.2.mem ((c.tc : Thread nD τ).loc main_v22) = DWGUo (XT (m ((c.tc : Thread nD τ).loc main_arg0)) (m ((c.tc : Thread nD τ).loc main_arg1))) (DGU (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)))
      ∧ r.2.mem ((c.tc : Thread nD τ).loc main_v19) = Dwd.G (HT (m ((c.tc : Thread nD τ).loc main_arg4)) (m ((c.tc : Thread nD τ).loc main_arg5))) (DY (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1 c).1.trans (W12_v21 m c), (h.1 c).2.1.trans (W12_v22 m c), (h.1 c).2.2.1.trans (W12_v19 m c), (h.1 c).2.2.2⟩) (run m ρ)

end Cert.KernelIdeal.Own

end
-- ==== Proof.RefIdeal.Terms.lean ====
/-
  What the host lines of the reference compute, step by step, from the codes and scales.
-/
module

public import proofs.«01_k».proof.Proof.Gen.RefIdeal.Launch
public import Idealize.ShloMosaic.Lib.Pipeline.ValueKit
public import Idealize.ShloMosaic.Lib.Pipeline.Frame
public import Idealize.ShloMosaic.Lib.StableHlo.RunRead

@[expose] public section

set_option maxRecDepth 16384

noncomputable section

namespace Cert.RefIdeal.Own

open Cert.RefIdeal Cert.RefIdeal.Gen
open Idealize.ShloMosaic Idealize.ShloMosaic.TcCoe Idealize.SL.Sem

/-- The gate weights. -/
def wG (W : FVec Ideal S4096x2x11008 .bf16) (ws : FVec Ideal S32x2x86 .f32) : FVec Ideal S4096x11008 .bf16 :=
  (shapeCast S4096x11008 (mulf (shapeCast S32x128x86x128 (shapeCast S4096x11008 (extractStridedSlice S4096x1x11008 ![0, 0, 0] W slices_S4096x2x11008_S4096x1x11008_0_0_0) shapeCasts_S4096x1x11008_S4096x11008) shapeCasts_S4096x11008_S32x128x86x128) (broadcastInDim S32x128x86x128 ![0, 1, 2, 3] bcast_S32x1x86x1_S32x128x86x128_0_1_2_3 (broadcastInDim S32x1x86x1 ![0, 2] bcast_S32x86_S32x1x86x1_0_2 (truncf .bf16 (shapeCast S32x86 (extractStridedSlice S32x1x86 ![0, 0, 0] ws slices_S32x2x86_S32x1x86_0_0_0) shapeCasts_S32x1x86_S32x86) bitsLt_bf16_f32)))) shapeCasts_S32x128x86x128_S4096x11008)

/-- The up weights. -/
def wU (W : FVec Ideal S4096x2x11008 .bf16) (ws : FVec Ideal S32x2x86 .f32) : FVec Ideal S4096x11008 .bf16 :=
  (shapeCast S4096x11008 (mulf (shapeCast S32x128x86x128 (shapeCast S4096x11008 (extractStridedSlice S4096x1x11008 ![0, 1, 0] W slices_S4096x2x11008_S4096x1x11008_0_1_0) shapeCasts_S4096x1x11008_S4096x11008) shapeCasts_S4096x11008_S32x128x86x128) (broadcastInDim S32x128x86x128 ![0, 1, 2, 3] bcast_S32x1x86x1_S32x128x86x128_0_1_2_3 (broadcastInDim S32x1x86x1 ![0, 2] bcast_S32x86_S32x1x86x1_0_2 (truncf .bf16 (shapeCast S32x86 (extractStridedSlice S32x1x86 ![0, 1, 0] ws slices_S32x2x86_S32x1x86_0_1_0) shapeCasts_S32x1x86_S32x86) bitsLt_bf16_f32)))) shapeCasts_S32x128x86x128_S4096x11008)

/-- The down weights. -/
def wD (D : FVec Ideal S11008x4096 .bf16) (ds : FVec Ideal S86x32 .f32) : FVec Ideal S11008x4096 .bf16 :=
  (shapeCast S11008x4096 (mulf (shapeCast S86x128x32x128 D shapeCasts_S11008x4096_S86x128x32x128) (broadcastInDim S86x128x32x128 ![0, 1, 2, 3] bcast_S86x1x32x1_S86x128x32x128_0_1_2_3 (broadcastInDim S86x1x32x1 ![0, 2] bcast_S86x32_S86x1x32x1_0_2 (truncf .bf16 ds bitsLt_bf16_f32)))) shapeCasts_S86x128x32x128_S11008x4096)

/-- The input activations. -/
def xB (X : FVec Ideal S2x12288x4096 .bf16) (xs : FVec Ideal S2x12288x32 .f32) : FVec Ideal S24576x4096 .bf16 :=
  (shapeCast S24576x4096 (shapeCast S2x12288x4096 (mulf (shapeCast S2x12288x32x128 X shapeCasts_S2x12288x4096_S2x12288x32x128) (broadcastInDim S2x12288x32x128 ![0, 1, 2, 3] bcast_S2x12288x32x1_S2x12288x32x128_0_1_2_3 (broadcastInDim S2x12288x32x1 ![0, 1, 2] bcast_S2x12288x32_S2x12288x32x1_0_1_2 (truncf .bf16 xs bitsLt_bf16_f32)))) shapeCasts_S2x12288x32x128_S2x12288x4096) shapeCasts_S2x12288x4096_S24576x4096)

/-- The output gradient. -/
def yB (Y : FVec Ideal S2x12288x4096 .bf16) (ys : FVec Ideal S2x12288x32 .f32) : FVec Ideal S24576x4096 .bf16 :=
  (shapeCast S24576x4096 (shapeCast S2x12288x4096 (mulf (shapeCast S2x12288x32x128 Y shapeCasts_S2x12288x4096_S2x12288x32x128) (broadcastInDim S2x12288x32x128 ![0, 1, 2, 3] bcast_S2x12288x32x1_S2x12288x32x128_0_1_2_3 (broadcastInDim S2x12288x32x1 ![0, 1, 2] bcast_S2x12288x32_S2x12288x32x1_0_1_2 (truncf .bf16 ys bitsLt_bf16_f32)))) shapeCasts_S2x12288x32x128_S2x12288x4096) shapeCasts_S2x12288x4096_S24576x4096)

/-- The gate projection. -/
def gV (U : FVec Ideal S2x12288x2x11008 .bf16) (us : FVec Ideal S2x12288x2x86 .f32) : FVec Ideal S24576x11008 .f32 :=
  (extf .f32 (shapeCast S24576x11008 (shapeCast S2x12288x11008 (mulf (shapeCast S2x12288x86x128 (shapeCast S2x12288x11008 (extractStridedSlice S2x12288x1x11008 ![0, 0, 0, 0] U slices_S2x12288x2x11008_S2x12288x1x11008_0_0_0_0) shapeCasts_S2x12288x1x11008_S2x12288x11008) shapeCasts_S2x12288x11008_S2x12288x86x128) (broadcastInDim S2x12288x86x128 ![0, 1, 2, 3] bcast_S2x12288x86x1_S2x12288x86x128_0_1_2_3 (broadcastInDim S2x12288x86x1 ![0, 1, 2] bcast_S2x12288x86_S2x12288x86x1_0_1_2 (truncf .bf16 (shapeCast S2x12288x86 (extractStridedSlice S2x12288x1x86 ![0, 0, 0, 0] us slices_S2x12288x2x86_S2x12288x1x86_0_0_0_0) shapeCasts_S2x12288x1x86_S2x12288x86) bitsLt_bf16_f32)))) shapeCasts_S2x12288x86x128_S2x12288x11008) shapeCasts_S2x12288x11008_S24576x11008) bitsLt_bf16_f32)

/-- The up projection. -/
def uV (U : FVec Ideal S2x12288x2x11008 .bf16) (us : FVec Ideal S2x12288x2x86 .f32) : FVec Ideal S24576x11008 .f32 :=
  (extf .f32 (shapeCast S24576x11008 (shapeCast S2x12288x11008 (mulf (shapeCast S2x12288x86x128 (shapeCast S2x12288x11008 (extractStridedSlice S2x12288x1x11008 ![0, 0, 1, 0] U slices_S2x12288x2x11008_S2x12288x1x11008_0_0_1_0) shapeCasts_S2x12288x1x11008_S2x12288x11008) shapeCasts_S2x12288x11008_S2x12288x86x128) (broadcastInDim S2x12288x86x128 ![0, 1, 2, 3] bcast_S2x12288x86x1_S2x12288x86x128_0_1_2_3 (broadcastInDim S2x12288x86x1 ![0, 1, 2] bcast_S2x12288x86_S2x12288x86x1_0_1_2 (truncf .bf16 (shapeCast S2x12288x86 (extractStridedSlice S2x12288x1x86 ![0, 0, 1, 0] us slices_S2x12288x2x86_S2x12288x1x86_0_0_1_0) shapeCasts_S2x12288x1x86_S2x12288x86) bitsLt_bf16_f32)))) shapeCasts_S2x12288x86x128_S2x12288x11008) shapeCasts_S2x12288x11008_S24576x11008) bitsLt_bf16_f32)

/-- The sigmoid. -/
def sgm (g : FVec Ideal S24576x11008 .f32) : FVec Ideal S24576x11008 .f32 :=
  (Host.divf (broadcastInDim S24576x11008 ![] bcast_S_S24576x11008 (constant S_ .f32 0x3F800000#32)) (addf (broadcastInDim S24576x11008 ![] bcast_S_S24576x11008 (constant S_ .f32 0x3F800000#32)) (Host.exp (Host.negf g))))

/-- The hidden activations. -/
def hB (g u : FVec Ideal S24576x11008 .f32) : FVec Ideal S24576x11008 .bf16 :=
  (truncf .bf16 (mulf (mulf g (sgm g)) u) bitsLt_bf16_f32)

/-- The gradient of the hidden activations. -/
def dH (y : FVec Ideal S24576x4096 .bf16) (d : FVec Ideal S11008x4096 .bf16) : FVec Ideal S24576x11008 .f32 :=
  (Host.dotGeneral dot_S24576x4096_S11008x4096_S24576x11008_1_1_0_0_n_n none y d)

/-- The gradient of the gate projection. -/
def dG (h g u : FVec Ideal S24576x11008 .f32) : FVec Ideal S24576x11008 .bf16 :=
  (truncf .bf16 (mulf (mulf (mulf h u) (sgm g)) (addf (broadcastInDim S24576x11008 ![] bcast_S_S24576x11008 (constant S_ .f32 0x3F800000#32)) (mulf g (subf (broadcastInDim S24576x11008 ![] bcast_S_S24576x11008 (constant S_ .f32 0x3F800000#32)) (sgm g))))) bitsLt_bf16_f32)

/-- The gradient of the up projection. -/
def dU (h g : FVec Ideal S24576x11008 .f32) : FVec Ideal S24576x11008 .bf16 :=
  (truncf .bf16 (mulf h (mulf g (sgm g))) bitsLt_bf16_f32)

/-- The gradient of the input. -/
def dX (p q : FVec Ideal S24576x11008 .bf16) (a b : FVec Ideal S4096x11008 .bf16) : FVec Ideal S2x12288x4096 .bf16 :=
  (shapeCast S2x12288x4096 (truncf .bf16 (addf (Host.dotGeneral dot_S24576x11008_S4096x11008_S24576x4096_1_1_0_0_n_n none p a) (Host.dotGeneral dot_S24576x11008_S4096x11008_S24576x4096_1_1_0_0_n_n none q b)) bitsLt_bf16_f32) shapeCasts_S24576x4096_S2x12288x4096)

/-- The gradient of the gate and up weights. -/
def dWgu (x : FVec Ideal S24576x4096 .bf16) (p q : FVec Ideal S24576x11008 .bf16) : FVec Ideal S4096x2x11008 .f32 :=
  (concatenate S4096x2x11008 1 [⟨S4096x1x11008, (broadcastInDim S4096x1x11008 ![0, 2] bcast_S4096x11008_S4096x1x11008_0_2 (Host.dotGeneral dot_S24576x4096_S24576x11008_S4096x11008_0_0_1_1_n_n none x p))⟩, ⟨S4096x1x11008, (broadcastInDim S4096x1x11008 ![0, 2] bcast_S4096x11008_S4096x1x11008_0_2 (Host.dotGeneral dot_S24576x4096_S24576x11008_S4096x11008_0_0_1_1_n_n none x q))⟩] concatenates_S4096x1x11008_S4096x1x11008_S4096x2x11008_d1)

/-- The gradient of the down weights. -/
def dWd (h : FVec Ideal S24576x11008 .bf16) (y : FVec Ideal S24576x4096 .bf16) : FVec Ideal S11008x4096 .f32 :=
  (Host.dotGeneral dot_S24576x11008_S24576x4096_S11008x4096_0_0_1_1_n_n none h y)

variable (V : Valuation τ sig (Elt Ideal))

theorem split : StableHlo.after (hostOps1 (F := Ideal)) V = StableHlo.after ((hostOps1 (F := Ideal)).drop 64) (StableHlo.after ((hostOps1 (F := Ideal)).take 64) V) := by
  rw [← StableHlo.after_append, List.take_append_drop]

theorem first_wG : StableHlo.after ((hostOps1 (F := Ideal)).take 64) V (Proc.devRef .tc main_v10) = wG (V (Proc.devRef .tc main_v0_3)) (V (Proc.devRef .tc main_arg7)) := by
  after_reads_simp
  rfl

theorem first_wU : StableHlo.after ((hostOps1 (F := Ideal)).take 64) V (Proc.devRef .tc main_v20) = wU (V (Proc.devRef .tc main_v0_3)) (V (Proc.devRef .tc main_arg7)) := by
  after_reads_simp
  rfl

theorem first_wD : StableHlo.after ((hostOps1 (F := Ideal)).take 64) V (Proc.devRef .tc main_v26) = wD (V (Proc.devRef .tc main_v0_4)) (V (Proc.devRef .tc main_arg9)) := by
  after_reads_simp
  rfl

theorem first_xB : StableHlo.after ((hostOps1 (F := Ideal)).take 64) V (Proc.devRef .tc main_v33) = xB (V (Proc.devRef .tc main_v0_0)) (V (Proc.devRef .tc main_arg1)) := by
  after_reads_simp
  rfl

theorem first_yB : StableHlo.after ((hostOps1 (F := Ideal)).take 64) V (Proc.devRef .tc main_v40) = yB (V (Proc.devRef .tc main_v0_1)) (V (Proc.devRef .tc main_arg3)) := by
  after_reads_simp
  rfl

theorem first_gV : StableHlo.after ((hostOps1 (F := Ideal)).take 64) V (Proc.devRef .tc main_v52) = gV (V (Proc.devRef .tc main_v0_2)) (V (Proc.devRef .tc main_arg5)) := by
  after_reads_simp
  rfl

theorem first_uV : StableHlo.after ((hostOps1 (F := Ideal)).take 64) V (Proc.devRef .tc main_v64) = uV (V (Proc.devRef .tc main_v0_2)) (V (Proc.devRef .tc main_arg5)) := by
  after_reads_simp
  rfl

theorem last_dX : StableHlo.after ((hostOps1 (F := Ideal)).drop 64) V (Proc.devRef .tc main_v96) = dX (dG (dH (V (Proc.devRef .tc main_v40)) (V (Proc.devRef .tc main_v26))) (V (Proc.devRef .tc main_v52)) (V (Proc.devRef .tc main_v64))) (dU (dH (V (Proc.devRef .tc main_v40)) (V (Proc.devRef .tc main_v26))) (V (Proc.devRef .tc main_v52))) (V (Proc.devRef .tc main_v10)) (V (Proc.devRef .tc main_v20)) := by
  after_reads_simp
  rfl

theorem last_dWgu : StableHlo.after ((hostOps1 (F := Ideal)).drop 64) V (Proc.devRef .tc main_v94) = dWgu (V (Proc.devRef .tc main_v33)) (dG (dH (V (Proc.devRef .tc main_v40)) (V (Proc.devRef .tc main_v26))) (V (Proc.devRef .tc main_v52)) (V (Proc.devRef .tc main_v64))) (dU (dH (V (Proc.devRef .tc main_v40)) (V (Proc.devRef .tc main_v26))) (V (Proc.devRef .tc main_v52))) := by
  after_reads_simp
  rfl

theorem last_dWd : StableHlo.after ((hostOps1 (F := Ideal)).drop 64) V (Proc.devRef .tc main_v95) = dWd (hB (V (Proc.devRef .tc main_v52)) (V (Proc.devRef .tc main_v64))) (V (Proc.devRef .tc main_v40)) := by
  after_reads_simp
  rfl

theorem read_dX : StableHlo.after (hostOps1 (F := Ideal)) V (Proc.devRef .tc main_v96) = dX (dG (dH (yB (V (Proc.devRef .tc main_v0_1)) (V (Proc.devRef .tc main_arg3))) (wD (V (Proc.devRef .tc main_v0_4)) (V (Proc.devRef .tc main_arg9)))) (gV (V (Proc.devRef .tc main_v0_2)) (V (Proc.devRef .tc main_arg5))) (uV (V (Proc.devRef .tc main_v0_2)) (V (Proc.devRef .tc main_arg5)))) (dU (dH (yB (V (Proc.devRef .tc main_v0_1)) (V (Proc.devRef .tc main_arg3))) (wD (V (Proc.devRef .tc main_v0_4)) (V (Proc.devRef .tc main_arg9)))) (gV (V (Proc.devRef .tc main_v0_2)) (V (Proc.devRef .tc main_arg5)))) (wG (V (Proc.devRef .tc main_v0_3)) (V (Proc.devRef .tc main_arg7))) (wU (V (Proc.devRef .tc main_v0_3)) (V (Proc.devRef .tc main_arg7))) := by
  rw [split, last_dX, first_yB, first_wD, first_gV, first_uV, first_wG, first_wU]

theorem read_dWgu : StableHlo.after (hostOps1 (F := Ideal)) V (Proc.devRef .tc main_v94) = dWgu (xB (V (Proc.devRef .tc main_v0_0)) (V (Proc.devRef .tc main_arg1))) (dG (dH (yB (V (Proc.devRef .tc main_v0_1)) (V (Proc.devRef .tc main_arg3))) (wD (V (Proc.devRef .tc main_v0_4)) (V (Proc.devRef .tc main_arg9)))) (gV (V (Proc.devRef .tc main_v0_2)) (V (Proc.devRef .tc main_arg5))) (uV (V (Proc.devRef .tc main_v0_2)) (V (Proc.devRef .tc main_arg5)))) (dU (dH (yB (V (Proc.devRef .tc main_v0_1)) (V (Proc.devRef .tc main_arg3))) (wD (V (Proc.devRef .tc main_v0_4)) (V (Proc.devRef .tc main_arg9)))) (gV (V (Proc.devRef .tc main_v0_2)) (V (Proc.devRef .tc main_arg5)))) := by
  rw [split, last_dWgu, first_xB, first_yB, first_wD, first_gV, first_uV]

theorem read_dWd : StableHlo.after (hostOps1 (F := Ideal)) V (Proc.devRef .tc main_v95) = dWd (hB (gV (V (Proc.devRef .tc main_v0_2)) (V (Proc.devRef .tc main_arg5))) (uV (V (Proc.devRef .tc main_v0_2)) (V (Proc.devRef .tc main_arg5)))) (yB (V (Proc.devRef .tc main_v0_1)) (V (Proc.devRef .tc main_arg3))) := by
  rw [split, last_dWd, first_gV, first_uV, first_yB]

end Cert.RefIdeal.Own

end
-- ==== Proof.RefIdeal.Run.lean ====
/-
  The reference's run over the reals: every execution ends with the three results at the terms of `Terms.lean`, the codes
  read as numbers, and with its arguments as they were.
-/
module

public import proofs.«01_k».proof.Proof.Gen.RefIdeal.Frame
public import proofs.«01_k».proof.Proof.RefIdeal.Terms

@[expose] public section

set_option maxRecDepth 16384

noncomputable section

namespace Cert.RefIdeal.Own

open Cert.RefIdeal Cert.RefIdeal.Gen
open Idealize.ShloMosaic Idealize.ShloMosaic.TcCoe Idealize.SL.RA Idealize.SL.Sem

variable (m : (ℓ : Loc nD τ sig) → Buf (Elt Ideal) ℓ)

theorem idx5 : ∀ t : Fin cfg0.N, win0_0.index t = ![0, 0, 0] ∧ win0_5.index t = ![0, 0, 0] :=
  (by decide +kernel : ∀ t : Fin grid0.N, _)

theorem out5 (x0 x1 x2 x3 x4) : out0_5 (F := Ideal) x0 x1 x2 x3 x4 = x0 := by
  funext z
  have hu : (r0_0 : Rect S2x12288x4096).emb z = z := by
    funext a; apply Fin.ext
    show (![0, 0, 0] : Fin 3 → ℕ) a + 1 * (z a).val = (z a).val
    fin_cases a <;> simp
  unfold out0_5
  conv => lhs; rw [← hu, View.canon_cons_emb]
  unfold k0_pay1
  show x0 ((r0_0 : Rect S2x12288x4096).emb z) = x0 z
  rw [hu]

theorem blk5 (c : Dev nD) (t : Fin cfg0.N) (z e : S2x12288x4096.Idx) (h : ∀ a, (e a).val = (![0, 0, 0] : Fin 3 → ℕ) a * S2x12288x4096.size a + (z a).val) :
    (iblk m c 0 t z : EReal) = ((m ((c.tc : Thread nD τ).loc main_arg0)) : S2x12288x4096.Idx → EReal) e := by
  unfold iblk
  show ((m ((c.tc : Thread nD τ).loc main_arg0)) : S2x12288x4096.Idx → EReal) (((cfg0.win 0).blk t).view.emb z) = _
  congr 1; funext a; apply Fin.ext
  refine (win0_0.rect_emb_val t z a).trans ?_
  rw [(idx5 t).1]
  exact (h a).symm

/-- Result 0 of the one call is its operand's codes read as numbers. -/
theorem codes0 (c : Dev nD) : (dats m 0 c).arrAt 5 cfg0.N = (extf .bf16 ((m ((c.tc : Thread nD τ).loc main_arg0)) : FVec Ideal S2x12288x4096 .fp8e4m3) bitsLt_fp8e4m3_bf16 : FVec Ideal S2x12288x4096 .bf16) := by
  refine (dats m 0 c).arrAt_eq_of_covers 5 _ (by decide +kernel) fun t hf y => ?_
  rw [after0_5, out5, cast_eq]
  refine blk5 m c t _ _ fun a => ?_
  refine (win0_5.rect_emb_val t y a).trans ?_
  rw [(idx5 t).2]
  rfl

theorem idx6 : ∀ t : Fin cfg0.N, win0_1.index t = ![0, 0, 0] ∧ win0_6.index t = ![0, 0, 0] :=
  (by decide +kernel : ∀ t : Fin grid0.N, _)

theorem out6 (x0 x1 x2 x3 x4) : out0_6 (F := Ideal) x0 x1 x2 x3 x4 = x1 := by
  funext z
  have hu : (r0_0 : Rect S2x12288x4096).emb z = z := by
    funext a; apply Fin.ext
    show (![0, 0, 0] : Fin 3 → ℕ) a + 1 * (z a).val = (z a).val
    fin_cases a <;> simp
  unfold out0_6
  conv => lhs; rw [← hu, View.canon_cons_emb]
  unfold k0_pay2
  show x1 ((r0_0 : Rect S2x12288x4096).emb z) = x1 z
  rw [hu]

theorem blk6 (c : Dev nD) (t : Fin cfg0.N) (z e : S2x12288x4096.Idx) (h : ∀ a, (e a).val = (![0, 0, 0] : Fin 3 → ℕ) a * S2x12288x4096.size a + (z a).val) :
    (iblk m c 1 t z : EReal) = ((m ((c.tc : Thread nD τ).loc main_arg2)) : S2x12288x4096.Idx → EReal) e := by
  unfold iblk
  show ((m ((c.tc : Thread nD τ).loc main_arg2)) : S2x12288x4096.Idx → EReal) (((cfg0.win 1).blk t).view.emb z) = _
  congr 1; funext a; apply Fin.ext
  refine (win0_1.rect_emb_val t z a).trans ?_
  rw [(idx6 t).1]
  exact (h a).symm

/-- Result 1 of the one call is its operand's codes read as numbers. -/
theorem codes1 (c : Dev nD) : (dats m 0 c).arrAt 6 cfg0.N = (extf .bf16 ((m ((c.tc : Thread nD τ).loc main_arg2)) : FVec Ideal S2x12288x4096 .fp8e5m2) bitsLt_fp8e5m2_bf16 : FVec Ideal S2x12288x4096 .bf16) := by
  refine (dats m 0 c).arrAt_eq_of_covers 6 _ (by decide +kernel) fun t hf y => ?_
  rw [after0_6, out6, cast_eq]
  refine blk6 m c t _ _ fun a => ?_
  refine (win0_6.rect_emb_val t y a).trans ?_
  rw [(idx6 t).2]
  rfl

theorem idx7 : ∀ t : Fin cfg0.N, win0_2.index t = ![0, 0, 0, 0] ∧ win0_7.index t = ![0, 0, 0, 0] :=
  (by decide +kernel : ∀ t : Fin grid0.N, _)

theorem out7 (x0 x1 x2 x3 x4) : out0_7 (F := Ideal) x0 x1 x2 x3 x4 = x2 := by
  funext z
  have hu : (r0_1 : Rect S2x12288x2x11008).emb z = z := by
    funext a; apply Fin.ext
    show (![0, 0, 0, 0] : Fin 4 → ℕ) a + 1 * (z a).val = (z a).val
    fin_cases a <;> simp
  unfold out0_7
  conv => lhs; rw [← hu, View.canon_cons_emb]
  unfold k0_pay3
  show x2 ((r0_1 : Rect S2x12288x2x11008).emb z) = x2 z
  rw [hu]

theorem blk7 (c : Dev nD) (t : Fin cfg0.N) (z e : S2x12288x2x11008.Idx) (h : ∀ a, (e a).val = (![0, 0, 0, 0] : Fin 4 → ℕ) a * S2x12288x2x11008.size a + (z a).val) :
    (iblk m c 2 t z : EReal) = ((m ((c.tc : Thread nD τ).loc main_arg4)) : S2x12288x2x11008.Idx → EReal) e := by
  unfold iblk
  show ((m ((c.tc : Thread nD τ).loc main_arg4)) : S2x12288x2x11008.Idx → EReal) (((cfg0.win 2).blk t).view.emb z) = _
  congr 1; funext a; apply Fin.ext
  refine (win0_2.rect_emb_val t z a).trans ?_
  rw [(idx7 t).1]
  exact (h a).symm

/-- Result 2 of the one call is its operand's codes read as numbers. -/
theorem codes2 (c : Dev nD) : (dats m 0 c).arrAt 7 cfg0.N = (extf .bf16 ((m ((c.tc : Thread nD τ).loc main_arg4)) : FVec Ideal S2x12288x2x11008 .fp8e4m3) bitsLt_fp8e4m3_bf16 : FVec Ideal S2x12288x2x11008 .bf16) := by
  refine (dats m 0 c).arrAt_eq_of_covers 7 _ (by decide +kernel) fun t hf y => ?_
  rw [after0_7, out7, cast_eq]
  refine blk7 m c t _ _ fun a => ?_
  refine (win0_7.rect_emb_val t y a).trans ?_
  rw [(idx7 t).2]
  rfl

theorem idx8 : ∀ t : Fin cfg0.N, win0_3.index t = ![0, 0, 0] ∧ win0_8.index t = ![0, 0, 0] :=
  (by decide +kernel : ∀ t : Fin grid0.N, _)

theorem out8 (x0 x1 x2 x3 x4) : out0_8 (F := Ideal) x0 x1 x2 x3 x4 = x3 := by
  funext z
  have hu : (r0_2 : Rect S4096x2x11008).emb z = z := by
    funext a; apply Fin.ext
    show (![0, 0, 0] : Fin 3 → ℕ) a + 1 * (z a).val = (z a).val
    fin_cases a <;> simp
  unfold out0_8
  conv => lhs; rw [← hu, View.canon_cons_emb]
  unfold k0_pay4
  show x3 ((r0_2 : Rect S4096x2x11008).emb z) = x3 z
  rw [hu]

theorem blk8 (c : Dev nD) (t : Fin cfg0.N) (z e : S4096x2x11008.Idx) (h : ∀ a, (e a).val = (![0, 0, 0] : Fin 3 → ℕ) a * S4096x2x11008.size a + (z a).val) :
    (iblk m c 3 t z : EReal) = ((m ((c.tc : Thread nD τ).loc main_arg6)) : S4096x2x11008.Idx → EReal) e := by
  unfold iblk
  show ((m ((c.tc : Thread nD τ).loc main_arg6)) : S4096x2x11008.Idx → EReal) (((cfg0.win 3).blk t).view.emb z) = _
  congr 1; funext a; apply Fin.ext
  refine (win0_3.rect_emb_val t z a).trans ?_
  rw [(idx8 t).1]
  exact (h a).symm

/-- Result 3 of the one call is its operand's codes read as numbers. -/
theorem codes3 (c : Dev nD) : (dats m 0 c).arrAt 8 cfg0.N = (extf .bf16 ((m ((c.tc : Thread nD τ).loc main_arg6)) : FVec Ideal S4096x2x11008 .fp8e4m3) bitsLt_fp8e4m3_bf16 : FVec Ideal S4096x2x11008 .bf16) := by
  refine (dats m 0 c).arrAt_eq_of_covers 8 _ (by decide +kernel) fun t hf y => ?_
  rw [after0_8, out8, cast_eq]
  refine blk8 m c t _ _ fun a => ?_
  refine (win0_8.rect_emb_val t y a).trans ?_
  rw [(idx8 t).2]
  rfl

theorem idx9 : ∀ t : Fin cfg0.N, win0_4.index t = ![0, 0] ∧ win0_9.index t = ![0, 0] :=
  (by decide +kernel : ∀ t : Fin grid0.N, _)

theorem out9 (x0 x1 x2 x3 x4) : out0_9 (F := Ideal) x0 x1 x2 x3 x4 = x4 := by
  funext z
  have hu : (r0_3 : Rect S11008x4096).emb z = z := by
    funext a; apply Fin.ext
    show (![0, 0] : Fin 2 → ℕ) a + 1 * (z a).val = (z a).val
    fin_cases a <;> simp
  unfold out0_9
  conv => lhs; rw [← hu, View.canon_cons_emb]
  unfold k0_pay5
  show x4 ((r0_3 : Rect S11008x4096).emb z) = x4 z
  rw [hu]

theorem blk9 (c : Dev nD) (t : Fin cfg0.N) (z e : S11008x4096.Idx) (h : ∀ a, (e a).val = (![0, 0] : Fin 2 → ℕ) a * S11008x4096.size a + (z a).val) :
    (iblk m c 4 t z : EReal) = ((m ((c.tc : Thread nD τ).loc main_arg8)) : S11008x4096.Idx → EReal) e := by
  unfold iblk
  show ((m ((c.tc : Thread nD τ).loc main_arg8)) : S11008x4096.Idx → EReal) (((cfg0.win 4).blk t).view.emb z) = _
  congr 1; funext a; apply Fin.ext
  refine (win0_4.rect_emb_val t z a).trans ?_
  rw [(idx9 t).1]
  exact (h a).symm

/-- Result 4 of the one call is its operand's codes read as numbers. -/
theorem codes4 (c : Dev nD) : (dats m 0 c).arrAt 9 cfg0.N = (extf .bf16 ((m ((c.tc : Thread nD τ).loc main_arg8)) : FVec Ideal S11008x4096 .fp8e4m3) bitsLt_fp8e4m3_bf16 : FVec Ideal S11008x4096 .bf16) := by
  refine (dats m 0 c).arrAt_eq_of_covers 9 _ (by decide +kernel) fun t hf y => ?_
  rw [after0_9, out9, cast_eq]
  refine blk9 m c t _ _ fun a => ?_
  refine (win0_9.rect_emb_val t y a).trans ?_
  rw [(idx9 t).2]
  rfl

/-- The buffers after the call. -/
abbrev VR (c : Dev nD) : Valuation τ sig (Elt Ideal) := Pipeline.withArrays spec0 c (V0 m c) fun w => (dats m 0 c).arrAt w cfg0.N

theorem VR_v0_0 (c : Dev nD) : VR m c (Proc.devRef .tc main_v0_0) = (extf .bf16 ((m ((c.tc : Thread nD τ).loc main_arg0)) : FVec Ideal S2x12288x4096 .fp8e4m3) bitsLt_fp8e4m3_bf16 : FVec Ideal S2x12288x4096 .bf16) :=
  (Pipeline.withArrays_arr spec0 launch0.win.arr_inj c (V0 m c) _ 5).trans (codes0 m c)
theorem VR_v0_1 (c : Dev nD) : VR m c (Proc.devRef .tc main_v0_1) = (extf .bf16 ((m ((c.tc : Thread nD τ).loc main_arg2)) : FVec Ideal S2x12288x4096 .fp8e5m2) bitsLt_fp8e5m2_bf16 : FVec Ideal S2x12288x4096 .bf16) :=
  (Pipeline.withArrays_arr spec0 launch0.win.arr_inj c (V0 m c) _ 6).trans (codes1 m c)
theorem VR_v0_2 (c : Dev nD) : VR m c (Proc.devRef .tc main_v0_2) = (extf .bf16 ((m ((c.tc : Thread nD τ).loc main_arg4)) : FVec Ideal S2x12288x2x11008 .fp8e4m3) bitsLt_fp8e4m3_bf16 : FVec Ideal S2x12288x2x11008 .bf16) :=
  (Pipeline.withArrays_arr spec0 launch0.win.arr_inj c (V0 m c) _ 7).trans (codes2 m c)
theorem VR_v0_3 (c : Dev nD) : VR m c (Proc.devRef .tc main_v0_3) = (extf .bf16 ((m ((c.tc : Thread nD τ).loc main_arg6)) : FVec Ideal S4096x2x11008 .fp8e4m3) bitsLt_fp8e4m3_bf16 : FVec Ideal S4096x2x11008 .bf16) :=
  (Pipeline.withArrays_arr spec0 launch0.win.arr_inj c (V0 m c) _ 8).trans (codes3 m c)
theorem VR_v0_4 (c : Dev nD) : VR m c (Proc.devRef .tc main_v0_4) = (extf .bf16 ((m ((c.tc : Thread nD τ).loc main_arg8)) : FVec Ideal S11008x4096 .fp8e4m3) bitsLt_fp8e4m3_bf16 : FVec Ideal S11008x4096 .bf16) :=
  (Pipeline.withArrays_arr spec0 launch0.win.arr_inj c (V0 m c) _ 9).trans (codes4 m c)
theorem VR_arg1 (c : Dev nD) : VR m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem VR_arg3 (c : Dev nD) : VR m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem VR_arg5 (c : Dev nD) : VR m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem VR_arg7 (c : Dev nD) : VR m c (Proc.devRef .tc main_arg7) = m ((c.tc : Thread nD τ).loc main_arg7) :=
  (Pipeline.withArrays_of_ne _ c (V0 m c) _ main_arg7 (by exact (by decide : ∀ w, Pipeline.arrRef spec0 w ≠ main_arg7))).trans (V_main_arg7 m c)
theorem VR_arg9 (c : Dev nD) : VR m c (Proc.devRef .tc main_arg9) = m ((c.tc : Thread nD τ).loc main_arg9) :=
  (Pipeline.withArrays_of_ne _ c (V0 m c) _ main_arg9 (by exact (by decide : ∀ w, Pipeline.arrRef spec0 w ≠ main_arg9))).trans (V_main_arg9 m c)

theorem tail_dX (c : Dev nD) : Pipeline.afterTail₀ cfgs (dats m) 0 (V0 m) [hostOps1] c main_v96 = dX (dG (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))) (uV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (dU (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (wG (extf .bf16 ((m ((c.tc : Thread nD τ).loc main_arg6)) : FVec Ideal S4096x2x11008 .fp8e4m3) bitsLt_fp8e4m3_bf16 : FVec Ideal S4096x2x11008 .bf16) (m ((c.tc : Thread nD τ).loc main_arg7))) (wU (extf .bf16 ((m ((c.tc : Thread nD τ).loc main_arg6)) : FVec Ideal S4096x2x11008 .fp8e4m3) bitsLt_fp8e4m3_bf16 : FVec Ideal S4096x2x11008 .bf16) (m ((c.tc : Thread nD τ).loc main_arg7))) := by
  unfold Pipeline.afterTail₀
  rw [List.flatten_cons, List.flatten_nil, List.append_nil]
  refine (read_dX (VR m c)).trans ?_
  rw [VR_v0_1 m c, VR_v0_2 m c, VR_v0_3 m c, VR_v0_4 m c, VR_arg3 m c, VR_arg5 m c, VR_arg7 m c, VR_arg9 m c]

theorem tail_dWgu (c : Dev nD) : Pipeline.afterTail₀ cfgs (dats m) 0 (V0 m) [hostOps1] c main_v94 = dWgu (xB (extf .bf16 ((m ((c.tc : Thread nD τ).loc main_arg0)) : FVec Ideal S2x12288x4096 .fp8e4m3) bitsLt_fp8e4m3_bf16 : FVec Ideal S2x12288x4096 .bf16) (m ((c.tc : Thread nD τ).loc main_arg1))) (dG (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))) (uV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (dU (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) := by
  unfold Pipeline.afterTail₀
  rw [List.flatten_cons, List.flatten_nil, List.append_nil]
  refine (read_dWgu (VR m c)).trans ?_
  rw [VR_v0_0 m c, VR_v0_1 m c, VR_v0_2 m c, VR_v0_4 m c, VR_arg1 m c, VR_arg3 m c, VR_arg5 m c, VR_arg9 m c]

theorem tail_dWd (c : Dev nD) : Pipeline.afterTail₀ cfgs (dats m) 0 (V0 m) [hostOps1] c main_v95 = dWd (hB (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))) (uV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) := by
  unfold Pipeline.afterTail₀
  rw [List.flatten_cons, List.flatten_nil, List.append_nil]
  refine (read_dWd (VR m c)).trans ?_
  rw [VR_v0_1 m c, VR_v0_2 m c, VR_arg3 m c, VR_arg5 m c]

/-- The run with the results. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = dX (dG (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))) (uV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (dU (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (wG (extf .bf16 ((m ((c.tc : Thread nD τ).loc main_arg6)) : FVec Ideal S4096x2x11008 .fp8e4m3) bitsLt_fp8e4m3_bf16 : FVec Ideal S4096x2x11008 .bf16) (m ((c.tc : Thread nD τ).loc main_arg7))) (wU (extf .bf16 ((m ((c.tc : Thread nD τ).loc main_arg6)) : FVec Ideal S4096x2x11008 .fp8e4m3) bitsLt_fp8e4m3_bf16 : FVec Ideal S4096x2x11008 .bf16) (m ((c.tc : Thread nD τ).loc main_arg7)))
      ∧ r.2.mem ((c.tc : Thread nD τ).loc main_v94) = dWgu (xB (extf .bf16 ((m ((c.tc : Thread nD τ).loc main_arg0)) : FVec Ideal S2x12288x4096 .fp8e4m3) bitsLt_fp8e4m3_bf16 : FVec Ideal S2x12288x4096 .bf16) (m ((c.tc : Thread nD τ).loc main_arg1))) (dG (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))) (uV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (dU (dH (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3))) (wD (extf .bf16 ((m ((c.tc : Thread nD τ).loc main_arg8)) : FVec Ideal S11008x4096 .fp8e4m3) bitsLt_fp8e4m3_bf16 : FVec Ideal S11008x4096 .bf16) (m ((c.tc : Thread nD τ).loc main_arg9)))) (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))))
      ∧ r.2.mem ((c.tc : Thread nD τ).loc main_v95) = dWd (hB (gV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5))) (uV (extf .bf16 ((m ((c.tc : Thread nD τ).loc main_arg4)) : FVec Ideal S2x12288x2x11008 .fp8e4m3) bitsLt_fp8e4m3_bf16 : FVec Ideal S2x12288x2x11008 .bf16) (m ((c.tc : Thread nD τ).loc main_arg5)))) (yB (extf .bf16 ((m ((c.tc : Thread nD τ).loc main_arg2)) : FVec Ideal S2x12288x4096 .fp8e5m2) bitsLt_fp8e5m2_bf16 : FVec Ideal S2x12288x4096 .bf16) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).2 main_v96 (Pipeline.mem_restRefs_of main_v96 (by decide) (by decide))).trans (tail_dX m c),
    ((h.1 c).2 main_v94 (Pipeline.mem_restRefs_of main_v94 (by decide) (by decide))).trans (tail_dWgu m c),
    ((h.1 c).2 main_v95 (Pipeline.mem_restRefs_of main_v95 (by decide) (by decide))).trans (tail_dWd m c), h.2 c⟩)
    (θ_run_and (run_main m ρ) (unchanged m ρ))

end Cert.RefIdeal.Own

end
-- ==== Proof.Ties.lean ====
/-
  The reference's steps are the kernel's closed forms.
-/
module

public import proofs.«01_k».proof.Proof.KernelIdeal.Terms
public import proofs.«01_k».proof.Proof.RefIdeal.Terms
public import Idealize.ShloMosaic.Lib.Tactic.ValueTie

@[expose] public section

set_option maxRecDepth 16384

noncomputable section

namespace Cert.Ties

open Cert.RefIdeal Cert.RefIdeal.Gen
open Idealize.ShloMosaic Idealize.SL.Sem
open scoped BigOperators

theorem x_eq (X : FVec Ideal S2x12288x4096 .fp8e4m3) (xs : FVec Ideal S2x12288x32 .f32) (t : Fin 24576) (k : Fin 4096) :
    RefIdeal.Own.xB (extf .bf16 X bitsLt_fp8e4m3_bf16) xs (ix2 t k) = KernelIdeal.Own.XT X xs (ix2 k t) := by
  unfold RefIdeal.Own.xB KernelIdeal.Own.XT KernelIdeal.Own.DeqT.G
  pointwise

theorem wU_eq (W : FVec Ideal S4096x2x11008 .fp8e4m3) (ws : FVec Ideal S32x2x86 .f32) (d : Fin 4096) (f : Fin 11008) :
    RefIdeal.Own.wU (extf .bf16 W bitsLt_fp8e4m3_bf16) ws (ix2 d f) = KernelIdeal.Own.WGU W ws (ix3 1 d f) := by
  unfold RefIdeal.Own.wU KernelIdeal.Own.WGU KernelIdeal.Own.DeqWgu.G
  pointwise

theorem u_eq (U : FVec Ideal S2x12288x2x11008 .fp8e4m3) (us : FVec Ideal S2x12288x2x86 .f32) (t : Fin 24576) (f : Fin 11008) :
    RefIdeal.Own.uV (extf .bf16 U bitsLt_fp8e4m3_bf16) us (ix2 t f) = KernelIdeal.Own.Dh.guV (KernelIdeal.Own.GUC U) (KernelIdeal.Own.GUS us) 1 t f := by
  unfold RefIdeal.Own.uV KernelIdeal.Own.Dh.guV KernelIdeal.Own.GUC KernelIdeal.Own.GUS
  pointwise

theorem y_eq (Y : FVec Ideal S2x12288x4096 .fp8e5m2) (ys : FVec Ideal S2x12288x32 .f32) :
    RefIdeal.Own.yB (extf .bf16 Y bitsLt_fp8e5m2_bf16) ys = KernelIdeal.Own.DY Y ys := by
  funext j
  unfold RefIdeal.Own.yB KernelIdeal.Own.DY KernelIdeal.Own.DeqRows.G
  pointwise

theorem d_eq (D : FVec Ideal S11008x4096 .fp8e4m3) (ds : FVec Ideal S86x32 .f32) :
    RefIdeal.Own.wD (extf .bf16 D bitsLt_fp8e4m3_bf16) ds = KernelIdeal.Own.WD D ds := by
  funext j
  unfold RefIdeal.Own.wD KernelIdeal.Own.WD KernelIdeal.Own.DeqWd.G
  pointwise

theorem w_eq (W : FVec Ideal S4096x2x11008 .fp8e4m3) (ws : FVec Ideal S32x2x86 .f32) (d : Fin 4096) (f : Fin 11008) :
    RefIdeal.Own.wG (extf .bf16 W bitsLt_fp8e4m3_bf16) ws (ix2 d f) = KernelIdeal.Own.WGU W ws (ix3 0 d f) := by
  unfold RefIdeal.Own.wG KernelIdeal.Own.WGU KernelIdeal.Own.DeqWgu.G
  pointwise

theorem g_eq (U : FVec Ideal S2x12288x2x11008 .fp8e4m3) (us : FVec Ideal S2x12288x2x86 .f32) (t : Fin 24576) (f : Fin 11008) :
    RefIdeal.Own.gV (extf .bf16 U bitsLt_fp8e4m3_bf16) us (ix2 t f) = KernelIdeal.Own.Dh.guV (KernelIdeal.Own.GUC U) (KernelIdeal.Own.GUS us) 0 t f := by
  unfold RefIdeal.Own.gV KernelIdeal.Own.Dh.guV KernelIdeal.Own.GUC KernelIdeal.Own.GUS
  pointwise

theorem s_eq (g : FVec Ideal S24576x11008 .f32) (j : S24576x11008.Idx) : RefIdeal.Own.sgm g j = Ideal.logistic (g j) := by
  unfold RefIdeal.Own.sgm Ideal.logistic
  pointwise

theorem h_eq (g u : FVec Ideal S24576x11008 .f32) (j : S24576x11008.Idx) : RefIdeal.Own.hB g u j = KernelIdeal.Own.Dh.hE (g j) (u j) := by
  unfold RefIdeal.Own.hB KernelIdeal.Own.Dh.hE
  pointwise
  rw [s_eq]

theorem dh_eq (y : FVec Ideal S24576x4096 .bf16) (d : FVec Ideal S11008x4096 .bf16) (t : Fin 24576) (f : Fin 11008) :
    RefIdeal.Own.dH y d (ix2 t f) = KernelIdeal.Own.Dh.dhV y d t f := by
  unfold RefIdeal.Own.dH KernelIdeal.Own.Dh.dhV
  pointwise

theorem dG_eq (h g u : FVec Ideal S24576x11008 .f32) (j : S24576x11008.Idx) : RefIdeal.Own.dG h g u j = KernelIdeal.Own.Dh.dgE (h j) (g j) (u j) := by
  unfold RefIdeal.Own.dG KernelIdeal.Own.Dh.dgE
  pointwise
  rw [s_eq]

theorem dU_eq (h g : FVec Ideal S24576x11008 .f32) (j : S24576x11008.Idx) : RefIdeal.Own.dU h g j = KernelIdeal.Own.Dh.duE (h j) (g j) := by
  unfold RefIdeal.Own.dU KernelIdeal.Own.Dh.duE
  pointwise
  rw [s_eq]

/-- The reference's gradients of gate and up projection are the two halves of the kernel's. -/
theorem p_eq (Y : FVec Ideal S2x12288x4096 .fp8e5m2) (ys : FVec Ideal S2x12288x32 .f32) (U : FVec Ideal S2x12288x2x11008 .fp8e4m3)
    (us : FVec Ideal S2x12288x2x86 .f32) (D : FVec Ideal S11008x4096 .fp8e4m3) (ds : FVec Ideal S86x32 .f32) (t : Fin 24576) (f : Fin 11008) :
    RefIdeal.Own.dG (RefIdeal.Own.dH (RefIdeal.Own.yB (extf .bf16 Y bitsLt_fp8e5m2_bf16) ys) (RefIdeal.Own.wD (extf .bf16 D bitsLt_fp8e4m3_bf16) ds))
      (RefIdeal.Own.gV (extf .bf16 U bitsLt_fp8e4m3_bf16) us) (RefIdeal.Own.uV (extf .bf16 U bitsLt_fp8e4m3_bf16) us) (ix2 t f)
      = KernelIdeal.Own.DGU Y ys U us D ds (ix3 0 t f) := by
  rw [dG_eq, dh_eq, g_eq, u_eq, y_eq, d_eq]
  rfl

theorem q_eq (Y : FVec Ideal S2x12288x4096 .fp8e5m2) (ys : FVec Ideal S2x12288x32 .f32) (U : FVec Ideal S2x12288x2x11008 .fp8e4m3)
    (us : FVec Ideal S2x12288x2x86 .f32) (D : FVec Ideal S11008x4096 .fp8e4m3) (ds : FVec Ideal S86x32 .f32) (t : Fin 24576) (f : Fin 11008) :
    RefIdeal.Own.dU (RefIdeal.Own.dH (RefIdeal.Own.yB (extf .bf16 Y bitsLt_fp8e5m2_bf16) ys) (RefIdeal.Own.wD (extf .bf16 D bitsLt_fp8e4m3_bf16) ds))
      (RefIdeal.Own.gV (extf .bf16 U bitsLt_fp8e4m3_bf16) us) (ix2 t f)
      = KernelIdeal.Own.DGU Y ys U us D ds (ix3 1 t f) := by
  rw [dU_eq, dh_eq, g_eq, y_eq, d_eq]
  rfl

/-- The gradient of the input. -/
theorem dx_eq (p q : FVec Ideal S24576x11008 .bf16) (a b : FVec Ideal S4096x11008 .bf16) (P : FVec Ideal KernelIdeal.S2x24576x11008 .bf16)
    (W : FVec Ideal KernelIdeal.S2x4096x11008 .bf16) (hp : ∀ t f, p (ix2 t f) = P (ix3 0 t f)) (hq : ∀ t f, q (ix2 t f) = P (ix3 1 t f))
    (ha : ∀ d f, a (ix2 d f) = W (ix3 0 d f)) (hb : ∀ d f, b (ix2 d f) = W (ix3 1 d f)) : RefIdeal.Own.dX p q a b = KernelIdeal.Own.DXo P W := by
  funext j
  unfold RefIdeal.Own.dX KernelIdeal.Own.DXo KernelIdeal.Own.Dx.G KernelIdeal.Own.Dx.half
  pointwise
  exact congrArg₂ (· + ·) (Finset.sum_congr rfl fun f _ => congrArg₂ (· * ·) (hp _ f) (ha _ f))
    (Finset.sum_congr rfl fun f _ => congrArg₂ (· * ·) (hq _ f) (hb _ f))

/-- The gradient of the gate and up weights. -/
theorem dwgu_eq (x : FVec Ideal S24576x4096 .bf16) (p q : FVec Ideal S24576x11008 .bf16) (X : FVec Ideal KernelIdeal.S4096x24576 .bf16)
    (P : FVec Ideal KernelIdeal.S2x24576x11008 .bf16) (hx : ∀ t k, x (ix2 t k) = X (ix2 k t)) (hp : ∀ t f, p (ix2 t f) = P (ix3 0 t f))
    (hq : ∀ t f, q (ix2 t f) = P (ix3 1 t f)) : RefIdeal.Own.dWgu x p q = KernelIdeal.Own.DWGUo X P := by
  funext j
  unfold RefIdeal.Own.dWgu KernelIdeal.Own.DWGUo KernelIdeal.Own.Dwgu.G
  pointwise
  split
  · rename_i h
    rw [show j 1 = (0 : Fin 2) from Fin.ext (Nat.lt_one_iff.1 h)]
    exact Finset.sum_congr rfl fun t _ => congrArg₂ (· * ·) (hx t _) (hp t _)
  · rename_i h
    have h2 : (j 1).val < 2 := (j 1).isLt
    rw [show j 1 = (1 : Fin 2) from Fin.ext (by show (j 1).val = 1; omega)]
    exact Finset.sum_congr rfl fun t _ => congrArg₂ (· * ·) (hx t _) (hq t _)

/-- The gradient of the down weights. -/
theorem dwd_eq (g u : FVec Ideal S24576x11008 .f32) (y : FVec Ideal S24576x4096 .bf16) (H : FVec Ideal KernelIdeal.S11008x24576 .bf16)
    (hh : ∀ t f, RefIdeal.Own.hB g u (ix2 t f) = H (ix2 f t)) : RefIdeal.Own.dWd (RefIdeal.Own.hB g u) y = KernelIdeal.Own.Dwd.G H y := by
  funext j
  unfold RefIdeal.Own.dWd KernelIdeal.Own.Dwd.G
  pointwise
  exact Finset.sum_congr rfl fun t _ => congrArg (· * _) (hh t _)

theorem ht_eq (U : FVec Ideal S2x12288x2x11008 .fp8e4m3) (us : FVec Ideal S2x12288x2x86 .f32) (t : Fin 24576) (f : Fin 11008) :
    RefIdeal.Own.hB (RefIdeal.Own.gV (extf .bf16 U bitsLt_fp8e4m3_bf16) us) (RefIdeal.Own.uV (extf .bf16 U bitsLt_fp8e4m3_bf16) us) (ix2 t f)
      = KernelIdeal.Own.HT U us (ix2 f t) := by
  rw [h_eq, g_eq, u_eq]
  rfl

end Cert.Ties

end
-- ==== Proof.lean ====
/-
  The claims: the kernel and its idealization end, keep their arguments and leave every semaphore at zero; so does the
  reference; and over the reals the kernel's three results are the reference's.
-/
module

public import proofs.«01_k».proof.Defs
public import proofs.«01_k».proof.Proof.Gen.Kernel.Skeleton
public import proofs.«01_k».proof.Proof.Gen.Kernel.Points
public import proofs.«01_k».proof.Proof.Gen.Kernel.Regions
public import proofs.«01_k».proof.Proof.Gen.KernelIdeal.Skeleton
public import proofs.«01_k».proof.Proof.Gen.KernelIdeal.Points
public import proofs.«01_k».proof.Proof.Gen.KernelIdeal.Regions
public import proofs.«01_k».proof.Proof.Gen.RefIdeal.Frame
public import proofs.«01_k».proof.Proof.Kernel.Run
public import proofs.«01_k».proof.Proof.KernelIdeal.Values
public import proofs.«01_k».proof.Proof.RefIdeal.Run
public import proofs.«01_k».proof.Proof.Ties
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem quiescent_Kernel : quiescent_Kernel := fun m ρ _ =>
  (θ_run Cert.Kernel.defs _ _).mono (fun _ h => ⟨fun c => (h.1 c).2.2.2, h.2⟩) (Cert.Kernel.Own.run m ρ)

theorem quiescent_KernelIdeal : quiescent_KernelIdeal := fun m ρ _ =>
  (θ_run Cert.KernelIdeal.defs _ _).mono (fun _ h => ⟨fun c => (h.1 c).2.2.2, h.2⟩) (Cert.KernelIdeal.Own.run m ρ)

theorem quiescent_RefIdeal : quiescent_RefIdeal := fun m ρ _ => Cert.RefIdeal.Gen.frame m ρ

theorem algebraic_KernelIdeal_RefIdeal : algebraic_KernelIdeal_RefIdeal := by
  intro m ρ m' ρ' _ hagree
  refine ⟨_, _, _, Cert.KernelIdeal.Own.run_values m ρ, ?_⟩
  refine (θ_run Cert.RefIdeal.defs _ _).mono (fun _ h c => ⟨(h c).1.trans ?_, (h c).2.1.trans ?_, (h c).2.2.1.trans ?_, (h c).2.2.2⟩)
    (Cert.RefIdeal.Own.run_values m' ρ')
  · obtain ⟨-, -, e2, e3, e4, e5, e6, e7, e8, e9⟩ := hagree c
    rw [← e2, ← e3, ← e4, ← e5, ← e6, ← e7, ← e8, ← e9]
    exact Cert.Ties.dx_eq _ _ _ _ _ _ (Cert.Ties.p_eq _ _ _ _ _ _) (Cert.Ties.q_eq _ _ _ _ _ _) (Cert.Ties.w_eq _ _) (Cert.Ties.wU_eq _ _)
  · obtain ⟨e0, e1, e2, e3, e4, e5, -, -, e8, e9⟩ := hagree c
    rw [← e0, ← e1, ← e2, ← e3, ← e4, ← e5, ← e8, ← e9]
    exact Cert.Ties.dwgu_eq _ _ _ _ _ (Cert.Ties.x_eq _ _) (Cert.Ties.p_eq _ _ _ _ _ _) (Cert.Ties.q_eq _ _ _ _ _ _)
  · obtain ⟨-, -, e2, e3, e4, e5, -, -, -, -⟩ := hagree c
    rw [← e2, ← e3, ← e4, ← e5, Cert.Ties.y_eq]
    exact Cert.Ties.dwd_eq _ _ _ _ (Cert.Ties.ht_eq _ _)

theorem claim : Cert.Claim := ⟨Cert.Kernel.Gen.facts, Cert.KernelIdeal.Gen.facts, Cert.RefIdeal.Gen.facts,
  quiescent_Kernel, quiescent_KernelIdeal, quiescent_RefIdeal, (trivial : preserves_Kernel_KernelIdeal), algebraic_KernelIdeal_RefIdeal⟩

end Cert.Proof

end
